-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_DownData (m : (ℓ : Loc Cert.DownData.nD Cert.DownData.τ Cert.DownData.sig) → Buf (Elt Bits) ℓ) : Prop :=
  True

def Pre_DownDataIdeal (m : (ℓ : Loc Cert.DownDataIdeal.nD Cert.DownDataIdeal.τ Cert.DownDataIdeal.sig) → Buf (Elt Ideal) ℓ) : Prop :=
  True

def Pre_DownDataIdeal_finite_down [hPre_finite_down : Cert.Pre_finite_down.Facts] (m : (ℓ : Loc Cert.DownDataIdeal.nD Cert.DownDataIdeal.τ Cert.DownDataIdeal.sig) → Buf (Elt Ideal) ℓ) : Prop :=
  ∀ c : Dev Cert.DownDataIdeal.nD,
    (Cert.Pre_finite_down.fn (F := Ideal) (m ((c.tc : Thread Cert.DownDataIdeal.nD Cert.DownDataIdeal.τ).loc Cert.DownDataIdeal.main_arg0)) (m ((c.tc : Thread Cert.DownDataIdeal.nD Cert.DownDataIdeal.τ).loc Cert.DownDataIdeal.main_arg1)) (m ((c.tc : Thread Cert.DownDataIdeal.nD Cert.DownDataIdeal.τ).loc Cert.DownDataIdeal.main_arg2)) (m ((c.tc : Thread Cert.DownDataIdeal.nD Cert.DownDataIdeal.τ).loc Cert.DownDataIdeal.main_arg3))) = (fun _ => 1#1)

def Pre_DownDataRefIdeal (m : (ℓ : Loc Cert.DownDataRefIdeal.nD Cert.DownDataRefIdeal.τ Cert.DownDataRefIdeal.sig) → Buf (Elt Ideal) ℓ) : Prop :=
  True

def Pre_DownDataRefIdeal_finite_down [hPre_finite_down : Cert.Pre_finite_down.Facts] (m : (ℓ : Loc Cert.DownDataRefIdeal.nD Cert.DownDataRefIdeal.τ Cert.DownDataRefIdeal.sig) → Buf (Elt Ideal) ℓ) : Prop :=
  ∀ c : Dev Cert.DownDataRefIdeal.nD,
    (Cert.Pre_finite_down.fn (F := Ideal) (m ((c.tc : Thread Cert.DownDataRefIdeal.nD Cert.DownDataRefIdeal.τ).loc Cert.DownDataRefIdeal.main_arg0)) (m ((c.tc : Thread Cert.DownDataRefIdeal.nD Cert.DownDataRefIdeal.τ).loc Cert.DownDataRefIdeal.main_arg1)) (m ((c.tc : Thread Cert.DownDataRefIdeal.nD Cert.DownDataRefIdeal.τ).loc Cert.DownDataRefIdeal.main_arg2)) (m ((c.tc : Thread Cert.DownDataRefIdeal.nD Cert.DownDataRefIdeal.τ).loc Cert.DownDataRefIdeal.main_arg3))) = (fun _ => 1#1)

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_UpData (m : (ℓ : Loc Cert.UpData.nD Cert.UpData.τ Cert.UpData.sig) → Buf (Elt Bits) ℓ) : Prop :=
  True

def Pre_UpDataIdeal (m : (ℓ : Loc Cert.UpDataIdeal.nD Cert.UpDataIdeal.τ Cert.UpDataIdeal.sig) → Buf (Elt Ideal) ℓ) : Prop :=
  True

def Pre_UpDataRefIdeal (m : (ℓ : Loc Cert.UpDataRefIdeal.nD Cert.UpDataRefIdeal.τ Cert.UpDataRefIdeal.sig) → Buf (Elt Ideal) ℓ) : Prop :=
  True

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightRefIdeal (m : (ℓ : Loc Cert.UpWeightRefIdeal.nD Cert.UpWeightRefIdeal.τ Cert.UpWeightRefIdeal.sig) → Buf (Elt Ideal) ℓ) : Prop :=
  True

def Pre_OutData (m : (ℓ : Loc Cert.OutData.nD Cert.OutData.τ Cert.OutData.sig) → Buf (Elt Bits) ℓ) : Prop :=
  True

def Pre_OutDataIdeal (m : (ℓ : Loc Cert.OutDataIdeal.nD Cert.OutDataIdeal.τ Cert.OutDataIdeal.sig) → Buf (Elt Ideal) ℓ) : Prop :=
  True

def Pre_OutDataRefIdeal (m : (ℓ : Loc Cert.OutDataRefIdeal.nD Cert.OutDataRefIdeal.τ Cert.OutDataRefIdeal.sig) → Buf (Elt Ideal) ℓ) : Prop :=
  True

def Pre_ConvOutData (m : (ℓ : Loc Cert.ConvOutData.nD Cert.ConvOutData.τ Cert.ConvOutData.sig) → Buf (Elt Bits) ℓ) : Prop :=
  True

def Pre_ConvOutDataIdeal (m : (ℓ : Loc Cert.ConvOutDataIdeal.nD Cert.ConvOutDataIdeal.τ Cert.ConvOutDataIdeal.sig) → Buf (Elt Ideal) ℓ) : Prop :=
  True

def Pre_ConvOutDataRefIdeal (m : (ℓ : Loc Cert.ConvOutDataRefIdeal.nD Cert.ConvOutDataRefIdeal.τ Cert.ConvOutDataRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_QkvData (m : (ℓ : Loc Cert.QkvData.nD Cert.QkvData.τ Cert.QkvData.sig) → Buf (Elt Bits) ℓ) : Prop :=
  True

def Pre_QkvDataIdeal (m : (ℓ : Loc Cert.QkvDataIdeal.nD Cert.QkvDataIdeal.τ Cert.QkvDataIdeal.sig) → Buf (Elt Ideal) ℓ) : Prop :=
  True

def Pre_QkvDataRefIdeal (m : (ℓ : Loc Cert.QkvDataRefIdeal.nD Cert.QkvDataRefIdeal.τ Cert.QkvDataRefIdeal.sig) → Buf (Elt Ideal) ℓ) : Prop :=
  True

def Pre_QkvWeight (m : (ℓ : Loc Cert.QkvWeight.nD Cert.QkvWeight.τ Cert.QkvWeight.sig) → Buf (Elt Bits) ℓ) : Prop :=
  True

def Pre_QkvWeightIdeal (m : (ℓ : Loc Cert.QkvWeightIdeal.nD Cert.QkvWeightIdeal.τ Cert.QkvWeightIdeal.sig) → Buf (Elt Ideal) ℓ) : Prop :=
  True

def Pre_QkvWeightRefIdeal (m : (ℓ : Loc Cert.QkvWeightRefIdeal.nD Cert.QkvWeightRefIdeal.τ Cert.QkvWeightRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_PoolMix (m : (ℓ : Loc Cert.PoolMix.nD Cert.PoolMix.τ Cert.PoolMix.sig) → Buf (Elt Bits) ℓ) : Prop :=
  True

def Pre_PoolMixIdeal (m : (ℓ : Loc Cert.PoolMixIdeal.nD Cert.PoolMixIdeal.τ Cert.PoolMixIdeal.sig) → Buf (Elt Ideal) ℓ) : Prop :=
  True

def Pre_PoolMixRefIdeal (m : (ℓ : Loc Cert.PoolMixRefIdeal.nD Cert.PoolMixRefIdeal.τ Cert.PoolMixRefIdeal.sig) → Buf (Elt Ideal) ℓ) : Prop :=
  True

def Pre_PoolData (m : (ℓ : Loc Cert.PoolData.nD Cert.PoolData.τ Cert.PoolData.sig) → Buf (Elt Bits) ℓ) : Prop :=
  True

def Pre_PoolDataIdeal (m : (ℓ : Loc Cert.PoolDataIdeal.nD Cert.PoolDataIdeal.τ Cert.PoolDataIdeal.sig) → Buf (Elt Ideal) ℓ) : Prop :=
  True

def Pre_PoolDataRefIdeal (m : (ℓ : Loc Cert.PoolDataRefIdeal.nD Cert.PoolDataRefIdeal.τ Cert.PoolDataRefIdeal.sig) → Buf (Elt Ideal) ℓ) : Prop :=
  True

def Pre_PoolWeight (m : (ℓ : Loc Cert.PoolWeight.nD Cert.PoolWeight.τ Cert.PoolWeight.sig) → Buf (Elt Bits) ℓ) : Prop :=
  True

def Pre_PoolWeightIdeal (m : (ℓ : Loc Cert.PoolWeightIdeal.nD Cert.PoolWeightIdeal.τ Cert.PoolWeightIdeal.sig) → Buf (Elt Ideal) ℓ) : Prop :=
  True

def Pre_PoolWeightRefIdeal (m : (ℓ : Loc Cert.PoolWeightRefIdeal.nD Cert.PoolWeightRefIdeal.τ Cert.PoolWeightRefIdeal.sig) → Buf (Elt Ideal) ℓ) : Prop :=
  True

def Pre_PoolScale (m : (ℓ : Loc Cert.PoolScale.nD Cert.PoolScale.τ Cert.PoolScale.sig) → Buf (Elt Bits) ℓ) : Prop :=
  True

def Pre_PoolScaleIdeal (m : (ℓ : Loc Cert.PoolScaleIdeal.nD Cert.PoolScaleIdeal.τ Cert.PoolScaleIdeal.sig) → Buf (Elt Ideal) ℓ) : Prop :=
  True

def Pre_PoolScaleRefIdeal (m : (ℓ : Loc Cert.PoolScaleRefIdeal.nD Cert.PoolScaleRefIdeal.τ Cert.PoolScaleRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownData [hDownData : Cert.DownData.Facts] : Prop :=
  ∀ (m : (ℓ : Loc Cert.DownData.nD Cert.DownData.τ Cert.DownData.sig) → Buf (Elt Bits) ℓ) (g : Dev Cert.DownData.nD → PrngReg), Pre_DownData m →
    θ_run (Cert.DownData.defs (F := Bits)) (onTc (τ := Cert.DownData.τ) (Cert.DownData.main (F := Bits))) ⟨m, fun _ => 0, g⟩ (fun r => (∀ c : Dev Cert.DownData.nD,
      r.2.mem ((c.tc : Thread Cert.DownData.nD Cert.DownData.τ).loc Cert.DownData.main_arg0) = m ((c.tc : Thread Cert.DownData.nD Cert.DownData.τ).loc Cert.DownData.main_arg0)
      ∧ r.2.mem ((c.tc : Thread Cert.DownData.nD Cert.DownData.τ).loc Cert.DownData.main_arg1) = m ((c.tc : Thread Cert.DownData.nD Cert.DownData.τ).loc Cert.DownData.main_arg1)
      ∧ r.2.mem ((c.tc : Thread Cert.DownData.nD Cert.DownData.τ).loc Cert.DownData.main_arg2) = m ((c.tc : Thread Cert.DownData.nD Cert.DownData.τ).loc Cert.DownData.main_arg2)
      ∧ r.2.mem ((c.tc : Thread Cert.DownData.nD Cert.DownData.τ).loc Cert.DownData.main_arg3) = m ((c.tc : Thread Cert.DownData.nD Cert.DownData.τ).loc Cert.DownData.main_arg3))
      ∧ r.2.sem = fun _ => 0)

def quiescent_DownDataIdeal [hDownDataIdeal : Cert.DownDataIdeal.Facts] : Prop :=
  ∀ (m : (ℓ : Loc Cert.DownDataIdeal.nD Cert.DownDataIdeal.τ Cert.DownDataIdeal.sig) → Buf (Elt Ideal) ℓ) (g : Dev Cert.DownDataIdeal.nD → PrngReg), Pre_DownDataIdeal m →
    θ_run (Cert.DownDataIdeal.defs (F := Ideal)) (onTc (τ := Cert.DownDataIdeal.τ) (Cert.DownDataIdeal.main (F := Ideal))) ⟨m, fun _ => 0, g⟩ (fun r => (∀ c : Dev Cert.DownDataIdeal.nD,
      r.2.mem ((c.tc : Thread Cert.DownDataIdeal.nD Cert.DownDataIdeal.τ).loc Cert.DownDataIdeal.main_arg0) = m ((c.tc : Thread Cert.DownDataIdeal.nD Cert.DownDataIdeal.τ).loc Cert.DownDataIdeal.main_arg0)
      ∧ r.2.mem ((c.tc : Thread Cert.DownDataIdeal.nD Cert.DownDataIdeal.τ).loc Cert.DownDataIdeal.main_arg1) = m ((c.tc : Thread Cert.DownDataIdeal.nD Cert.DownDataIdeal.τ).loc Cert.DownDataIdeal.main_arg1)
      ∧ r.2.mem ((c.tc : Thread Cert.DownDataIdeal.nD Cert.DownDataIdeal.τ).loc Cert.DownDataIdeal.main_arg2) = m ((c.tc : Thread Cert.DownDataIdeal.nD Cert.DownDataIdeal.τ).loc Cert.DownDataIdeal.main_arg2)
      ∧ r.2.mem ((c.tc : Thread Cert.DownDataIdeal.nD Cert.DownDataIdeal.τ).loc Cert.DownDataIdeal.main_arg3) = m ((c.tc : Thread Cert.DownDataIdeal.nD Cert.DownDataIdeal.τ).loc Cert.DownDataIdeal.main_arg3))
      ∧ r.2.sem = fun _ => 0)

def quiescent_DownDataIdeal_pre_finite_down [hDownDataIdeal : Cert.DownDataIdeal.Facts] [hPre_finite_down : Cert.Pre_finite_down.Facts] : Prop :=
  ∀ (m : (ℓ : Loc Cert.DownDataIdeal.nD Cert.DownDataIdeal.τ Cert.DownDataIdeal.sig) → Buf (Elt Ideal) ℓ) (g : Dev Cert.DownDataIdeal.nD → PrngReg), Pre_DownDataIdeal_finite_down m →
    θ_run (Cert.DownDataIdeal.defs (F := Ideal)) (onTc (τ := Cert.DownDataIdeal.τ) (Cert.DownDataIdeal.main (F := Ideal))) ⟨m, fun _ => 0, g⟩ (fun r => (∀ c : Dev Cert.DownDataIdeal.nD,
      r.2.mem ((c.tc : Thread Cert.DownDataIdeal.nD Cert.DownDataIdeal.τ).loc Cert.DownDataIdeal.main_arg0) = m ((c.tc : Thread Cert.DownDataIdeal.nD Cert.DownDataIdeal.τ).loc Cert.DownDataIdeal.main_arg0)
      ∧ r.2.mem ((c.tc : Thread Cert.DownDataIdeal.nD Cert.DownDataIdeal.τ).loc Cert.DownDataIdeal.main_arg1) = m ((c.tc : Thread Cert.DownDataIdeal.nD Cert.DownDataIdeal.τ).loc Cert.DownDataIdeal.main_arg1)
      ∧ r.2.mem ((c.tc : Thread Cert.DownDataIdeal.nD Cert.DownDataIdeal.τ).loc Cert.DownDataIdeal.main_arg2) = m ((c.tc : Thread Cert.DownDataIdeal.nD Cert.DownDataIdeal.τ).loc Cert.DownDataIdeal.main_arg2)
      ∧ r.2.mem ((c.tc : Thread Cert.DownDataIdeal.nD Cert.DownDataIdeal.τ).loc Cert.DownDataIdeal.main_arg3) = m ((c.tc : Thread Cert.DownDataIdeal.nD Cert.DownDataIdeal.τ).loc Cert.DownDataIdeal.main_arg3))
      ∧ r.2.sem = fun _ => 0)

def quiescent_DownDataRefIdeal [hDownDataRefIdeal : Cert.DownDataRefIdeal.Facts] : Prop :=
  ∀ (m : (ℓ : Loc Cert.DownDataRefIdeal.nD Cert.DownDataRefIdeal.τ Cert.DownDataRefIdeal.sig) → Buf (Elt Ideal) ℓ) (g : Dev Cert.DownDataRefIdeal.nD → PrngReg), Pre_DownDataRefIdeal m →
    θ_run (Cert.DownDataRefIdeal.defs (F := Ideal)) (onTc (τ := Cert.DownDataRefIdeal.τ) (Cert.DownDataRefIdeal.main (F := Ideal))) ⟨m, fun _ => 0, g⟩ (fun r => (∀ c : Dev Cert.DownDataRefIdeal.nD,
      r.2.mem ((c.tc : Thread Cert.DownDataRefIdeal.nD Cert.DownDataRefIdeal.τ).loc Cert.DownDataRefIdeal.main_arg0) = m ((c.tc : Thread Cert.DownDataRefIdeal.nD Cert.DownDataRefIdeal.τ).loc Cert.DownDataRefIdeal.main_arg0)
      ∧ r.2.mem ((c.tc : Thread Cert.DownDataRefIdeal.nD Cert.DownDataRefIdeal.τ).loc Cert.DownDataRefIdeal.main_arg1) = m ((c.tc : Thread Cert.DownDataRefIdeal.nD Cert.DownDataRefIdeal.τ).loc Cert.DownDataRefIdeal.main_arg1)
      ∧ r.2.mem ((c.tc : Thread Cert.DownDataRefIdeal.nD Cert.DownDataRefIdeal.τ).loc Cert.DownDataRefIdeal.main_arg2) = m ((c.tc : Thread Cert.DownDataRefIdeal.nD Cert.DownDataRefIdeal.τ).loc Cert.DownDataRefIdeal.main_arg2)
      ∧ r.2.mem ((c.tc : Thread Cert.DownDataRefIdeal.nD Cert.DownDataRefIdeal.τ).loc Cert.DownDataRefIdeal.main_arg3) = m ((c.tc : Thread Cert.DownDataRefIdeal.nD Cert.DownDataRefIdeal.τ).loc Cert.DownDataRefIdeal.main_arg3))
      ∧ r.2.sem = fun _ => 0)

def quiescent_DownDataRefIdeal_pre_finite_down [hDownDataRefIdeal : Cert.DownDataRefIdeal.Facts] [hPre_finite_down : Cert.Pre_finite_down.Facts] : Prop :=
  ∀ (m : (ℓ : Loc Cert.DownDataRefIdeal.nD Cert.DownDataRefIdeal.τ Cert.DownDataRefIdeal.sig) → Buf (Elt Ideal) ℓ) (g : Dev Cert.DownDataRefIdeal.nD → PrngReg), Pre_DownDataRefIdeal_finite_down m →
    θ_run (Cert.DownDataRefIdeal.defs (F := Ideal)) (onTc (τ := Cert.DownDataRefIdeal.τ) (Cert.DownDataRefIdeal.main (F := Ideal))) ⟨m, fun _ => 0, g⟩ (fun r => (∀ c : Dev Cert.DownDataRefIdeal.nD,
      r.2.mem ((c.tc : Thread Cert.DownDataRefIdeal.nD Cert.DownDataRefIdeal.τ).loc Cert.DownDataRefIdeal.main_arg0) = m ((c.tc : Thread Cert.DownDataRefIdeal.nD Cert.DownDataRefIdeal.τ).loc Cert.DownDataRefIdeal.main_arg0)
      ∧ r.2.mem ((c.tc : Thread Cert.DownDataRefIdeal.nD Cert.DownDataRefIdeal.τ).loc Cert.DownDataRefIdeal.main_arg1) = m ((c.tc : Thread Cert.DownDataRefIdeal.nD Cert.DownDataRefIdeal.τ).loc Cert.DownDataRefIdeal.main_arg1)
      ∧ r.2.mem ((c.tc : Thread Cert.DownDataRefIdeal.nD Cert.DownDataRefIdeal.τ).loc Cert.DownDataRefIdeal.main_arg2) = m ((c.tc : Thread Cert.DownDataRefIdeal.nD Cert.DownDataRefIdeal.τ).loc Cert.DownDataRefIdeal.main_arg2)
      ∧ r.2.mem ((c.tc : Thread Cert.DownDataRefIdeal.nD Cert.DownDataRefIdeal.τ).loc Cert.DownDataRefIdeal.main_arg3) = m ((c.tc : Thread Cert.DownDataRefIdeal.nD Cert.DownDataRefIdeal.τ).loc Cert.DownDataRefIdeal.main_arg3))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_UpData [hUpData : Cert.UpData.Facts] : Prop :=
  ∀ (m : (ℓ : Loc Cert.UpData.nD Cert.UpData.τ Cert.UpData.sig) → Buf (Elt Bits) ℓ) (g : Dev Cert.UpData.nD → PrngReg), Pre_UpData m →
    θ_run (Cert.UpData.defs (F := Bits)) (onTc (τ := Cert.UpData.τ) (Cert.UpData.main (F := Bits))) ⟨m, fun _ => 0, g⟩ (fun r => (∀ c : Dev Cert.UpData.nD,
      r.2.mem ((c.tc : Thread Cert.UpData.nD Cert.UpData.τ).loc Cert.UpData.main_arg0) = m ((c.tc : Thread Cert.UpData.nD Cert.UpData.τ).loc Cert.UpData.main_arg0)
      ∧ r.2.mem ((c.tc : Thread Cert.UpData.nD Cert.UpData.τ).loc Cert.UpData.main_arg1) = m ((c.tc : Thread Cert.UpData.nD Cert.UpData.τ).loc Cert.UpData.main_arg1)
      ∧ r.2.mem ((c.tc : Thread Cert.UpData.nD Cert.UpData.τ).loc Cert.UpData.main_arg2) = m ((c.tc : Thread Cert.UpData.nD Cert.UpData.τ).loc Cert.UpData.main_arg2)
      ∧ r.2.mem ((c.tc : Thread Cert.UpData.nD Cert.UpData.τ).loc Cert.UpData.main_arg3) = m ((c.tc : Thread Cert.UpData.nD Cert.UpData.τ).loc Cert.UpData.main_arg3))
      ∧ r.2.sem = fun _ => 0)

def quiescent_UpDataIdeal [hUpDataIdeal : Cert.UpDataIdeal.Facts] : Prop :=
  ∀ (m : (ℓ : Loc Cert.UpDataIdeal.nD Cert.UpDataIdeal.τ Cert.UpDataIdeal.sig) → Buf (Elt Ideal) ℓ) (g : Dev Cert.UpDataIdeal.nD → PrngReg), Pre_UpDataIdeal m →
    θ_run (Cert.UpDataIdeal.defs (F := Ideal)) (onTc (τ := Cert.UpDataIdeal.τ) (Cert.UpDataIdeal.main (F := Ideal))) ⟨m, fun _ => 0, g⟩ (fun r => (∀ c : Dev Cert.UpDataIdeal.nD,
      r.2.mem ((c.tc : Thread Cert.UpDataIdeal.nD Cert.UpDataIdeal.τ).loc Cert.UpDataIdeal.main_arg0) = m ((c.tc : Thread Cert.UpDataIdeal.nD Cert.UpDataIdeal.τ).loc Cert.UpDataIdeal.main_arg0)
      ∧ r.2.mem ((c.tc : Thread Cert.UpDataIdeal.nD Cert.UpDataIdeal.τ).loc Cert.UpDataIdeal.main_arg1) = m ((c.tc : Thread Cert.UpDataIdeal.nD Cert.UpDataIdeal.τ).loc Cert.UpDataIdeal.main_arg1)
      ∧ r.2.mem ((c.tc : Thread Cert.UpDataIdeal.nD Cert.UpDataIdeal.τ).loc Cert.UpDataIdeal.main_arg2) = m ((c.tc : Thread Cert.UpDataIdeal.nD Cert.UpDataIdeal.τ).loc Cert.UpDataIdeal.main_arg2)
      ∧ r.2.mem ((c.tc : Thread Cert.UpDataIdeal.nD Cert.UpDataIdeal.τ).loc Cert.UpDataIdeal.main_arg3) = m ((c.tc : Thread Cert.UpDataIdeal.nD Cert.UpDataIdeal.τ).loc Cert.UpDataIdeal.main_arg3))
      ∧ r.2.sem = fun _ => 0)

def quiescent_UpDataRefIdeal [hUpDataRefIdeal : Cert.UpDataRefIdeal.Facts] : Prop :=
  ∀ (m : (ℓ : Loc Cert.UpDataRefIdeal.nD Cert.UpDataRefIdeal.τ Cert.UpDataRefIdeal.sig) → Buf (Elt Ideal) ℓ) (g : Dev Cert.UpDataRefIdeal.nD → PrngReg), Pre_UpDataRefIdeal m →
    θ_run (Cert.UpDataRefIdeal.defs (F := Ideal)) (onTc (τ := Cert.UpDataRefIdeal.τ) (Cert.UpDataRefIdeal.main (F := Ideal))) ⟨m, fun _ => 0, g⟩ (fun r => (∀ c : Dev Cert.UpDataRefIdeal.nD,
      r.2.mem ((c.tc : Thread Cert.UpDataRefIdeal.nD Cert.UpDataRefIdeal.τ).loc Cert.UpDataRefIdeal.main_arg0) = m ((c.tc : Thread Cert.UpDataRefIdeal.nD Cert.UpDataRefIdeal.τ).loc Cert.UpDataRefIdeal.main_arg0)
      ∧ r.2.mem ((c.tc : Thread Cert.UpDataRefIdeal.nD Cert.UpDataRefIdeal.τ).loc Cert.UpDataRefIdeal.main_arg1) = m ((c.tc : Thread Cert.UpDataRefIdeal.nD Cert.UpDataRefIdeal.τ).loc Cert.UpDataRefIdeal.main_arg1)
      ∧ r.2.mem ((c.tc : Thread Cert.UpDataRefIdeal.nD Cert.UpDataRefIdeal.τ).loc Cert.UpDataRefIdeal.main_arg2) = m ((c.tc : Thread Cert.UpDataRefIdeal.nD Cert.UpDataRefIdeal.τ).loc Cert.UpDataRefIdeal.main_arg2)
      ∧ r.2.mem ((c.tc : Thread Cert.UpDataRefIdeal.nD Cert.UpDataRefIdeal.τ).loc Cert.UpDataRefIdeal.main_arg3) = m ((c.tc : Thread Cert.UpDataRefIdeal.nD Cert.UpDataRefIdeal.τ).loc Cert.UpDataRefIdeal.main_arg3))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1)
      ∧ r.2.mem ((c.tc : Thread Cert.UpWeight.nD Cert.UpWeight.τ).loc Cert.UpWeight.main_arg2) = m ((c.tc : Thread Cert.UpWeight.nD Cert.UpWeight.τ).loc Cert.UpWeight.main_arg2))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1)
      ∧ r.2.mem ((c.tc : Thread Cert.UpWeightIdeal.nD Cert.UpWeightIdeal.τ).loc Cert.UpWeightIdeal.main_arg2) = m ((c.tc : Thread Cert.UpWeightIdeal.nD Cert.UpWeightIdeal.τ).loc Cert.UpWeightIdeal.main_arg2))
      ∧ r.2.sem = fun _ => 0)

def quiescent_UpWeightRefIdeal [hUpWeightRefIdeal : Cert.UpWeightRefIdeal.Facts] : Prop :=
  ∀ (m : (ℓ : Loc Cert.UpWeightRefIdeal.nD Cert.UpWeightRefIdeal.τ Cert.UpWeightRefIdeal.sig) → Buf (Elt Ideal) ℓ) (g : Dev Cert.UpWeightRefIdeal.nD → PrngReg), Pre_UpWeightRefIdeal m →
    θ_run (Cert.UpWeightRefIdeal.defs (F := Ideal)) (onTc (τ := Cert.UpWeightRefIdeal.τ) (Cert.UpWeightRefIdeal.main (F := Ideal))) ⟨m, fun _ => 0, g⟩ (fun r => (∀ c : Dev Cert.UpWeightRefIdeal.nD,
      r.2.mem ((c.tc : Thread Cert.UpWeightRefIdeal.nD Cert.UpWeightRefIdeal.τ).loc Cert.UpWeightRefIdeal.main_arg0) = m ((c.tc : Thread Cert.UpWeightRefIdeal.nD Cert.UpWeightRefIdeal.τ).loc Cert.UpWeightRefIdeal.main_arg0)
      ∧ r.2.mem ((c.tc : Thread Cert.UpWeightRefIdeal.nD Cert.UpWeightRefIdeal.τ).loc Cert.UpWeightRefIdeal.main_arg1) = m ((c.tc : Thread Cert.UpWeightRefIdeal.nD Cert.UpWeightRefIdeal.τ).loc Cert.UpWeightRefIdeal.main_arg1)
      ∧ r.2.mem ((c.tc : Thread Cert.UpWeightRefIdeal.nD Cert.UpWeightRefIdeal.τ).loc Cert.UpWeightRefIdeal.main_arg2) = m ((c.tc : Thread Cert.UpWeightRefIdeal.nD Cert.UpWeightRefIdeal.τ).loc Cert.UpWeightRefIdeal.main_arg2))
      ∧ r.2.sem = fun _ => 0)

def quiescent_OutData [hOutData : Cert.OutData.Facts] : Prop :=
  ∀ (m : (ℓ : Loc Cert.OutData.nD Cert.OutData.τ Cert.OutData.sig) → Buf (Elt Bits) ℓ) (g : Dev Cert.OutData.nD → PrngReg), Pre_OutData m →
    θ_run (Cert.OutData.defs (F := Bits)) (onTc (τ := Cert.OutData.τ) (Cert.OutData.main (F := Bits))) ⟨m, fun _ => 0, g⟩ (fun r => (∀ c : Dev Cert.OutData.nD,
      r.2.mem ((c.tc : Thread Cert.OutData.nD Cert.OutData.τ).loc Cert.OutData.main_arg0) = m ((c.tc : Thread Cert.OutData.nD Cert.OutData.τ).loc Cert.OutData.main_arg0)
      ∧ r.2.mem ((c.tc : Thread Cert.OutData.nD Cert.OutData.τ).loc Cert.OutData.main_arg1) = m ((c.tc : Thread Cert.OutData.nD Cert.OutData.τ).loc Cert.OutData.main_arg1))
      ∧ r.2.sem = fun _ => 0)

def quiescent_OutDataIdeal [hOutDataIdeal : Cert.OutDataIdeal.Facts] : Prop :=
  ∀ (m : (ℓ : Loc Cert.OutDataIdeal.nD Cert.OutDataIdeal.τ Cert.OutDataIdeal.sig) → Buf (Elt Ideal) ℓ) (g : Dev Cert.OutDataIdeal.nD → PrngReg), Pre_OutDataIdeal m →
    θ_run (Cert.OutDataIdeal.defs (F := Ideal)) (onTc (τ := Cert.OutDataIdeal.τ) (Cert.OutDataIdeal.main (F := Ideal))) ⟨m, fun _ => 0, g⟩ (fun r => (∀ c : Dev Cert.OutDataIdeal.nD,
      r.2.mem ((c.tc : Thread Cert.OutDataIdeal.nD Cert.OutDataIdeal.τ).loc Cert.OutDataIdeal.main_arg0) = m ((c.tc : Thread Cert.OutDataIdeal.nD Cert.OutDataIdeal.τ).loc Cert.OutDataIdeal.main_arg0)
      ∧ r.2.mem ((c.tc : Thread Cert.OutDataIdeal.nD Cert.OutDataIdeal.τ).loc Cert.OutDataIdeal.main_arg1) = m ((c.tc : Thread Cert.OutDataIdeal.nD Cert.OutDataIdeal.τ).loc Cert.OutDataIdeal.main_arg1))
      ∧ r.2.sem = fun _ => 0)

def quiescent_OutDataRefIdeal [hOutDataRefIdeal : Cert.OutDataRefIdeal.Facts] : Prop :=
  ∀ (m : (ℓ : Loc Cert.OutDataRefIdeal.nD Cert.OutDataRefIdeal.τ Cert.OutDataRefIdeal.sig) → Buf (Elt Ideal) ℓ) (g : Dev Cert.OutDataRefIdeal.nD → PrngReg), Pre_OutDataRefIdeal m →
    θ_run (Cert.OutDataRefIdeal.defs (F := Ideal)) (onTc (τ := Cert.OutDataRefIdeal.τ) (Cert.OutDataRefIdeal.main (F := Ideal))) ⟨m, fun _ => 0, g⟩ (fun r => (∀ c : Dev Cert.OutDataRefIdeal.nD,
      r.2.mem ((c.tc : Thread Cert.OutDataRefIdeal.nD Cert.OutDataRefIdeal.τ).loc Cert.OutDataRefIdeal.main_arg0) = m ((c.tc : Thread Cert.OutDataRefIdeal.nD Cert.OutDataRefIdeal.τ).loc Cert.OutDataRefIdeal.main_arg0)
      ∧ r.2.mem ((c.tc : Thread Cert.OutDataRefIdeal.nD Cert.OutDataRefIdeal.τ).loc Cert.OutDataRefIdeal.main_arg1) = m ((c.tc : Thread Cert.OutDataRefIdeal.nD Cert.OutDataRefIdeal.τ).loc Cert.OutDataRefIdeal.main_arg1))
      ∧ r.2.sem = fun _ => 0)

def quiescent_ConvOutData [hConvOutData : Cert.ConvOutData.Facts] : Prop :=
  ∀ (m : (ℓ : Loc Cert.ConvOutData.nD Cert.ConvOutData.τ Cert.ConvOutData.sig) → Buf (Elt Bits) ℓ) (g : Dev Cert.ConvOutData.nD → PrngReg), Pre_ConvOutData m →
    θ_run (Cert.ConvOutData.defs (F := Bits)) (onTc (τ := Cert.ConvOutData.τ) (Cert.ConvOutData.main (F := Bits))) ⟨m, fun _ => 0, g⟩ (fun r => (∀ c : Dev Cert.ConvOutData.nD,
      r.2.mem ((c.tc : Thread Cert.ConvOutData.nD Cert.ConvOutData.τ).loc Cert.ConvOutData.main_arg0) = m ((c.tc : Thread Cert.ConvOutData.nD Cert.ConvOutData.τ).loc Cert.ConvOutData.main_arg0)
      ∧ r.2.mem ((c.tc : Thread Cert.ConvOutData.nD Cert.ConvOutData.τ).loc Cert.ConvOutData.main_arg1) = m ((c.tc : Thread Cert.ConvOutData.nD Cert.ConvOutData.τ).loc Cert.ConvOutData.main_arg1))
      ∧ r.2.sem = fun _ => 0)

def quiescent_ConvOutDataIdeal [hConvOutDataIdeal : Cert.ConvOutDataIdeal.Facts] : Prop :=
  ∀ (m : (ℓ : Loc Cert.ConvOutDataIdeal.nD Cert.ConvOutDataIdeal.τ Cert.ConvOutDataIdeal.sig) → Buf (Elt Ideal) ℓ) (g : Dev Cert.ConvOutDataIdeal.nD → PrngReg), Pre_ConvOutDataIdeal m →
    θ_run (Cert.ConvOutDataIdeal.defs (F := Ideal)) (onTc (τ := Cert.ConvOutDataIdeal.τ) (Cert.ConvOutDataIdeal.main (F := Ideal))) ⟨m, fun _ => 0, g⟩ (fun r => (∀ c : Dev Cert.ConvOutDataIdeal.nD,
      r.2.mem ((c.tc : Thread Cert.ConvOutDataIdeal.nD Cert.ConvOutDataIdeal.τ).loc Cert.ConvOutDataIdeal.main_arg0) = m ((c.tc : Thread Cert.ConvOutDataIdeal.nD Cert.ConvOutDataIdeal.τ).loc Cert.ConvOutDataIdeal.main_arg0)
      ∧ r.2.mem ((c.tc : Thread Cert.ConvOutDataIdeal.nD Cert.ConvOutDataIdeal.τ).loc Cert.ConvOutDataIdeal.main_arg1) = m ((c.tc : Thread Cert.ConvOutDataIdeal.nD Cert.ConvOutDataIdeal.τ).loc Cert.ConvOutDataIdeal.main_arg1))
      ∧ r.2.sem = fun _ => 0)

def quiescent_ConvOutDataRefIdeal [hConvOutDataRefIdeal : Cert.ConvOutDataRefIdeal.Facts] : Prop :=
  ∀ (m : (ℓ : Loc Cert.ConvOutDataRefIdeal.nD Cert.ConvOutDataRefIdeal.τ Cert.ConvOutDataRefIdeal.sig) → Buf (Elt Ideal) ℓ) (g : Dev Cert.ConvOutDataRefIdeal.nD → PrngReg), Pre_ConvOutDataRefIdeal m →
    θ_run (Cert.ConvOutDataRefIdeal.defs (F := Ideal)) (onTc (τ := Cert.ConvOutDataRefIdeal.τ) (Cert.ConvOutDataRefIdeal.main (F := Ideal))) ⟨m, fun _ => 0, g⟩ (fun r => (∀ c : Dev Cert.ConvOutDataRefIdeal.nD,
      r.2.mem ((c.tc : Thread Cert.ConvOutDataRefIdeal.nD Cert.ConvOutDataRefIdeal.τ).loc Cert.ConvOutDataRefIdeal.main_arg0) = m ((c.tc : Thread Cert.ConvOutDataRefIdeal.nD Cert.ConvOutDataRefIdeal.τ).loc Cert.ConvOutDataRefIdeal.main_arg0)
      ∧ r.2.mem ((c.tc : Thread Cert.ConvOutDataRefIdeal.nD Cert.ConvOutDataRefIdeal.τ).loc Cert.ConvOutDataRefIdeal.main_arg1) = m ((c.tc : Thread Cert.ConvOutDataRefIdeal.nD Cert.ConvOutDataRefIdeal.τ).loc Cert.ConvOutDataRefIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_QkvData [hQkvData : Cert.QkvData.Facts] : Prop :=
  ∀ (m : (ℓ : Loc Cert.QkvData.nD Cert.QkvData.τ Cert.QkvData.sig) → Buf (Elt Bits) ℓ) (g : Dev Cert.QkvData.nD → PrngReg), Pre_QkvData m →
    θ_run (Cert.QkvData.defs (F := Bits)) (onTc (τ := Cert.QkvData.τ) (Cert.QkvData.main (F := Bits))) ⟨m, fun _ => 0, g⟩ (fun r => (∀ c : Dev Cert.QkvData.nD,
      r.2.mem ((c.tc : Thread Cert.QkvData.nD Cert.QkvData.τ).loc Cert.QkvData.main_arg0) = m ((c.tc : Thread Cert.QkvData.nD Cert.QkvData.τ).loc Cert.QkvData.main_arg0)
      ∧ r.2.mem ((c.tc : Thread Cert.QkvData.nD Cert.QkvData.τ).loc Cert.QkvData.main_arg1) = m ((c.tc : Thread Cert.QkvData.nD Cert.QkvData.τ).loc Cert.QkvData.main_arg1))
      ∧ r.2.sem = fun _ => 0)

def quiescent_QkvDataIdeal [hQkvDataIdeal : Cert.QkvDataIdeal.Facts] : Prop :=
  ∀ (m : (ℓ : Loc Cert.QkvDataIdeal.nD Cert.QkvDataIdeal.τ Cert.QkvDataIdeal.sig) → Buf (Elt Ideal) ℓ) (g : Dev Cert.QkvDataIdeal.nD → PrngReg), Pre_QkvDataIdeal m →
    θ_run (Cert.QkvDataIdeal.defs (F := Ideal)) (onTc (τ := Cert.QkvDataIdeal.τ) (Cert.QkvDataIdeal.main (F := Ideal))) ⟨m, fun _ => 0, g⟩ (fun r => (∀ c : Dev Cert.QkvDataIdeal.nD,
      r.2.mem ((c.tc : Thread Cert.QkvDataIdeal.nD Cert.QkvDataIdeal.τ).loc Cert.QkvDataIdeal.main_arg0) = m ((c.tc : Thread Cert.QkvDataIdeal.nD Cert.QkvDataIdeal.τ).loc Cert.QkvDataIdeal.main_arg0)
      ∧ r.2.mem ((c.tc : Thread Cert.QkvDataIdeal.nD Cert.QkvDataIdeal.τ).loc Cert.QkvDataIdeal.main_arg1) = m ((c.tc : Thread Cert.QkvDataIdeal.nD Cert.QkvDataIdeal.τ).loc Cert.QkvDataIdeal.main_arg1))
      ∧ r.2.sem = fun _ => 0)

def quiescent_QkvDataRefIdeal [hQkvDataRefIdeal : Cert.QkvDataRefIdeal.Facts] : Prop :=
  ∀ (m : (ℓ : Loc Cert.QkvDataRefIdeal.nD Cert.QkvDataRefIdeal.τ Cert.QkvDataRefIdeal.sig) → Buf (Elt Ideal) ℓ) (g : Dev Cert.QkvDataRefIdeal.nD → PrngReg), Pre_QkvDataRefIdeal m →
    θ_run (Cert.QkvDataRefIdeal.defs (F := Ideal)) (onTc (τ := Cert.QkvDataRefIdeal.τ) (Cert.QkvDataRefIdeal.main (F := Ideal))) ⟨m, fun _ => 0, g⟩ (fun r => (∀ c : Dev Cert.QkvDataRefIdeal.nD,
      r.2.mem ((c.tc : Thread Cert.QkvDataRefIdeal.nD Cert.QkvDataRefIdeal.τ).loc Cert.QkvDataRefIdeal.main_arg0) = m ((c.tc : Thread Cert.QkvDataRefIdeal.nD Cert.QkvDataRefIdeal.τ).loc Cert.QkvDataRefIdeal.main_arg0)
      ∧ r.2.mem ((c.tc : Thread Cert.QkvDataRefIdeal.nD Cert.QkvDataRefIdeal.τ).loc Cert.QkvDataRefIdeal.main_arg1) = m ((c.tc : Thread Cert.QkvDataRefIdeal.nD Cert.QkvDataRefIdeal.τ).loc Cert.QkvDataRefIdeal.main_arg1))
      ∧ r.2.sem = fun _ => 0)

def quiescent_QkvWeight [hQkvWeight : Cert.QkvWeight.Facts] : Prop :=
  ∀ (m : (ℓ : Loc Cert.QkvWeight.nD Cert.QkvWeight.τ Cert.QkvWeight.sig) → Buf (Elt Bits) ℓ) (g : Dev Cert.QkvWeight.nD → PrngReg), Pre_QkvWeight m →
    θ_run (Cert.QkvWeight.defs (F := Bits)) (onTc (τ := Cert.QkvWeight.τ) (Cert.QkvWeight.main (F := Bits))) ⟨m, fun _ => 0, g⟩ (fun r => (∀ c : Dev Cert.QkvWeight.nD,
      r.2.mem ((c.tc : Thread Cert.QkvWeight.nD Cert.QkvWeight.τ).loc Cert.QkvWeight.main_arg0) = m ((c.tc : Thread Cert.QkvWeight.nD Cert.QkvWeight.τ).loc Cert.QkvWeight.main_arg0)
      ∧ r.2.mem ((c.tc : Thread Cert.QkvWeight.nD Cert.QkvWeight.τ).loc Cert.QkvWeight.main_arg1) = m ((c.tc : Thread Cert.QkvWeight.nD Cert.QkvWeight.τ).loc Cert.QkvWeight.main_arg1))
      ∧ r.2.sem = fun _ => 0)

def quiescent_QkvWeightIdeal [hQkvWeightIdeal : Cert.QkvWeightIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg), Pre_QkvWeightIdeal m →
    θ_run (Cert.QkvWeightIdeal.defs (F := Ideal)) (onTc (τ := Cert.QkvWeightIdeal.τ) (Cert.QkvWeightIdeal.main (F := Ideal))) ⟨m, fun _ => 0, g⟩ (fun r => (∀ c : Dev Cert.QkvWeightIdeal.nD,
      r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
      ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1))
      ∧ r.2.sem = fun _ => 0)

def quiescent_QkvWeightRefIdeal [hQkvWeightRefIdeal : Cert.QkvWeightRefIdeal.Facts] : Prop :=
  ∀ (m : (ℓ : Loc Cert.QkvWeightRefIdeal.nD Cert.QkvWeightRefIdeal.τ Cert.QkvWeightRefIdeal.sig) → Buf (Elt Ideal) ℓ) (g : Dev Cert.QkvWeightRefIdeal.nD → PrngReg), Pre_QkvWeightRefIdeal m →
    θ_run (Cert.QkvWeightRefIdeal.defs (F := Ideal)) (onTc (τ := Cert.QkvWeightRefIdeal.τ) (Cert.QkvWeightRefIdeal.main (F := Ideal))) ⟨m, fun _ => 0, g⟩ (fun r => (∀ c : Dev Cert.QkvWeightRefIdeal.nD,
      r.2.mem ((c.tc : Thread Cert.QkvWeightRefIdeal.nD Cert.QkvWeightRefIdeal.τ).loc Cert.QkvWeightRefIdeal.main_arg0) = m ((c.tc : Thread Cert.QkvWeightRefIdeal.nD Cert.QkvWeightRefIdeal.τ).loc Cert.QkvWeightRefIdeal.main_arg0)
      ∧ r.2.mem ((c.tc : Thread Cert.QkvWeightRefIdeal.nD Cert.QkvWeightRefIdeal.τ).loc Cert.QkvWeightRefIdeal.main_arg1) = m ((c.tc : Thread Cert.QkvWeightRefIdeal.nD Cert.QkvWeightRefIdeal.τ).loc Cert.QkvWeightRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_PoolMix [hPoolMix : Cert.PoolMix.Facts] : Prop :=
  ∀ (m : (ℓ : Loc Cert.PoolMix.nD Cert.PoolMix.τ Cert.PoolMix.sig) → Buf (Elt Bits) ℓ) (g : Dev Cert.PoolMix.nD → PrngReg), Pre_PoolMix m →
    θ_run (Cert.PoolMix.defs (F := Bits)) (onTc (τ := Cert.PoolMix.τ) (Cert.PoolMix.main (F := Bits))) ⟨m, fun _ => 0, g⟩ (fun r => (∀ c : Dev Cert.PoolMix.nD,
      r.2.mem ((c.tc : Thread Cert.PoolMix.nD Cert.PoolMix.τ).loc Cert.PoolMix.main_arg0) = m ((c.tc : Thread Cert.PoolMix.nD Cert.PoolMix.τ).loc Cert.PoolMix.main_arg0)
      ∧ r.2.mem ((c.tc : Thread Cert.PoolMix.nD Cert.PoolMix.τ).loc Cert.PoolMix.main_arg1) = m ((c.tc : Thread Cert.PoolMix.nD Cert.PoolMix.τ).loc Cert.PoolMix.main_arg1)
      ∧ r.2.mem ((c.tc : Thread Cert.PoolMix.nD Cert.PoolMix.τ).loc Cert.PoolMix.main_arg2) = m ((c.tc : Thread Cert.PoolMix.nD Cert.PoolMix.τ).loc Cert.PoolMix.main_arg2)
      ∧ r.2.mem ((c.tc : Thread Cert.PoolMix.nD Cert.PoolMix.τ).loc Cert.PoolMix.main_arg3) = m ((c.tc : Thread Cert.PoolMix.nD Cert.PoolMix.τ).loc Cert.PoolMix.main_arg3))
      ∧ r.2.sem = fun _ => 0)

def quiescent_PoolMixIdeal [hPoolMixIdeal : Cert.PoolMixIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg), Pre_PoolMixIdeal m →
    θ_run (Cert.PoolMixIdeal.defs (F := Ideal)) (onTc (τ := Cert.PoolMixIdeal.τ) (Cert.PoolMixIdeal.main (F := Ideal))) ⟨m, fun _ => 0, g⟩ (fun r => (∀ c : Dev Cert.PoolMixIdeal.nD,
      r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
      ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
      ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2)
      ∧ r.2.mem ((c.tc : Thread Cert.PoolMixIdeal.nD Cert.PoolMixIdeal.τ).loc Cert.PoolMixIdeal.main_arg3) = m ((c.tc : Thread Cert.PoolMixIdeal.nD Cert.PoolMixIdeal.τ).loc Cert.PoolMixIdeal.main_arg3))
      ∧ r.2.sem = fun _ => 0)

def quiescent_PoolMixRefIdeal [hPoolMixRefIdeal : Cert.PoolMixRefIdeal.Facts] : Prop :=
  ∀ (m : (ℓ : Loc Cert.PoolMixRefIdeal.nD Cert.PoolMixRefIdeal.τ Cert.PoolMixRefIdeal.sig) → Buf (Elt Ideal) ℓ) (g : Dev Cert.PoolMixRefIdeal.nD → PrngReg), Pre_PoolMixRefIdeal m →
    θ_run (Cert.PoolMixRefIdeal.defs (F := Ideal)) (onTc (τ := Cert.PoolMixRefIdeal.τ) (Cert.PoolMixRefIdeal.main (F := Ideal))) ⟨m, fun _ => 0, g⟩ (fun r => (∀ c : Dev Cert.PoolMixRefIdeal.nD,
      r.2.mem ((c.tc : Thread Cert.PoolMixRefIdeal.nD Cert.PoolMixRefIdeal.τ).loc Cert.PoolMixRefIdeal.main_arg0) = m ((c.tc : Thread Cert.PoolMixRefIdeal.nD Cert.PoolMixRefIdeal.τ).loc Cert.PoolMixRefIdeal.main_arg0)
      ∧ r.2.mem ((c.tc : Thread Cert.PoolMixRefIdeal.nD Cert.PoolMixRefIdeal.τ).loc Cert.PoolMixRefIdeal.main_arg1) = m ((c.tc : Thread Cert.PoolMixRefIdeal.nD Cert.PoolMixRefIdeal.τ).loc Cert.PoolMixRefIdeal.main_arg1)
      ∧ r.2.mem ((c.tc : Thread Cert.PoolMixRefIdeal.nD Cert.PoolMixRefIdeal.τ).loc Cert.PoolMixRefIdeal.main_arg2) = m ((c.tc : Thread Cert.PoolMixRefIdeal.nD Cert.PoolMixRefIdeal.τ).loc Cert.PoolMixRefIdeal.main_arg2)
      ∧ r.2.mem ((c.tc : Thread Cert.PoolMixRefIdeal.nD Cert.PoolMixRefIdeal.τ).loc Cert.PoolMixRefIdeal.main_arg3) = m ((c.tc : Thread Cert.PoolMixRefIdeal.nD Cert.PoolMixRefIdeal.τ).loc Cert.PoolMixRefIdeal.main_arg3))
      ∧ r.2.sem = fun _ => 0)

def quiescent_PoolData [hPoolData : Cert.PoolData.Facts] : Prop :=
  ∀ (m : (ℓ : Loc Cert.PoolData.nD Cert.PoolData.τ Cert.PoolData.sig) → Buf (Elt Bits) ℓ) (g : Dev Cert.PoolData.nD → PrngReg), Pre_PoolData m →
    θ_run (Cert.PoolData.defs (F := Bits)) (onTc (τ := Cert.PoolData.τ) (Cert.PoolData.main (F := Bits))) ⟨m, fun _ => 0, g⟩ (fun r => (∀ c : Dev Cert.PoolData.nD,
      r.2.mem ((c.tc : Thread Cert.PoolData.nD Cert.PoolData.τ).loc Cert.PoolData.main_arg0) = m ((c.tc : Thread Cert.PoolData.nD Cert.PoolData.τ).loc Cert.PoolData.main_arg0)
      ∧ r.2.mem ((c.tc : Thread Cert.PoolData.nD Cert.PoolData.τ).loc Cert.PoolData.main_arg1) = m ((c.tc : Thread Cert.PoolData.nD Cert.PoolData.τ).loc Cert.PoolData.main_arg1))
      ∧ r.2.sem = fun _ => 0)

def quiescent_PoolDataIdeal [hPoolDataIdeal : Cert.PoolDataIdeal.Facts] : Prop :=
  ∀ (m : (ℓ : Loc Cert.PoolDataIdeal.nD Cert.PoolDataIdeal.τ Cert.PoolDataIdeal.sig) → Buf (Elt Ideal) ℓ) (g : Dev Cert.PoolDataIdeal.nD → PrngReg), Pre_PoolDataIdeal m →
    θ_run (Cert.PoolDataIdeal.defs (F := Ideal)) (onTc (τ := Cert.PoolDataIdeal.τ) (Cert.PoolDataIdeal.main (F := Ideal))) ⟨m, fun _ => 0, g⟩ (fun r => (∀ c : Dev Cert.PoolDataIdeal.nD,
      r.2.mem ((c.tc : Thread Cert.PoolDataIdeal.nD Cert.PoolDataIdeal.τ).loc Cert.PoolDataIdeal.main_arg0) = m ((c.tc : Thread Cert.PoolDataIdeal.nD Cert.PoolDataIdeal.τ).loc Cert.PoolDataIdeal.main_arg0)
      ∧ r.2.mem ((c.tc : Thread Cert.PoolDataIdeal.nD Cert.PoolDataIdeal.τ).loc Cert.PoolDataIdeal.main_arg1) = m ((c.tc : Thread Cert.PoolDataIdeal.nD Cert.PoolDataIdeal.τ).loc Cert.PoolDataIdeal.main_arg1))
      ∧ r.2.sem = fun _ => 0)

def quiescent_PoolDataRefIdeal [hPoolDataRefIdeal : Cert.PoolDataRefIdeal.Facts] : Prop :=
  ∀ (m : (ℓ : Loc Cert.PoolDataRefIdeal.nD Cert.PoolDataRefIdeal.τ Cert.PoolDataRefIdeal.sig) → Buf (Elt Ideal) ℓ) (g : Dev Cert.PoolDataRefIdeal.nD → PrngReg), Pre_PoolDataRefIdeal m →
    θ_run (Cert.PoolDataRefIdeal.defs (F := Ideal)) (onTc (τ := Cert.PoolDataRefIdeal.τ) (Cert.PoolDataRefIdeal.main (F := Ideal))) ⟨m, fun _ => 0, g⟩ (fun r => (∀ c : Dev Cert.PoolDataRefIdeal.nD,
      r.2.mem ((c.tc : Thread Cert.PoolDataRefIdeal.nD Cert.PoolDataRefIdeal.τ).loc Cert.PoolDataRefIdeal.main_arg0) = m ((c.tc : Thread Cert.PoolDataRefIdeal.nD Cert.PoolDataRefIdeal.τ).loc Cert.PoolDataRefIdeal.main_arg0)
      ∧ r.2.mem ((c.tc : Thread Cert.PoolDataRefIdeal.nD Cert.PoolDataRefIdeal.τ).loc Cert.PoolDataRefIdeal.main_arg1) = m ((c.tc : Thread Cert.PoolDataRefIdeal.nD Cert.PoolDataRefIdeal.τ).loc Cert.PoolDataRefIdeal.main_arg1))
      ∧ r.2.sem = fun _ => 0)

def quiescent_PoolWeight [hPoolWeight : Cert.PoolWeight.Facts] : Prop :=
  ∀ (m : (ℓ : Loc Cert.PoolWeight.nD Cert.PoolWeight.τ Cert.PoolWeight.sig) → Buf (Elt Bits) ℓ) (g : Dev Cert.PoolWeight.nD → PrngReg), Pre_PoolWeight m →
    θ_run (Cert.PoolWeight.defs (F := Bits)) (onTc (τ := Cert.PoolWeight.τ) (Cert.PoolWeight.main (F := Bits))) ⟨m, fun _ => 0, g⟩ (fun r => (∀ c : Dev Cert.PoolWeight.nD,
      r.2.mem ((c.tc : Thread Cert.PoolWeight.nD Cert.PoolWeight.τ).loc Cert.PoolWeight.main_arg0) = m ((c.tc : Thread Cert.PoolWeight.nD Cert.PoolWeight.τ).loc Cert.PoolWeight.main_arg0)
      ∧ r.2.mem ((c.tc : Thread Cert.PoolWeight.nD Cert.PoolWeight.τ).loc Cert.PoolWeight.main_arg1) = m ((c.tc : Thread Cert.PoolWeight.nD Cert.PoolWeight.τ).loc Cert.PoolWeight.main_arg1))
      ∧ r.2.sem = fun _ => 0)

def quiescent_PoolWeightIdeal [hPoolWeightIdeal : Cert.PoolWeightIdeal.Facts] : Prop :=
  ∀ (m : (ℓ : Loc Cert.PoolWeightIdeal.nD Cert.PoolWeightIdeal.τ Cert.PoolWeightIdeal.sig) → Buf (Elt Ideal) ℓ) (g : Dev Cert.PoolWeightIdeal.nD → PrngReg), Pre_PoolWeightIdeal m →
    θ_run (Cert.PoolWeightIdeal.defs (F := Ideal)) (onTc (τ := Cert.PoolWeightIdeal.τ) (Cert.PoolWeightIdeal.main (F := Ideal))) ⟨m, fun _ => 0, g⟩ (fun r => (∀ c : Dev Cert.PoolWeightIdeal.nD,
      r.2.mem ((c.tc : Thread Cert.PoolWeightIdeal.nD Cert.PoolWeightIdeal.τ).loc Cert.PoolWeightIdeal.main_arg0) = m ((c.tc : Thread Cert.PoolWeightIdeal.nD Cert.PoolWeightIdeal.τ).loc Cert.PoolWeightIdeal.main_arg0)
      ∧ r.2.mem ((c.tc : Thread Cert.PoolWeightIdeal.nD Cert.PoolWeightIdeal.τ).loc Cert.PoolWeightIdeal.main_arg1) = m ((c.tc : Thread Cert.PoolWeightIdeal.nD Cert.PoolWeightIdeal.τ).loc Cert.PoolWeightIdeal.main_arg1))
      ∧ r.2.sem = fun _ => 0)

def quiescent_PoolWeightRefIdeal [hPoolWeightRefIdeal : Cert.PoolWeightRefIdeal.Facts] : Prop :=
  ∀ (m : (ℓ : Loc Cert.PoolWeightRefIdeal.nD Cert.PoolWeightRefIdeal.τ Cert.PoolWeightRefIdeal.sig) → Buf (Elt Ideal) ℓ) (g : Dev Cert.PoolWeightRefIdeal.nD → PrngReg), Pre_PoolWeightRefIdeal m →
    θ_run (Cert.PoolWeightRefIdeal.defs (F := Ideal)) (onTc (τ := Cert.PoolWeightRefIdeal.τ) (Cert.PoolWeightRefIdeal.main (F := Ideal))) ⟨m, fun _ => 0, g⟩ (fun r => (∀ c : Dev Cert.PoolWeightRefIdeal.nD,
      r.2.mem ((c.tc : Thread Cert.PoolWeightRefIdeal.nD Cert.PoolWeightRefIdeal.τ).loc Cert.PoolWeightRefIdeal.main_arg0) = m ((c.tc : Thread Cert.PoolWeightRefIdeal.nD Cert.PoolWeightRefIdeal.τ).loc Cert.PoolWeightRefIdeal.main_arg0)
      ∧ r.2.mem ((c.tc : Thread Cert.PoolWeightRefIdeal.nD Cert.PoolWeightRefIdeal.τ).loc Cert.PoolWeightRefIdeal.main_arg1) = m ((c.tc : Thread Cert.PoolWeightRefIdeal.nD Cert.PoolWeightRefIdeal.τ).loc Cert.PoolWeightRefIdeal.main_arg1))
      ∧ r.2.sem = fun _ => 0)

def quiescent_PoolScale [hPoolScale : Cert.PoolScale.Facts] : Prop :=
  ∀ (m : (ℓ : Loc Cert.PoolScale.nD Cert.PoolScale.τ Cert.PoolScale.sig) → Buf (Elt Bits) ℓ) (g : Dev Cert.PoolScale.nD → PrngReg), Pre_PoolScale m →
    θ_run (Cert.PoolScale.defs (F := Bits)) (onTc (τ := Cert.PoolScale.τ) (Cert.PoolScale.main (F := Bits))) ⟨m, fun _ => 0, g⟩ (fun r => (∀ c : Dev Cert.PoolScale.nD,
      r.2.mem ((c.tc : Thread Cert.PoolScale.nD Cert.PoolScale.τ).loc Cert.PoolScale.main_arg0) = m ((c.tc : Thread Cert.PoolScale.nD Cert.PoolScale.τ).loc Cert.PoolScale.main_arg0)
      ∧ r.2.mem ((c.tc : Thread Cert.PoolScale.nD Cert.PoolScale.τ).loc Cert.PoolScale.main_arg1) = m ((c.tc : Thread Cert.PoolScale.nD Cert.PoolScale.τ).loc Cert.PoolScale.main_arg1)
      ∧ r.2.mem ((c.tc : Thread Cert.PoolScale.nD Cert.PoolScale.τ).loc Cert.PoolScale.main_arg2) = m ((c.tc : Thread Cert.PoolScale.nD Cert.PoolScale.τ).loc Cert.PoolScale.main_arg2))
      ∧ r.2.sem = fun _ => 0)

def quiescent_PoolScaleIdeal [hPoolScaleIdeal : Cert.PoolScaleIdeal.Facts] : Prop :=
  ∀ (m : (ℓ : Loc Cert.PoolScaleIdeal.nD Cert.PoolScaleIdeal.τ Cert.PoolScaleIdeal.sig) → Buf (Elt Ideal) ℓ) (g : Dev Cert.PoolScaleIdeal.nD → PrngReg), Pre_PoolScaleIdeal m →
    θ_run (Cert.PoolScaleIdeal.defs (F := Ideal)) (onTc (τ := Cert.PoolScaleIdeal.τ) (Cert.PoolScaleIdeal.main (F := Ideal))) ⟨m, fun _ => 0, g⟩ (fun r => (∀ c : Dev Cert.PoolScaleIdeal.nD,
      r.2.mem ((c.tc : Thread Cert.PoolScaleIdeal.nD Cert.PoolScaleIdeal.τ).loc Cert.PoolScaleIdeal.main_arg0) = m ((c.tc : Thread Cert.PoolScaleIdeal.nD Cert.PoolScaleIdeal.τ).loc Cert.PoolScaleIdeal.main_arg0)
      ∧ r.2.mem ((c.tc : Thread Cert.PoolScaleIdeal.nD Cert.PoolScaleIdeal.τ).loc Cert.PoolScaleIdeal.main_arg1) = m ((c.tc : Thread Cert.PoolScaleIdeal.nD Cert.PoolScaleIdeal.τ).loc Cert.PoolScaleIdeal.main_arg1)
      ∧ r.2.mem ((c.tc : Thread Cert.PoolScaleIdeal.nD Cert.PoolScaleIdeal.τ).loc Cert.PoolScaleIdeal.main_arg2) = m ((c.tc : Thread Cert.PoolScaleIdeal.nD Cert.PoolScaleIdeal.τ).loc Cert.PoolScaleIdeal.main_arg2))
      ∧ r.2.sem = fun _ => 0)

def quiescent_PoolScaleRefIdeal [hPoolScaleRefIdeal : Cert.PoolScaleRefIdeal.Facts] : Prop :=
  ∀ (m : (ℓ : Loc Cert.PoolScaleRefIdeal.nD Cert.PoolScaleRefIdeal.τ Cert.PoolScaleRefIdeal.sig) → Buf (Elt Ideal) ℓ) (g : Dev Cert.PoolScaleRefIdeal.nD → PrngReg), Pre_PoolScaleRefIdeal m →
    θ_run (Cert.PoolScaleRefIdeal.defs (F := Ideal)) (onTc (τ := Cert.PoolScaleRefIdeal.τ) (Cert.PoolScaleRefIdeal.main (F := Ideal))) ⟨m, fun _ => 0, g⟩ (fun r => (∀ c : Dev Cert.PoolScaleRefIdeal.nD,
      r.2.mem ((c.tc : Thread Cert.PoolScaleRefIdeal.nD Cert.PoolScaleRefIdeal.τ).loc Cert.PoolScaleRefIdeal.main_arg0) = m ((c.tc : Thread Cert.PoolScaleRefIdeal.nD Cert.PoolScaleRefIdeal.τ).loc Cert.PoolScaleRefIdeal.main_arg0)
      ∧ r.2.mem ((c.tc : Thread Cert.PoolScaleRefIdeal.nD Cert.PoolScaleRefIdeal.τ).loc Cert.PoolScaleRefIdeal.main_arg1) = m ((c.tc : Thread Cert.PoolScaleRefIdeal.nD Cert.PoolScaleRefIdeal.τ).loc Cert.PoolScaleRefIdeal.main_arg1)
      ∧ r.2.mem ((c.tc : Thread Cert.PoolScaleRefIdeal.nD Cert.PoolScaleRefIdeal.τ).loc Cert.PoolScaleRefIdeal.main_arg2) = m ((c.tc : Thread Cert.PoolScaleRefIdeal.nD Cert.PoolScaleRefIdeal.τ).loc Cert.PoolScaleRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownData_DownDataIdeal : Prop :=
  True

def algebraic_DownDataIdeal_DownDataRefIdeal_pre_finite_down [hDownDataIdeal : Cert.DownDataIdeal.Facts] [hDownDataRefIdeal : Cert.DownDataRefIdeal.Facts] [hPre_finite_down : Cert.Pre_finite_down.Facts] : Prop :=
  ∀ (m : (ℓ : Loc Cert.DownDataIdeal.nD Cert.DownDataIdeal.τ Cert.DownDataIdeal.sig) → Buf (Elt Ideal) ℓ) (g : Dev Cert.DownDataIdeal.nD → PrngReg)
    (m' : (ℓ : Loc Cert.DownDataRefIdeal.nD Cert.DownDataRefIdeal.τ Cert.DownDataRefIdeal.sig) → Buf (Elt Ideal) ℓ) (g' : Dev Cert.DownDataRefIdeal.nD → PrngReg), Pre_DownDataIdeal_finite_down m →
    (∀ c : Dev Cert.DownDataIdeal.nD,
      m' ((c.tc : Thread Cert.DownDataRefIdeal.nD Cert.DownDataRefIdeal.τ).loc Cert.DownDataRefIdeal.main_arg0) = m ((c.tc : Thread Cert.DownDataIdeal.nD Cert.DownDataIdeal.τ).loc Cert.DownDataIdeal.main_arg0)
      ∧ m' ((c.tc : Thread Cert.DownDataRefIdeal.nD Cert.DownDataRefIdeal.τ).loc Cert.DownDataRefIdeal.main_arg1) = m ((c.tc : Thread Cert.DownDataIdeal.nD Cert.DownDataIdeal.τ).loc Cert.DownDataIdeal.main_arg1)
      ∧ m' ((c.tc : Thread Cert.DownDataRefIdeal.nD Cert.DownDataRefIdeal.τ).loc Cert.DownDataRefIdeal.main_arg2) = m ((c.tc : Thread Cert.DownDataIdeal.nD Cert.DownDataIdeal.τ).loc Cert.DownDataIdeal.main_arg2)
      ∧ m' ((c.tc : Thread Cert.DownDataRefIdeal.nD Cert.DownDataRefIdeal.τ).loc Cert.DownDataRefIdeal.main_arg3) = m ((c.tc : Thread Cert.DownDataIdeal.nD Cert.DownDataIdeal.τ).loc Cert.DownDataIdeal.main_arg3)) →
    ∃ (v0 : (c : Dev Cert.DownDataIdeal.nD) → Buf (Elt Ideal) ((c.tc : Thread Cert.DownDataIdeal.nD Cert.DownDataIdeal.τ).loc Cert.DownDataIdeal.main_v3_0)) (v1 : (c : Dev Cert.DownDataIdeal.nD) → Buf (Elt Ideal) ((c.tc : Thread Cert.DownDataIdeal.nD Cert.DownDataIdeal.τ).loc Cert.DownDataIdeal.main_v3_1)),
      θ_run (Cert.DownDataIdeal.defs (F := Ideal)) (onTc (τ := Cert.DownDataIdeal.τ) (Cert.DownDataIdeal.main (F := Ideal))) ⟨m, fun _ => 0, g⟩ (fun r => ∀ c : Dev Cert.DownDataIdeal.nD,
          r.2.mem ((c.tc : Thread Cert.DownDataIdeal.nD Cert.DownDataIdeal.τ).loc Cert.DownDataIdeal.main_v3_0) = v0 c
          ∧ r.2.mem ((c.tc : Thread Cert.DownDataIdeal.nD Cert.DownDataIdeal.τ).loc Cert.DownDataIdeal.main_v3_1) = v1 c
          ∧ r.2.mem ((c.tc : Thread Cert.DownDataIdeal.nD Cert.DownDataIdeal.τ).loc Cert.DownDataIdeal.main_arg0) = m ((c.tc : Thread Cert.DownDataIdeal.nD Cert.DownDataIdeal.τ).loc Cert.DownDataIdeal.main_arg0)
          ∧ r.2.mem ((c.tc : Thread Cert.DownDataIdeal.nD Cert.DownDataIdeal.τ).loc Cert.DownDataIdeal.main_arg1) = m ((c.tc : Thread Cert.DownDataIdeal.nD Cert.DownDataIdeal.τ).loc Cert.DownDataIdeal.main_arg1)
          ∧ r.2.mem ((c.tc : Thread Cert.DownDataIdeal.nD Cert.DownDataIdeal.τ).loc Cert.DownDataIdeal.main_arg2) = m ((c.tc : Thread Cert.DownDataIdeal.nD Cert.DownDataIdeal.τ).loc Cert.DownDataIdeal.main_arg2)
          ∧ r.2.mem ((c.tc : Thread Cert.DownDataIdeal.nD Cert.DownDataIdeal.τ).loc Cert.DownDataIdeal.main_arg3) = m ((c.tc : Thread Cert.DownDataIdeal.nD Cert.DownDataIdeal.τ).loc Cert.DownDataIdeal.main_arg3))
      ∧ θ_run (Cert.DownDataRefIdeal.defs (F := Ideal)) (onTc (τ := Cert.DownDataRefIdeal.τ) (Cert.DownDataRefIdeal.main (F := Ideal))) ⟨m', fun _ => 0, g'⟩ (fun r => ∀ c : Dev Cert.DownDataRefIdeal.nD,
          r.2.mem ((c.tc : Thread Cert.DownDataRefIdeal.nD Cert.DownDataRefIdeal.τ).loc Cert.DownDataRefIdeal.main_v7) = v0 c
          ∧ r.2.mem ((c.tc : Thread Cert.DownDataRefIdeal.nD Cert.DownDataRefIdeal.τ).loc Cert.DownDataRefIdeal.main_v8) = v1 c
          ∧ r.2.mem ((c.tc : Thread Cert.DownDataRefIdeal.nD Cert.DownDataRefIdeal.τ).loc Cert.DownDataRefIdeal.main_arg0) = m' ((c.tc : Thread Cert.DownDataRefIdeal.nD Cert.DownDataRefIdeal.τ).loc Cert.DownDataRefIdeal.main_arg0)
          ∧ r.2.mem ((c.tc : Thread Cert.DownDataRefIdeal.nD Cert.DownDataRefIdeal.τ).loc Cert.DownDataRefIdeal.main_arg1) = m' ((c.tc : Thread Cert.DownDataRefIdeal.nD Cert.DownDataRefIdeal.τ).loc Cert.DownDataRefIdeal.main_arg1)
          ∧ r.2.mem ((c.tc : Thread Cert.DownDataRefIdeal.nD Cert.DownDataRefIdeal.τ).loc Cert.DownDataRefIdeal.main_arg2) = m' ((c.tc : Thread Cert.DownDataRefIdeal.nD Cert.DownDataRefIdeal.τ).loc Cert.DownDataRefIdeal.main_arg2)
          ∧ r.2.mem ((c.tc : Thread Cert.DownDataRefIdeal.nD Cert.DownDataRefIdeal.τ).loc Cert.DownDataRefIdeal.main_arg3) = m' ((c.tc : Thread Cert.DownDataRefIdeal.nD Cert.DownDataRefIdeal.τ).loc Cert.DownDataRefIdeal.main_arg3))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v2)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v2) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v5) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_UpData_UpDataIdeal : Prop :=
  True

def algebraic_UpDataIdeal_UpDataRefIdeal [hUpDataIdeal : Cert.UpDataIdeal.Facts] [hUpDataRefIdeal : Cert.UpDataRefIdeal.Facts] : Prop :=
  ∀ (m : (ℓ : Loc Cert.UpDataIdeal.nD Cert.UpDataIdeal.τ Cert.UpDataIdeal.sig) → Buf (Elt Ideal) ℓ) (g : Dev Cert.UpDataIdeal.nD → PrngReg)
    (m' : (ℓ : Loc Cert.UpDataRefIdeal.nD Cert.UpDataRefIdeal.τ Cert.UpDataRefIdeal.sig) → Buf (Elt Ideal) ℓ) (g' : Dev Cert.UpDataRefIdeal.nD → PrngReg), Pre_UpDataIdeal m →
    (∀ c : Dev Cert.UpDataIdeal.nD,
      m' ((c.tc : Thread Cert.UpDataRefIdeal.nD Cert.UpDataRefIdeal.τ).loc Cert.UpDataRefIdeal.main_arg0) = m ((c.tc : Thread Cert.UpDataIdeal.nD Cert.UpDataIdeal.τ).loc Cert.UpDataIdeal.main_arg0)
      ∧ m' ((c.tc : Thread Cert.UpDataRefIdeal.nD Cert.UpDataRefIdeal.τ).loc Cert.UpDataRefIdeal.main_arg1) = m ((c.tc : Thread Cert.UpDataIdeal.nD Cert.UpDataIdeal.τ).loc Cert.UpDataIdeal.main_arg1)
      ∧ m' ((c.tc : Thread Cert.UpDataRefIdeal.nD Cert.UpDataRefIdeal.τ).loc Cert.UpDataRefIdeal.main_arg2) = m ((c.tc : Thread Cert.UpDataIdeal.nD Cert.UpDataIdeal.τ).loc Cert.UpDataIdeal.main_arg2)
      ∧ m' ((c.tc : Thread Cert.UpDataRefIdeal.nD Cert.UpDataRefIdeal.τ).loc Cert.UpDataRefIdeal.main_arg3) = m ((c.tc : Thread Cert.UpDataIdeal.nD Cert.UpDataIdeal.τ).loc Cert.UpDataIdeal.main_arg3)) →
    ∃ (v0 : (c : Dev Cert.UpDataIdeal.nD) → Buf (Elt Ideal) ((c.tc : Thread Cert.UpDataIdeal.nD Cert.UpDataIdeal.τ).loc Cert.UpDataIdeal.main_v8)),
      θ_run (Cert.UpDataIdeal.defs (F := Ideal)) (onTc (τ := Cert.UpDataIdeal.τ) (Cert.UpDataIdeal.main (F := Ideal))) ⟨m, fun _ => 0, g⟩ (fun r => ∀ c : Dev Cert.UpDataIdeal.nD,
          r.2.mem ((c.tc : Thread Cert.UpDataIdeal.nD Cert.UpDataIdeal.τ).loc Cert.UpDataIdeal.main_v8) = v0 c
          ∧ r.2.mem ((c.tc : Thread Cert.UpDataIdeal.nD Cert.UpDataIdeal.τ).loc Cert.UpDataIdeal.main_arg0) = m ((c.tc : Thread Cert.UpDataIdeal.nD Cert.UpDataIdeal.τ).loc Cert.UpDataIdeal.main_arg0)
          ∧ r.2.mem ((c.tc : Thread Cert.UpDataIdeal.nD Cert.UpDataIdeal.τ).loc Cert.UpDataIdeal.main_arg1) = m ((c.tc : Thread Cert.UpDataIdeal.nD Cert.UpDataIdeal.τ).loc Cert.UpDataIdeal.main_arg1)
          ∧ r.2.mem ((c.tc : Thread Cert.UpDataIdeal.nD Cert.UpDataIdeal.τ).loc Cert.UpDataIdeal.main_arg2) = m ((c.tc : Thread Cert.UpDataIdeal.nD Cert.UpDataIdeal.τ).loc Cert.UpDataIdeal.main_arg2)
          ∧ r.2.mem ((c.tc : Thread Cert.UpDataIdeal.nD Cert.UpDataIdeal.τ).loc Cert.UpDataIdeal.main_arg3) = m ((c.tc : Thread Cert.UpDataIdeal.nD Cert.UpDataIdeal.τ).loc Cert.UpDataIdeal.main_arg3))
      ∧ θ_run (Cert.UpDataRefIdeal.defs (F := Ideal)) (onTc (τ := Cert.UpDataRefIdeal.τ) (Cert.UpDataRefIdeal.main (F := Ideal))) ⟨m', fun _ => 0, g'⟩ (fun r => ∀ c : Dev Cert.UpDataRefIdeal.nD,
          r.2.mem ((c.tc : Thread Cert.UpDataRefIdeal.nD Cert.UpDataRefIdeal.τ).loc Cert.UpDataRefIdeal.main_v5) = v0 c
          ∧ r.2.mem ((c.tc : Thread Cert.UpDataRefIdeal.nD Cert.UpDataRefIdeal.τ).loc Cert.UpDataRefIdeal.main_arg0) = m' ((c.tc : Thread Cert.UpDataRefIdeal.nD Cert.UpDataRefIdeal.τ).loc Cert.UpDataRefIdeal.main_arg0)
          ∧ r.2.mem ((c.tc : Thread Cert.UpDataRefIdeal.nD Cert.UpDataRefIdeal.τ).loc Cert.UpDataRefIdeal.main_arg1) = m' ((c.tc : Thread Cert.UpDataRefIdeal.nD Cert.UpDataRefIdeal.τ).loc Cert.UpDataRefIdeal.main_arg1)
          ∧ r.2.mem ((c.tc : Thread Cert.UpDataRefIdeal.nD Cert.UpDataRefIdeal.τ).loc Cert.UpDataRefIdeal.main_arg2) = m' ((c.tc : Thread Cert.UpDataRefIdeal.nD Cert.UpDataRefIdeal.τ).loc Cert.UpDataRefIdeal.main_arg2)
          ∧ r.2.mem ((c.tc : Thread Cert.UpDataRefIdeal.nD Cert.UpDataRefIdeal.τ).loc Cert.UpDataRefIdeal.main_arg3) = m' ((c.tc : Thread Cert.UpDataRefIdeal.nD Cert.UpDataRefIdeal.τ).loc Cert.UpDataRefIdeal.main_arg3))

def preserves_UpWeight_UpWeightIdeal : Prop :=
  True

def algebraic_UpWeightIdeal_UpWeightRefIdeal [hUpWeightIdeal : Cert.UpWeightIdeal.Facts] [hUpWeightRefIdeal : Cert.UpWeightRefIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightRefIdeal.nD Cert.UpWeightRefIdeal.τ Cert.UpWeightRefIdeal.sig) → Buf (Elt Ideal) ℓ) (g' : Dev Cert.UpWeightRefIdeal.nD → PrngReg), Pre_UpWeightIdeal m →
    (∀ c : Dev Cert.UpWeightIdeal.nD,
      m' ((c.tc : Thread Cert.UpWeightRefIdeal.nD Cert.UpWeightRefIdeal.τ).loc Cert.UpWeightRefIdeal.main_arg0) = m ((c.tc : Thread Cert.UpWeightIdeal.nD Cert.UpWeightIdeal.τ).loc Cert.UpWeightIdeal.main_arg0)
      ∧ m' ((c.tc : Thread Cert.UpWeightRefIdeal.nD Cert.UpWeightRefIdeal.τ).loc Cert.UpWeightRefIdeal.main_arg1) = m ((c.tc : Thread Cert.UpWeightIdeal.nD Cert.UpWeightIdeal.τ).loc Cert.UpWeightIdeal.main_arg1)
      ∧ m' ((c.tc : Thread Cert.UpWeightRefIdeal.nD Cert.UpWeightRefIdeal.τ).loc Cert.UpWeightRefIdeal.main_arg2) = m ((c.tc : Thread Cert.UpWeightIdeal.nD Cert.UpWeightIdeal.τ).loc Cert.UpWeightIdeal.main_arg2)) →
    ∃ (v0 : (c : Dev Cert.UpWeightIdeal.nD) → Buf (Elt Ideal) ((c.tc : Thread Cert.UpWeightIdeal.nD Cert.UpWeightIdeal.τ).loc Cert.UpWeightIdeal.main_v3_0)) (v1 : (c : Dev Cert.UpWeightIdeal.nD) → Buf (Elt Ideal) ((c.tc : Thread Cert.UpWeightIdeal.nD Cert.UpWeightIdeal.τ).loc Cert.UpWeightIdeal.main_v3_1)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v3_0) = v0 c
          ∧ r.2.mem ((c.tc : Thread Cert.UpWeightIdeal.nD Cert.UpWeightIdeal.τ).loc Cert.UpWeightIdeal.main_v3_1) = v1 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1)
          ∧ r.2.mem ((c.tc : Thread Cert.UpWeightIdeal.nD Cert.UpWeightIdeal.τ).loc Cert.UpWeightIdeal.main_arg2) = m ((c.tc : Thread Cert.UpWeightIdeal.nD Cert.UpWeightIdeal.τ).loc Cert.UpWeightIdeal.main_arg2))
      ∧ θ_run (Cert.UpWeightRefIdeal.defs (F := Ideal)) (onTc (τ := Cert.UpWeightRefIdeal.τ) (Cert.UpWeightRefIdeal.main (F := Ideal))) ⟨m', fun _ => 0, g'⟩ (fun r => ∀ c : Dev Cert.UpWeightRefIdeal.nD,
          r.2.mem ((c.tc : Thread Cert.UpWeightRefIdeal.nD Cert.UpWeightRefIdeal.τ).loc Cert.UpWeightRefIdeal.main_v10) = v0 c
          ∧ r.2.mem ((c.tc : Thread Cert.UpWeightRefIdeal.nD Cert.UpWeightRefIdeal.τ).loc Cert.UpWeightRefIdeal.main_v13) = v1 c
          ∧ r.2.mem ((c.tc : Thread Cert.UpWeightRefIdeal.nD Cert.UpWeightRefIdeal.τ).loc Cert.UpWeightRefIdeal.main_arg0) = m' ((c.tc : Thread Cert.UpWeightRefIdeal.nD Cert.UpWeightRefIdeal.τ).loc Cert.UpWeightRefIdeal.main_arg0)
          ∧ r.2.mem ((c.tc : Thread Cert.UpWeightRefIdeal.nD Cert.UpWeightRefIdeal.τ).loc Cert.UpWeightRefIdeal.main_arg1) = m' ((c.tc : Thread Cert.UpWeightRefIdeal.nD Cert.UpWeightRefIdeal.τ).loc Cert.UpWeightRefIdeal.main_arg1)
          ∧ r.2.mem ((c.tc : Thread Cert.UpWeightRefIdeal.nD Cert.UpWeightRefIdeal.τ).loc Cert.UpWeightRefIdeal.main_arg2) = m' ((c.tc : Thread Cert.UpWeightRefIdeal.nD Cert.UpWeightRefIdeal.τ).loc Cert.UpWeightRefIdeal.main_arg2))

def preserves_OutData_OutDataIdeal : Prop :=
  True

def algebraic_OutDataIdeal_OutDataRefIdeal [hOutDataIdeal : Cert.OutDataIdeal.Facts] [hOutDataRefIdeal : Cert.OutDataRefIdeal.Facts] : Prop :=
  ∀ (m : (ℓ : Loc Cert.OutDataIdeal.nD Cert.OutDataIdeal.τ Cert.OutDataIdeal.sig) → Buf (Elt Ideal) ℓ) (g : Dev Cert.OutDataIdeal.nD → PrngReg)
    (m' : (ℓ : Loc Cert.OutDataRefIdeal.nD Cert.OutDataRefIdeal.τ Cert.OutDataRefIdeal.sig) → Buf (Elt Ideal) ℓ) (g' : Dev Cert.OutDataRefIdeal.nD → PrngReg), Pre_OutDataIdeal m →
    (∀ c : Dev Cert.OutDataIdeal.nD,
      m' ((c.tc : Thread Cert.OutDataRefIdeal.nD Cert.OutDataRefIdeal.τ).loc Cert.OutDataRefIdeal.main_arg0) = m ((c.tc : Thread Cert.OutDataIdeal.nD Cert.OutDataIdeal.τ).loc Cert.OutDataIdeal.main_arg0)
      ∧ m' ((c.tc : Thread Cert.OutDataRefIdeal.nD Cert.OutDataRefIdeal.τ).loc Cert.OutDataRefIdeal.main_arg1) = m ((c.tc : Thread Cert.OutDataIdeal.nD Cert.OutDataIdeal.τ).loc Cert.OutDataIdeal.main_arg1)) →
    ∃ (v0 : (c : Dev Cert.OutDataIdeal.nD) → Buf (Elt Ideal) ((c.tc : Thread Cert.OutDataIdeal.nD Cert.OutDataIdeal.τ).loc Cert.OutDataIdeal.main_v3)),
      θ_run (Cert.OutDataIdeal.defs (F := Ideal)) (onTc (τ := Cert.OutDataIdeal.τ) (Cert.OutDataIdeal.main (F := Ideal))) ⟨m, fun _ => 0, g⟩ (fun r => ∀ c : Dev Cert.OutDataIdeal.nD,
          r.2.mem ((c.tc : Thread Cert.OutDataIdeal.nD Cert.OutDataIdeal.τ).loc Cert.OutDataIdeal.main_v3) = v0 c
          ∧ r.2.mem ((c.tc : Thread Cert.OutDataIdeal.nD Cert.OutDataIdeal.τ).loc Cert.OutDataIdeal.main_arg0) = m ((c.tc : Thread Cert.OutDataIdeal.nD Cert.OutDataIdeal.τ).loc Cert.OutDataIdeal.main_arg0)
          ∧ r.2.mem ((c.tc : Thread Cert.OutDataIdeal.nD Cert.OutDataIdeal.τ).loc Cert.OutDataIdeal.main_arg1) = m ((c.tc : Thread Cert.OutDataIdeal.nD Cert.OutDataIdeal.τ).loc Cert.OutDataIdeal.main_arg1))
      ∧ θ_run (Cert.OutDataRefIdeal.defs (F := Ideal)) (onTc (τ := Cert.OutDataRefIdeal.τ) (Cert.OutDataRefIdeal.main (F := Ideal))) ⟨m', fun _ => 0, g'⟩ (fun r => ∀ c : Dev Cert.OutDataRefIdeal.nD,
          r.2.mem ((c.tc : Thread Cert.OutDataRefIdeal.nD Cert.OutDataRefIdeal.τ).loc Cert.OutDataRefIdeal.main_v3) = v0 c
          ∧ r.2.mem ((c.tc : Thread Cert.OutDataRefIdeal.nD Cert.OutDataRefIdeal.τ).loc Cert.OutDataRefIdeal.main_arg0) = m' ((c.tc : Thread Cert.OutDataRefIdeal.nD Cert.OutDataRefIdeal.τ).loc Cert.OutDataRefIdeal.main_arg0)
          ∧ r.2.mem ((c.tc : Thread Cert.OutDataRefIdeal.nD Cert.OutDataRefIdeal.τ).loc Cert.OutDataRefIdeal.main_arg1) = m' ((c.tc : Thread Cert.OutDataRefIdeal.nD Cert.OutDataRefIdeal.τ).loc Cert.OutDataRefIdeal.main_arg1))

def preserves_ConvOutData_ConvOutDataIdeal : Prop :=
  True

def algebraic_ConvOutDataIdeal_ConvOutDataRefIdeal [hConvOutDataIdeal : Cert.ConvOutDataIdeal.Facts] [hConvOutDataRefIdeal : Cert.ConvOutDataRefIdeal.Facts] : Prop :=
  ∀ (m : (ℓ : Loc Cert.ConvOutDataIdeal.nD Cert.ConvOutDataIdeal.τ Cert.ConvOutDataIdeal.sig) → Buf (Elt Ideal) ℓ) (g : Dev Cert.ConvOutDataIdeal.nD → PrngReg)
    (m' : (ℓ : Loc Cert.ConvOutDataRefIdeal.nD Cert.ConvOutDataRefIdeal.τ Cert.ConvOutDataRefIdeal.sig) → Buf (Elt Ideal) ℓ) (g' : Dev Cert.ConvOutDataRefIdeal.nD → PrngReg), Pre_ConvOutDataIdeal m →
    (∀ c : Dev Cert.ConvOutDataIdeal.nD,
      m' ((c.tc : Thread Cert.ConvOutDataRefIdeal.nD Cert.ConvOutDataRefIdeal.τ).loc Cert.ConvOutDataRefIdeal.main_arg0) = m ((c.tc : Thread Cert.ConvOutDataIdeal.nD Cert.ConvOutDataIdeal.τ).loc Cert.ConvOutDataIdeal.main_arg0)
      ∧ m' ((c.tc : Thread Cert.ConvOutDataRefIdeal.nD Cert.ConvOutDataRefIdeal.τ).loc Cert.ConvOutDataRefIdeal.main_arg1) = m ((c.tc : Thread Cert.ConvOutDataIdeal.nD Cert.ConvOutDataIdeal.τ).loc Cert.ConvOutDataIdeal.main_arg1)) →
    ∃ (v0 : (c : Dev Cert.ConvOutDataIdeal.nD) → Buf (Elt Ideal) ((c.tc : Thread Cert.ConvOutDataIdeal.nD Cert.ConvOutDataIdeal.τ).loc Cert.ConvOutDataIdeal.main_v3)),
      θ_run (Cert.ConvOutDataIdeal.defs (F := Ideal)) (onTc (τ := Cert.ConvOutDataIdeal.τ) (Cert.ConvOutDataIdeal.main (F := Ideal))) ⟨m, fun _ => 0, g⟩ (fun r => ∀ c : Dev Cert.ConvOutDataIdeal.nD,
          r.2.mem ((c.tc : Thread Cert.ConvOutDataIdeal.nD Cert.ConvOutDataIdeal.τ).loc Cert.ConvOutDataIdeal.main_v3) = v0 c
          ∧ r.2.mem ((c.tc : Thread Cert.ConvOutDataIdeal.nD Cert.ConvOutDataIdeal.τ).loc Cert.ConvOutDataIdeal.main_arg0) = m ((c.tc : Thread Cert.ConvOutDataIdeal.nD Cert.ConvOutDataIdeal.τ).loc Cert.ConvOutDataIdeal.main_arg0)
          ∧ r.2.mem ((c.tc : Thread Cert.ConvOutDataIdeal.nD Cert.ConvOutDataIdeal.τ).loc Cert.ConvOutDataIdeal.main_arg1) = m ((c.tc : Thread Cert.ConvOutDataIdeal.nD Cert.ConvOutDataIdeal.τ).loc Cert.ConvOutDataIdeal.main_arg1))
      ∧ θ_run (Cert.ConvOutDataRefIdeal.defs (F := Ideal)) (onTc (τ := Cert.ConvOutDataRefIdeal.τ) (Cert.ConvOutDataRefIdeal.main (F := Ideal))) ⟨m', fun _ => 0, g'⟩ (fun r => ∀ c : Dev Cert.ConvOutDataRefIdeal.nD,
          r.2.mem ((c.tc : Thread Cert.ConvOutDataRefIdeal.nD Cert.ConvOutDataRefIdeal.τ).loc Cert.ConvOutDataRefIdeal.main_v2) = v0 c
          ∧ r.2.mem ((c.tc : Thread Cert.ConvOutDataRefIdeal.nD Cert.ConvOutDataRefIdeal.τ).loc Cert.ConvOutDataRefIdeal.main_arg0) = m' ((c.tc : Thread Cert.ConvOutDataRefIdeal.nD Cert.ConvOutDataRefIdeal.τ).loc Cert.ConvOutDataRefIdeal.main_arg0)
          ∧ r.2.mem ((c.tc : Thread Cert.ConvOutDataRefIdeal.nD Cert.ConvOutDataRefIdeal.τ).loc Cert.ConvOutDataRefIdeal.main_arg1) = m' ((c.tc : Thread Cert.ConvOutDataRefIdeal.nD Cert.ConvOutDataRefIdeal.τ).loc Cert.ConvOutDataRefIdeal.main_arg1))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v2)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v2) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v5) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_QkvData_QkvDataIdeal : Prop :=
  True

def algebraic_QkvDataIdeal_QkvDataRefIdeal [hQkvDataIdeal : Cert.QkvDataIdeal.Facts] [hQkvDataRefIdeal : Cert.QkvDataRefIdeal.Facts] : Prop :=
  ∀ (m : (ℓ : Loc Cert.QkvDataIdeal.nD Cert.QkvDataIdeal.τ Cert.QkvDataIdeal.sig) → Buf (Elt Ideal) ℓ) (g : Dev Cert.QkvDataIdeal.nD → PrngReg)
    (m' : (ℓ : Loc Cert.QkvDataRefIdeal.nD Cert.QkvDataRefIdeal.τ Cert.QkvDataRefIdeal.sig) → Buf (Elt Ideal) ℓ) (g' : Dev Cert.QkvDataRefIdeal.nD → PrngReg), Pre_QkvDataIdeal m →
    (∀ c : Dev Cert.QkvDataIdeal.nD,
      m' ((c.tc : Thread Cert.QkvDataRefIdeal.nD Cert.QkvDataRefIdeal.τ).loc Cert.QkvDataRefIdeal.main_arg0) = m ((c.tc : Thread Cert.QkvDataIdeal.nD Cert.QkvDataIdeal.τ).loc Cert.QkvDataIdeal.main_arg0)
      ∧ m' ((c.tc : Thread Cert.QkvDataRefIdeal.nD Cert.QkvDataRefIdeal.τ).loc Cert.QkvDataRefIdeal.main_arg1) = m ((c.tc : Thread Cert.QkvDataIdeal.nD Cert.QkvDataIdeal.τ).loc Cert.QkvDataIdeal.main_arg1)) →
    ∃ (v0 : (c : Dev Cert.QkvDataIdeal.nD) → Buf (Elt Ideal) ((c.tc : Thread Cert.QkvDataIdeal.nD Cert.QkvDataIdeal.τ).loc Cert.QkvDataIdeal.main_v4)),
      θ_run (Cert.QkvDataIdeal.defs (F := Ideal)) (onTc (τ := Cert.QkvDataIdeal.τ) (Cert.QkvDataIdeal.main (F := Ideal))) ⟨m, fun _ => 0, g⟩ (fun r => ∀ c : Dev Cert.QkvDataIdeal.nD,
          r.2.mem ((c.tc : Thread Cert.QkvDataIdeal.nD Cert.QkvDataIdeal.τ).loc Cert.QkvDataIdeal.main_v4) = v0 c
          ∧ r.2.mem ((c.tc : Thread Cert.QkvDataIdeal.nD Cert.QkvDataIdeal.τ).loc Cert.QkvDataIdeal.main_arg0) = m ((c.tc : Thread Cert.QkvDataIdeal.nD Cert.QkvDataIdeal.τ).loc Cert.QkvDataIdeal.main_arg0)
          ∧ r.2.mem ((c.tc : Thread Cert.QkvDataIdeal.nD Cert.QkvDataIdeal.τ).loc Cert.QkvDataIdeal.main_arg1) = m ((c.tc : Thread Cert.QkvDataIdeal.nD Cert.QkvDataIdeal.τ).loc Cert.QkvDataIdeal.main_arg1))
      ∧ θ_run (Cert.QkvDataRefIdeal.defs (F := Ideal)) (onTc (τ := Cert.QkvDataRefIdeal.τ) (Cert.QkvDataRefIdeal.main (F := Ideal))) ⟨m', fun _ => 0, g'⟩ (fun r => ∀ c : Dev Cert.QkvDataRefIdeal.nD,
          r.2.mem ((c.tc : Thread Cert.QkvDataRefIdeal.nD Cert.QkvDataRefIdeal.τ).loc Cert.QkvDataRefIdeal.main_v16) = v0 c
          ∧ r.2.mem ((c.tc : Thread Cert.QkvDataRefIdeal.nD Cert.QkvDataRefIdeal.τ).loc Cert.QkvDataRefIdeal.main_arg0) = m' ((c.tc : Thread Cert.QkvDataRefIdeal.nD Cert.QkvDataRefIdeal.τ).loc Cert.QkvDataRefIdeal.main_arg0)
          ∧ r.2.mem ((c.tc : Thread Cert.QkvDataRefIdeal.nD Cert.QkvDataRefIdeal.τ).loc Cert.QkvDataRefIdeal.main_arg1) = m' ((c.tc : Thread Cert.QkvDataRefIdeal.nD Cert.QkvDataRefIdeal.τ).loc Cert.QkvDataRefIdeal.main_arg1))

def preserves_QkvWeight_QkvWeightIdeal : Prop :=
  True

def algebraic_QkvWeightIdeal_QkvWeightRefIdeal [hQkvWeightIdeal : Cert.QkvWeightIdeal.Facts] [hQkvWeightRefIdeal : Cert.QkvWeightRefIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg)
    (m' : (ℓ : Loc Cert.QkvWeightRefIdeal.nD Cert.QkvWeightRefIdeal.τ Cert.QkvWeightRefIdeal.sig) → Buf (Elt Ideal) ℓ) (g' : Dev Cert.QkvWeightRefIdeal.nD → PrngReg), Pre_QkvWeightIdeal m →
    (∀ c : Dev Cert.QkvWeightIdeal.nD,
      m' ((c.tc : Thread Cert.QkvWeightRefIdeal.nD Cert.QkvWeightRefIdeal.τ).loc Cert.QkvWeightRefIdeal.main_arg0) = m ((c.tc : Thread Cert.QkvWeightIdeal.nD Cert.QkvWeightIdeal.τ).loc Cert.QkvWeightIdeal.main_arg0)
      ∧ m' ((c.tc : Thread Cert.QkvWeightRefIdeal.nD Cert.QkvWeightRefIdeal.τ).loc Cert.QkvWeightRefIdeal.main_arg1) = m ((c.tc : Thread Cert.QkvWeightIdeal.nD Cert.QkvWeightIdeal.τ).loc Cert.QkvWeightIdeal.main_arg1)) →
    ∃ (v0 : (c : Dev Cert.QkvWeightIdeal.nD) → Buf (Elt Ideal) ((c.tc : Thread Cert.QkvWeightIdeal.nD Cert.QkvWeightIdeal.τ).loc Cert.QkvWeightIdeal.main_v2)),
      θ_run (Cert.QkvWeightIdeal.defs (F := Ideal)) (onTc (τ := Cert.QkvWeightIdeal.τ) (Cert.QkvWeightIdeal.main (F := Ideal))) ⟨m, fun _ => 0, g⟩ (fun r => ∀ c : Dev Cert.QkvWeightIdeal.nD,
          r.2.mem ((c.tc : Thread Cert.QkvWeightIdeal.nD Cert.QkvWeightIdeal.τ).loc Cert.QkvWeightIdeal.main_v2) = v0 c
          ∧ r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
          ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1))
      ∧ θ_run (Cert.QkvWeightRefIdeal.defs (F := Ideal)) (onTc (τ := Cert.QkvWeightRefIdeal.τ) (Cert.QkvWeightRefIdeal.main (F := Ideal))) ⟨m', fun _ => 0, g'⟩ (fun r => ∀ c : Dev Cert.QkvWeightRefIdeal.nD,
          r.2.mem ((c.tc : Thread Cert.QkvWeightRefIdeal.nD Cert.QkvWeightRefIdeal.τ).loc Cert.QkvWeightRefIdeal.main_v20) = v0 c
          ∧ r.2.mem ((c.tc : Thread Cert.QkvWeightRefIdeal.nD Cert.QkvWeightRefIdeal.τ).loc Cert.QkvWeightRefIdeal.main_arg0) = m' ((c.tc : Thread Cert.QkvWeightRefIdeal.nD Cert.QkvWeightRefIdeal.τ).loc Cert.QkvWeightRefIdeal.main_arg0)
          ∧ r.2.mem ((c.tc : Thread Cert.QkvWeightRefIdeal.nD Cert.QkvWeightRefIdeal.τ).loc Cert.QkvWeightRefIdeal.main_arg1) = m' ((c.tc : Thread Cert.QkvWeightRefIdeal.nD Cert.QkvWeightRefIdeal.τ).loc Cert.QkvWeightRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v7_0)) (v1 : (c : Dev Cert.FfnUpIdeal.nD) → Buf (Elt Ideal) ((c.tc : Thread Cert.FfnUpIdeal.nD Cert.FfnUpIdeal.τ).loc Cert.FfnUpIdeal.main_v7_1)) (v2 : (c : Dev Cert.FfnUpIdeal.nD) → Buf (Elt Ideal) ((c.tc : Thread Cert.FfnUpIdeal.nD Cert.FfnUpIdeal.τ).loc Cert.FfnUpIdeal.main_v7_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v7_0) = v0 c
          ∧ r.2.mem ((c.tc : Thread Cert.FfnUpIdeal.nD Cert.FfnUpIdeal.τ).loc Cert.FfnUpIdeal.main_v7_1) = v1 c
          ∧ r.2.mem ((c.tc : Thread Cert.FfnUpIdeal.nD Cert.FfnUpIdeal.τ).loc Cert.FfnUpIdeal.main_v7_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v0) = v0 c
          ∧ r.2.mem ((c.tc : Thread Cert.FfnUpRefIdeal.nD Cert.FfnUpRefIdeal.τ).loc Cert.FfnUpRefIdeal.main_v1) = v1 c
          ∧ r.2.mem ((c.tc : Thread Cert.FfnUpRefIdeal.nD Cert.FfnUpRefIdeal.τ).loc Cert.FfnUpRefIdeal.main_v4) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v7) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_PoolMix_PoolMixIdeal : Prop :=
  True

def algebraic_PoolMixIdeal_PoolMixRefIdeal [hPoolMixIdeal : Cert.PoolMixIdeal.Facts] [hPoolMixRefIdeal : Cert.PoolMixRefIdeal.Facts] : Prop :=
  ∀ (m : (ℓ : Loc Cert.PoolMixIdeal.nD Cert.PoolMixIdeal.τ Cert.PoolMixIdeal.sig) → Buf (Elt Ideal) ℓ) (g : Dev Cert.PoolMixIdeal.nD → PrngReg)
    (m' : (ℓ : Loc Cert.PoolMixRefIdeal.nD Cert.PoolMixRefIdeal.τ Cert.PoolMixRefIdeal.sig) → Buf (Elt Ideal) ℓ) (g' : Dev Cert.PoolMixRefIdeal.nD → PrngReg), Pre_PoolMixIdeal m →
    (∀ c : Dev Cert.PoolMixIdeal.nD,
      m' ((c.tc : Thread Cert.PoolMixRefIdeal.nD Cert.PoolMixRefIdeal.τ).loc Cert.PoolMixRefIdeal.main_arg0) = m ((c.tc : Thread Cert.PoolMixIdeal.nD Cert.PoolMixIdeal.τ).loc Cert.PoolMixIdeal.main_arg0)
      ∧ m' ((c.tc : Thread Cert.PoolMixRefIdeal.nD Cert.PoolMixRefIdeal.τ).loc Cert.PoolMixRefIdeal.main_arg1) = m ((c.tc : Thread Cert.PoolMixIdeal.nD Cert.PoolMixIdeal.τ).loc Cert.PoolMixIdeal.main_arg1)
      ∧ m' ((c.tc : Thread Cert.PoolMixRefIdeal.nD Cert.PoolMixRefIdeal.τ).loc Cert.PoolMixRefIdeal.main_arg2) = m ((c.tc : Thread Cert.PoolMixIdeal.nD Cert.PoolMixIdeal.τ).loc Cert.PoolMixIdeal.main_arg2)
      ∧ m' ((c.tc : Thread Cert.PoolMixRefIdeal.nD Cert.PoolMixRefIdeal.τ).loc Cert.PoolMixRefIdeal.main_arg3) = m ((c.tc : Thread Cert.PoolMixIdeal.nD Cert.PoolMixIdeal.τ).loc Cert.PoolMixIdeal.main_arg3)) →
    ∃ (v0 : (c : Dev Cert.PoolMixIdeal.nD) → Buf (Elt Ideal) ((c.tc : Thread Cert.PoolMixIdeal.nD Cert.PoolMixIdeal.τ).loc Cert.PoolMixIdeal.main_v5_0)) (v1 : (c : Dev Cert.PoolMixIdeal.nD) → Buf (Elt Ideal) ((c.tc : Thread Cert.PoolMixIdeal.nD Cert.PoolMixIdeal.τ).loc Cert.PoolMixIdeal.main_v5_1)),
      θ_run (Cert.PoolMixIdeal.defs (F := Ideal)) (onTc (τ := Cert.PoolMixIdeal.τ) (Cert.PoolMixIdeal.main (F := Ideal))) ⟨m, fun _ => 0, g⟩ (fun r => ∀ c : Dev Cert.PoolMixIdeal.nD,
          r.2.mem ((c.tc : Thread Cert.PoolMixIdeal.nD Cert.PoolMixIdeal.τ).loc Cert.PoolMixIdeal.main_v5_0) = v0 c
          ∧ r.2.mem ((c.tc : Thread Cert.PoolMixIdeal.nD Cert.PoolMixIdeal.τ).loc Cert.PoolMixIdeal.main_v5_1) = v1 c
          ∧ r.2.mem ((c.tc : Thread Cert.PoolMixIdeal.nD Cert.PoolMixIdeal.τ).loc Cert.PoolMixIdeal.main_arg0) = m ((c.tc : Thread Cert.PoolMixIdeal.nD Cert.PoolMixIdeal.τ).loc Cert.PoolMixIdeal.main_arg0)
          ∧ r.2.mem ((c.tc : Thread Cert.PoolMixIdeal.nD Cert.PoolMixIdeal.τ).loc Cert.PoolMixIdeal.main_arg1) = m ((c.tc : Thread Cert.PoolMixIdeal.nD Cert.PoolMixIdeal.τ).loc Cert.PoolMixIdeal.main_arg1)
          ∧ r.2.mem ((c.tc : Thread Cert.PoolMixIdeal.nD Cert.PoolMixIdeal.τ).loc Cert.PoolMixIdeal.main_arg2) = m ((c.tc : Thread Cert.PoolMixIdeal.nD Cert.PoolMixIdeal.τ).loc Cert.PoolMixIdeal.main_arg2)
          ∧ r.2.mem ((c.tc : Thread Cert.PoolMixIdeal.nD Cert.PoolMixIdeal.τ).loc Cert.PoolMixIdeal.main_arg3) = m ((c.tc : Thread Cert.PoolMixIdeal.nD Cert.PoolMixIdeal.τ).loc Cert.PoolMixIdeal.main_arg3))
      ∧ θ_run (Cert.PoolMixRefIdeal.defs (F := Ideal)) (onTc (τ := Cert.PoolMixRefIdeal.τ) (Cert.PoolMixRefIdeal.main (F := Ideal))) ⟨m', fun _ => 0, g'⟩ (fun r => ∀ c : Dev Cert.PoolMixRefIdeal.nD,
          r.2.mem ((c.tc : Thread Cert.PoolMixRefIdeal.nD Cert.PoolMixRefIdeal.τ).loc Cert.PoolMixRefIdeal.main_v6) = v0 c
          ∧ r.2.mem ((c.tc : Thread Cert.PoolMixRefIdeal.nD Cert.PoolMixRefIdeal.τ).loc Cert.PoolMixRefIdeal.main_v7) = v1 c
          ∧ r.2.mem ((c.tc : Thread Cert.PoolMixRefIdeal.nD Cert.PoolMixRefIdeal.τ).loc Cert.PoolMixRefIdeal.main_arg0) = m' ((c.tc : Thread Cert.PoolMixRefIdeal.nD Cert.PoolMixRefIdeal.τ).loc Cert.PoolMixRefIdeal.main_arg0)
          ∧ r.2.mem ((c.tc : Thread Cert.PoolMixRefIdeal.nD Cert.PoolMixRefIdeal.τ).loc Cert.PoolMixRefIdeal.main_arg1) = m' ((c.tc : Thread Cert.PoolMixRefIdeal.nD Cert.PoolMixRefIdeal.τ).loc Cert.PoolMixRefIdeal.main_arg1)
          ∧ r.2.mem ((c.tc : Thread Cert.PoolMixRefIdeal.nD Cert.PoolMixRefIdeal.τ).loc Cert.PoolMixRefIdeal.main_arg2) = m' ((c.tc : Thread Cert.PoolMixRefIdeal.nD Cert.PoolMixRefIdeal.τ).loc Cert.PoolMixRefIdeal.main_arg2)
          ∧ r.2.mem ((c.tc : Thread Cert.PoolMixRefIdeal.nD Cert.PoolMixRefIdeal.τ).loc Cert.PoolMixRefIdeal.main_arg3) = m' ((c.tc : Thread Cert.PoolMixRefIdeal.nD Cert.PoolMixRefIdeal.τ).loc Cert.PoolMixRefIdeal.main_arg3))

def preserves_PoolData_PoolDataIdeal : Prop :=
  True

def algebraic_PoolDataIdeal_PoolDataRefIdeal [hPoolDataIdeal : Cert.PoolDataIdeal.Facts] [hPoolDataRefIdeal : Cert.PoolDataRefIdeal.Facts] : Prop :=
  ∀ (m : (ℓ : Loc Cert.PoolDataIdeal.nD Cert.PoolDataIdeal.τ Cert.PoolDataIdeal.sig) → Buf (Elt Ideal) ℓ) (g : Dev Cert.PoolDataIdeal.nD → PrngReg)
    (m' : (ℓ : Loc Cert.PoolDataRefIdeal.nD Cert.PoolDataRefIdeal.τ Cert.PoolDataRefIdeal.sig) → Buf (Elt Ideal) ℓ) (g' : Dev Cert.PoolDataRefIdeal.nD → PrngReg), Pre_PoolDataIdeal m →
    (∀ c : Dev Cert.PoolDataIdeal.nD,
      m' ((c.tc : Thread Cert.PoolDataRefIdeal.nD Cert.PoolDataRefIdeal.τ).loc Cert.PoolDataRefIdeal.main_arg0) = m ((c.tc : Thread Cert.PoolDataIdeal.nD Cert.PoolDataIdeal.τ).loc Cert.PoolDataIdeal.main_arg0)
      ∧ m' ((c.tc : Thread Cert.PoolDataRefIdeal.nD Cert.PoolDataRefIdeal.τ).loc Cert.PoolDataRefIdeal.main_arg1) = m ((c.tc : Thread Cert.PoolDataIdeal.nD Cert.PoolDataIdeal.τ).loc Cert.PoolDataIdeal.main_arg1)) →
    ∃ (v0 : (c : Dev Cert.PoolDataIdeal.nD) → Buf (Elt Ideal) ((c.tc : Thread Cert.PoolDataIdeal.nD Cert.PoolDataIdeal.τ).loc Cert.PoolDataIdeal.main_v5)),
      θ_run (Cert.PoolDataIdeal.defs (F := Ideal)) (onTc (τ := Cert.PoolDataIdeal.τ) (Cert.PoolDataIdeal.main (F := Ideal))) ⟨m, fun _ => 0, g⟩ (fun r => ∀ c : Dev Cert.PoolDataIdeal.nD,
          r.2.mem ((c.tc : Thread Cert.PoolDataIdeal.nD Cert.PoolDataIdeal.τ).loc Cert.PoolDataIdeal.main_v5) = v0 c
          ∧ r.2.mem ((c.tc : Thread Cert.PoolDataIdeal.nD Cert.PoolDataIdeal.τ).loc Cert.PoolDataIdeal.main_arg0) = m ((c.tc : Thread Cert.PoolDataIdeal.nD Cert.PoolDataIdeal.τ).loc Cert.PoolDataIdeal.main_arg0)
          ∧ r.2.mem ((c.tc : Thread Cert.PoolDataIdeal.nD Cert.PoolDataIdeal.τ).loc Cert.PoolDataIdeal.main_arg1) = m ((c.tc : Thread Cert.PoolDataIdeal.nD Cert.PoolDataIdeal.τ).loc Cert.PoolDataIdeal.main_arg1))
      ∧ θ_run (Cert.PoolDataRefIdeal.defs (F := Ideal)) (onTc (τ := Cert.PoolDataRefIdeal.τ) (Cert.PoolDataRefIdeal.main (F := Ideal))) ⟨m', fun _ => 0, g'⟩ (fun r => ∀ c : Dev Cert.PoolDataRefIdeal.nD,
          r.2.mem ((c.tc : Thread Cert.PoolDataRefIdeal.nD Cert.PoolDataRefIdeal.τ).loc Cert.PoolDataRefIdeal.main_v9) = v0 c
          ∧ r.2.mem ((c.tc : Thread Cert.PoolDataRefIdeal.nD Cert.PoolDataRefIdeal.τ).loc Cert.PoolDataRefIdeal.main_arg0) = m' ((c.tc : Thread Cert.PoolDataRefIdeal.nD Cert.PoolDataRefIdeal.τ).loc Cert.PoolDataRefIdeal.main_arg0)
          ∧ r.2.mem ((c.tc : Thread Cert.PoolDataRefIdeal.nD Cert.PoolDataRefIdeal.τ).loc Cert.PoolDataRefIdeal.main_arg1) = m' ((c.tc : Thread Cert.PoolDataRefIdeal.nD Cert.PoolDataRefIdeal.τ).loc Cert.PoolDataRefIdeal.main_arg1))

def preserves_PoolWeight_PoolWeightIdeal : Prop :=
  True

def algebraic_PoolWeightIdeal_PoolWeightRefIdeal [hPoolWeightIdeal : Cert.PoolWeightIdeal.Facts] [hPoolWeightRefIdeal : Cert.PoolWeightRefIdeal.Facts] : Prop :=
  ∀ (m : (ℓ : Loc Cert.PoolWeightIdeal.nD Cert.PoolWeightIdeal.τ Cert.PoolWeightIdeal.sig) → Buf (Elt Ideal) ℓ) (g : Dev Cert.PoolWeightIdeal.nD → PrngReg)
    (m' : (ℓ : Loc Cert.PoolWeightRefIdeal.nD Cert.PoolWeightRefIdeal.τ Cert.PoolWeightRefIdeal.sig) → Buf (Elt Ideal) ℓ) (g' : Dev Cert.PoolWeightRefIdeal.nD → PrngReg), Pre_PoolWeightIdeal m →
    (∀ c : Dev Cert.PoolWeightIdeal.nD,
      m' ((c.tc : Thread Cert.PoolWeightRefIdeal.nD Cert.PoolWeightRefIdeal.τ).loc Cert.PoolWeightRefIdeal.main_arg0) = m ((c.tc : Thread Cert.PoolWeightIdeal.nD Cert.PoolWeightIdeal.τ).loc Cert.PoolWeightIdeal.main_arg0)
      ∧ m' ((c.tc : Thread Cert.PoolWeightRefIdeal.nD Cert.PoolWeightRefIdeal.τ).loc Cert.PoolWeightRefIdeal.main_arg1) = m ((c.tc : Thread Cert.PoolWeightIdeal.nD Cert.PoolWeightIdeal.τ).loc Cert.PoolWeightIdeal.main_arg1)) →
    ∃ (v0 : (c : Dev Cert.PoolWeightIdeal.nD) → Buf (Elt Ideal) ((c.tc : Thread Cert.PoolWeightIdeal.nD Cert.PoolWeightIdeal.τ).loc Cert.PoolWeightIdeal.main_v2)),
      θ_run (Cert.PoolWeightIdeal.defs (F := Ideal)) (onTc (τ := Cert.PoolWeightIdeal.τ) (Cert.PoolWeightIdeal.main (F := Ideal))) ⟨m, fun _ => 0, g⟩ (fun r => ∀ c : Dev Cert.PoolWeightIdeal.nD,
          r.2.mem ((c.tc : Thread Cert.PoolWeightIdeal.nD Cert.PoolWeightIdeal.τ).loc Cert.PoolWeightIdeal.main_v2) = v0 c
          ∧ r.2.mem ((c.tc : Thread Cert.PoolWeightIdeal.nD Cert.PoolWeightIdeal.τ).loc Cert.PoolWeightIdeal.main_arg0) = m ((c.tc : Thread Cert.PoolWeightIdeal.nD Cert.PoolWeightIdeal.τ).loc Cert.PoolWeightIdeal.main_arg0)
          ∧ r.2.mem ((c.tc : Thread Cert.PoolWeightIdeal.nD Cert.PoolWeightIdeal.τ).loc Cert.PoolWeightIdeal.main_arg1) = m ((c.tc : Thread Cert.PoolWeightIdeal.nD Cert.PoolWeightIdeal.τ).loc Cert.PoolWeightIdeal.main_arg1))
      ∧ θ_run (Cert.PoolWeightRefIdeal.defs (F := Ideal)) (onTc (τ := Cert.PoolWeightRefIdeal.τ) (Cert.PoolWeightRefIdeal.main (F := Ideal))) ⟨m', fun _ => 0, g'⟩ (fun r => ∀ c : Dev Cert.PoolWeightRefIdeal.nD,
          r.2.mem ((c.tc : Thread Cert.PoolWeightRefIdeal.nD Cert.PoolWeightRefIdeal.τ).loc Cert.PoolWeightRefIdeal.main_v12) = v0 c
          ∧ r.2.mem ((c.tc : Thread Cert.PoolWeightRefIdeal.nD Cert.PoolWeightRefIdeal.τ).loc Cert.PoolWeightRefIdeal.main_arg0) = m' ((c.tc : Thread Cert.PoolWeightRefIdeal.nD Cert.PoolWeightRefIdeal.τ).loc Cert.PoolWeightRefIdeal.main_arg0)
          ∧ r.2.mem ((c.tc : Thread Cert.PoolWeightRefIdeal.nD Cert.PoolWeightRefIdeal.τ).loc Cert.PoolWeightRefIdeal.main_arg1) = m' ((c.tc : Thread Cert.PoolWeightRefIdeal.nD Cert.PoolWeightRefIdeal.τ).loc Cert.PoolWeightRefIdeal.main_arg1))

def preserves_PoolScale_PoolScaleIdeal : Prop :=
  True

def algebraic_PoolScaleIdeal_PoolScaleRefIdeal [hPoolScaleIdeal : Cert.PoolScaleIdeal.Facts] [hPoolScaleRefIdeal : Cert.PoolScaleRefIdeal.Facts] : Prop :=
  ∀ (m : (ℓ : Loc Cert.PoolScaleIdeal.nD Cert.PoolScaleIdeal.τ Cert.PoolScaleIdeal.sig) → Buf (Elt Ideal) ℓ) (g : Dev Cert.PoolScaleIdeal.nD → PrngReg)
    (m' : (ℓ : Loc Cert.PoolScaleRefIdeal.nD Cert.PoolScaleRefIdeal.τ Cert.PoolScaleRefIdeal.sig) → Buf (Elt Ideal) ℓ) (g' : Dev Cert.PoolScaleRefIdeal.nD → PrngReg), Pre_PoolScaleIdeal m →
    (∀ c : Dev Cert.PoolScaleIdeal.nD,
      m' ((c.tc : Thread Cert.PoolScaleRefIdeal.nD Cert.PoolScaleRefIdeal.τ).loc Cert.PoolScaleRefIdeal.main_arg0) = m ((c.tc : Thread Cert.PoolScaleIdeal.nD Cert.PoolScaleIdeal.τ).loc Cert.PoolScaleIdeal.main_arg0)
      ∧ m' ((c.tc : Thread Cert.PoolScaleRefIdeal.nD Cert.PoolScaleRefIdeal.τ).loc Cert.PoolScaleRefIdeal.main_arg1) = m ((c.tc : Thread Cert.PoolScaleIdeal.nD Cert.PoolScaleIdeal.τ).loc Cert.PoolScaleIdeal.main_arg1)
      ∧ m' ((c.tc : Thread Cert.PoolScaleRefIdeal.nD Cert.PoolScaleRefIdeal.τ).loc Cert.PoolScaleRefIdeal.main_arg2) = m ((c.tc : Thread Cert.PoolScaleIdeal.nD Cert.PoolScaleIdeal.τ).loc Cert.PoolScaleIdeal.main_arg2)) →
    ∃ (v0 : (c : Dev Cert.PoolScaleIdeal.nD) → Buf (Elt Ideal) ((c.tc : Thread Cert.PoolScaleIdeal.nD Cert.PoolScaleIdeal.τ).loc Cert.PoolScaleIdeal.main_v1_0)) (v1 : (c : Dev Cert.PoolScaleIdeal.nD) → Buf (Elt Ideal) ((c.tc : Thread Cert.PoolScaleIdeal.nD Cert.PoolScaleIdeal.τ).loc Cert.PoolScaleIdeal.main_v1_1)),
      θ_run (Cert.PoolScaleIdeal.defs (F := Ideal)) (onTc (τ := Cert.PoolScaleIdeal.τ) (Cert.PoolScaleIdeal.main (F := Ideal))) ⟨m, fun _ => 0, g⟩ (fun r => ∀ c : Dev Cert.PoolScaleIdeal.nD,
          r.2.mem ((c.tc : Thread Cert.PoolScaleIdeal.nD Cert.PoolScaleIdeal.τ).loc Cert.PoolScaleIdeal.main_v1_0) = v0 c
          ∧ r.2.mem ((c.tc : Thread Cert.PoolScaleIdeal.nD Cert.PoolScaleIdeal.τ).loc Cert.PoolScaleIdeal.main_v1_1) = v1 c
          ∧ r.2.mem ((c.tc : Thread Cert.PoolScaleIdeal.nD Cert.PoolScaleIdeal.τ).loc Cert.PoolScaleIdeal.main_arg0) = m ((c.tc : Thread Cert.PoolScaleIdeal.nD Cert.PoolScaleIdeal.τ).loc Cert.PoolScaleIdeal.main_arg0)
          ∧ r.2.mem ((c.tc : Thread Cert.PoolScaleIdeal.nD Cert.PoolScaleIdeal.τ).loc Cert.PoolScaleIdeal.main_arg1) = m ((c.tc : Thread Cert.PoolScaleIdeal.nD Cert.PoolScaleIdeal.τ).loc Cert.PoolScaleIdeal.main_arg1)
          ∧ r.2.mem ((c.tc : Thread Cert.PoolScaleIdeal.nD Cert.PoolScaleIdeal.τ).loc Cert.PoolScaleIdeal.main_arg2) = m ((c.tc : Thread Cert.PoolScaleIdeal.nD Cert.PoolScaleIdeal.τ).loc Cert.PoolScaleIdeal.main_arg2))
      ∧ θ_run (Cert.PoolScaleRefIdeal.defs (F := Ideal)) (onTc (τ := Cert.PoolScaleRefIdeal.τ) (Cert.PoolScaleRefIdeal.main (F := Ideal))) ⟨m', fun _ => 0, g'⟩ (fun r => ∀ c : Dev Cert.PoolScaleRefIdeal.nD,
          r.2.mem ((c.tc : Thread Cert.PoolScaleRefIdeal.nD Cert.PoolScaleRefIdeal.τ).loc Cert.PoolScaleRefIdeal.main_v7) = v0 c
          ∧ r.2.mem ((c.tc : Thread Cert.PoolScaleRefIdeal.nD Cert.PoolScaleRefIdeal.τ).loc Cert.PoolScaleRefIdeal.main_v4) = v1 c
          ∧ r.2.mem ((c.tc : Thread Cert.PoolScaleRefIdeal.nD Cert.PoolScaleRefIdeal.τ).loc Cert.PoolScaleRefIdeal.main_arg0) = m' ((c.tc : Thread Cert.PoolScaleRefIdeal.nD Cert.PoolScaleRefIdeal.τ).loc Cert.PoolScaleRefIdeal.main_arg0)
          ∧ r.2.mem ((c.tc : Thread Cert.PoolScaleRefIdeal.nD Cert.PoolScaleRefIdeal.τ).loc Cert.PoolScaleRefIdeal.main_arg1) = m' ((c.tc : Thread Cert.PoolScaleRefIdeal.nD Cert.PoolScaleRefIdeal.τ).loc Cert.PoolScaleRefIdeal.main_arg1)
          ∧ r.2.mem ((c.tc : Thread Cert.PoolScaleRefIdeal.nD Cert.PoolScaleRefIdeal.τ).loc Cert.PoolScaleRefIdeal.main_arg2) = m' ((c.tc : Thread Cert.PoolScaleRefIdeal.nD Cert.PoolScaleRefIdeal.τ).loc Cert.PoolScaleRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v30) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v3_0)) (v1 : (c : Dev Cert.ConvBwdIdeal.nD) → Buf (Elt Ideal) ((c.tc : Thread Cert.ConvBwdIdeal.nD Cert.ConvBwdIdeal.τ).loc Cert.ConvBwdIdeal.main_v3_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v3_0) = v0 c
          ∧ r.2.mem ((c.tc : Thread Cert.ConvBwdIdeal.nD Cert.ConvBwdIdeal.τ).loc Cert.ConvBwdIdeal.main_v3_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v72) = v0 c
          ∧ r.2.mem ((c.tc : Thread Cert.ConvBwdRefIdeal.nD Cert.ConvBwdRefIdeal.τ).loc Cert.ConvBwdRefIdeal.main_v75) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def Claim : Prop :=
  ∃ (hKernel : Cert.Kernel.Facts) (hKernelIdeal : Cert.KernelIdeal.Facts) (hReferenceIdeal : Cert.ReferenceIdeal.Facts) (hDownData : Cert.DownData.Facts) (hDownDataIdeal : Cert.DownDataIdeal.Facts) (hDownDataRefIdeal : Cert.DownDataRefIdeal.Facts) (hDownWeight : Cert.DownWeight.Facts) (hDownWeightIdeal : Cert.DownWeightIdeal.Facts) (hDownWeightRefIdeal : Cert.DownWeightRefIdeal.Facts) (hUpData : Cert.UpData.Facts) (hUpDataIdeal : Cert.UpDataIdeal.Facts) (hUpDataRefIdeal : Cert.UpDataRefIdeal.Facts) (hUpWeight : Cert.UpWeight.Facts) (hUpWeightIdeal : Cert.UpWeightIdeal.Facts) (hUpWeightRefIdeal : Cert.UpWeightRefIdeal.Facts) (hOutData : Cert.OutData.Facts) (hOutDataIdeal : Cert.OutDataIdeal.Facts) (hOutDataRefIdeal : Cert.OutDataRefIdeal.Facts) (hConvOutData : Cert.ConvOutData.Facts) (hConvOutDataIdeal : Cert.ConvOutDataIdeal.Facts) (hConvOutDataRefIdeal : Cert.ConvOutDataRefIdeal.Facts) (hOutWeight : Cert.OutWeight.Facts) (hOutWeightIdeal : Cert.OutWeightIdeal.Facts) (hOutWeightRefIdeal : Cert.OutWeightRefIdeal.Facts) (hQkvData : Cert.QkvData.Facts) (hQkvDataIdeal : Cert.QkvDataIdeal.Facts) (hQkvDataRefIdeal : Cert.QkvDataRefIdeal.Facts) (hQkvWeight : Cert.QkvWeight.Facts) (hQkvWeightIdeal : Cert.QkvWeightIdeal.Facts) (hQkvWeightRefIdeal : Cert.QkvWeightRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hPoolMix : Cert.PoolMix.Facts) (hPoolMixIdeal : Cert.PoolMixIdeal.Facts) (hPoolMixRefIdeal : Cert.PoolMixRefIdeal.Facts) (hPoolData : Cert.PoolData.Facts) (hPoolDataIdeal : Cert.PoolDataIdeal.Facts) (hPoolDataRefIdeal : Cert.PoolDataRefIdeal.Facts) (hPoolWeight : Cert.PoolWeight.Facts) (hPoolWeightIdeal : Cert.PoolWeightIdeal.Facts) (hPoolWeightRefIdeal : Cert.PoolWeightRefIdeal.Facts) (hPoolScale : Cert.PoolScale.Facts) (hPoolScaleIdeal : Cert.PoolScaleIdeal.Facts) (hPoolScaleRefIdeal : Cert.PoolScaleRefIdeal.Facts) (hConv : Cert.Conv.Facts) (hConvIdeal : Cert.ConvIdeal.Facts) (hConvRefIdeal : Cert.ConvRefIdeal.Facts) (hConvBwd : Cert.ConvBwd.Facts) (hConvBwdIdeal : Cert.ConvBwdIdeal.Facts) (hConvBwdRefIdeal : Cert.ConvBwdRefIdeal.Facts) (hPre_finite : Cert.Pre_finite.Facts) (hPre_finite_down : Cert.Pre_finite_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownData (hDownData := hDownData)
    ∧ quiescent_DownDataIdeal (hDownDataIdeal := hDownDataIdeal)
    ∧ quiescent_DownDataIdeal_pre_finite_down (hDownDataIdeal := hDownDataIdeal) (hPre_finite_down := hPre_finite_down)
    ∧ quiescent_DownDataRefIdeal (hDownDataRefIdeal := hDownDataRefIdeal)
    ∧ quiescent_DownDataRefIdeal_pre_finite_down (hDownDataRefIdeal := hDownDataRefIdeal) (hPre_finite_down := hPre_finite_down)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_UpData (hUpData := hUpData)
    ∧ quiescent_UpDataIdeal (hUpDataIdeal := hUpDataIdeal)
    ∧ quiescent_UpDataRefIdeal (hUpDataRefIdeal := hUpDataRefIdeal)
    ∧ quiescent_UpWeight (hUpWeight := hUpWeight)
    ∧ quiescent_UpWeightIdeal (hUpWeightIdeal := hUpWeightIdeal)
    ∧ quiescent_UpWeightRefIdeal (hUpWeightRefIdeal := hUpWeightRefIdeal)
    ∧ quiescent_OutData (hOutData := hOutData)
    ∧ quiescent_OutDataIdeal (hOutDataIdeal := hOutDataIdeal)
    ∧ quiescent_OutDataRefIdeal (hOutDataRefIdeal := hOutDataRefIdeal)
    ∧ quiescent_ConvOutData (hConvOutData := hConvOutData)
    ∧ quiescent_ConvOutDataIdeal (hConvOutDataIdeal := hConvOutDataIdeal)
    ∧ quiescent_ConvOutDataRefIdeal (hConvOutDataRefIdeal := hConvOutDataRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_QkvData (hQkvData := hQkvData)
    ∧ quiescent_QkvDataIdeal (hQkvDataIdeal := hQkvDataIdeal)
    ∧ quiescent_QkvDataRefIdeal (hQkvDataRefIdeal := hQkvDataRefIdeal)
    ∧ quiescent_QkvWeight (hQkvWeight := hQkvWeight)
    ∧ quiescent_QkvWeightIdeal (hQkvWeightIdeal := hQkvWeightIdeal)
    ∧ quiescent_QkvWeightRefIdeal (hQkvWeightRefIdeal := hQkvWeightRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_PoolMix (hPoolMix := hPoolMix)
    ∧ quiescent_PoolMixIdeal (hPoolMixIdeal := hPoolMixIdeal)
    ∧ quiescent_PoolMixRefIdeal (hPoolMixRefIdeal := hPoolMixRefIdeal)
    ∧ quiescent_PoolData (hPoolData := hPoolData)
    ∧ quiescent_PoolDataIdeal (hPoolDataIdeal := hPoolDataIdeal)
    ∧ quiescent_PoolDataRefIdeal (hPoolDataRefIdeal := hPoolDataRefIdeal)
    ∧ quiescent_PoolWeight (hPoolWeight := hPoolWeight)
    ∧ quiescent_PoolWeightIdeal (hPoolWeightIdeal := hPoolWeightIdeal)
    ∧ quiescent_PoolWeightRefIdeal (hPoolWeightRefIdeal := hPoolWeightRefIdeal)
    ∧ quiescent_PoolScale (hPoolScale := hPoolScale)
    ∧ quiescent_PoolScaleIdeal (hPoolScaleIdeal := hPoolScaleIdeal)
    ∧ quiescent_PoolScaleRefIdeal (hPoolScaleRefIdeal := hPoolScaleRefIdeal)
    ∧ quiescent_Conv (hConv := hConv)
    ∧ quiescent_ConvIdeal (hConvIdeal := hConvIdeal)
    ∧ quiescent_ConvRefIdeal (hConvRefIdeal := hConvRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownData_DownDataIdeal
    ∧ algebraic_DownDataIdeal_DownDataRefIdeal_pre_finite_down (hDownDataIdeal := hDownDataIdeal) (hDownDataRefIdeal := hDownDataRefIdeal) (hPre_finite_down := hPre_finite_down)
    ∧ preserves_DownWeight_DownWeightIdeal
    ∧ algebraic_DownWeightIdeal_DownWeightRefIdeal (hDownWeightIdeal := hDownWeightIdeal) (hDownWeightRefIdeal := hDownWeightRefIdeal)
    ∧ preserves_UpData_UpDataIdeal
    ∧ algebraic_UpDataIdeal_UpDataRefIdeal (hUpDataIdeal := hUpDataIdeal) (hUpDataRefIdeal := hUpDataRefIdeal)
    ∧ preserves_UpWeight_UpWeightIdeal
    ∧ algebraic_UpWeightIdeal_UpWeightRefIdeal (hUpWeightIdeal := hUpWeightIdeal) (hUpWeightRefIdeal := hUpWeightRefIdeal)
    ∧ preserves_OutData_OutDataIdeal
    ∧ algebraic_OutDataIdeal_OutDataRefIdeal (hOutDataIdeal := hOutDataIdeal) (hOutDataRefIdeal := hOutDataRefIdeal)
    ∧ preserves_ConvOutData_ConvOutDataIdeal
    ∧ algebraic_ConvOutDataIdeal_ConvOutDataRefIdeal (hConvOutDataIdeal := hConvOutDataIdeal) (hConvOutDataRefIdeal := hConvOutDataRefIdeal)
    ∧ preserves_OutWeight_OutWeightIdeal
    ∧ algebraic_OutWeightIdeal_OutWeightRefIdeal (hOutWeightIdeal := hOutWeightIdeal) (hOutWeightRefIdeal := hOutWeightRefIdeal)
    ∧ preserves_QkvData_QkvDataIdeal
    ∧ algebraic_QkvDataIdeal_QkvDataRefIdeal (hQkvDataIdeal := hQkvDataIdeal) (hQkvDataRefIdeal := hQkvDataRefIdeal)
    ∧ preserves_QkvWeight_QkvWeightIdeal
    ∧ algebraic_QkvWeightIdeal_QkvWeightRefIdeal (hQkvWeightIdeal := hQkvWeightIdeal) (hQkvWeightRefIdeal := hQkvWeightRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_PoolMix_PoolMixIdeal
    ∧ algebraic_PoolMixIdeal_PoolMixRefIdeal (hPoolMixIdeal := hPoolMixIdeal) (hPoolMixRefIdeal := hPoolMixRefIdeal)
    ∧ preserves_PoolData_PoolDataIdeal
    ∧ algebraic_PoolDataIdeal_PoolDataRefIdeal (hPoolDataIdeal := hPoolDataIdeal) (hPoolDataRefIdeal := hPoolDataRefIdeal)
    ∧ preserves_PoolWeight_PoolWeightIdeal
    ∧ algebraic_PoolWeightIdeal_PoolWeightRefIdeal (hPoolWeightIdeal := hPoolWeightIdeal) (hPoolWeightRefIdeal := hPoolWeightRefIdeal)
    ∧ preserves_PoolScale_PoolScaleIdeal
    ∧ algebraic_PoolScaleIdeal_PoolScaleRefIdeal (hPoolScaleIdeal := hPoolScaleIdeal) (hPoolScaleRefIdeal := hPoolScaleRefIdeal)
    ∧ preserves_Conv_ConvIdeal
    ∧ algebraic_ConvIdeal_ConvRefIdeal (hConvIdeal := hConvIdeal) (hConvRefIdeal := hConvRefIdeal)
    ∧ preserves_ConvBwd_ConvBwdIdeal
    ∧ algebraic_ConvBwdIdeal_ConvBwdRefIdeal (hConvBwdIdeal := hConvBwdIdeal) (hConvBwdRefIdeal := hConvBwdRefIdeal)
-- ==== Pre_finite.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) (main_arg2 : FVec F S4096x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : IVec S4096x2048 1 := andi main_v2 main_v5
  let main_v7 : FVec F S4096x2048 .f32 := Host.absf main_arg2
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  let main_v10 : IVec S4096x2048 1 := andi main_v6 main_v9
  let main_v11 : FVec F S4096x2048 .f32 := Host.absf main_arg3
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_v14 : IVec S4096x2048 1 := andi main_v10 main_v13
  let main_c : IVec S_ 1 := constantI S_ 1 1#1
  let main_v15 : IVec S_ 1 := (fun x v => Host.reduce IntOp.andi x v reducesTo_S4096x2048_S_d0_1 h_S_) main_v14 main_c
  main_v15
-- ==== Pre_finite_down.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn {F : FTy → Type} [FloatOps F] (main_arg0 : FVec F S4096x2048 .f32) (main_arg1 : FVec F S5632x2048 .f32) (main_arg2 : FVec F S4096x5632 .f32) (main_arg3 : FVec F S4096x5632 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S4096x5632 .f32 := Host.absf main_arg3
  let main_cst_2 : FVec F S_ .f32 := constant S_ .f32 0x7F800000#32
  let main_v10 : FVec F S4096x5632 .f32 := broadcastInDim S4096x5632 ![] bcast_S_S4096x5632 main_cst_2
  let main_v11 : IVec S4096x5632 1 := cmpf .olt main_v9 main_v10
  let main_c_3 : IVec S_ 1 := constantI S_ 1 1#1
  let main_v12 : IVec S_ 1 := (fun x v => Host.reduce IntOp.andi x v reducesTo_S4096x5632_S_d0_1 h_S_) main_v11 main_c_3
  let main_v13 : IVec S_ 1 := andi main_v8 main_v12
  main_v13
-- ==== Kernel.lean ====
abbrev S4096x2048 : Shape := ⟨2, ![4096, 2048]⟩
abbrev S4096x16x128 : Shape := ⟨3, ![4096, 16, 128]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x4096 : Shape := ⟨2, ![16, 4096]⟩
abbrev S4096x16 : Shape := ⟨2, ![4096, 16]⟩
abbrev S4096x16x1 : Shape := ⟨3, ![4096, 16, 1]⟩
abbrev S256x256 : Shape := ⟨2, ![256, 256]⟩
abbrev S512x128 : Shape := ⟨2, ![512, 128]⟩
abbrev S4096x128 : Shape := ⟨2, ![4096, 128]⟩
abbrev S512x512 : Shape := ⟨2, ![512, 512]⟩
abbrev S512x256 : Shape := ⟨2, ![512, 256]⟩

abbrev nBuf : Space → Nat
  | .hbm => 65
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x16x128, .f32⟩
  | .hbm, ⟨5, _⟩ => ⟨S4096x16x128, .f32⟩
  | .hbm, ⟨6, _⟩ => ⟨S16x4096x4096, .f32⟩
  | .hbm, ⟨7, _⟩ => ⟨S4096, .i32⟩
  | .hbm, ⟨8, _⟩ => ⟨S1x4096, .i32⟩
  | .hbm, ⟨9, _⟩ => ⟨S4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096x4096, .f32⟩
  | .hbm, ⟨18, _⟩ => ⟨S16x4096x4096, .f32⟩
  | .hbm, ⟨19, _⟩ => ⟨S16x4096x4096, .f32⟩
  | .hbm, ⟨20, _⟩ => ⟨S16x4096x4096, .f32⟩
  | .hbm, ⟨21, _⟩ => ⟨S16x4096x4096, .i1⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S4096x16, .f32⟩
  | .hbm, ⟨39, _⟩ => ⟨S4096x16x1, .f32⟩
  | .hbm, ⟨40, _⟩ => ⟨S4096x16x128, .f32⟩
  | .hbm, ⟨41, _⟩ => ⟨S4096x2048, .f32⟩
  | .hbm, ⟨42, _⟩ => ⟨S4096x2048, .bf16⟩
  | .hbm, ⟨43, _⟩ => ⟨S4096x2048, .bf16⟩
  | .hbm, ⟨44, _⟩ => ⟨S4096x2048, .bf16⟩
  | .hbm, ⟨45, _⟩ => ⟨S4096x2048, .bf16⟩
  | .hbm, ⟨46, _⟩ => ⟨S256x256, .i32⟩
  | .hbm, ⟨47, _⟩ => ⟨S_, .i32⟩
  | .hbm, ⟨48, _⟩ => ⟨S256x256, .i32⟩
  | .hbm, ⟨49, _⟩ => ⟨S256x256, .i32⟩
  | .hbm, ⟨50, _⟩ => ⟨S256x256, .i32⟩
  | .hbm, ⟨51, _⟩ => ⟨S256x256, .i1⟩
  | .hbm, ⟨52, _⟩ => ⟨S_, .i32⟩
  | .hbm, ⟨53, _⟩ => ⟨S256x256, .i32⟩
  | .hbm, ⟨54, _⟩ => ⟨S256x256, .i1⟩
  | .hbm, ⟨55, _⟩ => ⟨S256x256, .i1⟩
  | .hbm, ⟨56, _⟩ => ⟨S_, .f32⟩
  | .hbm, ⟨57, _⟩ => ⟨S_, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x256, .bf16⟩
  | .hbm, ⟨62, _⟩ => ⟨S4096x2048, .f32⟩
  | .hbm, ⟨63, _⟩ => ⟨S4096x2048, .f32⟩
  | .hbm, ⟨64, _⟩ => ⟨S4096x2048, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S256x256, .bf16⟩
  | .local _ .vmem, ⟨11, _⟩ => ⟨S512x128, .f32⟩
  | .local _ .vmem, ⟨12, _⟩ => ⟨S512x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S512x128, .f32⟩
  | .local _ .vmem, ⟨18, _⟩ => ⟨S512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v11 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v12 : Ref sig .tc := ⟨.hbm, 35, rfl⟩
abbrev main_cst_0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_1 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_2 : Ref sig .tc := ⟨.hbm, 56, rfl⟩
abbrev main_cst_3 : Ref sig .tc := ⟨.hbm, 57, rfl⟩
abbrev main_call2_v0 : Ref sig .tc := ⟨.hbm, 58, rfl⟩
abbrev main_call2_v1 : Ref sig .tc := ⟨.hbm, 59, rfl⟩
abbrev main_v30 : Ref sig .tc := ⟨.hbm, 60, rfl⟩
abbrev main_v31 : Ref sig .tc := ⟨.hbm, 61, rfl⟩
abbrev main_v32_0 : Ref sig .tc := ⟨.hbm, 62, rfl⟩
abbrev main_v32_1 : Ref sig .tc := ⟨.hbm, 63, rfl⟩
abbrev main_v32_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_15 : BitVec 32 := 0#32
  let arg1 : BitVec 32 := BitVec.ofNat 32 (i 1).val
  let c1_i32 : BitVec 32 := 1#32
  let v19 : BitVec 32 := Scalar.muli arg1 c1_i32
  let v20 : BitVec 32 := Scalar.subi v19 c0_i32_15
  let c1_i32_16 : BitVec 32 := 1#32
  let v22 : BitVec 32 := Scalar.divsi v20 c1_i32_16
  let v23 : BitVec 32 := Scalar.muli v22 c1_i32_16
  let v24 : BitVec 32 := Scalar.addi c0_i32_15 v23
  let c1_i32_17 : BitVec 32 := 1#32
  ⟨c0_i32_15, v24, c1_i32_17⟩
def k0_mult1 (i : grid0.Coords) (k0_t1 : Fin (k0_t1_loop i).trips) : BitVec 32 :=
  let c0_i32_15 : BitVec 32 := 0#32
  let c1_i32_17 : BitVec 32 := 1#32
  let arg13 : BitVec 32 := Scf.iv c0_i32_15 c1_i32_17 k0_t1
  let c4_i32_88 : BitVec 32 := 4#32
  let v302 : BitVec 32 := Scalar.muli arg13 c4_i32_88
  let c128_i32_89 : BitVec 32 := 128#32
  let v303 : BitVec 32 := Scalar.muli v302 c128_i32_89
  v303
def k0_off1 (i : grid0.Coords) (k0_t1 : Fin (k0_t1_loop i).trips) : Fin 2 → Nat :=
  let c0_i32_15 : BitVec 32 := 0#32
  let c1_i32_17 : BitVec 32 := 1#32
  let arg13 : BitVec 32 := Scf.iv c0_i32_15 c1_i32_17 k0_t1
  let c4_i32_88 : BitVec 32 := 4#32
  let v302 : BitVec 32 := Scalar.muli arg13 c4_i32_88
  let c128_i32_89 : BitVec 32 := 128#32
  let v303 : BitVec 32 := Scalar.muli v302 c128_i32_89
  let v304 : BitVec 32 := v303
  let v305 : Index := Scalar.indexCast v304
  let c0_90 : Index := 0#32
  ![v305.toNat, 0]
@[reducible] def k0_t2_loop (i : grid0.Coords) : Scf.Loop 32 :=
  let c0_i32_15 : BitVec 32 := 0#32
  let arg1 : BitVec 32 := BitVec.ofNat 32 (i 1).val
  let c1_i32 : BitVec 32 := 1#32
  let v19 : BitVec 32 := Scalar.muli arg1 c1_i32
  let v20 : BitVec 32 := Scalar.subi v19 c0_i32_15
  let c1_i32_16 : BitVec 32 := 1#32
  let v22 : BitVec 32 := Scalar.divsi v20 c1_i32_16
  let v23 : BitVec 32 := Scalar.muli v22 c1_i32_16
  let v24 : BitVec 32 := Scalar.addi c0_i32_15 v23
  let v21 : BitVec 32 := Scalar.addi c0_i32_15 v20
  let c1_i32_18 : BitVec 32 := 1#32
  ⟨v24, v21, c1_i32_18⟩
def k0_mult2 (i : grid0.Coords) (k0_t2 : Fin (k0_t2_loop i).trips) : BitVec 32 :=
  let c0_i32_15 : BitVec 32 := 0#32
  let arg1 : BitVec 32 := BitVec.ofNat 32 (i 1).val
  let c1_i32 : BitVec 32 := 1#32
  let v19 : BitVec 32 := Scalar.muli arg1 c1_i32
  let v20 : BitVec 32 := Scalar.subi v19 c0_i32_15
  let c1_i32_16 : BitVec 32 := 1#32
  let v22 : BitVec 32 := Scalar.divsi v20 c1_i32_16
  let v23 : BitVec 32 := Scalar.muli v22 c1_i32_16
  let v24 : BitVec 32 := Scalar.addi c0_i32_15 v23
  let c1_i32_18 : BitVec 32 := 1#32
  let arg13 : BitVec 32 := Scf.iv v24 c1_i32_18 k0_t2
  let c4_i32_88 : BitVec 32 := 4#32
  let v302 : BitVec 32 := Scalar.muli arg13 c4_i32_88
  let c128_i32_89 : BitVec 32 := 128#32
  let v303 : BitVec 32 := Scalar.muli v302 c128_i32_89
  v303
def k0_off2 (i : grid0.Coords) (k0_t2 : Fin (k0_t2_loop i).trips) : Fin 2 → Nat :=
  let c0_i32_15 : BitVec 32 := 0#32
  let arg1 : BitVec 32 := BitVec.ofNat 32 (i 1).val
  let c1_i32 : BitVec 32 := 1#32
  let v19 : BitVec 32 := Scalar.muli arg1 c1_i32
  let v20 : BitVec 32 := Scalar.subi v19 c0_i32_15
  let c1_i32_16 : BitVec 32 := 1#32
  let v22 : BitVec 32 := Scalar.divsi v20 c1_i32_16
  let v23 : BitVec 32 := Scalar.muli v22 c1_i32_16
  let v24 : BitVec 32 := Scalar.addi c0_i32_15 v23
  let c1_i32_18 : BitVec 32 := 1#32
  let arg13 : BitVec 32 := Scf.iv v24 c1_i32_18 k0_t2
  let c4_i32_88 : BitVec 32 := 4#32
  let v302 : BitVec 32 := Scalar.muli arg13 c4_i32_88
  let c128_i32_89 : BitVec 32 := 128#32
  let v303 : BitVec 32 := Scalar.muli v302 c128_i32_89
  let v304 : BitVec 32 := v303
  let v305 : Index := Scalar.indexCast v304
  let c0_90 : Index := 0#32
  ![v305.toNat, 0]
def k0_mult3 (i : grid0.Coords) : BitVec 32 :=
  let arg1 : BitVec 32 := BitVec.ofNat 32 (i 1).val
  let c4_i32 : BitVec 32 := 4#32
  let v25 : BitVec 32 := Scalar.muli arg1 c4_i32
  let c0_i32_19 : BitVec 32 := 0#32
  let v26 : BitVec 32 := Scalar.addi v25 c0_i32_19
  let c128_i32 : BitVec 32 := 128#32
  let v27 : BitVec 32 := Scalar.muli v26 c128_i32
  v27
def k0_off3 (i : grid0.Coords) : Fin 2 → Nat :=
  let arg1 : BitVec 32 := BitVec.ofNat 32 (i 1).val
  let c4_i32 : BitVec 32 := 4#32
  let v25 : BitVec 32 := Scalar.muli arg1 c4_i32
  let c0_i32_19 : BitVec 32 := 0#32
  let v26 : BitVec 32 := Scalar.addi v25 c0_i32_19
  let c128_i32 : BitVec 32 := 128#32
  let v27 : BitVec 32 := Scalar.muli v26 c128_i32
  let v28 : BitVec 32 := v27
  let v29 : Index := Scalar.indexCast v28
  let c0_20 : Index := 0#32
  ![v29.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x2048 : Shape := ⟨2, ![4096, 2048]⟩
abbrev S4096x16x128 : Shape := ⟨3, ![4096, 16, 128]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x128x4096 : Shape := ⟨3, ![16, 128, 4096]⟩
abbrev S16x4096x128 : Shape := ⟨3, ![16, 4096, 128]⟩

abbrev nBuf : Space → Nat
  | .hbm => 167
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S4096x16x128, .f32⟩
  | 5 => ⟨S4096x16x128, .f32⟩
  | 6 => ⟨S16x4096x4096, .f32⟩
  | 7 => ⟨S4096, .i32⟩
  | 8 => ⟨S1x4096, .i32⟩
  | 9 => ⟨S4096, .i32⟩
  | 10 => ⟨S4096x1, .i32⟩
  | 11 => ⟨S4096x4096, .i32⟩
  | 12 => ⟨S4096x4096, .i32⟩
  | 13 => ⟨S4096x4096, .i1⟩
  | 14 => ⟨S16x4096x4096, .f32⟩
  | 15 => ⟨S16x4096x4096, .f32⟩
  | 16 => ⟨S_, .f32⟩
  | 17 => ⟨S16x4096x4096, .f32⟩
  | 18 => ⟨S16x4096x4096, .f32⟩
  | 19 => ⟨S16x4096x4096, .f32⟩
  | 20 => ⟨S16x4096x4096, .f32⟩
  | 21 => ⟨S16x4096x4096, .i1⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .f32⟩
  | 30 => ⟨S_, .f32⟩
  | 31 => ⟨S16x4096x4096, .f32⟩
  | 32 => ⟨S16x4096x4096, .i1⟩
  | 33 => ⟨S_, .f32⟩
  | 34 => ⟨S16x4096x4096, .f32⟩
  | 35 => ⟨S16x4096x4096, .f32⟩
  | 36 => ⟨S_, .f32⟩
  | 37 => ⟨S16x4096x4096, .f32⟩
  | 38 => ⟨S16x4096x4096, .i1⟩
  | 39 => ⟨S_, .f32⟩
  | 40 => ⟨S16x4096x4096, .f32⟩
  | 41 => ⟨S16x4096x4096, .f32⟩
  | 42 => ⟨S16x4096x4096, .f32⟩
  | 43 => ⟨S16x4096x4096, .f32⟩
  | 44 => ⟨S_, .f32⟩
  | 45 => ⟨S_, .f32⟩
  | 46 => ⟨S_, .i1⟩
  | 47 => ⟨S_, .f32⟩
  | 48 => ⟨S_, .f32⟩
  | 49 => ⟨S_, .f32⟩
  | 50 => ⟨S_, .f32⟩
  | 51 => ⟨S16x4096x4096, .f32⟩
  | 52 => ⟨S16x4096x4096, .i1⟩
  | 53 => ⟨S_, .f32⟩
  | 54 => ⟨S16x4096x4096, .f32⟩
  | 55 => ⟨S16x4096x4096, .f32⟩
  | 56 => ⟨S16x4096x4096, .f32⟩
  | 57 => ⟨S16x4096x4096, .f32⟩
  | 58 => ⟨S16x4096x4096, .f32⟩
  | 59 => ⟨S_, .f32⟩
  | 60 => ⟨S16x4096x4096, .f32⟩
  | 61 => ⟨S16x4096x4096, .f32⟩
  | 62 => ⟨S16x4096x4096, .f32⟩
  | 63 => ⟨S_, .f32⟩
  | 64 => ⟨S_, .f32⟩
  | 65 => ⟨S16x4096x4096, .i1⟩
  | 66 => ⟨S16x4096x4096, .f32⟩
  | 67 => ⟨S16x4096x4096, .f32⟩
  | 68 => ⟨S_, .f32⟩
  | 69 => ⟨S16x4096x4096, .f32⟩
  | 70 => ⟨S_, .f32⟩
  | 71 => ⟨S_, .f32⟩
  | 72 => ⟨S16x4096x4096, .f32⟩
  | 73 => ⟨S16x4096x4096, .f32⟩
  | 74 => ⟨S16x4096x4096, .f32⟩
  | 75 => ⟨S_, .f32⟩
  | 76 => ⟨S16x4096x4096, .f32⟩
  | 77 => ⟨S16x4096x4096, .f32⟩
  | 78 => ⟨S16x4096x4096, .f32⟩
  | 79 => ⟨S16x4096x4096, .f32⟩
  | 80 => ⟨S16x4096x4096, .i1⟩
  | 81 => ⟨S16x4096x4096, .f32⟩
  | 82 => ⟨S16x4096x4096, .f32⟩
  | 83 => ⟨S16x4096x4096, .f32⟩
  | 84 => ⟨S16x4096x4096, .f32⟩
  | 85 => ⟨S16x4096x4096, .f32⟩
  | 86 => ⟨S16x4096x4096, .f32⟩
  | 87 => ⟨S16x4096x4096, .f32⟩
  | 88 => ⟨S16x4096x4096, .f32⟩
  | 89 => ⟨S_, .f32⟩
  | 90 => ⟨S16x4096x4096, .f32⟩
  | 91 => ⟨S16x4096x4096, .i1⟩
  | 92 => ⟨S_, .f32⟩
  | 93 => ⟨S16x4096x4096, .f32⟩
  | 94 => ⟨S16x4096x4096, .f32⟩
  | 95 => ⟨S_, .f32⟩
  | 96 => ⟨S16x4096x4096, .f32⟩
  | 97 => ⟨S16x4096x4096, .i1⟩
  | 98 => ⟨S_, .f32⟩
  | 99 => ⟨S16x4096x4096, .f32⟩
  | 100 => ⟨S16x4096x4096, .f32⟩
  | 101 => ⟨S16x4096x4096, .f32⟩
  | 102 => ⟨S16x4096x4096, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S16x4096x4096, .f32⟩
  | 111 => ⟨S16x4096x4096, .i1⟩
  | 112 => ⟨S_, .f32⟩
  | 113 => ⟨S16x4096x4096, .f32⟩
  | 114 => ⟨S16x4096x4096, .f32⟩
  | 115 => ⟨S16x4096x4096, .f32⟩
  | 116 => ⟨S16x4096x4096, .f32⟩
  | 117 => ⟨S16x4096x4096, .f32⟩
  | 118 => ⟨S_, .f32⟩
  | 119 => ⟨S16x4096x4096, .f32⟩
  | 120 => ⟨S16x4096x4096, .f32⟩
  | 121 => ⟨S16x4096x4096, .f32⟩
  | 122 => ⟨S16x4096x4096, .f32⟩
  | 123 => ⟨S16x4096x4096, .f32⟩
  | 124 => ⟨S_, .f32⟩
  | 125 => ⟨S_, .f32⟩
  | 126 => ⟨S16x4096x4096, .i1⟩
  | 127 => ⟨S16x4096x4096, .f32⟩
  | _ => ⟨S4096x2048, .f32⟩

abbrev hbmTy0_1 (i : Nat) : BufTy := match i % 128 with
  | 0 => ⟨S16x4096x4096, .f32⟩
  | 1 => ⟨S_, .f32⟩
  | 2 => ⟨S16x4096x4096, .f32⟩
  | 3 => ⟨S4096x16x128, .f32⟩
  | 4 => ⟨S16x128x4096, .f32⟩
  | 5 => ⟨S4096x16x128, .f32⟩
  | 6 => ⟨S4096x2048, .f32⟩
  | 7 => ⟨S4096x16x128, .f32⟩
  | 8 => ⟨S16x128x4096, .f32⟩
  | 9 => ⟨S16x4096x4096, .f32⟩
  | 10 => ⟨S16x128x4096, .f32⟩
  | 11 => ⟨S4096x16x128, .f32⟩
  | 12 => ⟨S4096x2048, .f32⟩
  | 13 => ⟨S_, .f32⟩
  | 14 => ⟨S16x4096x4096, .f32⟩
  | 15 => ⟨S16x4096x4096, .f32⟩
  | 16 => ⟨S16x4096x4096, .f32⟩
  | 17 => ⟨S16x4096x4096, .f32⟩
  | 18 => ⟨S16x4096x4096, .f32⟩
  | 19 => ⟨S16x4096x4096, .f32⟩
  | 20 => ⟨S16x4096x4096, .f32⟩
  | 21 => ⟨S_, .f32⟩
  | 22 => ⟨S_, .f32⟩
  | 23 => ⟨S16x4096x4096, .f32⟩
  | 24 => ⟨S16x4096x4096, .f32⟩
  | 25 => ⟨S_, .f32⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x128, .f32⟩
  | 34 => ⟨S4096x16x128, .f32⟩
  | 35 => ⟨S16x4096x128, .f32⟩
  | 36 => ⟨S4096x16x128, .f32⟩
  | 37 => ⟨S4096x2048, .f32⟩
  | 38 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1_0 : Ref sig .tc := ⟨.hbm, 29, rfl⟩
abbrev main_call0_call0_cst_0 : Ref sig .tc := ⟨.hbm, 30, rfl⟩
abbrev main_call0_call0_v13 : Ref sig .tc := ⟨.hbm, 31, rfl⟩
abbrev main_call0_call0_v14 : Ref sig .tc := ⟨.hbm, 32, rfl⟩
abbrev main_call0_call0_cst_1 : Ref sig .tc := ⟨.hbm, 33, rfl⟩
abbrev main_call0_call0_v15 : Ref sig .tc := ⟨.hbm, 34, rfl⟩
abbrev main_call0_call0_v16 : Ref sig .tc := ⟨.hbm, 35, rfl⟩
abbrev main_call0_call0_cst_2 : Ref sig .tc := ⟨.hbm, 36, rfl⟩
abbrev main_call0_call0_v17 : Ref sig .tc := ⟨.hbm, 37, rfl⟩
abbrev main_call0_call0_v18 : Ref sig .tc := ⟨.hbm, 38, rfl⟩
abbrev main_call0_call0_cst_3 : Ref sig .tc := ⟨.hbm, 39, rfl⟩
abbrev main_call0_call0_v19 : Ref sig .tc := ⟨.hbm, 40, rfl⟩
abbrev main_call0_call0_v20 : Ref sig .tc := ⟨.hbm, 41, rfl⟩
abbrev main_call0_call0_v21 : Ref sig .tc := ⟨.hbm, 42, rfl⟩
abbrev main_v11_1 : Ref sig .tc := ⟨.hbm, 43, rfl⟩
abbrev main_call0_call0_cst_4 : Ref sig .tc := ⟨.hbm, 44, rfl⟩
abbrev main_call0_call0_cst_5 : Ref sig .tc := ⟨.hbm, 45, rfl⟩
abbrev main_call0_call0_v23 : Ref sig .tc := ⟨.hbm, 46, rfl⟩
abbrev main_call0_call0_cst_6 : Ref sig .tc := ⟨.hbm, 47, rfl⟩
abbrev main_call0_call0_cst_7 : Ref sig .tc := ⟨.hbm, 48, rfl⟩
abbrev main_call0_call0_v24 : Ref sig .tc := ⟨.hbm, 49, rfl⟩
abbrev main_call0_call0_cst_8 : Ref sig .tc := ⟨.hbm, 50, rfl⟩
abbrev main_call0_call0_v25 : Ref sig .tc := ⟨.hbm, 51, rfl⟩
abbrev main_call0_call0_v26 : Ref sig .tc := ⟨.hbm, 52, rfl⟩
abbrev main_call0_call0_cst_9 : Ref sig .tc := ⟨.hbm, 53, rfl⟩
abbrev main_call0_call0_v27 : Ref sig .tc := ⟨.hbm, 54, rfl⟩
abbrev main_call0_call0_v28 : Ref sig .tc := ⟨.hbm, 55, rfl⟩
abbrev main_call0_call0_v29 : Ref sig .tc := ⟨.hbm, 56, rfl⟩
abbrev main_call0_call0_v30 : Ref sig .tc := ⟨.hbm, 57, rfl⟩
abbrev main_call0_call0_v31 : Ref sig .tc := ⟨.hbm, 58, rfl⟩
abbrev main_call0_call0_cst_10 : Ref sig .tc := ⟨.hbm, 59, rfl⟩
abbrev main_call0_call0_v32 : Ref sig .tc := ⟨.hbm, 60, rfl⟩
abbrev main_v11_2 : Ref sig .tc := ⟨.hbm, 61, rfl⟩
abbrev main_v11_0 : Ref sig .tc := ⟨.hbm, 62, rfl⟩
abbrev main_cst : Ref sig .tc := ⟨.hbm, 63, rfl⟩
abbrev main_call1_v0 : Ref sig .tc := ⟨.hbm, 64, rfl⟩
abbrev main_v12_1 : Ref sig .tc := ⟨.hbm, 65, rfl⟩
abbrev main_call1_v2 : Ref sig .tc := ⟨.hbm, 66, rfl⟩
abbrev main_v12_0 : Ref sig .tc := ⟨.hbm, 67, rfl⟩
abbrev main_call1_cst : Ref sig .tc := ⟨.hbm, 68, rfl⟩
abbrev main_v12_2 : Ref sig .tc := ⟨.hbm, 69, rfl⟩
abbrev main_call2_cst : Ref sig .tc := ⟨.hbm, 70, rfl⟩
abbrev main_call2_v0 : Ref sig .tc := ⟨.hbm, 71, rfl⟩
abbrev main_v13 : Ref sig .tc := ⟨.hbm, 72, rfl⟩
abbrev main_v14 : Ref sig .tc := ⟨.hbm, 73, rfl⟩
abbrev main_call3_v0 : Ref sig .tc := ⟨.hbm, 74, rfl⟩
abbrev main_call3_call0_cst : Ref sig .tc := ⟨.hbm, 75, rfl⟩
abbrev main_call3_call0_v0 : Ref sig .tc := ⟨.hbm, 76, rfl⟩
abbrev main_call3_call0_v1 : Ref sig .tc := ⟨.hbm, 77, rfl⟩
abbrev main_call3_call0_v2 : Ref sig .tc := ⟨.hbm, 78, rfl⟩
abbrev main_call3_call0_v3 : Ref sig .tc := ⟨.hbm, 79, rfl⟩
abbrev main_call3_call0_v4 : Ref sig .tc := ⟨.hbm, 80, rfl⟩
abbrev main_call3_call0_v5 : Ref sig .tc := ⟨.hbm, 81, rfl⟩
abbrev main_call3_call0_v6 : Ref sig .tc := ⟨.hbm, 82, rfl⟩
abbrev main_call3_call0_v7 : Ref sig .tc := ⟨.hbm, 83, rfl⟩
abbrev main_call3_call0_v8 : Ref sig .tc := ⟨.hbm, 84, rfl⟩
abbrev main_call3_call0_v9 : Ref sig .tc := ⟨.hbm, 85, rfl⟩
abbrev main_call3_call0_v10 : Ref sig .tc := ⟨.hbm, 86, rfl⟩
abbrev main_call3_call0_v11 : Ref sig .tc := ⟨.hbm, 87, rfl⟩
abbrev main_call3_v1_0 : Ref sig .tc := ⟨.hbm, 88, rfl⟩
abbrev main_call3_call0_cst_0 : Ref sig .tc := ⟨.hbm, 89, rfl⟩
abbrev main_call3_call0_v13 : Ref sig .tc := ⟨.hbm, 90, rfl⟩
abbrev main_call3_call0_v14 : Ref sig .tc := ⟨.hbm, 91, rfl⟩
abbrev main_call3_call0_cst_1 : Ref sig .tc := ⟨.hbm, 92, rfl⟩
abbrev main_call3_call0_v15 : Ref sig .tc := ⟨.hbm, 93, rfl⟩
abbrev main_call3_call0_v16 : Ref sig .tc := ⟨.hbm, 94, rfl⟩
abbrev main_call3_call0_cst_2 : Ref sig .tc := ⟨.hbm, 95, rfl⟩
abbrev main_call3_call0_v17 : Ref sig .tc := ⟨.hbm, 96, rfl⟩
abbrev main_call3_call0_v18 : Ref sig .tc := ⟨.hbm, 97, rfl⟩
abbrev main_call3_call0_cst_3 : Ref sig .tc := ⟨.hbm, 98, rfl⟩
abbrev main_call3_call0_v19 : Ref sig .tc := ⟨.hbm, 99, rfl⟩
abbrev main_call3_call0_v20 : Ref sig .tc := ⟨.hbm, 100, rfl⟩
abbrev main_call3_call0_v21 : Ref sig .tc := ⟨.hbm, 101, rfl⟩
abbrev main_v15_1 : Ref sig .tc := ⟨.hbm, 102, rfl⟩
abbrev main_call3_call0_cst_4 : Ref sig .tc := ⟨.hbm, 103, rfl⟩
abbrev main_call3_call0_cst_5 : Ref sig .tc := ⟨.hbm, 104, rfl⟩
abbrev main_call3_call0_v23 : Ref sig .tc := ⟨.hbm, 105, rfl⟩
abbrev main_call3_call0_cst_6 : Ref sig .tc := ⟨.hbm, 106, rfl⟩
abbrev main_call3_call0_cst_7 : Ref sig .tc := ⟨.hbm, 107, rfl⟩
abbrev main_call3_call0_v24 : Ref sig .tc := ⟨.hbm, 108, rfl⟩
abbrev main_call3_call0_cst_8 : Ref sig .tc := ⟨.hbm, 109, rfl⟩
abbrev main_call3_call0_v25 : Ref sig .tc := ⟨.hbm, 110, rfl⟩
abbrev main_call3_call0_v26 : Ref sig .tc := ⟨.hbm, 111, rfl⟩
abbrev main_call3_call0_cst_9 : Ref sig .tc := ⟨.hbm, 112, rfl⟩
abbrev main_call3_call0_v27 : Ref sig .tc := ⟨.hbm, 113, rfl⟩
abbrev main_call3_call0_v28 : Ref sig .tc := ⟨.hbm, 114, rfl⟩
abbrev main_call3_call0_v29 : Ref sig .tc := ⟨.hbm, 115, rfl⟩
abbrev main_call3_call0_v30 : Ref sig .tc := ⟨.hbm, 116, rfl⟩
abbrev main_call3_call0_v31 : Ref sig .tc := ⟨.hbm, 117, rfl⟩
abbrev main_call3_call0_cst_10 : Ref sig .tc := ⟨.hbm, 118, rfl⟩
abbrev main_call3_call0_v32 : Ref sig .tc := ⟨.hbm, 119, rfl⟩
abbrev main_v15_2 : Ref sig .tc := ⟨.hbm, 120, rfl⟩
abbrev main_v15_0 : Ref sig .tc := ⟨.hbm, 121, rfl⟩
abbrev main_v16 : Ref sig .tc := ⟨.hbm, 122, rfl⟩
abbrev main_v17 : Ref sig .tc := ⟨.hbm, 123, rfl⟩
abbrev main_cst_0 : Ref sig .tc := ⟨.hbm, 124, rfl⟩
abbrev main_call4_v0 : Ref sig .tc := ⟨.hbm, 125, rfl⟩
abbrev main_v18_1 : Ref sig .tc := ⟨.hbm, 126, rfl⟩
abbrev main_call4_v2 : Ref sig .tc := ⟨.hbm, 127, rfl⟩
abbrev main_v18_0 : Ref sig .tc := ⟨.hbm, 128, rfl⟩
abbrev main_call4_cst : Ref sig .tc := ⟨.hbm, 129, rfl⟩
abbrev main_v18_2 : Ref sig .tc := ⟨.hbm, 130, rfl⟩
abbrev main_v19 : Ref sig .tc := ⟨.hbm, 131, rfl⟩
abbrev main_v20 : Ref sig .tc := ⟨.hbm, 132, rfl⟩
abbrev main_v21 : Ref sig .tc := ⟨.hbm, 133, rfl⟩
abbrev main_v22 : Ref sig .tc := ⟨.hbm, 134, rfl⟩
abbrev main_v23 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_call5_cst : Ref sig .tc := ⟨.hbm, 141, rfl⟩
abbrev main_call5_v0 : Ref sig .tc := ⟨.hbm, 142, rfl⟩
abbrev main_v29 : Ref sig .tc := ⟨.hbm, 143, rfl⟩
abbrev main_v30 : Ref sig .tc := ⟨.hbm, 144, rfl⟩
abbrev main_call6_v0 : Ref sig .tc := ⟨.hbm, 145, rfl⟩
abbrev main_call6_v1 : Ref sig .tc := ⟨.hbm, 146, rfl⟩
abbrev main_v31 : Ref sig .tc := ⟨.hbm, 147, rfl⟩
abbrev main_v32 : Ref sig .tc := ⟨.hbm, 148, rfl⟩
abbrev main_call7_cst : Ref sig .tc := ⟨.hbm, 149, rfl⟩
abbrev main_call7_v0 : Ref sig .tc := ⟨.hbm, 150, rfl⟩
abbrev main_v33 : Ref sig .tc := ⟨.hbm, 151, rfl⟩
abbrev main_v34 : Ref sig .tc := ⟨.hbm, 152, rfl⟩
abbrev main_call8_cst : Ref sig .tc := ⟨.hbm, 153, rfl⟩
abbrev main_call8_v0 : Ref sig .tc := ⟨.hbm, 154, rfl⟩
abbrev main_v35 : Ref sig .tc := ⟨.hbm, 155, rfl⟩
abbrev main_call9_v0 : Ref sig .tc := ⟨.hbm, 156, rfl⟩
abbrev main_call9_v1 : Ref sig .tc := ⟨.hbm, 157, rfl⟩
abbrev main_v36 : Ref sig .tc := ⟨.hbm, 158, rfl⟩
abbrev main_v37 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩

abbrev nD : Nat := 1
abbrev τ : Topo := Topo.v7x

variable {F : FTy → Type} [FloatOps F]
-- ==== DownData.lean ====
abbrev S4096x2048 : Shape := ⟨2, ![4096, 2048]⟩
abbrev S5632x2048 : Shape := ⟨2, ![5632, 2048]⟩
abbrev S4096x5632 : Shape := ⟨2, ![4096, 5632]⟩
abbrev S4x1x1408x2048 : Shape := ⟨4, ![4, 1, 1408, 2048]⟩
abbrev S256x2048 : Shape := ⟨2, ![256, 2048]⟩
abbrev S1x1x1408x2048 : Shape := ⟨4, ![1, 1, 1408, 2048]⟩
abbrev S256x1408 : Shape := ⟨2, ![256, 1408]⟩
abbrev S1408x2048 : Shape := ⟨2, ![1408, 2048]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S4096x5632, .f32⟩
  | .hbm, ⟨3, _⟩ => ⟨S4096x5632, .f32⟩
  | .hbm, ⟨4, _⟩ => ⟨S4096x2048, .bf16⟩
  | .hbm, ⟨5, _⟩ => ⟨S5632x2048, .bf16⟩
  | .hbm, ⟨6, _⟩ => ⟨S4x1x1408x2048, .bf16⟩
  | .hbm, ⟨7, _⟩ => ⟨S4096x5632, .bf16⟩
  | .hbm, ⟨8, _⟩ => ⟨S4096x5632, .bf16⟩
  | .local _ .vmem, ⟨0, _⟩ => ⟨S256x2048, .bf16⟩
  | .local _ .vmem, ⟨1, _⟩ => ⟨S256x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownDataRefIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x2048, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .bf16⟩
  | .hbm, ⟨27, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== DownWeight.lean ====
abbrev S4096x5632 : Shape := ⟨2, ![4096, 5632]⟩
abbrev S4096x2048 : Shape := ⟨2, ![4096, 2048]⟩
abbrev S4x1408x2048 : Shape := ⟨3, ![4, 1408, 2048]⟩
abbrev S512x1408 : Shape := ⟨2, ![512, 1408]⟩
abbrev S512x1024 : Shape := ⟨2, ![512, 1024]⟩
abbrev S1x1408x1024 : Shape := ⟨3, ![1, 1408, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S4x1408x2048, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S4x1408x2048, .f32⟩
  | .hbm, ⟨8, _⟩ => ⟨S4x1408x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpData.lean ====
abbrev S4096x5632 : Shape := ⟨2, ![4096, 5632]⟩
abbrev S2048x5632 : Shape := ⟨2, ![2048, 5632]⟩
abbrev S2048x4x1x1408 : Shape := ⟨4, ![2048, 4, 1, 1408]⟩
abbrev S4x1x2048x1408 : Shape := ⟨4, ![4, 1, 2048, 1408]⟩
abbrev S4096x2048 : Shape := ⟨2, ![4096, 2048]⟩
abbrev S256x1408 : Shape := ⟨2, ![256, 1408]⟩
abbrev S1x1x512x1408 : Shape := ⟨4, ![1, 1, 512, 1408]⟩
abbrev S256x512 : Shape := ⟨2, ![256, 512]⟩
abbrev S512x1408 : Shape := ⟨2, ![512, 1408]⟩

abbrev nBuf : Space → Nat
  | .hbm => 13
  | .vmem => 34
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x5632, .f32⟩
  | .hbm, ⟨3, _⟩ => ⟨S2048x5632, .f32⟩
  | .hbm, ⟨4, _⟩ => ⟨S4096x5632, .bf16⟩
  | .hbm, ⟨5, _⟩ => ⟨S4096x5632, .bf16⟩
  | .hbm, ⟨6, _⟩ => ⟨S2048x5632, .bf16⟩
  | .hbm, ⟨7, _⟩ => ⟨S2048x4x1x1408, .bf16⟩
  | .hbm, ⟨8, _⟩ => ⟨S4x1x2048x1408, .bf16⟩
  | .hbm, ⟨9, _⟩ => ⟨S2048x5632, .bf16⟩
  | .hbm, ⟨10, _⟩ => ⟨S2048x4x1x1408, .bf16⟩
  | .hbm, ⟨11, _⟩ => ⟨S4x1x2048x1408, .bf16⟩
  | .hbm, ⟨12, _⟩ => ⟨S4096x2048, .f32⟩
  | .local _ .vmem, ⟨0, _⟩ => ⟨S256x1408, .bf16⟩
  | .local _ .vmem, ⟨1, _⟩ => ⟨S256x1408, .bf16⟩
  | .local _ .vmem, ⟨2, _⟩ => ⟨S256x1408, .bf16⟩
  | .local _ .vmem, ⟨3, _⟩ => ⟨S256x1408, .bf16⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S256x1408, .bf16⟩
  | .local _ .vmem, ⟨9, _⟩ => ⟨S256x1408, .bf16⟩
  | .local _ .vmem, ⟨10, _⟩ => ⟨S256x1408, .bf16⟩
  | .local _ .vmem, ⟨11, _⟩ => ⟨S256x1408, .bf16⟩
  | .local _ .vmem, ⟨12, _⟩ => ⟨S256x1408, .bf16⟩
  | .local _ .vmem, ⟨13, _⟩ => ⟨S256x1408, .bf16⟩
  | .local _ .vmem, ⟨14, _⟩ => ⟨S256x1408, .bf16⟩
  | .local _ .vmem, ⟨15, _⟩ => ⟨S256x1408, .bf16⟩
  | .local _ .vmem, ⟨16, _⟩ => ⟨S1x1x512x1408, .bf16⟩
  | .local _ .vmem, ⟨17, _⟩ => ⟨S1x1x512x1408, .bf16⟩
  | .local _ .vmem, ⟨18, _⟩ => ⟨S1x1x512x1408, .bf16⟩
  | .local _ .vmem, ⟨19, _⟩ => ⟨S1x1x512x1408, .bf16⟩
  | .local _ .vmem, ⟨20, _⟩ => ⟨S1x1x512x1408, .bf16⟩
  | .local _ .vmem, ⟨21, _⟩ => ⟨S1x1x512x1408, .bf16⟩
  | .local _ .vmem, ⟨22, _⟩ => ⟨S1x1x512x1408, .bf16⟩
  | .local _ .vmem, ⟨23, _⟩ => ⟨S1x1x512x1408, .bf16⟩
  | .local _ .vmem, ⟨24, _⟩ => ⟨S1x1x512x1408, .bf16⟩
  | .local _ .vmem, ⟨25, _⟩ => ⟨S1x1x512x1408, .bf16⟩
  | .local _ .vmem, ⟨26, _⟩ => ⟨S1x1x512x1408, .bf16⟩
  | .local _ .vmem, ⟨27, _⟩ => ⟨S1x1x512x1408, .bf16⟩
  | .local _ .vmem, ⟨28, _⟩ => ⟨S1x1x512x1408, .bf16⟩
  | .local _ .vmem, ⟨29, _⟩ => ⟨S1x1x512x1408, .bf16⟩
  | .local _ .vmem, ⟨30, _⟩ => ⟨S1x1x512x1408, .bf16⟩
  | .local _ .vmem, ⟨31, _⟩ => ⟨S1x1x512x1408, .bf16⟩
  | .local _ .vmem, ⟨32, _⟩ => ⟨S256x512, .f32⟩
  | .local _ .vmem, ⟨33, _⟩ => ⟨S256x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg1.toNat, c3_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg1.toNat, c2_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg1.toNat, c3_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, arg0.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, arg0.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x1x512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x1x512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x1x512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x1x512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S1x1x512x1408 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, false]

abbrev stage0_15 : Fin 2 → Memref sig .tc .vmem S1x1x512x1408 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, false]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]
-- ==== UpDataRefIdeal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x5632, .f32⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== UpWeight.lean ====
abbrev S4096x2048 : Shape := ⟨2, ![4096, 2048]⟩
abbrev S4096x5632 : Shape := ⟨2, ![4096, 5632]⟩
abbrev S4x2048x1408 : Shape := ⟨3, ![4, 2048, 1408]⟩
abbrev S512x512 : Shape := ⟨2, ![512, 512]⟩
abbrev S512x1408 : Shape := ⟨2, ![512, 1408]⟩
abbrev S1x512x1408 : Shape := ⟨3, ![1, 512, 1408]⟩

abbrev nBuf : Space → Nat
  | .hbm => 8
  | .vmem => 30
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .f32⟩
  | .hbm, ⟨3, _⟩ => ⟨S4096x2048, .bf16⟩
  | .hbm, ⟨4, _⟩ => ⟨S4096x5632, .bf16⟩
  | .hbm, ⟨5, _⟩ => ⟨S4096x5632, .bf16⟩
  | .hbm, ⟨6, _⟩ => ⟨S4x2048x1408, .bf16⟩
  | .hbm, ⟨7, _⟩ => ⟨S4x2048x1408, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S1x512x1408, .bf16⟩
  | .local _ .vmem, ⟨25, _⟩ => ⟨S1x512x1408, .bf16⟩
  | .local _ .vmem, ⟨26, _⟩ => ⟨S1x512x1408, .bf16⟩
  | .local _ .vmem, ⟨27, _⟩ => ⟨S1x512x1408, .bf16⟩
  | .local _ .vmem, ⟨28, _⟩ => ⟨S512x1408, .f32⟩
  | .local _ .vmem, ⟨29, _⟩ => ⟨S512x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c0_i32_0 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c0_i32 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c0_i32_0 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c0_i32_0 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.addi v0 c1_i32
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c2_i32 : BitVec 32 := 2#32
  let v1 : BitVec 32 := Scalar.addi v0 c2_i32
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c3_i32 : BitVec 32 := 3#32
  let v1 : BitVec 32 := Scalar.addi v0 c3_i32
  let c0_i32 : BitVec 32 := 0#32
  ![v1.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S1x512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== UpWeightRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x5632, .f32⟩
  | .hbm, ⟨2, _⟩ => ⟨S4096x5632, .f32⟩
  | .hbm, ⟨3, _⟩ => ⟨S_, .f32⟩
  | .hbm, ⟨4, _⟩ => ⟨S2048x5632, .f32⟩
  | .hbm, ⟨5, _⟩ => ⟨S_, .f32⟩
  | .hbm, ⟨6, _⟩ => ⟨S2048x5632, .f32⟩
  | .hbm, ⟨7, _⟩ => ⟨S4096x5632, .f32⟩
  | .hbm, ⟨8, _⟩ => ⟨S4096x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S2048x5632, .f32⟩
  | .hbm, ⟨13, _⟩ => ⟨S2048x4x1408, .f32⟩
  | .hbm, ⟨14, _⟩ => ⟨S4x2048x1408, .f32⟩
  | .hbm, ⟨15, _⟩ => ⟨S4x2048x1408, .bf16⟩
  | .hbm, ⟨16, _⟩ => ⟨S2048x4x1408, .f32⟩
  | .hbm, ⟨17, _⟩ => ⟨S4x2048x1408, .f32⟩
  | .hbm, ⟨18, _⟩ => ⟨S4x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OutData.lean ====
abbrev S4096x2048 : Shape := ⟨2, ![4096, 2048]⟩
abbrev S2048x2048 : Shape := ⟨2, ![2048, 2048]⟩
abbrev S4x1x512x2048 : Shape := ⟨4, ![4, 1, 512, 2048]⟩
abbrev S512x2048 : Shape := ⟨2, ![512, 2048]⟩
abbrev S1x1x512x2048 : Shape := ⟨4, ![1, 1, 512, 2048]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4x1x512x2048, .bf16⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S512x512, .bf16⟩
  | .local _ .vmem, ⟨5, _⟩ => ⟨S512x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDataRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ConvOutData.lean ====
abbrev S4096x2048 : Shape := ⟨2, ![4096, 2048]⟩
abbrev S2048x2048 : Shape := ⟨2, ![2048, 2048]⟩
abbrev S4x1x512x2048 : Shape := ⟨4, ![4, 1, 512, 2048]⟩
abbrev S512x2048 : Shape := ⟨2, ![512, 2048]⟩
abbrev S1x1x512x2048 : Shape := ⟨4, ![1, 1, 512, 2048]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4x1x512x2048, .bf16⟩
  | .hbm, ⟨5, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S512x512, .f32⟩
  | .local _ .vmem, ⟨5, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvOutDataRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutWeight.lean ====
abbrev S4096x2048 : Shape := ⟨2, ![4096, 2048]⟩
abbrev S4x512x2048 : Shape := ⟨3, ![4, 512, 2048]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S4x512x2048, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightRefIdeal.lean ====
abbrev S4096x2048 : Shape := ⟨2, ![4096, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S4x512x2048, .f32⟩
  | .hbm, ⟨8, _⟩ => ⟨S4x512x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvData.lean ====
abbrev S3x4096x2048 : Shape := ⟨3, ![3, 4096, 2048]⟩
abbrev S2048x6144 : Shape := ⟨2, ![2048, 6144]⟩
abbrev S2048x4x1x1536 : Shape := ⟨4, ![2048, 4, 1, 1536]⟩
abbrev S4x1x2048x1536 : Shape := ⟨4, ![4, 1, 2048, 1536]⟩
abbrev S4096x2048 : Shape := ⟨2, ![4096, 2048]⟩
abbrev S1x512x512 : Shape := ⟨3, ![1, 512, 512]⟩
abbrev S1x1x2048x512 : Shape := ⟨4, ![1, 1, 2048, 512]⟩
abbrev S512x2048 : Shape := ⟨2, ![512, 2048]⟩
abbrev S512x512 : Shape := ⟨2, ![512, 512]⟩
abbrev S2048x512 : Shape := ⟨2, ![2048, 512]⟩

abbrev nBuf : Space → Nat
  | .hbm => 7
  | .vmem => 7
  | .smem => 0
  | _ => 0

abbrev bufTy : (tb : Table) → Fin (tcTables nBuf tb) → BufTy
  | .hbm, ⟨0, _⟩ => ⟨S3x4096x2048, .f32⟩
  | .hbm, ⟨1, _⟩ => ⟨S2048x6144, .f32⟩
  | .hbm, ⟨2, _⟩ => ⟨S3x4096x2048, .bf16⟩
  | .hbm, ⟨3, _⟩ => ⟨S2048x6144, .bf16⟩
  | .hbm, ⟨4, _⟩ => ⟨S2048x4x1x1536, .bf16⟩
  | .hbm, ⟨5, _⟩ => ⟨S4x1x2048x1536, .bf16⟩
  | .hbm, ⟨6, _⟩ => ⟨S4096x2048, .f32⟩
  | .local _ .vmem, ⟨0, _⟩ => ⟨S1x512x512, .bf16⟩
  | .local _ .vmem, ⟨1, _⟩ => ⟨S1x512x512, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S3x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 12], ![false, false, false]⟩

def k0_cond3 (i : grid0.Coords) : BitVec 1 :=
  let arg2 : BitVec 32 := BitVec.ofNat 32 (i 2).val
  let c11_i32 : BitVec 32 := 11#32
  let v6 : BitVec 1 := Scalar.cmpi .eq arg2 c11_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== QkvDataRefIdeal.lean ====
abbrev S3x4096x2048 : Shape := ⟨3, ![3, 4096, 2048]⟩
abbrev S2048x6144 : Shape := ⟨2, ![2048, 6144]⟩
abbrev S_ : Shape := ⟨0, ![]⟩
abbrev S4096x2048 : Shape := ⟨2, ![4096, 2048]⟩
abbrev S4096x6144 : Shape := ⟨2, ![4096, 6144]⟩
abbrev S1x4096x2048 : Shape := ⟨3, ![1, 4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S3x4096x2048, .f32⟩
  | .hbm, ⟨1, _⟩ => ⟨S2048x6144, .f32⟩
  | .hbm, ⟨2, _⟩ => ⟨S_, .f32⟩
  | .hbm, ⟨3, _⟩ => ⟨S4096x2048, .f32⟩
  | .hbm, ⟨4, _⟩ => ⟨S4096x6144, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S1x4096x2048, .f32⟩
  | .hbm, ⟨9, _⟩ => ⟨S1x4096x2048, .f32⟩
  | .hbm, ⟨10, _⟩ => ⟨S1x4096x2048, .f32⟩
  | .hbm, ⟨11, _⟩ => ⟨S3x4096x2048, .f32⟩
  | .hbm, ⟨12, _⟩ => ⟨S1x4096x2048, .f32⟩
  | .hbm, ⟨13, _⟩ => ⟨S4096x2048, .f32⟩
  | .hbm, ⟨14, _⟩ => ⟨S1x4096x2048, .f32⟩
  | .hbm, ⟨15, _⟩ => ⟨S4096x2048, .f32⟩
  | .hbm, ⟨16, _⟩ => ⟨S1x4096x2048, .f32⟩
  | .hbm, ⟨17, _⟩ => ⟨S4096x2048, .f32⟩
  | .hbm, ⟨18, _⟩ => ⟨S4096x6144, .f32⟩
  | .hbm, ⟨19, _⟩ => ⟨S4096x2048, .f32⟩
  | _, _ => ⟨S3x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== QkvWeight.lean ====
abbrev S4096x2048 : Shape := ⟨2, ![4096, 2048]⟩
abbrev S3x4096x2048 : Shape := ⟨3, ![3, 4096, 2048]⟩
abbrev S4x2048x1536 : Shape := ⟨3, ![4, 2048, 1536]⟩
abbrev S512x2048 : Shape := ⟨2, ![512, 2048]⟩
abbrev S1x512x512 : Shape := ⟨3, ![1, 512, 512]⟩
abbrev S1x2048x512 : Shape := ⟨3, ![1, 2048, 512]⟩
abbrev S2048x512 : Shape := ⟨2, ![2048, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S3x4096x2048, .f32⟩
  | .hbm, ⟨2, _⟩ => ⟨S4096x2048, .bf16⟩
  | .hbm, ⟨3, _⟩ => ⟨S3x4096x2048, .bf16⟩
  | .hbm, ⟨4, _⟩ => ⟨S4x2048x1536, .bf16⟩
  | .local _ .vmem, ⟨0, _⟩ => ⟨S512x2048, .bf16⟩
  | .local _ .vmem, ⟨1, _⟩ => ⟨S512x2048, .bf16⟩
  | .local _ .vmem, ⟨2, _⟩ => ⟨S1x512x512, .bf16⟩
  | .local _ .vmem, ⟨3, _⟩ => ⟨S1x512x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg2 c1_i32
  let c0_i32 : BitVec 32 := 0#32
  let v1 : BitVec 32 := Scalar.addi v0 c0_i32
  let c0_i32_0 : BitVec 32 := 0#32
  ![v1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.muli arg2 c1_i32_4
  let c0_i32_5 : BitVec 32 := 0#32
  let v18 : BitVec 32 := Scalar.addi v17 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v16.toNat, v18.toNat, v28.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvWeightRefIdeal.lean ====
abbrev S4096x2048 : Shape := ⟨2, ![4096, 2048]⟩
abbrev S3x4096x2048 : Shape := ⟨3, ![3, 4096, 2048]⟩
abbrev S_ : Shape := ⟨0, ![]⟩
abbrev S2048x6144 : Shape := ⟨2, ![2048, 6144]⟩
abbrev S4096x6144 : Shape := ⟨2, ![4096, 6144]⟩
abbrev S1x4096x2048 : Shape := ⟨3, ![1, 4096, 2048]⟩
abbrev S6144x2048 : Shape := ⟨2, ![6144, 2048]⟩
abbrev S2048x4x1536 : Shape := ⟨3, ![2048, 4, 1536]⟩
abbrev S4x2048x1536 : Shape := ⟨3, ![4, 2048, 1536]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S3x4096x2048, .f32⟩
  | .hbm, ⟨2, _⟩ => ⟨S_, .f32⟩
  | .hbm, ⟨3, _⟩ => ⟨S2048x6144, .f32⟩
  | .hbm, ⟨4, _⟩ => ⟨S4096x6144, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S1x4096x2048, .f32⟩
  | .hbm, ⟨9, _⟩ => ⟨S1x4096x2048, .f32⟩
  | .hbm, ⟨10, _⟩ => ⟨S1x4096x2048, .f32⟩
  | .hbm, ⟨11, _⟩ => ⟨S3x4096x2048, .f32⟩
  | .hbm, ⟨12, _⟩ => ⟨S1x4096x2048, .f32⟩
  | .hbm, ⟨13, _⟩ => ⟨S4096x2048, .f32⟩
  | .hbm, ⟨14, _⟩ => ⟨S1x4096x2048, .f32⟩
  | .hbm, ⟨15, _⟩ => ⟨S4096x2048, .f32⟩
  | .hbm, ⟨16, _⟩ => ⟨S1x4096x2048, .f32⟩
  | .hbm, ⟨17, _⟩ => ⟨S4096x2048, .f32⟩
  | .hbm, ⟨18, _⟩ => ⟨S4096x6144, .f32⟩
  | .hbm, ⟨19, _⟩ => ⟨S6144x2048, .f32⟩
  | .hbm, ⟨20, _⟩ => ⟨S2048x6144, .f32⟩
  | .hbm, ⟨21, _⟩ => ⟨S2048x4x1536, .f32⟩
  | .hbm, ⟨22, _⟩ => ⟨S4x2048x1536, .f32⟩
  | .hbm, ⟨23, _⟩ => ⟨S4x2048x1536, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== FfnUp.lean ====
abbrev S4096x2048 : Shape := ⟨2, ![4096, 2048]⟩
abbrev S2048x5632 : Shape := ⟨2, ![2048, 5632]⟩
abbrev S2048x4x1x1408 : Shape := ⟨4, ![2048, 4, 1, 1408]⟩
abbrev S4x1x2048x1408 : Shape := ⟨4, ![4, 1, 2048, 1408]⟩
abbrev S4096x5632 : Shape := ⟨2, ![4096, 5632]⟩
abbrev S256x2048 : Shape := ⟨2, ![256, 2048]⟩
abbrev S1x1x2048x1408 : Shape := ⟨4, ![1, 1, 2048, 1408]⟩
abbrev S256x1408 : Shape := ⟨2, ![256, 1408]⟩
abbrev S2048x1408 : Shape := ⟨2, ![2048, 1408]⟩

abbrev nBuf : Space → Nat
  | .hbm => 13
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x2048, .bf16⟩
  | .hbm, ⟨4, _⟩ => ⟨S2048x5632, .bf16⟩
  | .hbm, ⟨5, _⟩ => ⟨S2048x4x1x1408, .bf16⟩
  | .hbm, ⟨6, _⟩ => ⟨S4x1x2048x1408, .bf16⟩
  | .hbm, ⟨7, _⟩ => ⟨S2048x5632, .bf16⟩
  | .hbm, ⟨8, _⟩ => ⟨S2048x4x1x1408, .bf16⟩
  | .hbm, ⟨9, _⟩ => ⟨S4x1x2048x1408, .bf16⟩
  | .hbm, ⟨10, _⟩ => ⟨S4096x5632, .f32⟩
  | .hbm, ⟨11, _⟩ => ⟨S4096x5632, .f32⟩
  | .hbm, ⟨12, _⟩ => ⟨S4096x5632, .bf16⟩
  | .local _ .vmem, ⟨0, _⟩ => ⟨S256x2048, .bf16⟩
  | .local _ .vmem, ⟨1, _⟩ => ⟨S256x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1x2048x1408, .bf16⟩
  | .local _ .vmem, ⟨5, _⟩ => ⟨S1x1x2048x1408, .bf16⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .bf16⟩
  | .local _ .vmem, ⟨11, _⟩ => ⟨S256x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnUpRefIdeal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5632, .f32⟩
  | .hbm, ⟨2, _⟩ => ⟨S2048x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .f32⟩
  | .hbm, ⟨15, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== FfnDown.lean ====
abbrev S4096x5632 : Shape := ⟨2, ![4096, 5632]⟩
abbrev S5632x2048 : Shape := ⟨2, ![5632, 2048]⟩
abbrev S4096x2048 : Shape := ⟨2, ![4096, 2048]⟩
abbrev S4x1x1408x2048 : Shape := ⟨4, ![4, 1, 1408, 2048]⟩
abbrev S256x1408 : Shape := ⟨2, ![256, 1408]⟩
abbrev S1x1x1408x1024 : Shape := ⟨4, ![1, 1, 1408, 1024]⟩
abbrev S256x1024 : Shape := ⟨2, ![256, 1024]⟩
abbrev S1408x1024 : Shape := ⟨2, ![1408, 1024]⟩

abbrev nBuf : Space → Nat
  | .hbm => 7
  | .vmem => 20
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S5632x2048, .bf16⟩
  | .hbm, ⟨5, _⟩ => ⟨S4x1x1408x2048, .bf16⟩
  | .hbm, ⟨6, _⟩ => ⟨S4096x2048, .f32⟩
  | .local _ .vmem, ⟨0, _⟩ => ⟨S256x1408, .bf16⟩
  | .local _ .vmem, ⟨1, _⟩ => ⟨S256x1408, .bf16⟩
  | .local _ .vmem, ⟨2, _⟩ => ⟨S256x1408, .bf16⟩
  | .local _ .vmem, ⟨3, _⟩ => ⟨S256x1408, .bf16⟩
  | .local _ .vmem, ⟨4, _⟩ => ⟨S256x1408, .bf16⟩
  | .local _ .vmem, ⟨5, _⟩ => ⟨S256x1408, .bf16⟩
  | .local _ .vmem, ⟨6, _⟩ => ⟨S256x1408, .bf16⟩
  | .local _ .vmem, ⟨7, _⟩ => ⟨S256x1408, .bf16⟩
  | .local _ .vmem, ⟨8, _⟩ => ⟨S1x1x1408x1024, .bf16⟩
  | .local _ .vmem, ⟨9, _⟩ => ⟨S1x1x1408x1024, .bf16⟩
  | .local _ .vmem, ⟨10, _⟩ => ⟨S1x1x1408x1024, .bf16⟩
  | .local _ .vmem, ⟨11, _⟩ => ⟨S1x1x1408x1024, .bf16⟩
  | .local _ .vmem, ⟨12, _⟩ => ⟨S1x1x1408x1024, .bf16⟩
  | .local _ .vmem, ⟨13, _⟩ => ⟨S1x1x1408x1024, .bf16⟩
  | .local _ .vmem, ⟨14, _⟩ => ⟨S1x1x1408x1024, .bf16⟩
  | .local _ .vmem, ⟨15, _⟩ => ⟨S1x1x1408x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg1.toNat, c3_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat, arg0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== FfnDownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Qkv.lean ====
abbrev S4096x2048 : Shape := ⟨2, ![4096, 2048]⟩
abbrev S2048x6144 : Shape := ⟨2, ![2048, 6144]⟩
abbrev S2048x4x1x1536 : Shape := ⟨4, ![2048, 4, 1, 1536]⟩
abbrev S4x1x2048x1536 : Shape := ⟨4, ![4, 1, 2048, 1536]⟩
abbrev S3x4096x2048 : Shape := ⟨3, ![3, 4096, 2048]⟩
abbrev S512x2048 : Shape := ⟨2, ![512, 2048]⟩
abbrev S1x1x2048x512 : Shape := ⟨4, ![1, 1, 2048, 512]⟩
abbrev S1x512x512 : Shape := ⟨3, ![1, 512, 512]⟩
abbrev S2048x512 : Shape := ⟨2, ![2048, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x2048, .bf16⟩
  | .hbm, ⟨3, _⟩ => ⟨S2048x6144, .bf16⟩
  | .hbm, ⟨4, _⟩ => ⟨S2048x4x1x1536, .bf16⟩
  | .hbm, ⟨5, _⟩ => ⟨S4x1x2048x1536, .bf16⟩
  | .hbm, ⟨6, _⟩ => ⟨S3x4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x512, .bf16⟩
  | .local _ .vmem, ⟨3, _⟩ => ⟨S1x1x2048x512, .bf16⟩
  | .local _ .vmem, ⟨4, _⟩ => ⟨S1x512x512, .f32⟩
  | .local _ .vmem, ⟨5, _⟩ => ⟨S1x512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S4096x2048 : Shape := ⟨2, ![4096, 2048]⟩
abbrev S2048x6144 : Shape := ⟨2, ![2048, 6144]⟩
abbrev S4096x6144 : Shape := ⟨2, ![4096, 6144]⟩
abbrev S1x4096x2048 : Shape := ⟨3, ![1, 4096, 2048]⟩
abbrev S3x4096x2048 : Shape := ⟨3, ![3, 4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x6144, .f32⟩
  | .hbm, ⟨2, _⟩ => ⟨S4096x6144, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S1x4096x2048, .f32⟩
  | .hbm, ⟨7, _⟩ => ⟨S1x4096x2048, .f32⟩
  | .hbm, ⟨8, _⟩ => ⟨S1x4096x2048, .f32⟩
  | .hbm, ⟨9, _⟩ => ⟨S3x4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S4x1x512x2048 : Shape := ⟨4, ![4, 1, 512, 2048]⟩
abbrev S256x512 : Shape := ⟨2, ![256, 512]⟩
abbrev S1x1x512x1024 : Shape := ⟨4, ![1, 1, 512, 1024]⟩
abbrev S256x1024 : Shape := ⟨2, ![256, 1024]⟩
abbrev S512x1024 : Shape := ⟨2, ![512, 1024]⟩

abbrev nBuf : Space → Nat
  | .hbm => 7
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4x1x512x2048, .bf16⟩
  | .hbm, ⟨6, _⟩ => ⟨S4096x2048, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S1x1x512x1024, .bf16⟩
  | .local _ .vmem, ⟨11, _⟩ => ⟨S1x1x512x1024, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S1x1x512x1024, .bf16⟩
  | .local _ .vmem, ⟨15, _⟩ => ⟨S1x1x512x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg1.toNat, c2_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg1.toNat, c3_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat, arg0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== OutRefIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== PoolMix.lean ====
abbrev S4096x2048 : Shape := ⟨2, ![4096, 2048]⟩
abbrev S4x512x512 : Shape := ⟨3, ![4, 512, 512]⟩
abbrev S1x2048 : Shape := ⟨2, ![1, 2048]⟩
abbrev S4x4x128x512 : Shape := ⟨4, ![4, 4, 128, 512]⟩
abbrev S4x1x512x512 : Shape := ⟨4, ![4, 1, 512, 512]⟩
abbrev S512x128 : Shape := ⟨2, ![512, 128]⟩
abbrev S1x1x128x512 : Shape := ⟨4, ![1, 1, 128, 512]⟩
abbrev S512x512 : Shape := ⟨2, ![512, 512]⟩
abbrev S1x512 : Shape := ⟨2, ![1, 512]⟩
abbrev S128x512 : Shape := ⟨2, ![128, 512]⟩

abbrev nBuf : Space → Nat
  | .hbm => 11
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4x512x512, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4x512x512, .bf16⟩
  | .hbm, ⟨6, _⟩ => ⟨S4x4x128x512, .bf16⟩
  | .hbm, ⟨7, _⟩ => ⟨S4x4x128x512, .bf16⟩
  | .hbm, ⟨8, _⟩ => ⟨S4x1x512x512, .bf16⟩
  | .hbm, ⟨9, _⟩ => ⟨S4096x2048, .f32⟩
  | .hbm, ⟨10, _⟩ => ⟨S4096x2048, .bf16⟩
  | .local _ .vmem, ⟨0, _⟩ => ⟨S512x128, .bf16⟩
  | .local _ .vmem, ⟨1, _⟩ => ⟨S512x128, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== PoolMixRefIdeal.lean ====
abbrev S4096x2048 : Shape := ⟨2, ![4096, 2048]⟩
abbrev S4x512x512 : Shape := ⟨3, ![4, 512, 512]⟩
abbrev S1x2048 : Shape := ⟨2, ![1, 2048]⟩
abbrev S4096x4x512 : Shape := ⟨3, ![4096, 4, 512]⟩
abbrev S4x512x4096 : Shape := ⟨3, ![4, 512, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x512x512, .f32⟩
  | .hbm, ⟨2, _⟩ => ⟨S4096x2048, .f32⟩
  | .hbm, ⟨3, _⟩ => ⟨S1x2048, .f32⟩
  | .hbm, ⟨4, _⟩ => ⟨S4096x4x512, .f32⟩
  | .hbm, ⟨5, _⟩ => ⟨S4x512x4096, .f32⟩
  | .hbm, ⟨6, _⟩ => ⟨S4096x4x512, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== PoolData.lean ====
abbrev S4096x2048 : Shape := ⟨2, ![4096, 2048]⟩
abbrev S4x512x512 : Shape := ⟨3, ![4, 512, 512]⟩
abbrev S4x4x128x512 : Shape := ⟨4, ![4, 4, 128, 512]⟩
abbrev S4x1x512x512 : Shape := ⟨4, ![4, 1, 512, 512]⟩
abbrev S512x512 : Shape := ⟨2, ![512, 512]⟩
abbrev S1x1x128x512 : Shape := ⟨4, ![1, 1, 128, 512]⟩
abbrev S512x128 : Shape := ⟨2, ![512, 128]⟩
abbrev S128x512 : Shape := ⟨2, ![128, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4x512x512, .f32⟩
  | .hbm, ⟨2, _⟩ => ⟨S4096x2048, .bf16⟩
  | .hbm, ⟨3, _⟩ => ⟨S4x512x512, .bf16⟩
  | .hbm, ⟨4, _⟩ => ⟨S4x4x128x512, .bf16⟩
  | .hbm, ⟨5, _⟩ => ⟨S4x4x128x512, .bf16⟩
  | .hbm, ⟨6, _⟩ => ⟨S4x1x512x512, .bf16⟩
  | .hbm, ⟨7, _⟩ => ⟨S4096x2048, .f32⟩
  | .local _ .vmem, ⟨0, _⟩ => ⟨S512x512, .bf16⟩
  | .local _ .vmem, ⟨1, _⟩ => ⟨S512x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S512x128, .f32⟩
  | .local _ .vmem, ⟨5, _⟩ => ⟨S512x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, c0_i32_10.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolDataRefIdeal.lean ====
abbrev S4096x2048 : Shape := ⟨2, ![4096, 2048]⟩
abbrev S4x512x512 : Shape := ⟨3, ![4, 512, 512]⟩
abbrev S_ : Shape := ⟨0, ![]⟩
abbrev S4096x4x512 : Shape := ⟨3, ![4096, 4, 512]⟩
abbrev S4x512x4096 : Shape := ⟨3, ![4, 512, 4096]⟩
abbrev S4x4096x512 : Shape := ⟨3, ![4, 4096, 512]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x512x512, .f32⟩
  | .hbm, ⟨2, _⟩ => ⟨S_, .f32⟩
  | .hbm, ⟨3, _⟩ => ⟨S4096x2048, .f32⟩
  | .hbm, ⟨4, _⟩ => ⟨S4096x4x512, .f32⟩
  | .hbm, ⟨5, _⟩ => ⟨S4x512x4096, .f32⟩
  | .hbm, ⟨6, _⟩ => ⟨S4096x4x512, .f32⟩
  | .hbm, ⟨7, _⟩ => ⟨S4096x2048, .f32⟩
  | .hbm, ⟨8, _⟩ => ⟨S4096x4x512, .f32⟩
  | .hbm, ⟨9, _⟩ => ⟨S4x512x4096, .f32⟩
  | .hbm, ⟨10, _⟩ => ⟨S4x4096x512, .f32⟩
  | .hbm, ⟨11, _⟩ => ⟨S4096x4x512, .f32⟩
  | .hbm, ⟨12, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== PoolWeight.lean ====
abbrev S4096x2048 : Shape := ⟨2, ![4096, 2048]⟩
abbrev S4x512x512 : Shape := ⟨3, ![4, 512, 512]⟩
abbrev S512x128 : Shape := ⟨2, ![512, 128]⟩
abbrev S512x512 : Shape := ⟨2, ![512, 512]⟩
abbrev S1x128x512 : Shape := ⟨3, ![1, 128, 512]⟩
abbrev S128x512 : Shape := ⟨2, ![128, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S4x512x512, .bf16⟩
  | .local _ .vmem, ⟨0, _⟩ => ⟨S512x128, .bf16⟩
  | .local _ .vmem, ⟨1, _⟩ => ⟨S512x128, .bf16⟩
  | .local _ .vmem, ⟨2, _⟩ => ⟨S512x512, .bf16⟩
  | .local _ .vmem, ⟨3, _⟩ => ⟨S512x512, .bf16⟩
  | .local _ .vmem, ⟨4, _⟩ => ⟨S1x128x512, .bf16⟩
  | .local _ .vmem, ⟨5, _⟩ => ⟨S1x128x512, .bf16⟩
  | .local _ .vmem, ⟨6, _⟩ => ⟨S128x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== PoolWeightRefIdeal.lean ====
abbrev S4096x2048 : Shape := ⟨2, ![4096, 2048]⟩
abbrev S_ : Shape := ⟨0, ![]⟩
abbrev S4x512x512 : Shape := ⟨3, ![4, 512, 512]⟩
abbrev S4096x4x512 : Shape := ⟨3, ![4096, 4, 512]⟩
abbrev S4x512x4096 : Shape := ⟨3, ![4, 512, 4096]⟩
abbrev S4x4x128x512 : Shape := ⟨4, ![4, 4, 128, 512]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S4x512x512, .f32⟩
  | .hbm, ⟨4, _⟩ => ⟨S4096x4x512, .f32⟩
  | .hbm, ⟨5, _⟩ => ⟨S4x512x4096, .f32⟩
  | .hbm, ⟨6, _⟩ => ⟨S4096x4x512, .f32⟩
  | .hbm, ⟨7, _⟩ => ⟨S4096x2048, .f32⟩
  | .hbm, ⟨8, _⟩ => ⟨S4096x4x512, .f32⟩
  | .hbm, ⟨9, _⟩ => ⟨S4x512x4096, .f32⟩
  | .hbm, ⟨10, _⟩ => ⟨S4x512x512, .f32⟩
  | .hbm, ⟨11, _⟩ => ⟨S4x512x512, .f32⟩
  | .hbm, ⟨12, _⟩ => ⟨S4x4x128x512, .f32⟩
  | .hbm, ⟨13, _⟩ => ⟨S4x4x128x512, .f32⟩
  | .hbm, ⟨14, _⟩ => ⟨S4x512x512, .f32⟩
  | .hbm, ⟨15, _⟩ => ⟨S4x512x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== PoolScale.lean ====
abbrev S4096x2048 : Shape := ⟨2, ![4096, 2048]⟩
abbrev S1x2048 : Shape := ⟨2, ![1, 2048]⟩
abbrev S256x2048 : Shape := ⟨2, ![256, 2048]⟩
abbrev S2048 : Shape := ⟨1, ![2048]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .bf16⟩
  | .hbm, ⟨4, _⟩ => ⟨S4096x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_7 : BitVec 32 := 0#32
  let v14 : BitVec 1 := Scalar.cmpi .ne v13 c0_i32_7
  v14

def k0_cond2 (i : grid0.Coords) : BitVec 1 :=
  let arg0 : BitVec 32 := BitVec.ofNat 32 (i 0).val
  let c0_i32_8 : BitVec 32 := 0#32
  let v15 : BitVec 1 := Scalar.cmpi .sgt arg0 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PoolScaleRefIdeal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Conv.lean ====
abbrev S3x4096x2048 : Shape := ⟨3, ![3, 4096, 2048]⟩
abbrev S3x2048 : Shape := ⟨2, ![3, 2048]⟩
abbrev S_ : Shape := ⟨0, ![]⟩
abbrev S16x2048 : Shape := ⟨2, ![16, 2048]⟩
abbrev S16x4x512 : Shape := ⟨3, ![16, 4, 512]⟩
abbrev S4x16x512 : Shape := ⟨3, ![4, 16, 512]⟩
abbrev S4096x2048 : Shape := ⟨2, ![4096, 2048]⟩
abbrev S1x4096x128 : Shape := ⟨3, ![1, 4096, 128]⟩
abbrev S1x8x128 : Shape := ⟨3, ![1, 8, 128]⟩
abbrev S4096x128 : Shape := ⟨2, ![4096, 128]⟩
abbrev S8x128 : Shape := ⟨2, ![8, 128]⟩
abbrev S1x128 : Shape := ⟨2, ![1, 128]⟩

abbrev nBuf : Space → Nat
  | .hbm => 8
  | .vmem => 10
  | .smem => 0
  | _ => 0

abbrev bufTy : (tb : Table) → Fin (tcTables nBuf tb) → BufTy
  | .hbm, ⟨0, _⟩ => ⟨S3x4096x2048, .f32⟩
  | .hbm, ⟨1, _⟩ => ⟨S3x2048, .f32⟩
  | .hbm, ⟨2, _⟩ => ⟨S_, .i32⟩
  | .hbm, ⟨3, _⟩ => ⟨S_, .f32⟩
  | .hbm, ⟨4, _⟩ => ⟨S16x2048, .f32⟩
  | .hbm, ⟨5, _⟩ => ⟨S16x4x512, .f32⟩
  | .hbm, ⟨6, _⟩ => ⟨S4x16x512, .f32⟩
  | .hbm, ⟨7, _⟩ => ⟨S4096x2048, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x8x128, .f32⟩
  | .local _ .vmem, ⟨7, _⟩ => ⟨S1x8x128, .f32⟩
  | .local _ .vmem, ⟨8, _⟩ => ⟨S4096x128, .bf16⟩
  | .local _ .vmem, ⟨9, _⟩ => ⟨S4096x128, .bf16⟩
  | _, _ => ⟨S3x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S3x4096x2048 : Shape := ⟨3, ![3, 4096, 2048]⟩
abbrev S3x2048 : Shape := ⟨2, ![3, 2048]⟩
abbrev S1x4096x2048 : Shape := ⟨3, ![1, 4096, 2048]⟩
abbrev S4096x2048 : Shape := ⟨2, ![4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S3x4096x2048, .f32⟩
  | .hbm, ⟨1, _⟩ => ⟨S3x2048, .f32⟩
  | .hbm, ⟨2, _⟩ => ⟨S1x4096x2048, .f32⟩
  | .hbm, ⟨3, _⟩ => ⟨S4096x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S_, .f32⟩
  | .hbm, ⟨9, _⟩ => ⟨S2x2048, .f32⟩
  | .hbm, ⟨10, _⟩ => ⟨S4096x2048, .f32⟩
  | .hbm, ⟨11, _⟩ => ⟨S4098x2048, .f32⟩
  | .hbm, ⟨12, _⟩ => ⟨S4096x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .bf16⟩
  | _, _ => ⟨S3x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== ConvBwd.lean ====
abbrev S4096x2048 : Shape := ⟨2, ![4096, 2048]⟩
abbrev S3x4096x2048 : Shape := ⟨3, ![3, 4096, 2048]⟩
abbrev S3x2048 : Shape := ⟨2, ![3, 2048]⟩
abbrev S_ : Shape := ⟨0, ![]⟩
abbrev S16x2048 : Shape := ⟨2, ![16, 2048]⟩
abbrev S16x4x512 : Shape := ⟨3, ![16, 4, 512]⟩
abbrev S4x16x512 : Shape := ⟨3, ![4, 16, 512]⟩
abbrev S4x8x512 : Shape := ⟨3, ![4, 8, 512]⟩
abbrev S4096x128 : Shape := ⟨2, ![4096, 128]⟩
abbrev S1x4096x128 : Shape := ⟨3, ![1, 4096, 128]⟩
abbrev S1x8x128 : Shape := ⟨3, ![1, 8, 128]⟩
abbrev S3x4096x128 : Shape := ⟨3, ![3, 4096, 128]⟩
abbrev S8x128 : Shape := ⟨2, ![8, 128]⟩
abbrev S1x128 : Shape := ⟨2, ![1, 128]⟩
abbrev S128 : Shape := ⟨1, ![128]⟩
abbrev S1x1x128 : Shape := ⟨3, ![1, 1, 128]⟩
abbrev S5x128 : Shape := ⟨2, ![5, 128]⟩
abbrev S1x5x128 : Shape := ⟨3, ![1, 5, 128]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S3x4096x2048, .f32⟩
  | .hbm, ⟨2, _⟩ => ⟨S3x2048, .f32⟩
  | .hbm, ⟨3, _⟩ => ⟨S_, .i32⟩
  | .hbm, ⟨4, _⟩ => ⟨S_, .f32⟩
  | .hbm, ⟨5, _⟩ => ⟨S16x2048, .f32⟩
  | .hbm, ⟨6, _⟩ => ⟨S16x4x512, .f32⟩
  | .hbm, ⟨7, _⟩ => ⟨S4x16x512, .f32⟩
  | .hbm, ⟨8, _⟩ => ⟨S3x4096x2048, .bf16⟩
  | .hbm, ⟨9, _⟩ => ⟨S4x8x512, .f32⟩
  | .local _ .vmem, ⟨0, _⟩ => ⟨S4096x128, .f32⟩
  | .local _ .vmem, ⟨1, _⟩ => ⟨S4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x8x128, .f32⟩
  | .local _ .vmem, ⟨9, _⟩ => ⟨S1x8x128, .f32⟩
  | .local _ .vmem, ⟨10, _⟩ => ⟨S3x4096x128, .bf16⟩
  | .local _ .vmem, ⟨11, _⟩ => ⟨S3x4096x128, .bf16⟩
  | .local _ .vmem, ⟨12, _⟩ => ⟨S1x8x128, .f32⟩
  | .local _ .vmem, ⟨13, _⟩ => ⟨S1x8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvBwdRefIdeal.lean ====
abbrev S4096x2048 : Shape := ⟨2, ![4096, 2048]⟩
abbrev S3x4096x2048 : Shape := ⟨3, ![3, 4096, 2048]⟩
abbrev S3x2048 : Shape := ⟨2, ![3, 2048]⟩
abbrev S1x4096x2048 : Shape := ⟨3, ![1, 4096, 2048]⟩
abbrev S_ : Shape := ⟨0, ![]⟩
abbrev S2x2048 : Shape := ⟨2, ![2, 2048]⟩
abbrev S4098x2048 : Shape := ⟨2, ![4098, 2048]⟩
abbrev S1x2048 : Shape := ⟨2, ![1, 2048]⟩
abbrev S2048 : Shape := ⟨1, ![2048]⟩
abbrev S8x2048 : Shape := ⟨2, ![8, 2048]⟩
abbrev S8x4x512 : Shape := ⟨3, ![8, 4, 512]⟩
abbrev S4x8x512 : Shape := ⟨3, ![4, 8, 512]⟩

abbrev nBuf : Space → Nat
  | .hbm => 95
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S3x4096x2048, .f32⟩
  | .hbm, ⟨2, _⟩ => ⟨S3x2048, .f32⟩
  | .hbm, ⟨3, _⟩ => ⟨S1x4096x2048, .f32⟩
  | .hbm, ⟨4, _⟩ => ⟨S4096x2048, .f32⟩
  | .hbm, ⟨5, _⟩ => ⟨S1x4096x2048, .f32⟩
  | .hbm, ⟨6, _⟩ => ⟨S4096x2048, .f32⟩
  | .hbm, ⟨7, _⟩ => ⟨S1x4096x2048, .f32⟩
  | .hbm, ⟨8, _⟩ => ⟨S4096x2048, .f32⟩
  | .hbm, ⟨9, _⟩ => ⟨S_, .f32⟩
  | .hbm, ⟨10, _⟩ => ⟨S2x2048, .f32⟩
  | .hbm, ⟨11, _⟩ => ⟨S4096x2048, .f32⟩
  | .hbm, ⟨12, _⟩ => ⟨S4098x2048, .f32⟩
  | .hbm, ⟨13, _⟩ => ⟨S_, .f32⟩
  | .hbm, ⟨14, _⟩ => ⟨S2x2048, .f32⟩
  | .hbm, ⟨15, _⟩ => ⟨S4096x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S3x2048, .f32⟩
  | .hbm, ⟨49, _⟩ => ⟨S_, .f32⟩
  | .hbm, ⟨50, _⟩ => ⟨S4098x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S_, .f32⟩
  | .hbm, ⟨61, _⟩ => ⟨S3x2048, .f32⟩
  | .hbm, ⟨62, _⟩ => ⟨S3x2048, .f32⟩
  | .hbm, ⟨63, _⟩ => ⟨S_, .f32⟩
  | .hbm, ⟨64, _⟩ => ⟨S4098x2048, .f32⟩
  | .hbm, ⟨65, _⟩ => ⟨S4098x2048, .f32⟩
  | .hbm, ⟨66, _⟩ => ⟨S4096x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S_, .f32⟩
  | .hbm, ⟨76, _⟩ => ⟨S3x2048, .f32⟩
  | .hbm, ⟨77, _⟩ => ⟨S3x2048, .f32⟩
  | .hbm, ⟨78, _⟩ => ⟨S_, .f32⟩
  | .hbm, ⟨79, _⟩ => ⟨S4098x2048, .f32⟩
  | .hbm, ⟨80, _⟩ => ⟨S4098x2048, .f32⟩
  | .hbm, ⟨81, _⟩ => ⟨S2x2048, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S1x4096x2048, .f32⟩
  | .hbm, ⟨86, _⟩ => ⟨S1x4096x2048, .f32⟩
  | .hbm, ⟨87, _⟩ => ⟨S1x4096x2048, .f32⟩
  | .hbm, ⟨88, _⟩ => ⟨S3x4096x2048, .f32⟩
  | .hbm, ⟨89, _⟩ => ⟨S3x4096x2048, .bf16⟩
  | .hbm, ⟨90, _⟩ => ⟨S_, .i32⟩
  | .hbm, ⟨91, _⟩ => ⟨S_, .f32⟩
  | .hbm, ⟨92, _⟩ => ⟨S8x2048, .f32⟩
  | .hbm, ⟨93, _⟩ => ⟨S8x4x512, .f32⟩
  | .hbm, ⟨94, _⟩ => ⟨S4x8x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_c : Ref sig .tc := ⟨.hbm, 90, rfl⟩
abbrev main_call0_v0 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Proof.Attn.Group.lean ====
/- One group of four key blocks of the attention backward, as functions of vectors: what the kernel makes of a
   tile of 512 query rows and a slab of 512 keys, from the running sums it finds. The strict causal mask of
   key block `b` enters as a map `κb` on tiles (the identity below the diagonal), so that the loop's groups and
   the group on the diagonal are one family. -/
module

public import proofs.«01_k».proof.Proof.Gen.KernelIdeal.Skeleton

@[expose] public section

noncomputable section

namespace Cert.KernelIdeal.Attn

open Cert.KernelIdeal Cert.KernelIdeal.Gen Idealize.ShloMosaic Idealize.SL.Sem

variable {F : FTy → Type} [FloatOps F]

/-- A tile of 512 rows by 128 columns. -/
abbrev Tile (F : FTy → Type) : Type := FVec F S512x128 .f32
/-- A tile of 512 rows by 512 columns. -/
abbrev Wide (F : FTy → Type) : Type := FVec F S512x512 .f32
/-- A tile as the matrix unit takes it. -/
abbrev Tile16 (F : FTy → Type) : Type := FVec F S512x128 .bf16

/-- The zero tile. -/
def zeroT : Tile F := broadcast S512x128 (Scalar.ofBits .f32 0x00000000#32)

/-- `log σ(z)`, tile by tile. -/
def logSig (z : Tile F) : Tile F :=
  subf (minimumf z zeroT)
    (log (addf (broadcast S512x128 (Scalar.ofBits .f32 0x3F800000#32)) (exp (subf zeroT (absf z)))))

/-- The two sums of a tile's rows, side by side: the running ones and the whole one, by one product with `u`. -/
def sumsOf (u : FVec F S256x256 .bf16) (v : Tile F) : FVec F S512x256 .f32 :=
  matmul dot_S512x256_S256x256_S512x256_1_0_0_1_n_n none
    (concatenate S512x256 1
      [⟨S512x128, truncf .bf16 v bitsLt_bf16_f32⟩,
       ⟨S512x128, truncf .bf16 (subf v (extf .f32 (truncf .bf16 v bitsLt_bf16_f32) bitsLt_bf16_f32)) bitsLt_bf16_f32⟩]
      concatenates_S512x128_S512x128_S512x256_d1)
    u (constant S512x256 .f32 0x00000000#32)

/-- The running sums of the rows. -/
def upto (u : FVec F S256x256 .bf16) (v : Tile F) : Tile F :=
  extractStridedSlice S512x128 ![0, 0] (sumsOf u v) slices_S512x256_o0_0_S512x128

/-- The whole sums of the rows. -/
def whole (u : FVec F S256x256 .bf16) (v : Tile F) : Tile F :=
  extractStridedSlice S512x128 ![0, 128] (sumsOf u v) slices_S512x256_o0_128_S512x128

/-- A cast between equal shapes. -/
def cs (v : Tile F) : Tile F := shapeCast S512x128 v shapeCasts_S512x128_S512x128

/-- The log of the share kept by the keys of a block. -/
def keepLog (κ : Tile F → Tile F) (z : Tile F) : Tile F := κ (subf (logSig z) z)

/-- The attention weights of a block. -/
def weight (κ : Tile F → Tile F) (u : FVec F S256x256 .bf16) (tot z run : Tile F) : Tile F :=
  κ (exp (addf (logSig z) (subf (subf (cs tot) (upto u (keepLog κ z))) run)))

/-- The weights times their gradient. -/
def grad (κ : Tile F → Tile F) (u : FVec F S256x256 .bf16) (tot z da run : Tile F) : Tile F :=
  mulf (weight κ u tot z run) da

/-- The gradient of the scores. -/
def dscore (κ : Tile F → Tile F) (u : FVec F S256x256 .bf16) (tot z da run grun : Tile F) : Tile F :=
  κ (subf (grad κ u tot z da run) (mulf (exp (logSig z)) (addf grun (upto u (grad κ u tot z da run)))))

/-- The running log after a block. -/
def runNext (κ : Tile F → Tile F) (u : FVec F S256x256 .bf16) (z run : Tile F) : Tile F :=
  addf run (whole u (keepLog κ z))

/-- The running gradient after a block. -/
def grunNext (κ : Tile F → Tile F) (u : FVec F S256x256 .bf16) (tot z da run grun : Tile F) : Tile F :=
  addf grun (whole u (grad κ u tot z da run))

/-- Key block `b` of a wide tile. -/
def cut0 (z : Wide F) : Tile F := extractStridedSlice S512x128 ![0, 0] z slices_S512x512_o0_0_S512x128
def cut1 (z : Wide F) : Tile F := extractStridedSlice S512x128 ![0, 128] z slices_S512x512_o0_128_S512x128
def cut2 (z : Wide F) : Tile F := extractStridedSlice S512x128 ![0, 256] z slices_S512x512_o0_256_S512x128
def cut3 (z : Wide F) : Tile F := extractStridedSlice S512x128 ![0, 384] z slices_S512x512_o0_384_S512x128

/-- Rows against rows: the scores of a slab of keys, or the gradients of its weights. -/
def rowsByRows (q ks : Tile16 F) : Wide F :=
  matmul dot_S512x128_S512x128_S512x512_1_1_0_0_n_n none q ks (constant S512x512 .f32 0x00000000#32)

/-- Four tiles side by side, as the matrix unit takes them. -/
def beside (a b c d : Tile F) : FVec F S512x512 .bf16 :=
  concatenate S512x512 1
    [⟨S512x128, truncf .bf16 a bitsLt_bf16_f32⟩, ⟨S512x128, truncf .bf16 b bitsLt_bf16_f32⟩,
     ⟨S512x128, truncf .bf16 c bitsLt_bf16_f32⟩, ⟨S512x128, truncf .bf16 d bitsLt_bf16_f32⟩]
    concatenates_S512x128_S512x128_S512x128_S512x128_S512x512_d1

section Group
variable (κ0 κ1 κ2 κ3 : Tile F → Tile F) (u : FVec F S256x256 .bf16) (tot : Tile F) (z da : Wide F)
  (run grun : Tile F)

/-- The running log before key blocks 1, 2, 3 and after the group. -/
def run1 : Tile F := runNext κ0 u (cut0 z) run
def run2 : Tile F := runNext κ1 u (cut1 z) (run1 κ0 u z run)
def run3 : Tile F := runNext κ2 u (cut2 z) (run2 κ0 κ1 u z run)
def run4 : Tile F := runNext κ3 u (cut3 z) (run3 κ0 κ1 κ2 u z run)

/-- The running gradient before key blocks 1, 2, 3 and after the group. -/
def grun1 : Tile F := grunNext κ0 u tot (cut0 z) (cut0 da) run grun
def grun2 : Tile F := grunNext κ1 u tot (cut1 z) (cut1 da) (run1 κ0 u z run) (grun1 κ0 u tot z da run grun)
def grun3 : Tile F :=
  grunNext κ2 u tot (cut2 z) (cut2 da) (run2 κ0 κ1 u z run) (grun2 κ0 κ1 u tot z da run grun)
def grun4 : Tile F :=
  grunNext κ3 u tot (cut3 z) (cut3 da) (run3 κ0 κ1 κ2 u z run) (grun3 κ0 κ1 κ2 u tot z da run grun)

/-- The group's weights and score gradients, four blocks side by side. -/
def weights : FVec F S512x512 .bf16 :=
  beside (weight κ0 u tot (cut0 z) run) (weight κ1 u tot (cut1 z) (run1 κ0 u z run))
    (weight κ2 u tot (cut2 z) (run2 κ0 κ1 u z run)) (weight κ3 u tot (cut3 z) (run3 κ0 κ1 κ2 u z run))
def dscores : FVec F S512x512 .bf16 :=
  beside (dscore κ0 u tot (cut0 z) (cut0 da) run grun)
    (dscore κ1 u tot (cut1 z) (cut1 da) (run1 κ0 u z run) (grun1 κ0 u tot z da run grun))
    (dscore κ2 u tot (cut2 z) (cut2 da) (run2 κ0 κ1 u z run) (grun2 κ0 κ1 u tot z da run grun))
    (dscore κ3 u tot (cut3 z) (cut3 da) (run3 κ0 κ1 κ2 u z run) (grun3 κ0 κ1 κ2 u tot z da run grun))
end Group

/-- Added into the queries' gradient: the score gradients against the slab of keys. -/
def intoRows (acc : Tile F) (dz : FVec F S512x512 .bf16) (ks : Tile16 F) : Tile F :=
  addf (cs acc) (matmul dot_S512x512_S512x128_S512x128_1_0_0_1_n_n none dz ks (constant S512x128 .f32 0x00000000#32))

/-- Added into a slab's gradient: a wide tile, transposed, against a tile of rows. -/
def intoKeys (acc : Tile F) (w : FVec F S512x512 .bf16) (q : Tile16 F) : Tile F :=
  addf (cs acc) (matmul dot_S512x512_S512x128_S512x128_0_0_1_1_n_n none w q (constant S512x128 .f32 0x00000000#32))

end Cert.KernelIdeal.Attn

end
-- ==== Proof.Attn.Math.lean ====
/- The gradient of stick-breaking attention over the reals, one head: scores `z t s` of query `t` and key `s`, the
   weights' gradients `da t s`, and for each query the log of what all its keys keep, `T t`. Keys count strictly
   before their query. -/
module

public import Mathlib.Analysis.SpecialFunctions.Log.Basic

@[expose] public section

noncomputable section

namespace Cert.KernelIdeal.Attn

open Finset

/-- `log σ(x)` as the kernel computes it. -/
def ls (x : ℝ) : ℝ := min x 0 - Real.log (1 + Real.exp (-|x|))

section
variable (z da : ℕ → ℕ → ℝ) (T : ℕ → ℝ)

/-- The log of the share a key leaves. -/
def lk (t s : ℕ) : ℝ := if s < t then ls (z t s) - z t s else 0
/-- Its sum over the first `n` keys. -/
def cum (t n : ℕ) : ℝ := ∑ s ∈ range n, lk z t s
/-- The attention weight. -/
def wt (t s : ℕ) : ℝ := if s < t then Real.exp (ls (z t s) + (T t - cum z t (s + 1))) else 0
/-- The weight times its gradient. -/
def gr (t s : ℕ) : ℝ := wt z T t s * da t s
/-- Its sum over the first `n` keys. -/
def gsum (t n : ℕ) : ℝ := ∑ s ∈ range n, gr z da T t s
/-- The gradient of the score. -/
def dz (t s : ℕ) : ℝ := if s < t then gr z da T t s - Real.exp (ls (z t s)) * gsum z da T t (s + 1) else 0

theorem cum_add (t s n : ℕ) : cum z t (s + n) = cum z t s + ∑ j ∈ range n, lk z t (s + j) :=
  Finset.sum_range_add _ _ _

theorem gsum_add (t s n : ℕ) : gsum z da T t (s + n) = gsum z da T t s + ∑ j ∈ range n, gr z da T t (s + j) :=
  Finset.sum_range_add _ _ _

theorem wt_of_not_lt {t s : ℕ} (h : ¬ s < t) : wt z T t s = 0 := if_neg h
theorem dz_of_not_lt {t s : ℕ} (h : ¬ s < t) : dz z da T t s = 0 := if_neg h
end

end Cert.KernelIdeal.Attn

end
-- ==== Proof.Attn.Eval.lean ====
/- The group's functions on finite vectors: each takes tiles that hold reals to a tile that holds the reals one
   expects. -/
module

public import proofs.«01_k».proof.Proof.Attn.Group
public import proofs.«01_k».proof.Proof.Attn.Math
public import Idealize.ShloMosaic.Lib.Pointwise

@[expose] public section

set_option maxRecDepth 16384

noncomputable section

namespace Cert.KernelIdeal.Attn

open Cert.KernelIdeal Cert.KernelIdeal.Gen Idealize.ShloMosaic Idealize.SL.Sem
open Finset

/-- A matrix of extended reals that holds the reals `f`. -/
def Holds {φ : FTy} {m n : ℕ} (v : FVec Ideal (⟨2, ![m, n]⟩ : Shape) φ) (f : ℕ → ℕ → ℝ) : Prop :=
  ∀ (r : Fin m) (c : Fin n), v (ix2 r c) = ((f r c : ℝ) : EReal)

/-- A sum of reals among the extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [sum_insert ha, sum_insert ha, ih, EReal.coe_add]

theorem coe_sum_fin {n : ℕ} (f : ℕ → ℝ) : (∑ k : Fin n, ((f k : ℝ) : EReal)) = ((∑ k ∈ range n, f k : ℝ) : EReal) := by
  rw [coe_sum, Finset.sum_range]

theorem holds_logSig {z : Tile Ideal} {f : ℕ → ℕ → ℝ} (h : Holds z f) : Holds (logSig z) (fun r c => ls (f r c)) := by
  intro r c
  have hp : ¬ (1 + Real.exp (-|f r c|) ≤ 0) := not_le.mpr (by positivity)
  pointwise [logSig, zeroT]
  rw [h r c]
  have ha : FloatOps.absf (F := Ideal) (φ := .f32) ((f r c : ℝ) : EReal) = ((|f r c| : ℝ) : EReal) := by
    show max ((f r c : ℝ) : EReal) (-((f r c : ℝ) : EReal)) = _
    rw [← EReal.coe_neg]; exact (EReal.coe_strictMono.monotone.map_max (a := f r c) (b := -f r c)).symm
  rw [ha, zero_sub, ← EReal.coe_neg, Ideal.exp_coe, ← EReal.coe_one, ← EReal.coe_add, Ideal.log_coe, if_neg hp,
    ← EReal.coe_zero, ← EReal.coe_strictMono.monotone.map_min, ← EReal.coe_sub]
  rfl

theorem holds_rowsByRows {q k : Tile16 Ideal} {f g : ℕ → ℕ → ℝ} (hq : Holds q f) (hk : Holds k g) :
    Holds (rowsByRows q k) (fun r c => ∑ d ∈ range 128, f r d * g c d) := by
  intro r c
  pointwise [rowsByRows]
  rw [← coe_sum_fin]
  exact Finset.sum_congr rfl fun d _ => by rw [hq r d, hk c d, EReal.coe_mul]

/-- The matrix of the running sums: its left half sums up to a column, its right half sums a whole row, for both of the
    two stacked addends. -/
def IsSums (u : FVec Ideal S256x256 .bf16) : Prop :=
  ∀ r c : Fin 256, u (ix2 r c) = if r.val % 128 ≤ c.val ∨ 128 ≤ c.val then 1 else 0

theorem holds_whole {u : FVec Ideal S256x256 .bf16} {v : Tile Ideal} {f : ℕ → ℕ → ℝ} (hu : IsSums u) (h : Holds v f) :
    Holds (whole u v) (fun r _ => ∑ d ∈ range 128, f r d) := by
  intro r c
  pointwise [whole, sumsOf]
  rw [← coe_sum_fin, ← add_zero (∑ k : Fin 128, ((f r k : ℝ) : EReal))]
  congr 1
  · refine Finset.sum_congr rfl fun d _ => ?_
    rw [hu, if_pos (Or.inr (by show 128 ≤ 128 + c.val; omega)), mul_one, h r d]
  · refine Finset.sum_eq_zero fun d _ => ?_
    rw [h r d, ← EReal.coe_sub, sub_self, EReal.coe_zero, zero_mul]

theorem holds_upto {u : FVec Ideal S256x256 .bf16} {v : Tile Ideal} {f : ℕ → ℕ → ℝ} (hu : IsSums u) (h : Holds v f) :
    Holds (upto u v) (fun r c => ∑ d ∈ range (c + 1), f r d) := by
  intro r c
  pointwise [upto, sumsOf]
  have e : ∀ n, ∑ d ∈ range (n + 1), f r d = ∑ d ∈ range (n + 1), if d ≤ n then f r d else 0 := fun n =>
    Finset.sum_congr rfl fun d hd => by rw [if_pos (by have := Finset.mem_range.mp hd; omega)]
  have e2 : ∑ d ∈ range (c.val + 1), f r d = ∑ d ∈ range 128, if d ≤ c.val then f r d else 0 := by
    rw [e]
    refine Finset.sum_subset (fun d hd => ?_) fun d _ hd => ?_
    · have := Finset.mem_range.mp hd; have := c.isLt; exact Finset.mem_range.mpr (by omega)
    · rw [if_neg]; intro hle; exact hd (Finset.mem_range.mpr (by omega))
  show _ = ((∑ d ∈ range (c.val + 1), f r d : ℝ) : EReal)
  rw [e2, ← coe_sum_fin, ← add_zero (∑ k : Fin 128, (((if k.val ≤ c.val then f r k else 0 : ℝ)) : EReal))]
  congr 1
  · refine Finset.sum_congr rfl fun d _ => ?_
    rw [hu, h r d]
    show _ * (if d.val % 128 ≤ c.val ∨ 128 ≤ c.val then (1 : EReal) else 0) = _
    have hd := d.isLt
    have hc := c.isLt
    rw [Nat.mod_eq_of_lt hd]
    by_cases hle : d.val ≤ c.val
    · rw [if_pos (Or.inl hle), if_pos hle, mul_one]
    · rw [if_neg (by omega), if_neg hle, mul_zero, EReal.coe_zero]
  · refine Finset.sum_eq_zero fun d _ => ?_
    rw [h r d, ← EReal.coe_sub, sub_self, EReal.coe_zero, zero_mul]

theorem holds_cut0 {z : Wide Ideal} {f : ℕ → ℕ → ℝ} (h : Holds z f) : Holds (cut0 z) f := by
  intro r c; pointwise [cut0]; exact h r ⟨c.val, by omega⟩
theorem holds_cut1 {z : Wide Ideal} {f : ℕ → ℕ → ℝ} (h : Holds z f) : Holds (cut1 z) (fun r c => f r (128 + c)) := by
  intro r c; pointwise [cut1]; exact h r ⟨128 + c.val, by omega⟩
theorem holds_cut2 {z : Wide Ideal} {f : ℕ → ℕ → ℝ} (h : Holds z f) : Holds (cut2 z) (fun r c => f r (256 + c)) := by
  intro r c; pointwise [cut2]; exact h r ⟨256 + c.val, by omega⟩
theorem holds_cut3 {z : Wide Ideal} {f : ℕ → ℕ → ℝ} (h : Holds z f) : Holds (cut3 z) (fun r c => f r (384 + c)) := by
  intro r c; pointwise [cut3]; exact h r ⟨384 + c.val, by omega⟩

theorem holds_beside {a b c d : Tile Ideal} {f : ℕ → ℕ → ℝ} (ha : Holds a f) (hb : Holds b fun r j => f r (128 + j))
    (hc : Holds c fun r j => f r (256 + j)) (hd : Holds d fun r j => f r (384 + j)) : Holds (beside a b c d) f := by
  intro r j
  have hj := j.isLt
  pointwise [beside]
  split
  · exact ha r ⟨j.val, _⟩
  split
  · rw [hb r ⟨j.val - 128, _⟩]; exact congrArg (fun n => ((f r n : ℝ) : EReal)) (by show 128 + (j.val - 128) = j.val; omega)
  split
  · rw [hc r ⟨j.val - 128 - 128, _⟩]; exact congrArg (fun n => ((f r n : ℝ) : EReal)) (by show 256 + (j.val - 128 - 128) = j.val; omega)
  · rw [hd r ⟨j.val - 128 - 128 - 128, _⟩]; exact congrArg (fun n => ((f r n : ℝ) : EReal)) (by show 384 + (j.val - 128 - 128 - 128) = j.val; omega)

theorem holds_cs {v : Tile Ideal} {f : ℕ → ℕ → ℝ} (h : Holds v f) : Holds (cs v) f := by
  intro r c; pointwise [cs]; exact h r c

theorem holds_intoRows {acc : Tile Ideal} {w : FVec Ideal S512x512 .bf16} {k : Tile16 Ideal} {A W K : ℕ → ℕ → ℝ}
    (ha : Holds acc A) (hw : Holds w W) (hk : Holds k K) :
    Holds (intoRows acc w k) (fun r c => A r c + ∑ j ∈ range 512, W r j * K j c) := by
  intro r c
  pointwise [intoRows, cs]
  rw [ha r c, EReal.coe_add, ← coe_sum_fin]
  congr 1
  exact Finset.sum_congr rfl fun j _ => by rw [hw r j, hk j c, EReal.coe_mul]

theorem holds_intoKeys {acc : Tile Ideal} {w : FVec Ideal S512x512 .bf16} {q : Tile16 Ideal} {A W Q : ℕ → ℕ → ℝ}
    (ha : Holds acc A) (hw : Holds w W) (hq : Holds q Q) :
    Holds (intoKeys acc w q) (fun r c => A r c + ∑ j ∈ range 512, W j r * Q j c) := by
  intro r c
  pointwise [intoKeys, cs]
  rw [ha r c, EReal.coe_add, ← coe_sum_fin]
  congr 1
  exact Finset.sum_congr rfl fun j _ => by rw [hw j r, hq j c, EReal.coe_mul]

theorem holds_add {a b : Tile Ideal} {f g : ℕ → ℕ → ℝ} (ha : Holds a f) (hb : Holds b g) :
    Holds (addf a b : Tile Ideal) (fun r c => f r c + g r c) := by
  intro r c; pointwise []; rw [ha r c, hb r c, EReal.coe_add]
theorem holds_sub {a b : Tile Ideal} {f g : ℕ → ℕ → ℝ} (ha : Holds a f) (hb : Holds b g) :
    Holds (subf a b : Tile Ideal) (fun r c => f r c - g r c) := by
  intro r c; pointwise []; rw [ha r c, hb r c, EReal.coe_sub]
theorem holds_mul {a b : Tile Ideal} {f g : ℕ → ℕ → ℝ} (ha : Holds a f) (hb : Holds b g) :
    Holds (mulf a b : Tile Ideal) (fun r c => f r c * g r c) := by
  intro r c; pointwise []; rw [ha r c, hb r c, EReal.coe_mul]
theorem holds_exp {a : Tile Ideal} {f : ℕ → ℕ → ℝ} (ha : Holds a f) :
    Holds (exp a : Tile Ideal) (fun r c => Real.exp (f r c)) := by
  intro r c; pointwise []; rw [ha r c, Ideal.exp_coe]

end Cert.KernelIdeal.Attn

end
-- ==== Proof.Attn.Sums.lean ====
/- The host's running sums along the last axis of a rank-3 array, over the reals: forwards as a window padded low,
   backwards as a window padded high. -/
module

public import proofs.«01_k».proof.Proof.Attn.Eval
public import proofs.«01_k».proof.Proof.Gen.ReferenceIdeal.Read

@[expose] public section

set_option maxRecDepth 65536

noncomputable section

namespace Cert.KernelIdeal.Attn

open Idealize.ShloMosaic
open Finset

/-- An array of extended reals, by head, row and key, that holds the reals `f`. -/
def Holds3 {φ : FTy} {a b n : ℕ} (v : FVec Ideal (⟨3, ![a, b, n]⟩ : Shape) φ) (f : ℕ → ℕ → ℕ → ℝ) : Prop :=
  ∀ (h : Fin a) (t : Fin b) (s : Fin n), v (ix3 h t s) = ((f h t s : ℝ) : EReal)

theorem foldl_sum {n : ℕ} (g : Fin n → EReal) : (List.finRange n).foldl (fun r k => r + g k) 0 = ∑ k, g k := by
  rw [← List.sum_ofFn, List.ofFn_eq_map, List.sum_eq_foldl, List.foldl_map]

/-- The host's sum over windows along the last axis only. -/
theorem window_sum {a b n lo hi : ℕ} (x : FVec Ideal (⟨3, ![a, b, n]⟩ : Shape) .f32) (f : ℕ → ℕ → ℕ → ℝ) (hx : Holds3 x f)
    (init : FVec Ideal (⟨0, ![]⟩ : Shape) .f32) (hinit : ∀ i, init i = 0)
    (h : (⟨3, ![a, b, n]⟩ : Shape).ReduceWindows ![1, 1, n] ![1, 1, 1] ![0, 0, lo] ![0, 0, hi] (⟨3, ![a, b, n]⟩ : Shape))
    (hu : 0 < (⟨0, ![]⟩ : Shape).numel) (i : Fin a) (t : Fin b) (s : Fin n) :
    Host.reduceWindowAdd ![1, 1, n] ![1, 1, 1] ![0, 0, lo] ![0, 0, hi] x init h hu (ix3 i t s)
      = ((∑ k ∈ range n, if lo ≤ s.val + k ∧ s.val + k - lo < n then f i t (s.val + k - lo) else 0 : ℝ) : EReal) := by
  unfold Host.reduceWindowAdd
  rw [Ideal.hostReduceWindowAdd_def]
  unfold Ideal.hostReduceWindowAdd Host.reduceWindow
  simp only [hinit]
  rw [foldl_sum, ← Equiv.sum_comp (⟨3, ![1, 1, n]⟩ : Shape).rowMajor]
  simp only [Equiv.symm_apply_apply]
  rw [sum_idx3 (n0 := 1) (n1 := 1) (n2 := n), Fin.sum_univ_one, Fin.sum_univ_one, ← coe_sum_fin]
  refine Finset.sum_congr rfl fun k _ => ?_
  have hi := i.isLt
  have ht := t.isLt
  by_cases hk : lo ≤ s.val + k.val ∧ s.val + k.val - lo < n
  · rw [if_pos hk, dif_pos]
    · refine (congrArg x (funext fun c => Fin.ext ?_)).trans (hx i t ⟨s.val + k.val - lo, hk.2⟩)
      match c with
      | ⟨0, _⟩ => show i.val * 1 + 0 - 0 = i.val; omega
      | ⟨1, _⟩ => show t.val * 1 + 0 - 0 = t.val; omega
      | ⟨2, _⟩ => show s.val * 1 + k.val - lo = s.val + k.val - lo; omega
    · intro c
      match c with
      | ⟨0, _⟩ => show 0 ≤ i.val * 1 + 0 ∧ i.val * 1 + 0 - 0 < a; omega
      | ⟨1, _⟩ => show 0 ≤ t.val * 1 + 0 ∧ t.val * 1 + 0 - 0 < b; omega
      | ⟨2, _⟩ => show lo ≤ s.val * 1 + k.val ∧ s.val * 1 + k.val - lo < n; omega
  · rw [if_neg hk, dif_neg, EReal.coe_zero]
    intro hc
    have h2 : lo ≤ s.val * 1 + k.val ∧ s.val * 1 + k.val - lo < n := hc (2 : Fin 3)
    exact hk (by omega)

/-- A window padded high by one less than the row sums from an entry to the row's end. -/
theorem sum_from {n s : ℕ} (hs : s ≤ n) (f : ℕ → ℝ) :
    (∑ k ∈ range n, if 0 ≤ s + k ∧ s + k - 0 < n then f (s + k - 0) else 0) = ∑ k ∈ range n, f k - ∑ k ∈ range s, f k := by
  obtain ⟨r, rfl⟩ : ∃ r, n = s + r := ⟨n - s, by omega⟩
  rw [Finset.sum_range_add f s r, add_sub_cancel_left]
  rw [← Finset.sum_subset (s₁ := range r) (fun x hx => by rw [mem_range] at *; omega)]
  · exact Finset.sum_congr rfl fun k hk => by
      have := mem_range.mp hk
      rw [if_pos (by omega), Nat.sub_zero]
  · intro k _ hk
    rw [mem_range] at hk
    rw [if_neg (by omega)]

/-- A window padded low by one less than the row sums from the row's start up to an entry. -/
theorem sum_to {n s : ℕ} (hs : s < n) (f : ℕ → ℝ) :
    (∑ k ∈ range n, if n - 1 ≤ s + k ∧ s + k - (n - 1) < n then f (s + k - (n - 1)) else 0) = ∑ k ∈ range (s + 1), f k := by
  obtain ⟨r, rfl⟩ : ∃ r, n = r + (s + 1) := ⟨n - (s + 1), by omega⟩
  rw [Finset.sum_range_add _ r (s + 1), Finset.sum_eq_zero, zero_add]
  · exact Finset.sum_congr rfl fun k hk => by
      have := mem_range.mp hk
      rw [if_pos (by omega)]
      congr 1; omega
  · intro k hk
    have := mem_range.mp hk
    rw [if_neg (by omega)]

end Cert.KernelIdeal.Attn

end
-- ==== Proof.Attn.Sigmoid.lean ====
/- The logistic function over the reals: the two ways of writing its logarithm, and that the shares a key takes and
   leaves add up to one. -/
module

public import proofs.«01_k».proof.Proof.Attn.Math

@[expose] public section

noncomputable section

namespace Cert.KernelIdeal.Attn

/-- `log (1 + exp y)` as the host computes it. -/
def spl (y : ℝ) : ℝ := max y 0 + Real.log (1 + Real.exp (-|y|))

theorem neg_spl_neg (x : ℝ) : -spl (-x) = ls x := by
  unfold spl ls
  rw [abs_neg, neg_add, ← sub_eq_add_neg]
  congr 1
  rw [← min_neg_neg, neg_neg, neg_zero]

theorem ls_neg (x : ℝ) : ls (-x) = ls x - x := by
  unfold ls
  rw [abs_neg, show min (-x) 0 = min x 0 - x from ?_]
  · ring
  · rcases le_total x 0 with h | h
    · rw [min_eq_left h, min_eq_right (by linarith), sub_self]
    · rw [min_eq_right h, min_eq_left (by linarith), zero_sub]

theorem exp_ls_mul (x : ℝ) : Real.exp (ls x) * (1 + Real.exp (-x)) = 1 := by
  unfold ls
  rcases le_total x 0 with h | h
  · have hp : 0 < 1 + Real.exp x := by positivity
    rw [min_eq_left h, abs_of_nonpos h, neg_neg, Real.exp_sub, Real.exp_log hp, Real.exp_neg]
    have := Real.exp_pos x
    field_simp
    ring
  · have hp : 0 < 1 + Real.exp (-x) := by positivity
    rw [min_eq_right h, abs_of_nonneg h, zero_sub, Real.exp_neg, Real.exp_log hp]
    field_simp

/-- What a key takes and what it leaves add up to one. -/
theorem exp_ls_add (x : ℝ) : Real.exp (ls x) + Real.exp (ls (-x)) = 1 := by
  rw [ls_neg, sub_eq_add_neg, Real.exp_add, ← exp_ls_mul x]
  ring

variable (z da : ℕ → ℕ → ℝ) (T : ℕ → ℝ)

/-- The score's gradient as the chain rule gives it. -/
theorem dz_eq (t s : ℕ) : dz z da T t s = gr z da T t s * Real.exp (ls (-z t s))
    - (if s < t then -gr z da T t s + gsum z da T t (s + 1) else 0) * Real.exp (ls (z t s)) := by
  unfold dz
  have h := exp_ls_add (z t s)
  split
  · rw [show Real.exp (ls (-z t s)) = 1 - Real.exp (ls (z t s)) by linarith]
    ring
  · rename_i hs
    rw [gr, wt_of_not_lt z T hs]
    ring

end Cert.KernelIdeal.Attn

end
-- ==== Proof.Attn.Scalars.lean ====
/- The host's scalar operations on reals: its logarithm of the logistic function and the factor its derivative
   multiplies by. -/
module

public import proofs.«01_k».proof.Proof.Attn.Sigmoid
public import proofs.«01_k».proof.Proof.Gen.ReferenceIdeal.Read

@[expose] public section

noncomputable section

namespace Cert.KernelIdeal.Attn

open Idealize.ShloMosaic

/-- The constant `0`. -/
abbrev o0 : Ideal .f32 := FloatOps.ofBits .f32 0x00000000#32
/-- The constant `+∞`. -/
abbrev oi : Ideal .f32 := FloatOps.ofBits .f32 0x7F800000#32

theorem o0_eq : o0 = 0 := Ideal.ofBits_zero_f32
theorem oi_eq : oi = (⊤ : EReal) := by
  show Ideal.ieee 8 23 (0x7F800000#32) = ⊤
  simp [Ideal.ieee]

/-- The host's `softplus`. -/
def sps (y : Ideal .f32) : Ideal .f32 :=
  Scalar.select (FloatOps.cmpf .une (FloatOps.subf y o0) (FloatOps.subf y o0)) (FloatOps.addf y o0)
    (FloatOps.addf (FloatOps.maximumf y o0)
      (FloatOps.hostUnary .log1p (FloatOps.hostUnary .exp (FloatOps.hostNegf (FloatOps.hostAbsf (FloatOps.subf y o0))))))

/-- The factor of its derivative. -/
def spf (y : Ideal .f32) : Ideal .f32 :=
  FloatOps.hostUnary .exp (FloatOps.subf (Scalar.select (FloatOps.cmpf .oeq y oi) o0 y)
    (Scalar.select (FloatOps.cmpf .oeq (sps y) oi) o0 (sps y)))

theorem abs_coe (y : ℝ) : FloatOps.hostAbsf (F := Ideal) (φ := .f32) ((y : ℝ) : EReal) = ((|y| : ℝ) : EReal) := by
  show max ((y : ℝ) : EReal) (-((y : ℝ) : EReal)) = _
  rw [← EReal.coe_neg]; exact (EReal.coe_strictMono.monotone.map_max (a := y) (b := -y)).symm

theorem sps_coe (y : ℝ) : sps ((y : ℝ) : EReal) = ((spl y : ℝ) : EReal) := by
  have hp : ¬ (1 + Real.exp (-|y|) ≤ 0) := not_le.mpr (by positivity)
  have h0 : FloatOps.subf (F := Ideal) (φ := .f32) ((y : ℝ) : EReal) o0 = ((y : ℝ) : EReal) := by
    rw [o0_eq, Ideal.subf_def, sub_zero]
  have hn : FloatOps.cmpf (F := Ideal) (φ := .f32) .une ((y : ℝ) : EReal) ((y : ℝ) : EReal) = 0#1 := by
    show Ideal.cmp .une _ _ = _
    simp [Ideal.cmp]
  unfold sps
  rw [h0, hn, abs_coe, o0_eq]
  show max ((y : ℝ) : EReal) 0 + Ideal.log1p (Ideal.exp (-((|y| : ℝ) : EReal))) = _
  rw [← EReal.coe_neg, Ideal.exp_coe, Ideal.log1p, ← EReal.coe_one, ← EReal.coe_add, Ideal.log_coe, if_neg hp,
    ← EReal.coe_zero, ← EReal.coe_strictMono.monotone.map_max, ← EReal.coe_add]
  rfl

theorem oeq_top (y : ℝ) : FloatOps.cmpf (F := Ideal) (φ := .f32) .oeq ((y : ℝ) : EReal) oi = 0#1 := by
  rw [oi_eq]
  show Ideal.cmp .oeq _ _ = _
  simp [Ideal.cmp]

theorem spf_coe (y : ℝ) : spf ((y : ℝ) : EReal) = ((Real.exp (y - spl y) : ℝ) : EReal) := by
  unfold spf
  rw [sps_coe, oeq_top, oeq_top]
  show Ideal.exp (((y : ℝ) : EReal) - ((spl y : ℝ) : EReal)) = _
  rw [← EReal.coe_sub, Ideal.exp_coe]

end Cert.KernelIdeal.Attn

end
-- ==== Proof.Attn.Trip.lean ====
module
public import proofs.«01_k».proof.Proof.Gen.KernelIdeal.Loops
public import proofs.«01_k».proof.Proof.Attn.Group
public import Idealize.ShloMosaic.Lib.Pipeline.ValueKit
/-! One trip of the kernel's loop over key blocks: what the generated list of its stores writes, in the words of
    Proof/Attn/Group (the row sums kept in two halves, the logs and the running sums). -/
@[expose] public section
set_option maxRecDepth 65536
noncomputable section
namespace Cert.KernelIdeal.Attn
open Cert.KernelIdeal Cert.KernelIdeal.Gen Idealize.ShloMosaic Idealize.ShloMosaic.TcCoe Idealize.ShloMosaic.Tactic
open Idealize.SL.Sem
variable {F : FTy → Type} [FloatOps F]

/-- A slab of 512 rows of a column of 4096, at a place in range. -/
def slab {e : EltTy} (X : Vec F S4096x128 e) (off : Fin 2 → ℕ) (h : ∀ a, off a + S512x128.size a ≤ S4096x128.size a) :
    Vec F S512x128 e := View.ld X (Rect.unit (s := S4096x128) off S512x128.size h)
/-- All of a tile, as a load of the whole block leaves it. -/
def all {e : EltTy} (X : Vec F S512x128 e) : Vec F S512x128 e :=
  View.ld X (Rect.unit (s := S512x128) ![0, 0] S512x128.size inb_S512x128_S512x128_0_0)
section
variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S256x256 .bf16) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .f32) (harg12 : arg12.IsWhole)
  (v3 : Vec F S512x128 .bf16) (v5 : Vec F S512x128 .bf16) (v7 : Vec F S256x256 .bf16) (X3 : BufTy.Contents (Elt F) arg3.view.ty) (X4 : BufTy.Contents (Elt F) arg4.view.ty) (X5 : BufTy.Contents (Elt F) arg5.view.ty) (k : Fin (k0_t1_loop i).trips) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty)

theorem trip_run : (tripL_k0_t1 (F := F) 𝒱 c bd i arg2 harg2 arg3 harg3 arg4 harg4 arg5 harg5 arg6 harg6 arg7 harg7 arg8 harg8 arg9 harg9 arg10 harg10 arg11 harg11 arg12 harg12 v3 v5 v7 X3 X4 X5 k f8 f9 f10 f11 f12).2.2.2.1 =
  [⟨Rect.unit ![0, 0] ![512, 128] inb_S512x128_S512x128_0_0,
    shapeCast S512x128 (run4 id id id id (k0_pay133 v7) (rowsByRows (k0_pay131 v3) (k0_pay131 (slab (arg3.view.read (Elt F) X3) (k0_off1 i k) (k0_off1_inb i k)))) (all (arg11.view.read (Elt F) f11))) shapeCasts_S512x128_S512x128⟩] := by
  unfold tripL_k0_t1 trip_k0_t1
  rfl
theorem trip_grun : (tripL_k0_t1 (F := F) 𝒱 c bd i arg2 harg2 arg3 harg3 arg4 harg4 arg5 harg5 arg6 harg6 arg7 harg7 arg8 harg8 arg9 harg9 arg10 harg10 arg11 harg11 arg12 harg12 v3 v5 v7 X3 X4 X5 k f8 f9 f10 f11 f12).2.2.2.2 =
  [⟨Rect.unit ![0, 0] ![512, 128] inb_S512x128_S512x128_0_0,
    shapeCast S512x128 (grun4 id id id id (k0_pay133 v7) (all (arg5.view.read (Elt F) X5)) (rowsByRows (k0_pay131 v3) (k0_pay131 (slab (arg3.view.read (Elt F) X3) (k0_off1 i k) (k0_off1_inb i k)))) (rowsByRows (k0_pay132 v5) (k0_pay131 (slab (arg4.view.read (Elt F) X4) (k0_off1 i k) (k0_off1_inb i k)))) (all (arg11.view.read (Elt F) f11)) (all (arg12.view.read (Elt F) f12))) shapeCasts_S512x128_S512x128⟩] := by
  unfold tripL_k0_t1 trip_k0_t1
  rfl
theorem trip_dq : (tripL_k0_t1 (F := F) 𝒱 c bd i arg2 harg2 arg3 harg3 arg4 harg4 arg5 harg5 arg6 harg6 arg7 harg7 arg8 harg8 arg9 harg9 arg10 harg10 arg11 harg11 arg12 harg12 v3 v5 v7 X3 X4 X5 k f8 f9 f10 f11 f12).1 =
  [⟨Rect.unit ![0, 0] ![512, 128] inb_S512x128_S512x128_0_0,
    intoRows (all (arg8.view.read (Elt F) f8)) (dscores id id id id (k0_pay133 v7) (all (arg5.view.read (Elt F) X5)) (rowsByRows (k0_pay131 v3) (k0_pay131 (slab (arg3.view.read (Elt F) X3) (k0_off1 i k) (k0_off1_inb i k)))) (rowsByRows (k0_pay132 v5) (k0_pay131 (slab (arg4.view.read (Elt F) X4) (k0_off1 i k) (k0_off1_inb i k)))) (all (arg11.view.read (Elt F) f11)) (all (arg12.view.read (Elt F) f12))) (k0_pay131 (slab (arg3.view.read (Elt F) X3) (k0_off1 i k) (k0_off1_inb i k)))⟩] := by
  unfold tripL_k0_t1 trip_k0_t1
  rfl
theorem trip_dk : (tripL_k0_t1 (F := F) 𝒱 c bd i arg2 harg2 arg3 harg3 arg4 harg4 arg5 harg5 arg6 harg6 arg7 harg7 arg8 harg8 arg9 harg9 arg10 harg10 arg11 harg11 arg12 harg12 v3 v5 v7 X3 X4 X5 k f8 f9 f10 f11 f12).2.1 =
  [⟨Rect.unit (s := S4096x128) (k0_off1 i k) S512x128.size (k0_off1_inb i k),
    intoKeys (slab (arg9.view.read (Elt F) f9) (k0_off1 i k) (k0_off1_inb i k)) (dscores id id id id (k0_pay133 v7) (all (arg5.view.read (Elt F) X5)) (rowsByRows (k0_pay131 v3) (k0_pay131 (slab (arg3.view.read (Elt F) X3) (k0_off1 i k) (k0_off1_inb i k)))) (rowsByRows (k0_pay132 v5) (k0_pay131 (slab (arg4.view.read (Elt F) X4) (k0_off1 i k) (k0_off1_inb i k)))) (all (arg11.view.read (Elt F) f11)) (all (arg12.view.read (Elt F) f12))) (k0_pay131 v3)⟩] := by
  unfold tripL_k0_t1 trip_k0_t1
  rfl
theorem trip_dv : (tripL_k0_t1 (F := F) 𝒱 c bd i arg2 harg2 arg3 harg3 arg4 harg4 arg5 harg5 arg6 harg6 arg7 harg7 arg8 harg8 arg9 harg9 arg10 harg10 arg11 harg11 arg12 harg12 v3 v5 v7 X3 X4 X5 k f8 f9 f10 f11 f12).2.2.1 =
  [⟨Rect.unit (s := S4096x128) (k0_off1 i k) S512x128.size (k0_off1_inb i k),
    intoKeys (slab (arg10.view.read (Elt F) f10) (k0_off1 i k) (k0_off1_inb i k)) (weights id id id id (k0_pay133 v7) (all (arg5.view.read (Elt F) X5)) (rowsByRows (k0_pay131 v3) (k0_pay131 (slab (arg3.view.read (Elt F) X3) (k0_off1 i k) (k0_off1_inb i k)))) (all (arg11.view.read (Elt F) f11))) (k0_pay132 v5)⟩] := by
  unfold tripL_k0_t1 trip_k0_t1
  rfl
end
end Cert.KernelIdeal.Attn
-- ==== Proof.Attn.Body.lean ====
/- What one grid point of the attention backward writes, as the group's functions of what it finds: the loop's
   groups have run, and the group on the diagonal is taken under the causal mask. The two cases (a head's first
   query tile, and a later one) differ in what the keys' gradients start from. -/
module

public import proofs.«01_k».proof.Proof.Gen.KernelIdeal.Value
public import proofs.«01_k».proof.Proof.Attn.Trip

@[expose] public section

set_option maxRecDepth 65536

noncomputable section

namespace Cert.KernelIdeal.Attn

open Cert.KernelIdeal Cert.KernelIdeal.Gen Idealize.ShloMosaic Idealize.ShloMosaic.TcCoe Idealize.ShloMosaic.Tactic
open Idealize.SL.Sem

variable {F : FTy → Type} [FloatOps F]

/-- Where the key of column `c`, in the diagonal group's block starting at `o`, stands before the query of row `r`. -/
def before (i : grid0.Coords) (o : BitVec 32) : IVec S512x128 1 :=
  cmpi .slt
    (addi (broadcast S512x128
        (Scalar.addi (Scalar.muli (Scalar.addi (Scalar.muli (BitVec.ofNat 32 (i 1).val) 4#32) 0#32) 128#32) o))
      (iota .tc S512x128 32 [1] iota_S512x128_d1_w32))
    (addi (broadcast S512x128 (Scalar.muli (BitVec.ofNat 32 (i 1).val) 512#32))
      (iota .tc S512x128 32 [0] iota_S512x128_d0_w32))

/-- The causal mask of a diagonal block, on a tile. -/
def κm (i : grid0.Coords) (o : BitVec 32) (v : Tile F) : Tile F := select (before i o) v zeroT

/-- All of the matrix of the running sums, as a load of it leaves it. -/
def allU (X : Vec F S256x256 .bf16) : Vec F S256x256 .bf16 :=
  View.ld X (Rect.unit (s := S256x256) ![0, 0] S256x256.size inb_S256x256_S256x256_0_0)

section
variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S256x256 .bf16) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .f32) (harg12 : arg12.IsWhole)
    (x0 : Vec F S512x128 .bf16) (x1 : Vec F S4096x128 .bf16) (x2 : Vec F S4096x128 .bf16) (x3 : Vec F S512x128 .f32)
    (x4 : Vec F S512x128 .bf16) (x5 : Vec F S256x256 .bf16) (xo7 xo8 : Vec F S4096x128 .f32)
  (G8 : BufTy.Contents (Elt F) arg8.view.ty) (G9 : BufTy.Contents (Elt F) arg9.view.ty) (G10 : BufTy.Contents (Elt F) arg10.view.ty) (G11 : BufTy.Contents (Elt F) arg11.view.ty) (G12 : BufTy.Contents (Elt F) arg12.view.ty)

/-- The five lists of writes of a loop. -/
abbrev Lists (F : FTy → Type) : Type :=
  List (View.Piece (Elt F) S512x128 .f32) × List (View.Piece (Elt F) S4096x128 .f32) × List (View.Piece (Elt F) S4096x128 .f32) × List (View.Piece (Elt F) S512x128 .f32) × List (View.Piece (Elt F) S512x128 .f32)

/-- What the loop over the groups below the diagonal writes. -/
def loopOne : Lists F :=
  pb_k0_t1 (F := F) Variants.none c none i arg2 harg2 arg3 harg3 arg4 harg4 arg5 harg5 arg6 harg6 arg7 harg7 arg8 harg8 arg9 harg9 arg10 harg10 arg11 harg11 arg12 harg12
    (all (arg2.view.read (Elt F) (harg2.unread x0)))
    (all (arg6.view.read (Elt F) (harg6.unread x4)))
    (allU (arg7.view.read (Elt F) (harg7.unread x5)))
    (harg3.unread x1) (harg4.unread x2) (harg5.unread x3) G8 G9 G10 G11 G12 (k0_t1_loop i).trips

/-- What the loop's remainder writes. -/
def loopTwo : Lists F :=
  pb_k0_t2 (F := F) Variants.none c none i arg2 harg2 arg3 harg3 arg4 harg4 arg5 harg5 arg6 harg6 arg7 harg7 arg8 harg8 arg9 harg9 arg10 harg10 arg11 harg11 arg12 harg12
    (all (arg2.view.read (Elt F) (harg2.unread x0)))
    (all (arg6.view.read (Elt F) (harg6.unread x4)))
    (allU (arg7.view.read (Elt F) (harg7.unread x5)))
    (k0_t2_loop i).lb (harg3.unread x1) (harg4.unread x2) (harg5.unread x3) G8 G9 G10 G11 G12 (k0_t2_loop i).trips

/-- Case A: the loop's writes, and its remainder's. -/
def oneA : Lists F := (loopOne c i arg2 harg2 arg3 harg3 arg4 harg4 arg5 harg5 arg6 harg6 arg7 harg7 arg8 harg8 arg9 harg9 arg10 harg10 arg11 harg11 arg12 harg12 x0 x1 x2 x3 x4 x5 (arg8.view.writes (Elt F) arg8.view.junk [⟨Rect.unit ![0, 0] S512x128.size inb_S512x128_S512x128_0_0, k0_pay134⟩]) (arg9.view.writes (Elt F) arg9.view.junk [⟨Rect.unit ![0, 0] S4096x128.size inb_S4096x128_S4096x128_0_0, k0_pay129⟩]) (arg10.view.writes (Elt F) arg10.view.junk [⟨Rect.unit ![0, 0] S4096x128.size inb_S4096x128_S4096x128_0_0, k0_pay130⟩]) (arg11.view.writes (Elt F) arg11.view.junk [⟨Rect.unit ![0, 0] S512x128.size inb_S512x128_S512x128_0_0, k0_pay135⟩]) (arg12.view.writes (Elt F) arg12.view.junk [⟨Rect.unit ![0, 0] S512x128.size inb_S512x128_S512x128_0_0, k0_pay136⟩]))
def twoA : Lists F := loopTwo c i arg2 harg2 arg3 harg3 arg4 harg4 arg5 harg5 arg6 harg6 arg7 harg7 arg8 harg8 arg9 harg9 arg10 harg10 arg11 harg11 arg12 harg12 x0 x1 x2 x3 x4 x5 (arg8.view.writes (Elt F) arg8.view.junk ((oneA c i arg2 harg2 arg3 harg3 arg4 harg4 arg5 harg5 arg6 harg6 arg7 harg7 arg8 harg8 arg9 harg9 arg10 harg10 arg11 harg11 arg12 harg12 x0 x1 x2 x3 x4 x5).1 ++ [⟨Rect.unit ![0, 0] S512x128.size inb_S512x128_S512x128_0_0, k0_pay134⟩])) (arg9.view.writes (Elt F) arg9.view.junk ((oneA c i arg2 harg2 arg3 harg3 arg4 harg4 arg5 harg5 arg6 harg6 arg7 harg7 arg8 harg8 arg9 harg9 arg10 harg10 arg11 harg11 arg12 harg12 x0 x1 x2 x3 x4 x5).2.1 ++ [⟨Rect.unit ![0, 0] S4096x128.size inb_S4096x128_S4096x128_0_0, k0_pay129⟩])) (arg10.view.writes (Elt F) arg10.view.junk ((oneA c i arg2 harg2 arg3 harg3 arg4 harg4 arg5 harg5 arg6 harg6 arg7 harg7 arg8 harg8 arg9 harg9 arg10 harg10 arg11 harg11 arg12 harg12 x0 x1 x2 x3 x4 x5).2.2.1 ++ [⟨Rect.unit ![0, 0] S4096x128.size inb_S4096x128_S4096x128_0_0, k0_pay130⟩])) (arg11.view.writes (Elt F) arg11.view.junk ((oneA c i arg2 harg2 arg3 harg3 arg4 harg4 arg5 harg5 arg6 harg6 arg7 harg7 arg8 harg8 arg9 harg9 arg10 harg10 arg11 harg11 arg12 harg12 x0 x1 x2 x3 x4 x5).2.2.2.1 ++ [⟨Rect.unit ![0, 0] S512x128.size inb_S512x128_S512x128_0_0, k0_pay135⟩])) (arg12.view.writes (Elt F) arg12.view.junk ((oneA c i arg2 harg2 arg3 harg3 arg4 harg4 arg5 harg5 arg6 harg6 arg7 harg7 arg8 harg8 arg9 harg9 arg10 harg10 arg11 harg11 arg12 harg12 x0 x1 x2 x3 x4 x5).2.2.2.2 ++ [⟨Rect.unit ![0, 0] S512x128.size inb_S512x128_S512x128_0_0, k0_pay136⟩]))

/-- Case A: what the point writes into output 6. -/
theorem runA_6 (hc0 : cond0_0 i) : (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5).1 =
    ⟨Rect.unit ![0, 0] S512x128.size inb_S512x128_S512x128_0_0, intoRows (all (arg8.view.read (Elt F) (arg8.view.writes (Elt F) arg8.view.junk ((twoA c i arg2 harg2 arg3 harg3 arg4 harg4 arg5 harg5 arg6 harg6 arg7 harg7 arg8 harg8 arg9 harg9 arg10 harg10 arg11 harg11 arg12 harg12 x0 x1 x2 x3 x4 x5).1 ++ ((oneA c i arg2 harg2 arg3 harg3 arg4 harg4 arg5 harg5 arg6 harg6 arg7 harg7 arg8 harg8 arg9 harg9 arg10 harg10 arg11 harg11 arg12 harg12 x0 x1 x2 x3 x4 x5).1 ++ [⟨Rect.unit ![0, 0] S512x128.size inb_S512x128_S512x128_0_0, k0_pay134⟩]))))) (dscores (κm i 0#32) (κm i 128#32) (κm i 256#32) (κm i 384#32) (k0_pay133 (allU (arg7.view.read (Elt F) (harg7.unread x5)))) (all (arg5.view.read (Elt F) (harg5.unread x3))) (rowsByRows (k0_pay131 (all (arg2.view.read (Elt F) (harg2.unread x0)))) (k0_pay131 (slab (arg3.view.read (Elt F) (harg3.unread x1)) (k0_off3 i) (k0_off3_inb i)))) (rowsByRows (k0_pay132 (all (arg6.view.read (Elt F) (harg6.unread x4)))) (k0_pay131 (slab (arg4.view.read (Elt F) (harg4.unread x2)) (k0_off3 i) (k0_off3_inb i)))) (all (arg11.view.read (Elt F) (arg11.view.writes (Elt F) arg11.view.junk ((twoA c i arg2 harg2 arg3 harg3 arg4 harg4 arg5 harg5 arg6 harg6 arg7 harg7 arg8 harg8 arg9 harg9 arg10 harg10 arg11 harg11 arg12 harg12 x0 x1 x2 x3 x4 x5).2.2.2.1 ++ ((oneA c i arg2 harg2 arg3 harg3 arg4 harg4 arg5 harg5 arg6 harg6 arg7 harg7 arg8 harg8 arg9 harg9 arg10 harg10 arg11 harg11 arg12 harg12 x0 x1 x2 x3 x4 x5).2.2.2.1 ++ [⟨Rect.unit ![0, 0] S512x128.size inb_S512x128_S512x128_0_0, k0_pay135⟩]))))) (all (arg12.view.read (Elt F) (arg12.view.writes (Elt F) arg12.view.junk ((twoA c i arg2 harg2 arg3 harg3 arg4 harg4 arg5 harg5 arg6 harg6 arg7 harg7 arg8 harg8 arg9 harg9 arg10 harg10 arg11 harg11 arg12 harg12 x0 x1 x2 x3 x4 x5).2.2.2.2 ++ ((oneA c i arg2 harg2 arg3 harg3 arg4 harg4 arg5 harg5 arg6 harg6 arg7 harg7 arg8 harg8 arg9 harg9 arg10 harg10 arg11 harg11 arg12 harg12 x0 x1 x2 x3 x4 x5).2.2.2.2 ++ [⟨Rect.unit ![0, 0] S512x128.size inb_S512x128_S512x128_0_0, k0_pay136⟩])))))) (k0_pay131 (slab (arg3.view.read (Elt F) (harg3.unread x1)) (k0_off3 i) (k0_off3_inb i)))⟩ :: ((twoA c i arg2 harg2 arg3 harg3 arg4 harg4 arg5 harg5 arg6 harg6 arg7 harg7 arg8 harg8 arg9 harg9 arg10 harg10 arg11 harg11 arg12 harg12 x0 x1 x2 x3 x4 x5).1 ++ ((oneA c i arg2 harg2 arg3 harg3 arg4 harg4 arg5 harg5 arg6 harg6 arg7 harg7 arg8 harg8 arg9 harg9 arg10 harg10 arg11 harg11 arg12 harg12 x0 x1 x2 x3 x4 x5).1 ++ [⟨Rect.unit ![0, 0] S512x128.size inb_S512x128_S512x128_0_0, k0_pay134⟩])) := by
  unfold kernelRun0_A
  rfl

/-- Case A: what the point writes into output 7. -/
theorem runA_7 (hc0 : cond0_0 i) : (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5).2.1 =
    ⟨Rect.unit (s := S4096x128) (k0_off3 i) S512x128.size (k0_off3_inb i), intoKeys (slab (arg9.view.read (Elt F) (arg9.view.writes (Elt F) arg9.view.junk ((twoA c i arg2 harg2 arg3 harg3 arg4 harg4 arg5 harg5 arg6 harg6 arg7 harg7 arg8 harg8 arg9 harg9 arg10 harg10 arg11 harg11 arg12 harg12 x0 x1 x2 x3 x4 x5).2.1 ++ ((oneA c i arg2 harg2 arg3 harg3 arg4 harg4 arg5 harg5 arg6 harg6 arg7 harg7 arg8 harg8 arg9 harg9 arg10 harg10 arg11 harg11 arg12 harg12 x0 x1 x2 x3 x4 x5).2.1 ++ [⟨Rect.unit ![0, 0] S4096x128.size inb_S4096x128_S4096x128_0_0, k0_pay129⟩])))) (k0_off3 i) (k0_off3_inb i)) (dscores (κm i 0#32) (κm i 128#32) (κm i 256#32) (κm i 384#32) (k0_pay133 (allU (arg7.view.read (Elt F) (harg7.unread x5)))) (all (arg5.view.read (Elt F) (harg5.unread x3))) (rowsByRows (k0_pay131 (all (arg2.view.read (Elt F) (harg2.unread x0)))) (k0_pay131 (slab (arg3.view.read (Elt F) (harg3.unread x1)) (k0_off3 i) (k0_off3_inb i)))) (rowsByRows (k0_pay132 (all (arg6.view.read (Elt F) (harg6.unread x4)))) (k0_pay131 (slab (arg4.view.read (Elt F) (harg4.unread x2)) (k0_off3 i) (k0_off3_inb i)))) (all (arg11.view.read (Elt F) (arg11.view.writes (Elt F) arg11.view.junk ((twoA c i arg2 harg2 arg3 harg3 arg4 harg4 arg5 harg5 arg6 harg6 arg7 harg7 arg8 harg8 arg9 harg9 arg10 harg10 arg11 harg11 arg12 harg12 x0 x1 x2 x3 x4 x5).2.2.2.1 ++ ((oneA c i arg2 harg2 arg3 harg3 arg4 harg4 arg5 harg5 arg6 harg6 arg7 harg7 arg8 harg8 arg9 harg9 arg10 harg10 arg11 harg11 arg12 harg12 x0 x1 x2 x3 x4 x5).2.2.2.1 ++ [⟨Rect.unit ![0, 0] S512x128.size inb_S512x128_S512x128_0_0, k0_pay135⟩]))))) (all (arg12.view.read (Elt F) (arg12.view.writes (Elt F) arg12.view.junk ((twoA c i arg2 harg2 arg3 harg3 arg4 harg4 arg5 harg5 arg6 harg6 arg7 harg7 arg8 harg8 arg9 harg9 arg10 harg10 arg11 harg11 arg12 harg12 x0 x1 x2 x3 x4 x5).2.2.2.2 ++ ((oneA c i arg2 harg2 arg3 harg3 arg4 harg4 arg5 harg5 arg6 harg6 arg7 harg7 arg8 harg8 arg9 harg9 arg10 harg10 arg11 harg11 arg12 harg12 x0 x1 x2 x3 x4 x5).2.2.2.2 ++ [⟨Rect.unit ![0, 0] S512x128.size inb_S512x128_S512x128_0_0, k0_pay136⟩])))))) (k0_pay131 (all (arg2.view.read (Elt F) (harg2.unread x0))))⟩ :: ((twoA c i arg2 harg2 arg3 harg3 arg4 harg4 arg5 harg5 arg6 harg6 arg7 harg7 arg8 harg8 arg9 harg9 arg10 harg10 arg11 harg11 arg12 harg12 x0 x1 x2 x3 x4 x5).2.1 ++ ((oneA c i arg2 harg2 arg3 harg3 arg4 harg4 arg5 harg5 arg6 harg6 arg7 harg7 arg8 harg8 arg9 harg9 arg10 harg10 arg11 harg11 arg12 harg12 x0 x1 x2 x3 x4 x5).2.1 ++ [⟨Rect.unit ![0, 0] S4096x128.size inb_S4096x128_S4096x128_0_0, k0_pay129⟩])) := by
  unfold kernelRun0_A
  rfl

/-- Case A: what the point writes into output 8. -/
theorem runA_8 (hc0 : cond0_0 i) : (kernelRun0_A (F := F) c i arg2 harg2 arg3 harg3 arg4 harg4 arg5 harg5 arg6 harg6 arg7 harg7 arg8 harg8 arg9 harg9 arg10 harg10 arg11 harg11 arg12 harg12 hc0 x0 x1 x2 x3 x4 x5).2.2.1 =
    ⟨Rect.unit (s := S4096x128) (k0_off3 i) S512x128.size (k0_off3_inb i), intoKeys (slab (arg10.view.read (Elt F) (arg10.view.writes (Elt F) arg10.view.junk ((twoA c i arg2 harg2 arg3 harg3 arg4 harg4 arg5 harg5 arg6 harg6 arg7 harg7 arg8 harg8 arg9 harg9 arg10 harg10 arg11 harg11 arg12 harg12 x0 x1 x2 x3 x4 x5).2.2.1 ++ ((oneA c i arg2 harg2 arg3 harg3 arg4 harg4 arg5 harg5 arg6 harg6 arg7 harg7 arg8 harg8 arg9 harg9 arg10 harg10 arg11 harg11 arg12 harg12 x0 x1 x2 x3 x4 x5).2.2.1 ++ [⟨Rect.unit ![0, 0] S4096x128.size inb_S4096x128_S4096x128_0_0, k0_pay130⟩])))) (k0_off3 i) (k0_off3_inb i)) (weights (κm i 0#32) (κm i 128#32) (κm i 256#32) (κm i 384#32) (k0_pay133 (allU (arg7.view.read (Elt F) (harg7.unread x5)))) (all (arg5.view.read (Elt F) (harg5.unread x3))) (rowsByRows (k0_pay131 (all (arg2.view.read (Elt F) (harg2.unread x0)))) (k0_pay131 (slab (arg3.view.read (Elt F) (harg3.unread x1)) (k0_off3 i) (k0_off3_inb i)))) (all (arg11.view.read (Elt F) (arg11.view.writes (Elt F) arg11.view.junk ((twoA c i arg2 harg2 arg3 harg3 arg4 harg4 arg5 harg5 arg6 harg6 arg7 harg7 arg8 harg8 arg9 harg9 arg10 harg10 arg11 harg11 arg12 harg12 x0 x1 x2 x3 x4 x5).2.2.2.1 ++ ((oneA c i arg2 harg2 arg3 harg3 arg4 harg4 arg5 harg5 arg6 harg6 arg7 harg7 arg8 harg8 arg9 harg9 arg10 harg10 arg11 harg11 arg12 harg12 x0 x1 x2 x3 x4 x5).2.2.2.1 ++ [⟨Rect.unit ![0, 0] S512x128.size inb_S512x128_S512x128_0_0, k0_pay135⟩])))))) (k0_pay132 (all (arg6.view.read (Elt F) (harg6.unread x4))))⟩ :: ((twoA c i arg2 harg2 arg3 harg3 arg4 harg4 arg5 harg5 arg6 harg6 arg7 harg7 arg8 harg8 arg9 harg9 arg10 harg10 arg11 harg11 arg12 harg12 x0 x1 x2 x3 x4 x5).2.2.1 ++ ((oneA c i arg2 harg2 arg3 harg3 arg4 harg4 arg5 harg5 arg6 harg6 arg7 harg7 arg8 harg8 arg9 harg9 arg10 harg10 arg11 harg11 arg12 harg12 x0 x1 x2 x3 x4 x5).2.2.1 ++ [⟨Rect.unit ![0, 0] S4096x128.size inb_S4096x128_S4096x128_0_0, k0_pay130⟩])) := by
  unfold kernelRun0_A
  rfl

/-- Case B: the loop's writes, and its remainder's. -/
def oneB : Lists F := (loopOne c i arg2 harg2 arg3 harg3 arg4 harg4 arg5 harg5 arg6 harg6 arg7 harg7 arg8 harg8 arg9 harg9 arg10 harg10 arg11 harg11 arg12 harg12 x0 x1 x2 x3 x4 x5 (arg8.view.writes (Elt F) arg8.view.junk [⟨Rect.unit ![0, 0] S512x128.size inb_S512x128_S512x128_0_0, k0_pay134⟩]) (harg9.unread xo7) (harg10.unread xo8) (arg11.view.writes (Elt F) arg11.view.junk [⟨Rect.unit ![0, 0] S512x128.size inb_S512x128_S512x128_0_0, k0_pay135⟩]) (arg12.view.writes (Elt F) arg12.view.junk [⟨Rect.unit ![0, 0] S512x128.size inb_S512x128_S512x128_0_0, k0_pay136⟩]))
def twoB : Lists F := loopTwo c i arg2 harg2 arg3 harg3 arg4 harg4 arg5 harg5 arg6 harg6 arg7 harg7 arg8 harg8 arg9 harg9 arg10 harg10 arg11 harg11 arg12 harg12 x0 x1 x2 x3 x4 x5 (arg8.view.writes (Elt F) arg8.view.junk ((oneB c i arg2 harg2 arg3 harg3 arg4 harg4 arg5 harg5 arg6 harg6 arg7 harg7 arg8 harg8 arg9 harg9 arg10 harg10 arg11 harg11 arg12 harg12 x0 x1 x2 x3 x4 x5 xo7 xo8).1 ++ [⟨Rect.unit ![0, 0] S512x128.size inb_S512x128_S512x128_0_0, k0_pay134⟩])) (arg9.view.writes (Elt F) (harg9.unread xo7) ((oneB c i arg2 harg2 arg3 harg3 arg4 harg4 arg5 harg5 arg6 harg6 arg7 harg7 arg8 harg8 arg9 harg9 arg10 harg10 arg11 harg11 arg12 harg12 x0 x1 x2 x3 x4 x5 xo7 xo8).2.1)) (arg10.view.writes (Elt F) (harg10.unread xo8) ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.1)) (arg11.view.writes (Elt F) arg11.view.junk ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ [⟨Rect.unit ![0, 0] S512x128.size inb_S512x128_S512x128_0_0, k0_pay135⟩])) (arg12.view.writes (Elt F) arg12.view.junk ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.2 ++ [⟨Rect.unit ![0, 0] S512x128.size inb_S512x128_S512x128_0_0, k0_pay136⟩]))

/-- Case B: what the point writes into output 6. -/
theorem runB_6 (hc0 : ¬cond0_0 i) : (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 xo7 xo8).1 =
    ⟨Rect.unit ![0, 0] S512x128.size inb_S512x128_S512x128_0_0, intoRows (all (arg8.view.read (Elt F) (arg8.view.writes (Elt F) arg8.view.junk ((twoB c i arg2 harg2 arg3 harg3 arg4 harg4 arg5 harg5 arg6 harg6 arg7 harg7 arg8 harg8 arg9 harg9 arg10 harg10 arg11 harg11 arg12 harg12 x0 x1 x2 x3 x4 x5 xo7 xo8).1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).1 ++ [⟨Rect.unit ![0, 0] S512x128.size inb_S512x128_S512x128_0_0, k0_pay134⟩]))))) (dscores (κm i 0#32) (κm i 128#32) (κm i 256#32) (κm i 384#32) (k0_pay133 (allU (arg7.view.read (Elt F) (harg7.unread x5)))) (all (arg5.view.read (Elt F) (harg5.unread x3))) (rowsByRows (k0_pay131 (all (arg2.view.read (Elt F) (harg2.unread x0)))) (k0_pay131 (slab (arg3.view.read (Elt F) (harg3.unread x1)) (k0_off3 i) (k0_off3_inb i)))) (rowsByRows (k0_pay132 (all (arg6.view.read (Elt F) (harg6.unread x4)))) (k0_pay131 (slab (arg4.view.read (Elt F) (harg4.unread x2)) (k0_off3 i) (k0_off3_inb i)))) (all (arg11.view.read (Elt F) (arg11.view.writes (Elt F) arg11.view.junk ((twoB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ [⟨Rect.unit ![0, 0] S512x128.size inb_S512x128_S512x128_0_0, k0_pay135⟩]))))) (all (arg12.view.read (Elt F) (arg12.view.writes (Elt F) arg12.view.junk ((twoB c i arg2 harg2 arg3 harg3 arg4 harg4 arg5 harg5 arg6 harg6 arg7 harg7 arg8 harg8 arg9 harg9 arg10 harg10 arg11 harg11 arg12 harg12 x0 x1 x2 x3 x4 x5 xo7 xo8).2.2.2.2 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.2 ++ [⟨Rect.unit ![0, 0] S512x128.size inb_S512x128_S512x128_0_0, k0_pay136⟩])))))) (k0_pay131 (slab (arg3.view.read (Elt F) (harg3.unread x1)) (k0_off3 i) (k0_off3_inb i)))⟩ :: ((twoB c i arg2 harg2 arg3 harg3 arg4 harg4 arg5 harg5 arg6 harg6 arg7 harg7 arg8 harg8 arg9 harg9 arg10 harg10 arg11 harg11 arg12 harg12 x0 x1 x2 x3 x4 x5 xo7 xo8).1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).1 ++ [⟨Rect.unit ![0, 0] S512x128.size inb_S512x128_S512x128_0_0, k0_pay134⟩])) := by
  unfold kernelRun0_B
  rfl

/-- Case B: what the point writes into output 7. -/
theorem runB_7 (hc0 : ¬cond0_0 i) : (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 xo7 xo8).2.1 =
    ⟨Rect.unit (s := S4096x128) (k0_off3 i) S512x128.size (k0_off3_inb i), intoKeys (slab (arg9.view.read (Elt F) (arg9.view.writes (Elt F) (harg9.unread xo7) ((twoB c i arg2 harg2 arg3 harg3 arg4 harg4 arg5 harg5 arg6 harg6 arg7 harg7 arg8 harg8 arg9 harg9 arg10 harg10 arg11 harg11 arg12 harg12 x0 x1 x2 x3 x4 x5 xo7 xo8).2.1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.1)))) (k0_off3 i) (k0_off3_inb i)) (dscores (κm i 0#32) (κm i 128#32) (κm i 256#32) (κm i 384#32) (k0_pay133 (allU (arg7.view.read (Elt F) (harg7.unread x5)))) (all (arg5.view.read (Elt F) (harg5.unread x3))) (rowsByRows (k0_pay131 (all (arg2.view.read (Elt F) (harg2.unread x0)))) (k0_pay131 (slab (arg3.view.read (Elt F) (harg3.unread x1)) (k0_off3 i) (k0_off3_inb i)))) (rowsByRows (k0_pay132 (all (arg6.view.read (Elt F) (harg6.unread x4)))) (k0_pay131 (slab (arg4.view.read (Elt F) (harg4.unread x2)) (k0_off3 i) (k0_off3_inb i)))) (all (arg11.view.read (Elt F) (arg11.view.writes (Elt F) arg11.view.junk ((twoB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ [⟨Rect.unit ![0, 0] S512x128.size inb_S512x128_S512x128_0_0, k0_pay135⟩]))))) (all (arg12.view.read (Elt F) (arg12.view.writes (Elt F) arg12.view.junk ((twoB c i arg2 harg2 arg3 harg3 arg4 harg4 arg5 harg5 arg6 harg6 arg7 harg7 arg8 harg8 arg9 harg9 arg10 harg10 arg11 harg11 arg12 harg12 x0 x1 x2 x3 x4 x5 xo7 xo8).2.2.2.2 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.2 ++ [⟨Rect.unit ![0, 0] S512x128.size inb_S512x128_S512x128_0_0, k0_pay136⟩])))))) (k0_pay131 (all (arg2.view.read (Elt F) (harg2.unread x0))))⟩ :: ((twoB c i arg2 harg2 arg3 harg3 arg4 harg4 arg5 harg5 arg6 harg6 arg7 harg7 arg8 harg8 arg9 harg9 arg10 harg10 arg11 harg11 arg12 harg12 x0 x1 x2 x3 x4 x5 xo7 xo8).2.1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.1)) := by
  unfold kernelRun0_B
  rfl

/-- Case B: what the point writes into output 8. -/
theorem runB_8 (hc0 : ¬cond0_0 i) : (kernelRun0_B (F := F) c i arg2 harg2 arg3 harg3 arg4 harg4 arg5 harg5 arg6 harg6 arg7 harg7 arg8 harg8 arg9 harg9 arg10 harg10 arg11 harg11 arg12 harg12 hc0 x0 x1 x2 x3 x4 x5 xo7 xo8).2.2.1 =
    ⟨Rect.unit (s := S4096x128) (k0_off3 i) S512x128.size (k0_off3_inb i), intoKeys (slab (arg10.view.read (Elt F) (arg10.view.writes (Elt F) (harg10.unread xo8) ((twoB c i arg2 harg2 arg3 harg3 arg4 harg4 arg5 harg5 arg6 harg6 arg7 harg7 arg8 harg8 arg9 harg9 arg10 harg10 arg11 harg11 arg12 harg12 x0 x1 x2 x3 x4 x5 xo7 xo8).2.2.1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.1)))) (k0_off3 i) (k0_off3_inb i)) (weights (κm i 0#32) (κm i 128#32) (κm i 256#32) (κm i 384#32) (k0_pay133 (allU (arg7.view.read (Elt F) (harg7.unread x5)))) (all (arg5.view.read (Elt F) (harg5.unread x3))) (rowsByRows (k0_pay131 (all (arg2.view.read (Elt F) (harg2.unread x0)))) (k0_pay131 (slab (arg3.view.read (Elt F) (harg3.unread x1)) (k0_off3 i) (k0_off3_inb i)))) (all (arg11.view.read (Elt F) (arg11.view.writes (Elt F) arg11.view.junk ((twoB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ [⟨Rect.unit ![0, 0] S512x128.size inb_S512x128_S512x128_0_0, k0_pay135⟩])))))) (k0_pay132 (all (arg6.view.read (Elt F) (harg6.unread x4))))⟩ :: ((twoB c i arg2 harg2 arg3 harg3 arg4 harg4 arg5 harg5 arg6 harg6 arg7 harg7 arg8 harg8 arg9 harg9 arg10 harg10 arg11 harg11 arg12 harg12 x0 x1 x2 x3 x4 x5 xo7 xo8).2.2.1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.1)) := by
  unfold kernelRun0_B
  rfl
end

end Cert.KernelIdeal.Attn
-- ==== Proof.Attn.Block.lean ====
/- The group's functions against the gradient over the reals: one key block of 128, then a group of four. -/
module

public import proofs.«01_k».proof.Proof.Attn.Eval

@[expose] public section

noncomputable section

namespace Cert.KernelIdeal.Attn

open Cert.KernelIdeal Cert.KernelIdeal.Gen Idealize.ShloMosaic Idealize.SL.Sem
open Finset

theorem Holds.congr {φ : FTy} {m n : ℕ} {v : FVec Ideal (⟨2, ![m, n]⟩ : Shape) φ} {f g : ℕ → ℕ → ℝ} (h : Holds v f)
    (hfg : ∀ r c, r < m → c < n → f r c = g r c) : Holds v g := fun r c => by
  rw [h r c, hfg r c r.isLt c.isLt]

/-- `κ` keeps the entries of the tile at rows `t0 + r`, columns `s0 + c` that lie strictly below the diagonal. -/
def IsMask (κ : Tile Ideal → Tile Ideal) (t0 s0 : ℕ) : Prop :=
  ∀ (v : Tile Ideal) (f : ℕ → ℕ → ℝ), Holds v f → Holds (κ v) (fun r c => if s0 + c < t0 + r then f r c else 0)

/-- Below the diagonal everything is kept. -/
theorem isMask_id {t0 s0 : ℕ} (h : s0 + 128 ≤ t0) : IsMask id t0 s0 := fun v f hv =>
  hv.congr fun r c _ hc => by rw [if_pos (by omega)]

section Block
variable {z da : ℕ → ℕ → ℝ} {T : ℕ → ℝ} {t0 s0 : ℕ} {κ : Tile Ideal → Tile Ideal} {u : FVec Ideal S256x256 .bf16}
  {zt dat tot run grun : Tile Ideal}

theorem holds_keepLog (hκ : IsMask κ t0 s0) (hz : Holds zt fun r c => z (t0 + r) (s0 + c)) :
    Holds (keepLog κ zt) fun r c => lk z (t0 + r) (s0 + c) :=
  hκ _ _ (holds_sub (holds_logSig hz) hz)

theorem holds_weight (hu : IsSums u) (hκ : IsMask κ t0 s0) (hz : Holds zt fun r c => z (t0 + r) (s0 + c))
    (ht : Holds tot fun r _ => T (t0 + r)) (hr : Holds run fun r _ => cum z (t0 + r) s0) :
    Holds (weight κ u tot zt run) fun r c => wt z T (t0 + r) (s0 + c) := by
  refine (hκ _ _ (holds_exp (holds_add (holds_logSig hz)
    (holds_sub (holds_sub (holds_cs ht) (holds_upto hu (holds_keepLog hκ hz))) hr)))).congr fun r c _ _ => ?_
  rw [wt, add_assoc s0 c 1, cum_add, sub_sub, add_comm (cum z (t0 + r) s0)]

theorem holds_grad (hu : IsSums u) (hκ : IsMask κ t0 s0) (hz : Holds zt fun r c => z (t0 + r) (s0 + c))
    (hda : Holds dat fun r c => da (t0 + r) (s0 + c))
    (ht : Holds tot fun r _ => T (t0 + r)) (hr : Holds run fun r _ => cum z (t0 + r) s0) :
    Holds (grad κ u tot zt dat run) fun r c => gr z da T (t0 + r) (s0 + c) :=
  holds_mul (holds_weight hu hκ hz ht hr) hda

theorem holds_dscore (hu : IsSums u) (hκ : IsMask κ t0 s0) (hz : Holds zt fun r c => z (t0 + r) (s0 + c))
    (hda : Holds dat fun r c => da (t0 + r) (s0 + c))
    (ht : Holds tot fun r _ => T (t0 + r)) (hr : Holds run fun r _ => cum z (t0 + r) s0)
    (hg : Holds grun fun r _ => gsum z da T (t0 + r) s0) :
    Holds (dscore κ u tot zt dat run grun) fun r c => dz z da T (t0 + r) (s0 + c) := by
  have h1 := holds_grad hu hκ hz hda ht hr
  refine (hκ _ _ (holds_sub h1 (holds_mul (holds_exp (holds_logSig hz)) (holds_add hg (holds_upto hu h1))))).congr
    fun r c _ _ => ?_
  rw [dz, add_assoc s0 c 1, gsum_add]

theorem holds_runNext (hu : IsSums u) (hκ : IsMask κ t0 s0) (hz : Holds zt fun r c => z (t0 + r) (s0 + c))
    (hr : Holds run fun r _ => cum z (t0 + r) s0) :
    Holds (runNext κ u zt run) fun r _ => cum z (t0 + r) (s0 + 128) :=
  (holds_add hr (holds_whole hu (holds_keepLog hκ hz))).congr fun r _ _ _ => by rw [cum_add]

theorem holds_grunNext (hu : IsSums u) (hκ : IsMask κ t0 s0) (hz : Holds zt fun r c => z (t0 + r) (s0 + c))
    (hda : Holds dat fun r c => da (t0 + r) (s0 + c))
    (ht : Holds tot fun r _ => T (t0 + r)) (hr : Holds run fun r _ => cum z (t0 + r) s0)
    (hg : Holds grun fun r _ => gsum z da T (t0 + r) s0) :
    Holds (grunNext κ u tot zt dat run grun) fun r _ => gsum z da T (t0 + r) (s0 + 128) :=
  (holds_add hg (holds_whole hu (holds_grad hu hκ hz hda ht hr))).congr fun r _ _ _ => by rw [gsum_add]
end Block

section Group
variable {z da : ℕ → ℕ → ℝ} {T : ℕ → ℝ} {t0 s0 : ℕ} {κ0 κ1 κ2 κ3 : Tile Ideal → Tile Ideal}
  {u : FVec Ideal S256x256 .bf16} {zt dat : Wide Ideal} {tot run grun : Tile Ideal}
  (hu : IsSums u) (k0 : IsMask κ0 t0 s0) (k1 : IsMask κ1 t0 (s0 + 128)) (k2 : IsMask κ2 t0 (s0 + 256))
  (k3 : IsMask κ3 t0 (s0 + 384))
  (hz : Holds zt fun r c => z (t0 + r) (s0 + c)) (hda : Holds dat fun r c => da (t0 + r) (s0 + c))
  (ht : Holds tot fun r _ => T (t0 + r)) (hr : Holds run fun r _ => cum z (t0 + r) s0)
  (hg : Holds grun fun r _ => gsum z da T (t0 + r) s0)

theorem shift1 {w : ℕ → ℕ → ℝ} {v : Wide Ideal} (h : Holds v fun r c => w (t0 + r) (s0 + c)) :
    Holds (cut1 v) fun r c => w (t0 + r) (s0 + 128 + c) :=
  (holds_cut1 h).congr fun r c _ _ => by rw [add_assoc]
theorem shift2 {w : ℕ → ℕ → ℝ} {v : Wide Ideal} (h : Holds v fun r c => w (t0 + r) (s0 + c)) :
    Holds (cut2 v) fun r c => w (t0 + r) (s0 + 256 + c) :=
  (holds_cut2 h).congr fun r c _ _ => by rw [add_assoc]
theorem shift3 {w : ℕ → ℕ → ℝ} {v : Wide Ideal} (h : Holds v fun r c => w (t0 + r) (s0 + c)) :
    Holds (cut3 v) fun r c => w (t0 + r) (s0 + 384 + c) :=
  (holds_cut3 h).congr fun r c _ _ => by rw [add_assoc]

include hu k0 hz hr in
theorem holds_run1 : Holds (run1 κ0 u zt run) fun r _ => cum z (t0 + r) (s0 + 128) :=
  holds_runNext hu k0 (holds_cut0 hz) hr
include hu k0 k1 hz hr in
theorem holds_run2 : Holds (run2 κ0 κ1 u zt run) fun r _ => cum z (t0 + r) (s0 + 256) :=
  holds_runNext hu k1 (shift1 hz) (holds_run1 hu k0 hz hr)
include hu k0 k1 k2 hz hr in
theorem holds_run3 : Holds (run3 κ0 κ1 κ2 u zt run) fun r _ => cum z (t0 + r) (s0 + 384) :=
  holds_runNext hu k2 (shift2 hz) (holds_run2 hu k0 k1 hz hr)
include hu k0 k1 k2 k3 hz hr in
theorem holds_run4 : Holds (run4 κ0 κ1 κ2 κ3 u zt run) fun r _ => cum z (t0 + r) (s0 + 512) :=
  holds_runNext hu k3 (shift3 hz) (holds_run3 hu k0 k1 k2 hz hr)

include hu k0 hz hda ht hr hg in
theorem holds_grun1 : Holds (grun1 κ0 u tot zt dat run grun) fun r _ => gsum z da T (t0 + r) (s0 + 128) :=
  holds_grunNext hu k0 (holds_cut0 hz) (holds_cut0 hda) ht hr hg
include hu k0 k1 hz hda ht hr hg in
theorem holds_grun2 : Holds (grun2 κ0 κ1 u tot zt dat run grun) fun r _ => gsum z da T (t0 + r) (s0 + 256) :=
  holds_grunNext hu k1 (shift1 hz) (shift1 hda) ht (holds_run1 hu k0 hz hr) (holds_grun1 hu k0 hz hda ht hr hg)
include hu k0 k1 k2 hz hda ht hr hg in
theorem holds_grun3 : Holds (grun3 κ0 κ1 κ2 u tot zt dat run grun) fun r _ => gsum z da T (t0 + r) (s0 + 384) :=
  holds_grunNext hu k2 (shift2 hz) (shift2 hda) ht (holds_run2 hu k0 k1 hz hr) (holds_grun2 hu k0 k1 hz hda ht hr hg)
include hu k0 k1 k2 k3 hz hda ht hr hg in
theorem holds_grun4 : Holds (grun4 κ0 κ1 κ2 κ3 u tot zt dat run grun) fun r _ => gsum z da T (t0 + r) (s0 + 512) :=
  holds_grunNext hu k3 (shift3 hz) (shift3 hda) ht (holds_run3 hu k0 k1 k2 hz hr)
    (holds_grun3 hu k0 k1 k2 hz hda ht hr hg)

theorem unshift {φ : FTy} {w : ℕ → ℕ → ℝ} {o : ℕ} {v : FVec Ideal S512x128 φ}
    (h : Holds v fun r c => w (t0 + r) (s0 + o + c)) : Holds v fun r c => w (t0 + r) (s0 + (o + c)) :=
  h.congr fun r c _ _ => by rw [add_assoc]

include hu k0 k1 k2 k3 hz ht hr in
theorem holds_weights : Holds (weights κ0 κ1 κ2 κ3 u tot zt run) fun r c => wt z T (t0 + r) (s0 + c) :=
  holds_beside (f := fun r c => wt z T (t0 + r) (s0 + c)) (holds_weight hu k0 (holds_cut0 hz) ht hr)
    (unshift (holds_weight hu k1 (shift1 hz) ht (holds_run1 hu k0 hz hr)))
    (unshift (holds_weight hu k2 (shift2 hz) ht (holds_run2 hu k0 k1 hz hr)))
    (unshift (holds_weight hu k3 (shift3 hz) ht (holds_run3 hu k0 k1 k2 hz hr)))

include hu k0 k1 k2 k3 hz hda ht hr hg in
theorem holds_dscores : Holds (dscores κ0 κ1 κ2 κ3 u tot zt dat run grun) fun r c => dz z da T (t0 + r) (s0 + c) :=
  holds_beside (f := fun r c => dz z da T (t0 + r) (s0 + c))
    (holds_dscore hu k0 (holds_cut0 hz) (holds_cut0 hda) ht hr hg)
    (unshift (holds_dscore hu k1 (shift1 hz) (shift1 hda) ht (holds_run1 hu k0 hz hr)
      (holds_grun1 hu k0 hz hda ht hr hg)))
    (unshift (holds_dscore hu k2 (shift2 hz) (shift2 hda) ht (holds_run2 hu k0 k1 hz hr)
      (holds_grun2 hu k0 k1 hz hda ht hr hg)))
    (unshift (holds_dscore hu k3 (shift3 hz) (shift3 hda) ht (holds_run3 hu k0 k1 k2 hz hr)
      (holds_grun3 hu k0 k1 k2 hz hda ht hr hg)))
end Group

end Cert.KernelIdeal.Attn

end
-- ==== Proof.Attn.Stores.lean ====
/- What stands in a tile or in a column of 4096 rows after a store over it, and what a slab of such a column is. -/
module

public import proofs.«01_k».proof.Proof.Attn.Body
public import proofs.«01_k».proof.Proof.Attn.Block
public import Idealize.ShloMosaic.Lib.WritesUnit

@[expose] public section

set_option maxRecDepth 16384

noncomputable section

namespace Cert.KernelIdeal.Attn

open Cert.KernelIdeal Cert.KernelIdeal.Gen Idealize.ShloMosaic Idealize.ShloMosaic.TcCoe Idealize.SL.Sem
open Finset

theorem all_eq {F : FTy → Type} {e : EltTy} (X : Vec F S512x128 e) : all X = X :=
  View.ld_unit_zero (S := S512x128) (off := ![0, 0]) (by funext a; fin_cases a <;> rfl) _ X

theorem allU_eq {F : FTy → Type} (X : Vec F S256x256 .bf16) : allU X = X :=
  View.ld_unit_zero (S := S256x256) (off := ![0, 0]) (by funext a; fin_cases a <;> rfl) _ X

/-- A slab of a column: its rows from the slab's first on. -/
theorem slab_apply {F : FTy → Type} {e : EltTy} (X : Vec F S4096x128 e) {off : Fin 2 → ℕ} {o : ℕ} (heq : off = ![o, 0])
    (h : ∀ a, off a + S512x128.size a ≤ S4096x128.size a) (r : Fin 512) (c : Fin 128) (hr : o + r.val < 4096) :
    slab X off h (ix2 r c) = X (ix2 ⟨o + r.val, hr⟩ c) := by
  subst heq
  refine congrArg X ?_
  funext a
  apply Fin.ext
  fin_cases a
  · show o + 1 * r.val = o + r.val
    rw [one_mul]
  · show 0 + 1 * c.val = c.val
    omega

theorem holds_slab16 {X : FVec Ideal S4096x128 .bf16} {f : ℕ → ℕ → ℝ} {off : Fin 2 → ℕ} {o : ℕ}
    (hX : Holds X f) (heq : off = ![o, 0]) (h : ∀ a, off a + S512x128.size a ≤ S4096x128.size a) :
    Holds (φ := .bf16) (slab (F := Ideal) (e := .bf16) X off h : FVec Ideal S512x128 .bf16) (fun r c => f (o + r) c) := fun r c => by
  have h0 : o + 512 ≤ 4096 := by subst heq; exact h 0
  have hr : o + r.val < 4096 := by omega
  exact (slab_apply (F := Ideal) (e := .bf16) X heq h r c hr).trans (hX ⟨o + r.val, hr⟩ c)

theorem holds_slab {X : FVec Ideal S4096x128 .f32} {f : ℕ → ℕ → ℝ} {off : Fin 2 → ℕ} {o : ℕ}
    (hX : Holds X f) (heq : off = ![o, 0]) (h : ∀ a, off a + S512x128.size a ≤ S4096x128.size a) :
    Holds (φ := .f32) (slab (F := Ideal) (e := .f32) X off h : FVec Ideal S512x128 .f32) (fun r c => f (o + r) c) := fun r c => by
  have h0 : o + 512 ≤ 4096 := by subst heq; exact h 0
  have hr : o + r.val < 4096 := by omega
  exact (slab_apply (F := Ideal) (e := .f32) X heq h r c hr).trans (hX ⟨o + r.val, hr⟩ c)

/-- A store of a whole tile leaves that tile. -/
theorem read_tile {F : FTy → Type} {sig : RefSig} (a : Memref sig .tc .vmem S512x128 .f32) (f : BufTy.Contents (Elt F) a.view.ty)
    (h : ∀ x : Fin S512x128.rank, (![0, 0] : Fin 2 → ℕ) x + S512x128.size x ≤ S512x128.size x) (w : Vec F S512x128 .f32)
    (L : List (View.Piece (Elt F) S512x128 .f32)) :
    a.view.read (Elt F) (a.view.writes (Elt F) f (⟨Rect.unit (s := S512x128) ![0, 0] S512x128.size h, w⟩ :: L)) = w := by
  funext y
  refine View.read_writes_cons_unit_of_mem a.view f h w L y y rfl fun x => ?_
  fin_cases x <;> exact (Nat.zero_add _).symm

/-- A store of a whole column leaves that column. -/
theorem read_column {F : FTy → Type} {sig : RefSig} (a : Memref sig .tc .vmem S4096x128 .f32) (f : BufTy.Contents (Elt F) a.view.ty)
    (h : ∀ x : Fin S4096x128.rank, (![0, 0] : Fin 2 → ℕ) x + S4096x128.size x ≤ S4096x128.size x) (w : Vec F S4096x128 .f32)
    (L : List (View.Piece (Elt F) S4096x128 .f32)) :
    a.view.read (Elt F) (a.view.writes (Elt F) f (⟨Rect.unit (s := S4096x128) ![0, 0] S4096x128.size h, w⟩ :: L)) = w := by
  funext y
  refine View.read_writes_cons_unit_of_mem a.view f h w L y y rfl fun x => ?_
  fin_cases x <;> exact (Nat.zero_add _).symm

/-- A store of a slab over a column: the slab's rows are the new ones, the others stay. -/
theorem holds_column {sig : RefSig} (a : Memref sig .tc .vmem S4096x128 .f32) (f : BufTy.Contents (Elt Ideal) a.view.ty)
    {off : Fin 2 → ℕ} {o : ℕ} (heq : off = ![o, 0]) (h : ∀ x, off x + S512x128.size x ≤ S4096x128.size x)
    (w : Tile Ideal) (L : List (View.Piece (Elt Ideal) S4096x128 .f32)) {A W B : ℕ → ℕ → ℝ}
    (hA : Holds (φ := .f32) (a.view.read (Elt Ideal) (a.view.writes (Elt Ideal) f L)) A) (hW : Holds w W)
    (hin : ∀ r c, r < 512 → B (o + r) c = W r c)
    (hout : ∀ s c, s < o ∨ o + 512 ≤ s → B s c = A s c) :
    Holds (φ := .f32) (a.view.read (Elt Ideal) (a.view.writes (Elt Ideal) f
      (⟨Rect.unit (s := S4096x128) off S512x128.size h, w⟩ :: L))) B := by
  intro s c
  have hs := s.isLt
  by_cases hm : o ≤ s.val ∧ s.val < o + 512
  · have e := View.read_writes_cons_rows_of_mem a.view f h w L (ix2 s c)
      (ix2 (⟨s.val - o, by omega⟩ : Fin 512) c) heq (by show s.val = o + (s.val - o); omega) rfl
    refine e.trans ?_
    rw [hW ⟨s.val - o, by omega⟩ c, ← hin _ _ (by omega : s.val - o < 512), Nat.add_sub_cancel' hm.1]
  · have e := View.read_writes_cons_rows_of_not_mem (W := 512) a.view f h w L (ix2 s c) heq rfl
      (by show s.val < o ∨ o + 512 ≤ s.val; omega)
    refine e.trans ?_
    rw [hA s c, hout _ _ (by omega)]

end Cert.KernelIdeal.Attn

end
-- ==== Proof.Attn.Places.lean ====
/- Where a grid point's loop runs and what its offsets and masks are, as plain numbers. -/
module

public import proofs.«01_k».proof.Proof.Attn.Body
public import proofs.«01_k».proof.Proof.Attn.Block
public import Idealize.ShloMosaic.Lib.Tactic.WordOmega
public import Idealize.ShloMosaic.Lib.WordCmp

@[expose] public section

set_option maxRecDepth 16384

noncomputable section

namespace Cert.KernelIdeal.Attn

open Cert.KernelIdeal Cert.KernelIdeal.Gen Idealize.ShloMosaic Idealize.ShloMosaic.TcCoe Idealize.SL.Sem

theorem trips_one (i : grid0.Coords) : (k0_t1_loop i).trips = (i 1).val := by
  have h : ∀ j : Fin 8, Scf.trips (0#32) (Scalar.addi (0#32)
      (Scalar.muli (Scalar.divsi (Scalar.subi (Scalar.muli (BitVec.ofNat 32 j.val) 1#32) 0#32) 1#32) 1#32)) 1#32 = j.val := by
    decide +kernel
  exact h (i 1)

theorem trips_two (i : grid0.Coords) : (k0_t2_loop i).trips = 0 := by
  have h : ∀ j : Fin 8, Scf.trips (Scalar.addi (0#32)
      (Scalar.muli (Scalar.divsi (Scalar.subi (Scalar.muli (BitVec.ofNat 32 j.val) 1#32) 0#32) 1#32) 1#32))
      (Scalar.addi (0#32) (Scalar.subi (Scalar.muli (BitVec.ofNat 32 j.val) 1#32) 0#32)) 1#32 = 0 := by
    decide +kernel
  exact h (i 1)

theorem off_one (i : grid0.Coords) (k : Fin (k0_t1_loop i).trips) : k0_off1 i k = ![512 * k.val, 0] := by
  have hk : k.val < 8 := lt_trans (lt_of_lt_of_eq k.isLt (trips_one i)) (i 1).isLt
  have h : ∀ j : Fin 8, (Scalar.indexCast (Scalar.muli (Scalar.muli (Scf.iv (0#32) 1#32 j.val) 4#32) 128#32)).toNat
      = 512 * j.val := by decide +kernel
  exact congrArg (fun n => ![n, 0]) (h ⟨k.val, hk⟩)

theorem off_three (i : grid0.Coords) : k0_off3 i = ![512 * (i 1).val, 0] := by
  have h : ∀ j : Fin 8, (Scalar.indexCast (Scalar.muli (Scalar.addi (Scalar.muli (BitVec.ofNat 32 j.val) 4#32) 0#32)
      128#32)).toNat = 512 * j.val := by decide +kernel
  exact congrArg (fun n => ![n, 0]) (h (i 1))

theorem isMask_κm (i : grid0.Coords) (o : ℕ) (ho : o < 512) :
    IsMask (κm i (BitVec.ofNat 32 o)) (512 * (i 1).val) (512 * (i 1).val + o) := by
  intro v f hv r c
  have hi : (i 1).val < 8 := (i 1).isLt
  have hr := r.isLt
  have hc := c.isLt
  pointwise [κm, before, zeroT]
  rw [hv r c]
  have e1 : (IntOp.addi (Scalar.addi (Scalar.muli (Scalar.addi (Scalar.muli (BitVec.ofNat 32 (i 1).val) 4#32) 0#32) 128#32)
      (BitVec.ofNat 32 o)) (BitVec.ofNat 32 c.val)) = BitVec.ofNat 32 (512 * (i 1).val + o + c.val) := by
    refine BitVec.eq_of_toNat_eq ?_
    show (((BitVec.ofNat 32 (i 1).val * 4#32 + 0#32) * 128#32 + BitVec.ofNat 32 o) + BitVec.ofNat 32 c.val).toNat = _
    simp only [BitVec.toNat_add, BitVec.toNat_mul, BitVec.toNat_ofNat]
    omega
  have e2 : (IntOp.addi (Scalar.muli (BitVec.ofNat 32 (i 1).val) 512#32) (BitVec.ofNat 32 r.val))
      = BitVec.ofNat 32 (512 * (i 1).val + r.val) := by
    refine BitVec.eq_of_toNat_eq ?_
    show (BitVec.ofNat 32 (i 1).val * 512#32 + BitVec.ofNat 32 r.val).toNat = _
    simp only [BitVec.toNat_add, BitVec.toNat_mul, BitVec.toNat_ofNat]
    omega
  rw [e1, e2, WordCmp.cmpi_slt_eq, WordCmp.select_ofBool, WordCmp.toInt_ofNat_of_lt (by omega),
    WordCmp.toInt_ofNat_of_lt (by omega)]
  by_cases h : 512 * (i 1).val + o + c.val < 512 * (i 1).val + r.val
  · rw [if_pos h, if_pos (decide_eq_true (by exact_mod_cast h))]
  · rw [if_neg h, if_neg (by rw [decide_eq_true_eq]; exact_mod_cast h)]; rfl

end Cert.KernelIdeal.Attn

end
-- ==== Proof.Attn.Step.lean ====
/- One head at a query tile: what the running sums and the three gradients hold before a group of 512 keys, and what
   the group makes of them. -/
module

public import proofs.«01_k».proof.Proof.Attn.Stores
public import proofs.«01_k».proof.Proof.Attn.Places
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem
open Finset

/-- Rows against rows of one head. -/
def sc (a b : ℕ → ℕ → ℝ) (t s : ℕ) : ℝ := ∑ d ∈ range 128, a t d * b s d

section
variable (q k v o : ℕ → ℕ → ℝ) (T : ℕ → ℝ)

/-- The query's gradient from the first `n` keys. -/
def dqU (n t d : ℕ) : ℝ := ∑ s ∈ range n, dz (sc q k) (sc o v) T t s * k s d
/-- The key's gradient from the first `m` queries. -/
def dkU (m s d : ℕ) : ℝ := ∑ t ∈ range m, dz (sc q k) (sc o v) T t s * q t d
/-- The value's gradient from the first `m` queries. -/
def dvU (m s d : ℕ) : ℝ := ∑ t ∈ range m, wt (sc q k) T t s * o t d

/-- What a point reads, at the query tile starting at row `t0`. -/
structure Reads (t0 : ℕ) (Q D : Tile16 Ideal) (tot : Tile Ideal) (u : FVec Ideal S256x256 .bf16)
    (K V : FVec Ideal S4096x128 .bf16) : Prop where
  q : Holds Q fun r d => q (t0 + r) d
  o : Holds D fun r d => o (t0 + r) d
  tot : Holds tot fun r _ => T (t0 + r)
  u : IsSums u
  k : Holds K k
  v : Holds V v

/-- What the point keeps, after `n` groups of 512 keys. -/
structure Kept (t0 n : ℕ) (dq : Tile Ideal) (dk dv : FVec Ideal S4096x128 .f32) (run grun : Tile Ideal) : Prop where
  dq : Holds dq fun r d => dqU q k v o T (512 * n) (t0 + r) d
  dk : Holds dk fun s d => dkU q k v o T (if s < 512 * n then t0 + 512 else t0) s d
  dv : Holds dv fun s d => dvU q k o T (if s < 512 * n then t0 + 512 else t0) s d
  run : Holds run fun r _ => cum (sc q k) (t0 + r) (512 * n)
  grun : Holds grun fun r _ => gsum (sc q k) (sc o v) T (t0 + r) (512 * n)
end

section Cast
variable {f : ℕ → ℕ → ℝ}
theorem holds_pay131 {v : Tile16 Ideal} (h : Holds v f) : Holds (k0_pay131 v) f := by
  intro r c; pointwise [k0_pay131]; exact h r c
theorem holds_pay132 {v : Tile16 Ideal} (h : Holds v f) : Holds (k0_pay132 v) f := by
  intro r c; pointwise [k0_pay132]; exact h r c
theorem pay133_eq (v : FVec Ideal S256x256 .bf16) : k0_pay133 v = v := by
  funext j; rw [← ix2_eta j]; pointwise [k0_pay133]
theorem cast_eq (v : Tile Ideal) : shapeCast S512x128 v shapeCasts_S512x128_S512x128 = v := by
  funext j; rw [← ix2_eta j]; pointwise []
end Cast

section Group
variable {q k v o : ℕ → ℕ → ℝ} {T : ℕ → ℝ} {t0 n : ℕ} {Q D : Tile16 Ideal} {tot : Tile Ideal}
  {u : FVec Ideal S256x256 .bf16} {K V : FVec Ideal S4096x128 .bf16}
  {dq : Tile Ideal} {dk dv : FVec Ideal S4096x128 .f32} {run grun : Tile Ideal}
  {κ0 κ1 κ2 κ3 : Tile Ideal → Tile Ideal}
  (hR : Reads q k v o T t0 Q D tot u K V) (hK : Kept q k v o T t0 n dq dk dv run grun)
  (k0 : IsMask κ0 t0 (512 * n)) (k1 : IsMask κ1 t0 (512 * n + 128)) (k2 : IsMask κ2 t0 (512 * n + 256))
  (k3 : IsMask κ3 t0 (512 * n + 384))
  {off : Fin 2 → ℕ} (hoff : off = ![512 * n, 0]) (h : ∀ a, off a + S512x128.size a ≤ S4096x128.size a)

/-- The scores of the slab. -/
abbrev zOf (Q : Tile16 Ideal) (K : FVec Ideal S4096x128 .bf16) (off : Fin 2 → ℕ)
    (h : ∀ a, off a + S512x128.size a ≤ S4096x128.size a) : Wide Ideal :=
  rowsByRows (k0_pay131 Q) (k0_pay131 (slab (F := Ideal) (e := .bf16) K off h))
/-- The gradients of its weights. -/
abbrev daOf (D : Tile16 Ideal) (V : FVec Ideal S4096x128 .bf16) (off : Fin 2 → ℕ)
    (h : ∀ a, off a + S512x128.size a ≤ S4096x128.size a) : Wide Ideal :=
  rowsByRows (k0_pay132 D) (k0_pay131 (slab (F := Ideal) (e := .bf16) V off h))

include hR hoff in
theorem holds_zOf : Holds (zOf Q K off h) fun r c => sc q k (t0 + r) (512 * n + c) :=
  holds_rowsByRows (holds_pay131 hR.q) (holds_pay131 (holds_slab16 hR.k hoff h))
include hR hoff in
theorem holds_daOf : Holds (daOf D V off h) fun r c => sc o v (t0 + r) (512 * n + c) :=
  holds_rowsByRows (holds_pay132 hR.o) (holds_pay131 (holds_slab16 hR.v hoff h))

include hR hK k0 k1 k2 k3 hoff in
theorem step_run : Holds (run4 κ0 κ1 κ2 κ3 (k0_pay133 u) (zOf Q K off h) run)
    fun r _ => cum (sc q k) (t0 + r) (512 * (n + 1)) := by
  rw [pay133_eq]
  exact holds_run4 hR.u k0 k1 k2 k3 (holds_zOf hR hoff h) hK.run

include hR hK k0 k1 k2 k3 hoff in
theorem step_grun : Holds (grun4 κ0 κ1 κ2 κ3 (k0_pay133 u) tot (zOf Q K off h) (daOf D V off h) run grun)
    fun r _ => gsum (sc q k) (sc o v) T (t0 + r) (512 * (n + 1)) := by
  rw [pay133_eq]
  exact holds_grun4 hR.u k0 k1 k2 k3 (holds_zOf hR hoff h) (holds_daOf hR hoff h) hR.tot hK.run hK.grun

include hR hK k0 k1 k2 k3 hoff in
theorem step_dscores : Holds (dscores κ0 κ1 κ2 κ3 (k0_pay133 u) tot (zOf Q K off h) (daOf D V off h) run grun)
    fun r c => dz (sc q k) (sc o v) T (t0 + r) (512 * n + c) := by
  rw [pay133_eq]
  exact holds_dscores hR.u k0 k1 k2 k3 (holds_zOf hR hoff h) (holds_daOf hR hoff h) hR.tot hK.run hK.grun

include hR hK k0 k1 k2 k3 hoff in
theorem step_weights : Holds (weights κ0 κ1 κ2 κ3 (k0_pay133 u) tot (zOf Q K off h) run)
    fun r c => wt (sc q k) T (t0 + r) (512 * n + c) := by
  rw [pay133_eq]
  exact holds_weights hR.u k0 k1 k2 k3 (holds_zOf hR hoff h) hR.tot hK.run

include hR hK k0 k1 k2 k3 hoff in
/-- The query's gradient after the group. -/
theorem step_dq : Holds (intoRows dq
      (dscores κ0 κ1 κ2 κ3 (k0_pay133 u) tot (zOf Q K off h) (daOf D V off h) run grun)
      (k0_pay131 (slab (F := Ideal) (e := .bf16) K off h)))
    fun r d => dqU q k v o T (512 * (n + 1)) (t0 + r) d :=
  (holds_intoRows hK.dq (step_dscores hR hK k0 k1 k2 k3 hoff h) (holds_pay131 (holds_slab16 hR.k hoff h))).congr
    fun r d _ _ => by rw [dqU, dqU, Nat.mul_succ, Finset.sum_range_add]

include hR hK k0 k1 k2 k3 hoff in
/-- The slab of the keys' gradient after the group. -/
theorem step_dk : Holds (intoKeys (slab (F := Ideal) (e := .f32) dk off h)
      (dscores κ0 κ1 κ2 κ3 (k0_pay133 u) tot (zOf Q K off h) (daOf D V off h) run grun) (k0_pay131 Q))
    fun r d => dkU q k v o T (t0 + 512) (512 * n + r) d :=
  (holds_intoKeys (holds_slab hK.dk hoff h) (step_dscores hR hK k0 k1 k2 k3 hoff h) (holds_pay131 hR.q)).congr
    fun r d _ _ => by rw [if_neg (by omega), dkU, dkU, Finset.sum_range_add]

include hR hK k0 k1 k2 k3 hoff in
/-- The slab of the values' gradient after the group. -/
theorem step_dv : Holds (intoKeys (slab (F := Ideal) (e := .f32) dv off h)
      (weights κ0 κ1 κ2 κ3 (k0_pay133 u) tot (zOf Q K off h) run) (k0_pay132 D))
    fun r d => dvU q k o T (t0 + 512) (512 * n + r) d :=
  (holds_intoKeys (holds_slab hK.dv hoff h) (step_weights hR hK k0 k1 k2 k3 hoff h) (holds_pay132 hR.o)).congr
    fun r d _ _ => by rw [if_neg (by omega), dvU, dvU, Finset.sum_range_add]
end Group

end Cert.KernelIdeal.Attn

end
-- ==== Proof.Attn.State.lean ====
/- The loop over the groups below the diagonal: what is kept stands at every trip. -/
module

public import proofs.«01_k».proof.Proof.Attn.Step

@[expose] public section

set_option maxRecDepth 65536

noncomputable section

namespace Cert.KernelIdeal.Attn

open Cert.KernelIdeal Cert.KernelIdeal.Gen Idealize.ShloMosaic Idealize.ShloMosaic.TcCoe Idealize.SL.Sem
open Finset

section
variable (𝒱 : Variants) (c : Dev nD) (bd : Option 𝒱.V) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S256x256 .bf16) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .f32) (harg12 : arg12.IsWhole)
  (v3 v5 : Vec Ideal S512x128 .bf16) (v7 : Vec Ideal S256x256 .bf16)
  (X3 : BufTy.Contents (Elt Ideal) arg3.view.ty) (X4 : BufTy.Contents (Elt Ideal) arg4.view.ty) (X5 : BufTy.Contents (Elt Ideal) arg5.view.ty)
  (G8 : BufTy.Contents (Elt Ideal) arg8.view.ty) (G9 : BufTy.Contents (Elt Ideal) arg9.view.ty) (G10 : BufTy.Contents (Elt Ideal) arg10.view.ty)
  (G11 : BufTy.Contents (Elt Ideal) arg11.view.ty) (G12 : BufTy.Contents (Elt Ideal) arg12.view.ty)
  {q k v o : ℕ → ℕ → ℝ} {T : ℕ → ℝ}
  (hR : Reads q k v o T (512 * (i 1).val) v3 v5 (arg5.view.read (Elt Ideal) X5) v7 (arg3.view.read (Elt Ideal) X3) (arg4.view.read (Elt Ideal) X4))
  (hK : Kept q k v o T (512 * (i 1).val) 0 (arg8.view.read (Elt Ideal) G8) (arg9.view.read (Elt Ideal) G9) (arg10.view.read (Elt Ideal) G10)
    (arg11.view.read (Elt Ideal) G11) (arg12.view.read (Elt Ideal) G12))

include hR hK in
theorem loop_kept (n : ℕ) (hn : n ≤ (i 1).val) : Kept q k v o T (512 * (i 1).val) n
    (arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 arg10 harg10 arg11 harg11 arg12 harg12 v3 v5 v7 X3 X4 X5 G8 G9 G10 G11 G12 n).1))
    (arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 arg12 harg12 v3 v5 v7 X3 X4 X5 G8 G9 G10 G11 G12 n).2.1))
    (arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 v3 v5 v7 X3 X4 X5 G8 G9 G10 G11 G12 n).2.2.1))
    (arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 v3 v5 v7 X3 X4 X5 G8 G9 G10 G11 G12 n).2.2.2.1))
    (arg12.view.read (Elt Ideal) (arg12.view.writes (Elt Ideal) G12 (pb_k0_t1 (F := Ideal) 𝒱 c bd i arg2 harg2 arg3 harg3 arg4 harg4 arg5 harg5 arg6 harg6 arg7 harg7 arg8 harg8 arg9 harg9 arg10 harg10 arg11 harg11 arg12 harg12 v3 v5 v7 X3 X4 X5 G8 G9 G10 G11 G12 n).2.2.2.2)) := by
  induction n with
  | zero => exact hK
  | succ n ih =>
    have hK := ih (by omega)
    have hlt : n < (k0_t1_loop i).trips := by rw [trips_one]; omega
    have hoff : k0_off1 i ⟨n, hlt⟩ = ![512 * n, 0] := off_one i ⟨n, hlt⟩
    have hinb := k0_off1_inb i ⟨n, hlt⟩
    have m0 : IsMask id (512 * (i 1).val) (512 * n) := isMask_id (by omega)
    have m1 : IsMask id (512 * (i 1).val) (512 * n + 128) := isMask_id (by omega)
    have m2 : IsMask id (512 * (i 1).val) (512 * n + 256) := isMask_id (by omega)
    have m3 : IsMask id (512 * (i 1).val) (512 * n + 384) := isMask_id (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 v3 v5 v7 X3 X4 X5 G8 G9 G10 G11 G12 ⟨n, hlt⟩
    replace e : (pb_k0_t1 (F := Ideal) 𝒱 c bd i arg2 harg2 arg3 harg3 arg4 harg4 arg5 harg5 arg6 harg6 arg7 harg7 arg8 harg8 arg9 harg9 arg10 harg10 arg11 harg11 arg12 harg12 v3 v5 v7 X3 X4 X5 G8 G9 G10 G11 G12 (n + 1)) = _ := e
    rw [e, trip_dq, trip_dk, trip_dv, trip_run, trip_grun, all_eq, all_eq, all_eq, all_eq]
    constructor
    · refine Eq.mpr (congrArg (fun w => Holds (φ := .f32) w _) (read_tile arg8 G8 _ _ _)) ?_
      exact step_dq hR hK m0 m1 m2 m3 hoff hinb
    · refine holds_column arg9 G9 hoff _ _ _ hK.dk (step_dk hR hK m0 m1 m2 m3 hoff hinb) (fun r d hr => ?_) fun s d hs => ?_
      · show dkU q k v o T (if 512 * n + r < _ then _ else _) (512 * n + r) d = _
        rw [if_pos (by omega)]
      · by_cases h : s < 512 * n
        · rw [if_pos h, if_pos (by omega)]
        · rw [if_neg h, if_neg (by omega)]
    · refine holds_column arg10 G10 hoff _ _ _ hK.dv (step_dv hR hK m0 m1 m2 m3 hoff hinb) (fun r d hr => ?_) fun s d hs => ?_
      · show dvU q k o T (if 512 * n + r < _ then _ else _) (512 * n + r) d = _
        rw [if_pos (by omega)]
      · by_cases h : s < 512 * n
        · rw [if_pos h, if_pos (by omega)]
        · rw [if_neg h, if_neg (by omega)]
    · refine Eq.mpr (congrArg (fun w => Holds (φ := .f32) w _) (read_tile arg11 G11 _ _ _)) ?_
      rw [cast_eq]
      exact step_run hR hK m0 m1 m2 m3 hoff hinb
    · refine Eq.mpr (congrArg (fun w => Holds (φ := .f32) w _) (read_tile arg12 G12 _ _ _)) ?_
      rw [cast_eq]
      exact step_grun hR hK m0 m1 m2 m3 hoff hinb
end

end Cert.KernelIdeal.Attn

end
-- ==== Proof.Attn.Points.lean ====
/- A grid point's outputs: at query tile `i` of a head, the queries' gradients of the tile from all its keys, and the
   keys' and values' gradients from all query tiles up to it. -/
module

public import proofs.«01_k».proof.Proof.Attn.State

@[expose] public section

set_option maxRecDepth 65536

noncomputable section

namespace Cert.KernelIdeal.Attn

open Cert.KernelIdeal Cert.KernelIdeal.Gen Idealize.ShloMosaic Idealize.ShloMosaic.TcCoe Idealize.SL.Sem
open Finset

theorem holds_zero134 : Holds (k0_pay134 : Tile Ideal) fun _ _ => 0 := fun r c => by
  pointwise [k0_pay134]; exact EReal.coe_zero.symm
theorem holds_zero135 : Holds (k0_pay135 : Tile Ideal) fun _ _ => 0 := fun r c => by
  pointwise [k0_pay135]; exact EReal.coe_zero.symm
theorem holds_zero136 : Holds (k0_pay136 : Tile Ideal) fun _ _ => 0 := fun r c => by
  pointwise [k0_pay136]; exact EReal.coe_zero.symm
theorem holds_zero129 : Holds (k0_pay129 : FVec Ideal S4096x128 .f32) fun _ _ => 0 := fun r c => by
  pointwise [k0_pay129]; exact EReal.coe_zero.symm
theorem holds_zero130 : Holds (k0_pay130 : FVec Ideal S4096x128 .f32) fun _ _ => 0 := fun r c => by
  pointwise [k0_pay130]; exact EReal.coe_zero.symm

section Beyond
variable {q k v o : ℕ → ℕ → ℝ} {T : ℕ → ℝ} {m m' s d : ℕ}
/-- Queries at or before a key add nothing to its gradient. -/
theorem dkU_beyond (h : m ≤ m') (hs : m' ≤ s) : dkU q k v o T m s d = dkU q k v o T m' s d := by
  have z : ∀ n, n ≤ s → dkU q k v o T n s d = 0 := fun n hn => Finset.sum_eq_zero fun t ht => by
    rw [dz_of_not_lt _ _ _ (by have := Finset.mem_range.mp ht; omega), zero_mul]
  rw [z m (by omega), z m' hs]
theorem dvU_beyond (h : m ≤ m') (hs : m' ≤ s) : dvU q k o T m s d = dvU q k o T m' s d := by
  have z : ∀ n, n ≤ s → dvU q k o T n s d = 0 := fun n hn => Finset.sum_eq_zero fun t ht => by
    rw [wt_of_not_lt _ _ (by have := Finset.mem_range.mp ht; omega), zero_mul]
  rw [z m (by omega), z m' hs]
end Beyond

/-- Before the first group nothing is summed. -/
theorem kept_zero {q k v o : ℕ → ℕ → ℝ} {T : ℕ → ℝ} {t0 : ℕ} {dq run grun : Tile Ideal}
    {dk dv : FVec Ideal S4096x128 .f32} (h1 : Holds dq fun _ _ => 0) (h2 : Holds run fun _ _ => 0)
    (h3 : Holds grun fun _ _ => 0) (h4 : Holds dk fun s d => dkU q k v o T t0 s d)
    (h5 : Holds dv fun s d => dvU q k o T t0 s d) : Kept q k v o T t0 0 dq dk dv run grun where
  dq := h1.congr fun _ _ _ _ => by rw [dqU, Nat.mul_zero, Finset.sum_range_zero]
  dk := h4.congr fun s d _ _ => by rw [if_neg (by omega)]
  dv := h5.congr fun s d _ _ => by rw [if_neg (by omega)]
  run := h2.congr fun _ _ _ _ => by rw [cum, Nat.mul_zero, Finset.sum_range_zero]
  grun := h3.congr fun _ _ _ _ => by rw [gsum, Nat.mul_zero, Finset.sum_range_zero]

section
variable (c : Dev nD) (i : grid0.Coords) (arg2 : Memref sig .tc .vmem S512x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x128 .f32) (harg5 : arg5.IsWhole) (arg6 : Memref sig .tc .vmem S512x128 .bf16) (harg6 : arg6.IsWhole) (arg7 : Memref sig .tc .vmem S256x256 .bf16) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S512x128 .f32) (harg11 : arg11.IsWhole) (arg12 : Memref sig .tc .vmem S512x128 .f32) (harg12 : arg12.IsWhole)
  (x0 : Vec Ideal S512x128 .bf16) (x1 : Vec Ideal S4096x128 .bf16) (x2 : Vec Ideal S4096x128 .bf16)
  (x3 : Vec Ideal S512x128 .f32) (x4 : Vec Ideal S512x128 .bf16) (x5 : Vec Ideal S256x256 .bf16)
  (xo7 xo8 : Vec Ideal S4096x128 .f32)
  {q k v o : ℕ → ℕ → ℝ} {T : ℕ → ℝ}
  (hR : Reads q k v o T (512 * (i 1).val) x0 x4 x3 x5 x1 x2)

include hR in
/-- What the point reads through its buffers. -/
theorem reads : Reads q k v o T (512 * (i 1).val) (all (arg2.view.read (Elt Ideal) (harg2.unread x0)))
    (all (arg6.view.read (Elt Ideal) (harg6.unread x4))) (arg5.view.read (Elt Ideal) (harg5.unread x3))
    (allU (arg7.view.read (Elt Ideal) (harg7.unread x5))) (arg3.view.read (Elt Ideal) (harg3.unread x1))
    (arg4.view.read (Elt Ideal) (harg4.unread x2)) := by
  rw [all_eq, all_eq, allU_eq, harg2.read_unread, harg3.read_unread, harg4.read_unread, harg5.read_unread,
    harg6.read_unread, harg7.read_unread]
  exact hR

theorem twoA_eq : twoA c i arg2 harg2 arg3 harg3 arg4 harg4 arg5 harg5 arg6 harg6 arg7 harg7 arg8 harg8 arg9 harg9 arg10 harg10 arg11 harg11 arg12 harg12 x0 x1 x2 x3 x4 x5 = (([], [], [], [], []) : Lists Ideal) := by
  unfold twoA loopTwo
  rw [trips_two]
  rfl

theorem listA_8 : (twoA c i arg2 harg2 arg3 harg3 arg4 harg4 arg5 harg5 arg6 harg6 arg7 harg7 arg8 harg8 arg9 harg9 arg10 harg10 arg11 harg11 arg12 harg12 x0 x1 x2 x3 x4 x5).1 ++ ((oneA c i arg2 harg2 arg3 harg3 arg4 harg4 arg5 harg5 arg6 harg6 arg7 harg7 arg8 harg8 arg9 harg9 arg10 harg10 arg11 harg11 arg12 harg12 x0 x1 x2 x3 x4 x5).1 ++ [⟨Rect.unit ![0, 0] S512x128.size inb_S512x128_S512x128_0_0, k0_pay134 (F := Ideal)⟩])
    = ((oneA c i arg2 harg2 arg3 harg3 arg4 harg4 arg5 harg5 arg6 harg6 arg7 harg7 arg8 harg8 arg9 harg9 arg10 harg10 arg11 harg11 arg12 harg12 x0 x1 x2 x3 x4 x5).1 ++ [⟨Rect.unit ![0, 0] S512x128.size inb_S512x128_S512x128_0_0, k0_pay134 (F := Ideal)⟩]) := by
  rw [twoA_eq]; rfl
theorem listA_9 : (twoA c i arg2 harg2 arg3 harg3 arg4 harg4 arg5 harg5 arg6 harg6 arg7 harg7 arg8 harg8 arg9 harg9 arg10 harg10 arg11 harg11 arg12 harg12 x0 x1 x2 x3 x4 x5).2.1 ++ ((oneA c i arg2 harg2 arg3 harg3 arg4 harg4 arg5 harg5 arg6 harg6 arg7 harg7 arg8 harg8 arg9 harg9 arg10 harg10 arg11 harg11 arg12 harg12 x0 x1 x2 x3 x4 x5).2.1 ++ [⟨Rect.unit ![0, 0] S4096x128.size inb_S4096x128_S4096x128_0_0, k0_pay129 (F := Ideal)⟩])
    = ((oneA c i arg2 harg2 arg3 harg3 arg4 harg4 arg5 harg5 arg6 harg6 arg7 harg7 arg8 harg8 arg9 harg9 arg10 harg10 arg11 harg11 arg12 harg12 x0 x1 x2 x3 x4 x5).2.1 ++ [⟨Rect.unit ![0, 0] S4096x128.size inb_S4096x128_S4096x128_0_0, k0_pay129 (F := Ideal)⟩]) := by
  rw [twoA_eq]; rfl
theorem listA_10 : (twoA c i arg2 harg2 arg3 harg3 arg4 harg4 arg5 harg5 arg6 harg6 arg7 harg7 arg8 harg8 arg9 harg9 arg10 harg10 arg11 harg11 arg12 harg12 x0 x1 x2 x3 x4 x5).2.2.1 ++ ((oneA c i arg2 harg2 arg3 harg3 arg4 harg4 arg5 harg5 arg6 harg6 arg7 harg7 arg8 harg8 arg9 harg9 arg10 harg10 arg11 harg11 arg12 harg12 x0 x1 x2 x3 x4 x5).2.2.1 ++ [⟨Rect.unit ![0, 0] S4096x128.size inb_S4096x128_S4096x128_0_0, k0_pay130 (F := Ideal)⟩])
    = ((oneA c i arg2 harg2 arg3 harg3 arg4 harg4 arg5 harg5 arg6 harg6 arg7 harg7 arg8 harg8 arg9 harg9 arg10 harg10 arg11 harg11 arg12 harg12 x0 x1 x2 x3 x4 x5).2.2.1 ++ [⟨Rect.unit ![0, 0] S4096x128.size inb_S4096x128_S4096x128_0_0, k0_pay130 (F := Ideal)⟩]) := by
  rw [twoA_eq]; rfl
theorem listA_11 : (twoA c i arg2 harg2 arg3 harg3 arg4 harg4 arg5 harg5 arg6 harg6 arg7 harg7 arg8 harg8 arg9 harg9 arg10 harg10 arg11 harg11 arg12 harg12 x0 x1 x2 x3 x4 x5).2.2.2.1 ++ ((oneA c i arg2 harg2 arg3 harg3 arg4 harg4 arg5 harg5 arg6 harg6 arg7 harg7 arg8 harg8 arg9 harg9 arg10 harg10 arg11 harg11 arg12 harg12 x0 x1 x2 x3 x4 x5).2.2.2.1 ++ [⟨Rect.unit ![0, 0] S512x128.size inb_S512x128_S512x128_0_0, k0_pay135 (F := Ideal)⟩])
    = ((oneA c i arg2 harg2 arg3 harg3 arg4 harg4 arg5 harg5 arg6 harg6 arg7 harg7 arg8 harg8 arg9 harg9 arg10 harg10 arg11 harg11 arg12 harg12 x0 x1 x2 x3 x4 x5).2.2.2.1 ++ [⟨Rect.unit ![0, 0] S512x128.size inb_S512x128_S512x128_0_0, k0_pay135 (F := Ideal)⟩]) := by
  rw [twoA_eq]; rfl
theorem listA_12 : (twoA c i arg2 harg2 arg3 harg3 arg4 harg4 arg5 harg5 arg6 harg6 arg7 harg7 arg8 harg8 arg9 harg9 arg10 harg10 arg11 harg11 arg12 harg12 x0 x1 x2 x3 x4 x5).2.2.2.2 ++ ((oneA c i arg2 harg2 arg3 harg3 arg4 harg4 arg5 harg5 arg6 harg6 arg7 harg7 arg8 harg8 arg9 harg9 arg10 harg10 arg11 harg11 arg12 harg12 x0 x1 x2 x3 x4 x5).2.2.2.2 ++ [⟨Rect.unit ![0, 0] S512x128.size inb_S512x128_S512x128_0_0, k0_pay136 (F := Ideal)⟩])
    = ((oneA c i arg2 harg2 arg3 harg3 arg4 harg4 arg5 harg5 arg6 harg6 arg7 harg7 arg8 harg8 arg9 harg9 arg10 harg10 arg11 harg11 arg12 harg12 x0 x1 x2 x3 x4 x5).2.2.2.2 ++ [⟨Rect.unit ![0, 0] S512x128.size inb_S512x128_S512x128_0_0, k0_pay136 (F := Ideal)⟩]) := by
  rw [twoA_eq]; rfl

include hR in
/-- Case A: what is kept when the loop has run. -/
theorem keptA (h0 : (i 1).val = 0) : Kept q k v o T (512 * (i 1).val) (i 1).val
    (arg8.view.read (Elt Ideal) (arg8.view.writes (Elt Ideal) arg8.view.junk ((twoA c i arg2 harg2 arg3 harg3 arg4 harg4 arg5 harg5 arg6 harg6 arg7 harg7 arg8 harg8 arg9 harg9 arg10 harg10 arg11 harg11 arg12 harg12 x0 x1 x2 x3 x4 x5).1 ++ ((oneA c i arg2 harg2 arg3 harg3 arg4 harg4 arg5 harg5 arg6 harg6 arg7 harg7 arg8 harg8 arg9 harg9 arg10 harg10 arg11 harg11 arg12 harg12 x0 x1 x2 x3 x4 x5).1 ++ [⟨Rect.unit ![0, 0] S512x128.size inb_S512x128_S512x128_0_0, k0_pay134 (F := Ideal)⟩]))))
    (arg9.view.read (Elt Ideal) (arg9.view.writes (Elt Ideal) arg9.view.junk ((twoA c i arg2 harg2 arg3 harg3 arg4 harg4 arg5 harg5 arg6 harg6 arg7 harg7 arg8 harg8 arg9 harg9 arg10 harg10 arg11 harg11 arg12 harg12 x0 x1 x2 x3 x4 x5).2.1 ++ ((oneA c i arg2 harg2 arg3 harg3 arg4 harg4 arg5 harg5 arg6 harg6 arg7 harg7 arg8 harg8 arg9 harg9 arg10 harg10 arg11 harg11 arg12 harg12 x0 x1 x2 x3 x4 x5).2.1 ++ [⟨Rect.unit ![0, 0] S4096x128.size inb_S4096x128_S4096x128_0_0, k0_pay129 (F := Ideal)⟩]))))
    (arg10.view.read (Elt Ideal) (arg10.view.writes (Elt Ideal) arg10.view.junk ((twoA c i arg2 harg2 arg3 harg3 arg4 harg4 arg5 harg5 arg6 harg6 arg7 harg7 arg8 harg8 arg9 harg9 arg10 harg10 arg11 harg11 arg12 harg12 x0 x1 x2 x3 x4 x5).2.2.1 ++ ((oneA c i arg2 harg2 arg3 harg3 arg4 harg4 arg5 harg5 arg6 harg6 arg7 harg7 arg8 harg8 arg9 harg9 arg10 harg10 arg11 harg11 arg12 harg12 x0 x1 x2 x3 x4 x5).2.2.1 ++ [⟨Rect.unit ![0, 0] S4096x128.size inb_S4096x128_S4096x128_0_0, k0_pay130 (F := Ideal)⟩]))))
    (arg11.view.read (Elt Ideal) (arg11.view.writes (Elt Ideal) arg11.view.junk ((twoA c i arg2 harg2 arg3 harg3 arg4 harg4 arg5 harg5 arg6 harg6 arg7 harg7 arg8 harg8 arg9 harg9 arg10 harg10 arg11 harg11 arg12 harg12 x0 x1 x2 x3 x4 x5).2.2.2.1 ++ ((oneA c i arg2 harg2 arg3 harg3 arg4 harg4 arg5 harg5 arg6 harg6 arg7 harg7 arg8 harg8 arg9 harg9 arg10 harg10 arg11 harg11 arg12 harg12 x0 x1 x2 x3 x4 x5).2.2.2.1 ++ [⟨Rect.unit ![0, 0] S512x128.size inb_S512x128_S512x128_0_0, k0_pay135 (F := Ideal)⟩]))))
    (arg12.view.read (Elt Ideal) (arg12.view.writes (Elt Ideal) arg12.view.junk ((twoA c i arg2 harg2 arg3 harg3 arg4 harg4 arg5 harg5 arg6 harg6 arg7 harg7 arg8 harg8 arg9 harg9 arg10 harg10 arg11 harg11 arg12 harg12 x0 x1 x2 x3 x4 x5).2.2.2.2 ++ ((oneA c i arg2 harg2 arg3 harg3 arg4 harg4 arg5 harg5 arg6 harg6 arg7 harg7 arg8 harg8 arg9 harg9 arg10 harg10 arg11 harg11 arg12 harg12 x0 x1 x2 x3 x4 x5).2.2.2.2 ++ [⟨Rect.unit ![0, 0] S512x128.size inb_S512x128_S512x128_0_0, k0_pay136 (F := Ideal)⟩])))) := by
  have hK : Kept q k v o T (512 * (i 1).val) 0
      (arg8.view.read (Elt Ideal) (arg8.view.writes (Elt Ideal) arg8.view.junk [⟨Rect.unit ![0, 0] S512x128.size inb_S512x128_S512x128_0_0, k0_pay134 (F := Ideal)⟩]))
      (arg9.view.read (Elt Ideal) (arg9.view.writes (Elt Ideal) arg9.view.junk [⟨Rect.unit ![0, 0] S4096x128.size inb_S4096x128_S4096x128_0_0, k0_pay129 (F := Ideal)⟩]))
      (arg10.view.read (Elt Ideal) (arg10.view.writes (Elt Ideal) arg10.view.junk [⟨Rect.unit ![0, 0] S4096x128.size inb_S4096x128_S4096x128_0_0, k0_pay130 (F := Ideal)⟩]))
      (arg11.view.read (Elt Ideal) (arg11.view.writes (Elt Ideal) arg11.view.junk [⟨Rect.unit ![0, 0] S512x128.size inb_S512x128_S512x128_0_0, k0_pay135 (F := Ideal)⟩]))
      (arg12.view.read (Elt Ideal) (arg12.view.writes (Elt Ideal) arg12.view.junk [⟨Rect.unit ![0, 0] S512x128.size inb_S512x128_S512x128_0_0, k0_pay136 (F := Ideal)⟩])) :=
    kept_zero (Eq.mpr (congrArg (fun w => Holds (φ := .f32) w _) (read_tile arg8 _ _ _ _)) holds_zero134) (Eq.mpr (congrArg (fun w => Holds (φ := .f32) w _) (read_tile arg11 _ _ _ _)) holds_zero135) (Eq.mpr (congrArg (fun w => Holds (φ := .f32) w _) (read_tile arg12 _ _ _ _)) holds_zero136)
      (Eq.mpr (congrArg (fun w => Holds (φ := .f32) w _) (read_column arg9 _ _ _ _)) ((holds_zero129).congr fun s d _ _ => by rw [h0]; rw [dkU, Nat.mul_zero, Finset.sum_range_zero]))
      (Eq.mpr (congrArg (fun w => Holds (φ := .f32) w _) (read_column arg10 _ _ _ _)) ((holds_zero130).congr fun s d _ _ => by rw [h0]; rw [dvU, Nat.mul_zero, Finset.sum_range_zero]))
  have h := loop_kept Variants.none c none i arg2 harg2 arg3 harg3 arg4 harg4 arg5 harg5 arg6 harg6 arg7 harg7 arg8 harg8 arg9 harg9 arg10 harg10 arg11 harg11 arg12 harg12 _ _ _ _ _ _ _ _ _ _ _
    (reads i arg2 harg2 arg3 harg3 arg4 harg4 arg5 harg5 arg6 harg6 arg7 harg7 x0 x1 x2 x3 x4 x5 hR) hK (i 1).val le_rfl
  rw [listA_8, listA_9, listA_10, listA_11, listA_12, View.writes_append, View.writes_append, View.writes_append, View.writes_append, View.writes_append]
  unfold oneA loopOne
  rw [trips_one]
  exact h

include hR in
/-- Case A: the queries' gradients. -/
theorem pointA_6 (hc0 : cond0_0 i) (h0 : (i 1).val = 0) :
    Holds (φ := .f32) (out0_A_6 (F := Ideal) c i arg2 harg2 arg3 harg3 arg4 harg4 arg5 harg5 arg6 harg6 arg7 harg7 arg8 harg8 arg9 harg9 arg10 harg10 arg11 harg11 arg12 harg12 hc0 x0 x1 x2 x3 x4 x5) fun r d => dqU q k v o T (512 * ((i 1).val + 1)) (512 * (i 1).val + r) d := by
  unfold out0_A_6
  rw [runA_6]
  refine Eq.mpr (congrArg (fun w => Holds (φ := .f32) w _) (read_tile (Memref.whole cc0_stg6_0) _ _ _ _)) ?_
  rw [all_eq (arg8.view.read _ _), all_eq (arg5.view.read _ _), all_eq (arg11.view.read _ _), all_eq (arg12.view.read _ _)]
  exact step_dq (reads i arg2 harg2 arg3 harg3 arg4 harg4 arg5 harg5 arg6 harg6 arg7 harg7 x0 x1 x2 x3 x4 x5 hR) (keptA c i arg2 harg2 arg3 harg3 arg4 harg4 arg5 harg5 arg6 harg6 arg7 harg7 arg8 harg8 arg9 harg9 arg10 harg10 arg11 harg11 arg12 harg12 x0 x1 x2 x3 x4 x5 hR h0) (isMask_κm i 0 (by omega)) (isMask_κm i 128 (by omega)) (isMask_κm i 256 (by omega)) (isMask_κm i 384 (by omega)) (off_three i) (k0_off3_inb i)

include hR in
/-- Case A: the keys' gradients. -/
theorem pointA_7 (hc0 : cond0_0 i) (h0 : (i 1).val = 0) :
    Holds (φ := .f32) (out0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5) fun r d => dkU q k v o T (512 * ((i 1).val + 1)) r d := by
  have hK := (keptA c i arg2 harg2 arg3 harg3 arg4 harg4 arg5 harg5 arg6 harg6 arg7 harg7 arg8 harg8 arg9 harg9 arg10 harg10 arg11 harg11 arg12 harg12 x0 x1 x2 x3 x4 x5 hR h0)
  unfold out0_A_7
  rw [View.read_writes_of_cover VO0_7 VO0_7.junk arg9.view arg9.view.junk _ (cover0_A_7 c i arg2 harg2 arg3 harg3 arg4 harg4 arg5 harg5 arg6 harg6 arg7 harg7 arg8 harg8 arg9 harg9 arg10 harg10 arg11 harg11 arg12 harg12 hc0 x0 x1 x2 x3 x4 x5)]
  rw [runA_7]
  refine holds_column arg9 _ (off_three i) _ _ _ hK.dk ?_ (fun r d hr => rfl) fun s d hs => ?_
  · rw [all_eq (arg5.view.read _ _), all_eq (arg11.view.read _ _), all_eq (arg12.view.read _ _)]
    exact step_dk (reads i arg2 harg2 arg3 harg3 arg4 harg4 arg5 harg5 arg6 harg6 arg7 harg7 x0 x1 x2 x3 x4 x5 hR) hK (isMask_κm i 0 (by omega)) (isMask_κm i 128 (by omega)) (isMask_κm i 256 (by omega)) (isMask_κm i 384 (by omega)) (off_three i) (k0_off3_inb i)
  · show dkU _ _ _ _ _ _ _ _ = dkU _ _ _ _ _ _ _ _
    by_cases h : s < 512 * (i 1).val
    · rw [if_pos h]; rfl
    · rw [if_neg h]; exact (dkU_beyond (by omega) (by omega)).symm

include hR in
/-- Case A: the values' gradients. -/
theorem pointA_8 (hc0 : cond0_0 i) (h0 : (i 1).val = 0) :
    Holds (φ := .f32) (out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5) fun r d => dvU q k o T (512 * ((i 1).val + 1)) r d := by
  have hK := (keptA c i arg2 harg2 arg3 harg3 arg4 harg4 arg5 harg5 arg6 harg6 arg7 harg7 arg8 harg8 arg9 harg9 arg10 harg10 arg11 harg11 arg12 harg12 x0 x1 x2 x3 x4 x5 hR h0)
  unfold out0_A_8
  rw [View.read_writes_of_cover VO0_8 VO0_8.junk arg10.view arg10.view.junk _ (cover0_A_8 c i arg2 harg2 arg3 harg3 arg4 harg4 arg5 harg5 arg6 harg6 arg7 harg7 arg8 harg8 arg9 harg9 arg10 harg10 arg11 harg11 arg12 harg12 hc0 x0 x1 x2 x3 x4 x5)]
  rw [runA_8]
  refine holds_column arg10 _ (off_three i) _ _ _ hK.dv ?_ (fun r d hr => rfl) fun s d hs => ?_
  · rw [all_eq (arg5.view.read _ _), all_eq (arg11.view.read _ _)]
    exact step_dv (reads i arg2 harg2 arg3 harg3 arg4 harg4 arg5 harg5 arg6 harg6 arg7 harg7 x0 x1 x2 x3 x4 x5 hR) hK (isMask_κm i 0 (by omega)) (isMask_κm i 128 (by omega)) (isMask_κm i 256 (by omega)) (isMask_κm i 384 (by omega)) (off_three i) (k0_off3_inb i)
  · show dvU _ _ _ _ _ _ _ = dvU _ _ _ _ _ _ _
    by_cases h : s < 512 * (i 1).val
    · rw [if_pos h]; rfl
    · rw [if_neg h]; exact (dvU_beyond (by omega) (by omega)).symm

theorem twoB_eq : twoB c i arg2 harg2 arg3 harg3 arg4 harg4 arg5 harg5 arg6 harg6 arg7 harg7 arg8 harg8 arg9 harg9 arg10 harg10 arg11 harg11 arg12 harg12 x0 x1 x2 x3 x4 x5 xo7 xo8 = (([], [], [], [], []) : Lists Ideal) := by
  unfold twoB loopTwo
  rw [trips_two]
  rfl

theorem listB_8 : (twoB c i arg2 harg2 arg3 harg3 arg4 harg4 arg5 harg5 arg6 harg6 arg7 harg7 arg8 harg8 arg9 harg9 arg10 harg10 arg11 harg11 arg12 harg12 x0 x1 x2 x3 x4 x5 xo7 xo8).1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).1 ++ [⟨Rect.unit ![0, 0] S512x128.size inb_S512x128_S512x128_0_0, k0_pay134 (F := Ideal)⟩])
    = ((oneB c i arg2 harg2 arg3 harg3 arg4 harg4 arg5 harg5 arg6 harg6 arg7 harg7 arg8 harg8 arg9 harg9 arg10 harg10 arg11 harg11 arg12 harg12 x0 x1 x2 x3 x4 x5 xo7 xo8).1 ++ [⟨Rect.unit ![0, 0] S512x128.size inb_S512x128_S512x128_0_0, k0_pay134 (F := Ideal)⟩]) := by
  rw [twoB_eq]; rfl
theorem listB_9 : (twoB c i arg2 harg2 arg3 harg3 arg4 harg4 arg5 harg5 arg6 harg6 arg7 harg7 arg8 harg8 arg9 harg9 arg10 harg10 arg11 harg11 arg12 harg12 x0 x1 x2 x3 x4 x5 xo7 xo8).2.1 ++ (oneB c i arg2 harg2 arg3 harg3 arg4 harg4 arg5 harg5 arg6 harg6 arg7 harg7 arg8 harg8 arg9 harg9 arg10 harg10 arg11 harg11 arg12 harg12 x0 x1 x2 x3 x4 x5 xo7 xo8).2.1
    = (oneB c i arg2 harg2 arg3 harg3 arg4 harg4 arg5 harg5 arg6 harg6 arg7 harg7 arg8 harg8 arg9 harg9 arg10 harg10 arg11 harg11 arg12 harg12 x0 x1 x2 x3 x4 x5 xo7 xo8).2.1 := by
  rw [twoB_eq]; rfl
theorem listB_10 : (twoB c i arg2 harg2 arg3 harg3 arg4 harg4 arg5 harg5 arg6 harg6 arg7 harg7 arg8 harg8 arg9 harg9 arg10 harg10 arg11 harg11 arg12 harg12 x0 x1 x2 x3 x4 x5 xo7 xo8).2.2.1 ++ (oneB c i arg2 harg2 arg3 harg3 arg4 harg4 arg5 harg5 arg6 harg6 arg7 harg7 arg8 harg8 arg9 harg9 arg10 harg10 arg11 harg11 arg12 harg12 x0 x1 x2 x3 x4 x5 xo7 xo8).2.2.1
    = (oneB c i arg2 harg2 arg3 harg3 arg4 harg4 arg5 harg5 arg6 harg6 arg7 harg7 arg8 harg8 arg9 harg9 arg10 harg10 arg11 harg11 arg12 harg12 x0 x1 x2 x3 x4 x5 xo7 xo8).2.2.1 := by
  rw [twoB_eq]; rfl
theorem listB_11 : (twoB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ [⟨Rect.unit ![0, 0] S512x128.size inb_S512x128_S512x128_0_0, k0_pay135 (F := Ideal)⟩])
    = ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ [⟨Rect.unit ![0, 0] S512x128.size inb_S512x128_S512x128_0_0, k0_pay135 (F := Ideal)⟩]) := by
  rw [twoB_eq]; rfl
theorem listB_12 : (twoB c i arg2 harg2 arg3 harg3 arg4 harg4 arg5 harg5 arg6 harg6 arg7 harg7 arg8 harg8 arg9 harg9 arg10 harg10 arg11 harg11 arg12 harg12 x0 x1 x2 x3 x4 x5 xo7 xo8).2.2.2.2 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.2 ++ [⟨Rect.unit ![0, 0] S512x128.size inb_S512x128_S512x128_0_0, k0_pay136 (F := Ideal)⟩])
    = ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.2 ++ [⟨Rect.unit ![0, 0] S512x128.size inb_S512x128_S512x128_0_0, k0_pay136 (F := Ideal)⟩]) := by
  rw [twoB_eq]; rfl

include hR in
/-- Case B: what is kept when the loop has run. -/
theorem keptB (h7 : Holds (φ := .f32) xo7 fun s d => dkU q k v o T (512 * (i 1).val) s d)
    (h8 : Holds (φ := .f32) xo8 fun s d => dvU q k o T (512 * (i 1).val) s d) : Kept q k v o T (512 * (i 1).val) (i 1).val
    (arg8.view.read (Elt Ideal) (arg8.view.writes (Elt Ideal) arg8.view.junk ((twoB c i arg2 harg2 arg3 harg3 arg4 harg4 arg5 harg5 arg6 harg6 arg7 harg7 arg8 harg8 arg9 harg9 arg10 harg10 arg11 harg11 arg12 harg12 x0 x1 x2 x3 x4 x5 xo7 xo8).1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).1 ++ [⟨Rect.unit ![0, 0] S512x128.size inb_S512x128_S512x128_0_0, k0_pay134 (F := Ideal)⟩]))))
    (arg9.view.read (Elt Ideal) (arg9.view.writes (Elt Ideal) (harg9.unread xo7) ((twoB c i arg2 harg2 arg3 harg3 arg4 harg4 arg5 harg5 arg6 harg6 arg7 harg7 arg8 harg8 arg9 harg9 arg10 harg10 arg11 harg11 arg12 harg12 x0 x1 x2 x3 x4 x5 xo7 xo8).2.1 ++ (oneB c i arg2 harg2 arg3 harg3 arg4 harg4 arg5 harg5 arg6 harg6 arg7 harg7 arg8 harg8 arg9 harg9 arg10 harg10 arg11 harg11 arg12 harg12 x0 x1 x2 x3 x4 x5 xo7 xo8).2.1)))
    (arg10.view.read (Elt Ideal) (arg10.view.writes (Elt Ideal) (harg10.unread xo8) ((twoB c i arg2 harg2 arg3 harg3 arg4 harg4 arg5 harg5 arg6 harg6 arg7 harg7 arg8 harg8 arg9 harg9 arg10 harg10 arg11 harg11 arg12 harg12 x0 x1 x2 x3 x4 x5 xo7 xo8).2.2.1 ++ (oneB c i arg2 harg2 arg3 harg3 arg4 harg4 arg5 harg5 arg6 harg6 arg7 harg7 arg8 harg8 arg9 harg9 arg10 harg10 arg11 harg11 arg12 harg12 x0 x1 x2 x3 x4 x5 xo7 xo8).2.2.1)))
    (arg11.view.read (Elt Ideal) (arg11.view.writes (Elt Ideal) arg11.view.junk ((twoB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.1 ++ [⟨Rect.unit ![0, 0] S512x128.size inb_S512x128_S512x128_0_0, k0_pay135 (F := Ideal)⟩]))))
    (arg12.view.read (Elt Ideal) (arg12.view.writes (Elt Ideal) arg12.view.junk ((twoB c i arg2 harg2 arg3 harg3 arg4 harg4 arg5 harg5 arg6 harg6 arg7 harg7 arg8 harg8 arg9 harg9 arg10 harg10 arg11 harg11 arg12 harg12 x0 x1 x2 x3 x4 x5 xo7 xo8).2.2.2.2 ++ ((oneB c i arg2 harg2 arg3 harg3 arg4 harg4 arg5 harg5 arg6 harg6 arg7 harg7 arg8 harg8 arg9 harg9 arg10 harg10 arg11 harg11 arg12 harg12 x0 x1 x2 x3 x4 x5 xo7 xo8).2.2.2.2 ++ [⟨Rect.unit ![0, 0] S512x128.size inb_S512x128_S512x128_0_0, k0_pay136 (F := Ideal)⟩])))) := by
  have hK : Kept q k v o T (512 * (i 1).val) 0
      (arg8.view.read (Elt Ideal) (arg8.view.writes (Elt Ideal) arg8.view.junk [⟨Rect.unit ![0, 0] S512x128.size inb_S512x128_S512x128_0_0, k0_pay134 (F := Ideal)⟩]))
      (arg9.view.read (Elt Ideal) (harg9.unread xo7))
      (arg10.view.read (Elt Ideal) (harg10.unread xo8))
      (arg11.view.read (Elt Ideal) (arg11.view.writes (Elt Ideal) arg11.view.junk [⟨Rect.unit ![0, 0] S512x128.size inb_S512x128_S512x128_0_0, k0_pay135 (F := Ideal)⟩]))
      (arg12.view.read (Elt Ideal) (arg12.view.writes (Elt Ideal) arg12.view.junk [⟨Rect.unit ![0, 0] S512x128.size inb_S512x128_S512x128_0_0, k0_pay136 (F := Ideal)⟩])) :=
    kept_zero (Eq.mpr (congrArg (fun w => Holds (φ := .f32) w _) (read_tile arg8 _ _ _ _)) holds_zero134) (Eq.mpr (congrArg (fun w => Holds (φ := .f32) w _) (read_tile arg11 _ _ _ _)) holds_zero135) (Eq.mpr (congrArg (fun w => Holds (φ := .f32) w _) (read_tile arg12 _ _ _ _)) holds_zero136)
      (Eq.mpr (congrArg (fun w => Holds (φ := .f32) w _) (harg9.read_unread xo7)) h7)
      (Eq.mpr (congrArg (fun w => Holds (φ := .f32) w _) (harg10.read_unread xo8)) h8)
  have h := loop_kept Variants.none c none i arg2 harg2 arg3 harg3 arg4 harg4 arg5 harg5 arg6 harg6 arg7 harg7 arg8 harg8 arg9 harg9 arg10 harg10 arg11 harg11 arg12 harg12 _ _ _ _ _ _ _ _ _ _ _
    (reads i arg2 harg2 arg3 harg3 arg4 harg4 arg5 harg5 arg6 harg6 arg7 harg7 x0 x1 x2 x3 x4 x5 hR) hK (i 1).val le_rfl
  rw [listB_8, listB_9, listB_10, listB_11, listB_12, View.writes_append, View.writes_append, View.writes_append]
  unfold oneB loopOne
  rw [trips_one]
  exact h

include hR in
/-- Case B: the queries' gradients. -/
theorem pointB_6 (hc0 : ¬cond0_0 i) (h7 : Holds (φ := .f32) xo7 fun s d => dkU q k v o T (512 * (i 1).val) s d)
    (h8 : Holds (φ := .f32) xo8 fun s d => dvU q k o T (512 * (i 1).val) s d) :
    Holds (φ := .f32) (out0_B_6 (F := Ideal) c i arg2 harg2 arg3 harg3 arg4 harg4 arg5 harg5 arg6 harg6 arg7 harg7 arg8 harg8 arg9 harg9 arg10 harg10 arg11 harg11 arg12 harg12 hc0 x0 x1 x2 x3 x4 x5 xo7 xo8) fun r d => dqU q k v o T (512 * ((i 1).val + 1)) (512 * (i 1).val + r) d := by
  unfold out0_B_6
  rw [runB_6]
  refine Eq.mpr (congrArg (fun w => Holds (φ := .f32) w _) (read_tile (Memref.whole cc0_stg6_0) _ _ _ _)) ?_
  rw [all_eq (arg8.view.read _ _), all_eq (arg5.view.read _ _), all_eq (arg11.view.read _ _), all_eq (arg12.view.read _ _)]
  exact step_dq (reads i arg2 harg2 arg3 harg3 arg4 harg4 arg5 harg5 arg6 harg6 arg7 harg7 x0 x1 x2 x3 x4 x5 hR) (keptB c i arg2 harg2 arg3 harg3 arg4 harg4 arg5 harg5 arg6 harg6 arg7 harg7 arg8 harg8 arg9 harg9 arg10 harg10 arg11 harg11 arg12 harg12 x0 x1 x2 x3 x4 x5 xo7 xo8 hR h7 h8) (isMask_κm i 0 (by omega)) (isMask_κm i 128 (by omega)) (isMask_κm i 256 (by omega)) (isMask_κm i 384 (by omega)) (off_three i) (k0_off3_inb i)

include hR in
/-- Case B: the keys' gradients. -/
theorem pointB_7 (hc0 : ¬cond0_0 i) (h7 : Holds (φ := .f32) xo7 fun s d => dkU q k v o T (512 * (i 1).val) s d)
    (h8 : Holds (φ := .f32) xo8 fun s d => dvU q k o T (512 * (i 1).val) s d) :
    Holds (φ := .f32) (out0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 xo7 xo8) fun r d => dkU q k v o T (512 * ((i 1).val + 1)) r d := by
  have hK := (keptB c i arg2 harg2 arg3 harg3 arg4 harg4 arg5 harg5 arg6 harg6 arg7 harg7 arg8 harg8 arg9 harg9 arg10 harg10 arg11 harg11 arg12 harg12 x0 x1 x2 x3 x4 x5 xo7 xo8 hR h7 h8)
  unfold out0_B_7
  rw [runB_7]
  refine holds_column arg9 _ (off_three i) _ _ _ hK.dk ?_ (fun r d hr => rfl) fun s d hs => ?_
  · rw [all_eq (arg5.view.read _ _), all_eq (arg11.view.read _ _), all_eq (arg12.view.read _ _)]
    exact step_dk (reads i arg2 harg2 arg3 harg3 arg4 harg4 arg5 harg5 arg6 harg6 arg7 harg7 x0 x1 x2 x3 x4 x5 hR) hK (isMask_κm i 0 (by omega)) (isMask_κm i 128 (by omega)) (isMask_κm i 256 (by omega)) (isMask_κm i 384 (by omega)) (off_three i) (k0_off3_inb i)
  · show dkU _ _ _ _ _ _ _ _ = dkU _ _ _ _ _ _ _ _
    by_cases h : s < 512 * (i 1).val
    · rw [if_pos h]; rfl
    · rw [if_neg h]; exact (dkU_beyond (by omega) (by omega)).symm

include hR in
/-- Case B: the values' gradients. -/
theorem pointB_8 (hc0 : ¬cond0_0 i) (h7 : Holds (φ := .f32) xo7 fun s d => dkU q k v o T (512 * (i 1).val) s d)
    (h8 : Holds (φ := .f32) xo8 fun s d => dvU q k o T (512 * (i 1).val) s d) :
    Holds (φ := .f32) (out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 xo7 xo8) fun r d => dvU q k o T (512 * ((i 1).val + 1)) r d := by
  have hK := (keptB c i arg2 harg2 arg3 harg3 arg4 harg4 arg5 harg5 arg6 harg6 arg7 harg7 arg8 harg8 arg9 harg9 arg10 harg10 arg11 harg11 arg12 harg12 x0 x1 x2 x3 x4 x5 xo7 xo8 hR h7 h8)
  unfold out0_B_8
  rw [runB_8]
  refine holds_column arg10 _ (off_three i) _ _ _ hK.dv ?_ (fun r d hr => rfl) fun s d hs => ?_
  · rw [all_eq (arg5.view.read _ _), all_eq (arg11.view.read _ _)]
    exact step_dv (reads i arg2 harg2 arg3 harg3 arg4 harg4 arg5 harg5 arg6 harg6 arg7 harg7 x0 x1 x2 x3 x4 x5 hR) hK (isMask_κm i 0 (by omega)) (isMask_κm i 128 (by omega)) (isMask_κm i 256 (by omega)) (isMask_κm i 384 (by omega)) (off_three i) (k0_off3_inb i)
  · show dvU _ _ _ _ _ _ _ = dvU _ _ _ _ _ _ _
    by_cases h : s < 512 * (i 1).val
    · rw [if_pos h]; rfl
    · rw [if_neg h]; exact (dvU_beyond (by omega) (by omega)).symm

end

end Cert.KernelIdeal.Attn

end
-- ==== Proof.Attn.Head.lean ====
/- The grid as a whole: what every point leaves, by recursion over the query tiles of a head, and so the three arrays
   of gradients when the launch has run. -/
module

public import proofs.«01_k».proof.Proof.Attn.Points
public import proofs.«01_k».proof.Proof.Gen.KernelIdeal.Value
public import Idealize.ShloMosaic.Lib.Pipeline.ValueKit

@[expose] public section

set_option maxRecDepth 65536

noncomputable section

namespace Cert.KernelIdeal.Attn

open Cert.KernelIdeal Cert.KernelIdeal.Gen Idealize.ShloMosaic Idealize.ShloMosaic.TcCoe Idealize.SL.Sem
open Idealize.ShloMosaic.Pipeline (Dat)
open Finset

variable (m : (ℓ : Loc nD τ sig) → Buf (Elt Ideal) ℓ)

/-- The columns of head `h`. -/
def hd (q : ℕ → ℕ → ℝ) (h : ℕ) : ℕ → ℕ → ℝ := fun t d => q t (128 * h + d)

/-- The arrays the launch reads hold the reals `q`, `k`, `v`, `o`, the rows' totals `T` of each head, and the matrix of
    the running sums. -/
structure Inputs (c : Dev nD) (q k v o : ℕ → ℕ → ℝ) (T : ℕ → ℕ → ℝ) : Prop where
  q : Holds (φ := .bf16) (m := 4096) (n := 2048) (V m c main_v18) q
  k : Holds (φ := .bf16) (m := 4096) (n := 2048) (V m c main_v19) k
  v : Holds (φ := .bf16) (m := 4096) (n := 2048) (V m c main_v20) v
  tot : Holds (φ := .f32) (m := 4096) (n := 2048) (V m c main_v17) fun t e => T t (e / 128)
  o : Holds (φ := .bf16) (m := 4096) (n := 2048) (V m c main_v21) o
  u : IsSums (V m c main_v31)

/-- The windows' block indices. -/
theorem idx : ∀ t : Fin cfg0.N, win0_0.index t = ![t.val % 8, t.val / 8] ∧ win0_1.index t = ![0, t.val / 8]
    ∧ win0_2.index t = ![0, t.val / 8] ∧ win0_3.index t = ![t.val % 8, t.val / 8] ∧ win0_4.index t = ![t.val % 8, t.val / 8]
    ∧ win0_5.index t = ![0, 0] ∧ win0_6.index t = ![t.val % 8, t.val / 8] ∧ win0_7.index t = ![0, t.val / 8]
    ∧ win0_8.index t = ![0, t.val / 8] ∧ (grid0.coords t 1).val = t.val % 8 ∧ t.val / 8 < 16 :=
  (by decide +kernel : ∀ t : Fin grid0.N, _)

variable {q k v o : ℕ → ℕ → ℝ} {T : ℕ → ℕ → ℝ} (c : Dev nD) (hI : Inputs m c q k v o T)

/-! What a point reads: each block at an entry is the array at the entry's place. -/

theorem block0 (t : Fin cfg0.N) (r : Fin 512) (d : Fin 128) : ∃ (a : Fin 4096) (b : Fin 2048),
    (iblk m c 0 t : FVec Ideal S512x128 .bf16) (ix2 r d) = (V m c main_v18 : FVec Ideal S4096x2048 .bf16) (ix2 a b)
      ∧ a.val = 512 * (t.val % 8) + r.val ∧ b.val = 128 * (t.val / 8) + d.val := by
  have h := (idx t).2.2.2.2.2.2.2.2.2.2
  refine ⟨⟨512 * (t.val % 8) + r.val, by omega⟩, ⟨128 * (t.val / 8) + d.val, by omega⟩, ?_, rfl, rfl⟩
  blk_ext [iblk, idx t]

theorem block1 (t : Fin cfg0.N) (r : Fin 4096) (d : Fin 128) : ∃ (a : Fin 4096) (b : Fin 2048),
    (iblk m c 1 t : FVec Ideal S4096x128 .bf16) (ix2 r d) = (V m c main_v19 : FVec Ideal S4096x2048 .bf16) (ix2 a b)
      ∧ a.val = r.val ∧ b.val = 128 * (t.val / 8) + d.val := by
  have h := (idx t).2.2.2.2.2.2.2.2.2.2
  refine ⟨⟨r.val, by omega⟩, ⟨128 * (t.val / 8) + d.val, by omega⟩, ?_, rfl, rfl⟩
  blk_ext [iblk, idx t]

theorem block2 (t : Fin cfg0.N) (r : Fin 4096) (d : Fin 128) : ∃ (a : Fin 4096) (b : Fin 2048),
    (iblk m c 2 t : FVec Ideal S4096x128 .bf16) (ix2 r d) = (V m c main_v20 : FVec Ideal S4096x2048 .bf16) (ix2 a b)
      ∧ a.val = r.val ∧ b.val = 128 * (t.val / 8) + d.val := by
  have h := (idx t).2.2.2.2.2.2.2.2.2.2
  refine ⟨⟨r.val, by omega⟩, ⟨128 * (t.val / 8) + d.val, by omega⟩, ?_, rfl, rfl⟩
  blk_ext [iblk, idx t]

theorem block3 (t : Fin cfg0.N) (r : Fin 512) (d : Fin 128) : ∃ (a : Fin 4096) (b : Fin 2048),
    (iblk m c 3 t : FVec Ideal S512x128 .f32) (ix2 r d) = (V m c main_v17 : FVec Ideal S4096x2048 .f32) (ix2 a b)
      ∧ a.val = 512 * (t.val % 8) + r.val ∧ b.val = 128 * (t.val / 8) + d.val := by
  have h := (idx t).2.2.2.2.2.2.2.2.2.2
  refine ⟨⟨512 * (t.val % 8) + r.val, by omega⟩, ⟨128 * (t.val / 8) + d.val, by omega⟩, ?_, rfl, rfl⟩
  blk_ext [iblk, idx t]

theorem block4 (t : Fin cfg0.N) (r : Fin 512) (d : Fin 128) : ∃ (a : Fin 4096) (b : Fin 2048),
    (iblk m c 4 t : FVec Ideal S512x128 .bf16) (ix2 r d) = (V m c main_v21 : FVec Ideal S4096x2048 .bf16) (ix2 a b)
      ∧ a.val = 512 * (t.val % 8) + r.val ∧ b.val = 128 * (t.val / 8) + d.val := by
  have h := (idx t).2.2.2.2.2.2.2.2.2.2
  refine ⟨⟨512 * (t.val % 8) + r.val, by omega⟩, ⟨128 * (t.val / 8) + d.val, by omega⟩, ?_, rfl, rfl⟩
  blk_ext [iblk, idx t]

theorem block5 (t : Fin cfg0.N) (r : Fin 256) (d : Fin 256) : ∃ (a : Fin 256) (b : Fin 256),
    (iblk m c 5 t : FVec Ideal S256x256 .bf16) (ix2 r d) = (V m c main_v31 : FVec Ideal S256x256 .bf16) (ix2 a b)
      ∧ a.val = r.val ∧ b.val = d.val := by
  have h := (idx t).2.2.2.2.2.2.2.2.2.2
  refine ⟨⟨r.val, by omega⟩, ⟨d.val, by omega⟩, ?_, rfl, rfl⟩
  blk_ext [iblk, idx t]

include hI in
theorem point_reads (t : Fin cfg0.N) : Reads (hd q (t.val / 8)) (hd k (t.val / 8)) (hd v (t.val / 8)) (hd o (t.val / 8))
    (fun x => T x (t.val / 8)) (512 * (grid0.coords t 1).val) (iblk m c 0 t) (iblk m c 4 t) (iblk m c 3 t) (iblk m c 5 t)
    (iblk m c 1 t) (iblk m c 2 t) := by
  have e := (idx t).2.2.2.2.2.2.2.2.2.1
  rw [e]
  constructor
  · intro r d
    obtain ⟨a, b, h, ha, hb⟩ := block0 m c t r d
    rw [h, hI.q a b, ha, hb]; rfl
  · intro r d
    obtain ⟨a, b, h, ha, hb⟩ := block4 m c t r d
    rw [h, hI.o a b, ha, hb]; rfl
  · intro r d
    obtain ⟨a, b, h, ha, hb⟩ := block3 m c t r d
    rw [h, hI.tot a b, ha, hb]
    simp only [show (128 * (t.val / 8) + d.val) / 128 = t.val / 8 by omega]
  · intro r d
    obtain ⟨a, b, h, ha, hb⟩ := block5 m c t r d
    rw [h, hI.u a b, ha, hb]
  · intro r d
    obtain ⟨a, b, h, ha, hb⟩ := block1 m c t r d
    rw [h, hI.k a b, ha, hb]; rfl
  · intro r d
    obtain ⟨a, b, h, ha, hb⟩ := block2 m c t r d
    rw [h, hI.v a b, ha, hb]; rfl

/-- What point `n` leaves: the queries' gradients of its tile, and the keys' and values' gradients of its head so far. -/
structure Left (q k v o : ℕ → ℕ → ℝ) (T : ℕ → ℝ) (i : ℕ) (dq : Tile Ideal) (dk dv : FVec Ideal S4096x128 .f32) : Prop where
  dq : Holds dq fun r d => dqU q k v o T (512 * (i + 1)) (512 * i + r) d
  dk : Holds dk fun s d => dkU q k v o T (512 * (i + 1)) s d
  dv : Holds dv fun s d => dvU q k o T (512 * (i + 1)) s d

set_option maxHeartbeats 1000000 in
include hI in
/-- At the first query tile of a head. -/
theorem left_A (t : Fin cfg0.N) (h0 : t.val % 8 = 0) : Left (hd q (t.val / 8)) (hd k (t.val / 8)) (hd v (t.val / 8)) (hd o (t.val / 8))
    (fun x => T x (t.val / 8)) (t.val % 8) (outsAt0 m c t.val t.isLt).1
    (outsAt0 m c t.val t.isLt).2.1 (outsAt0 m c t.val t.isLt).2.2 := by
  have e := (idx t).2.2.2.2.2.2.2.2.2.1
  have hR := point_reads m c hI t
  have p6 := pointA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) hR ((hcond0_0 t).mpr h0) (e.trans h0)
  rw [e] at p6
  have p7 := pointA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) hR ((hcond0_0 t).mpr h0) (e.trans h0)
  rw [e] at p7
  have p8 := pointA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) hR ((hcond0_0 t).mpr h0) (e.trans h0)
  rw [e] at p8
  rw [outsAt0_A m c t h0]
  exact ⟨p6, p7, p8⟩

set_option maxHeartbeats 1000000 in
include hI in
/-- At a later one, after what the tile before left. -/
theorem left_B (t : Fin cfg0.N) (h0 : ¬t.val % 8 = 0) (hp : Left (hd q ((t.val - 1) / 8)) (hd k ((t.val - 1) / 8))
    (hd v ((t.val - 1) / 8)) (hd o ((t.val - 1) / 8)) (fun x => T x ((t.val - 1) / 8)) ((t.val - 1) % 8)
    (outsAt0 m c (t.val - 1) (Nat.lt_of_le_of_lt (Nat.sub_le _ _) t.isLt)).1
    (outsAt0 m c (t.val - 1) (Nat.lt_of_le_of_lt (Nat.sub_le _ _) t.isLt)).2.1
    (outsAt0 m c (t.val - 1) (Nat.lt_of_le_of_lt (Nat.sub_le _ _) t.isLt)).2.2) :
    Left (hd q (t.val / 8)) (hd k (t.val / 8)) (hd v (t.val / 8)) (hd o (t.val / 8))
    (fun x => T x (t.val / 8)) (t.val % 8) (outsAt0 m c t.val t.isLt).1
    (outsAt0 m c t.val t.isLt).2.1 (outsAt0 m c t.val t.isLt).2.2 := by
  have e := (idx t).2.2.2.2.2.2.2.2.2.1
  have hR := point_reads m c hI t
  have h7 := hp.dk
  have h8 := hp.dv
  have e8 : (t.val - 1) / 8 = t.val / 8 := by clear * - h0; omega
  have e' : 512 * ((t.val - 1) % 8 + 1) = 512 * (grid0.coords t 1).val := by rw [e]; clear * - h0; omega
  rw [e', e8] at h7 h8
  clear hp
  have p6 := pointB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 hR (fun h => h0 ((hcond0_0 t).mp h)) h7 h8
  rw [e] at p6
  have p7 := pointB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 hR (fun h => h0 ((hcond0_0 t).mp h)) h7 h8
  rw [e] at p7
  have p8 := pointB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2 hR (fun h => h0 ((hcond0_0 t).mp h)) h7 h8
  rw [e] at p8
  rw [outsAt0_B m c t h0]
  exact ⟨p6, p7, p8⟩

include hI in
theorem left_point (n : ℕ) : ∀ hn : n < cfg0.N, Left (hd q (n / 8)) (hd k (n / 8)) (hd v (n / 8)) (hd o (n / 8))
    (fun x => T x (n / 8)) (n % 8) (outsAt0 m c n hn).1 (outsAt0 m c n hn).2.1 (outsAt0 m c n hn).2.2 := by
  induction n with
  | zero => exact fun hn => left_A m c hI ⟨0, hn⟩ (Nat.zero_mod _)
  | succ n ih =>
    intro hn
    by_cases h0 : (n + 1) % 8 = 0
    · exact left_A m c hI ⟨n + 1, hn⟩ h0
    · exact left_B m c hI ⟨n + 1, hn⟩ h0 (ih _)

end Cert.KernelIdeal.Attn

end
-- ==== Proof.Attn.Arrays.lean ====
/- The three arrays of gradients when the launch has run. -/
module

public import proofs.«01_k».proof.Proof.Attn.Head
public import Idealize.ShloMosaic.Lib.Pipeline.ValueKit

@[expose] public section

set_option maxRecDepth 65536

noncomputable section

namespace Cert.KernelIdeal.Attn

open Cert.KernelIdeal Cert.KernelIdeal.Gen Idealize.ShloMosaic Idealize.ShloMosaic.TcCoe Idealize.SL.Sem
open Idealize.ShloMosaic.Pipeline (Dat)
open Finset

variable (m : (ℓ : Loc nD τ sig) → Buf (Elt Ideal) ℓ)

variable {q k v o : ℕ → ℕ → ℝ} {T : ℕ → ℕ → ℝ} (c : Dev nD) (hI : Inputs m c q k v o T)

/-- Keys at or after the query add nothing to its gradient. -/
theorem dqU_all {q k v o : ℕ → ℕ → ℝ} {T : ℕ → ℝ} {t d n : ℕ} (h : t ≤ n) (hn : n ≤ 4096) :
    dqU q k v o T n t d = dqU q k v o T 4096 t d := by
  refine Finset.sum_subset (Finset.range_subset_range.mpr hn) fun s _ hs => ?_
  rw [dz_of_not_lt _ _ _ (by have := mt Finset.mem_range.mpr hs; omega), zero_mul]

/-- An array of the reals `f`. -/
def arr (f : ℕ → ℕ → ℝ) : FVec Ideal S4096x2048 .f32 := fun j => ((f (j 0).val (j 1).val : ℝ) : EReal)

include hI in
theorem array6 : (dats m 0 c).arrAt 6 cfg0.N = arr fun t e => dqU (hd q (e / 128)) (hd k (e / 128)) (hd v (e / 128)) (hd o (e / 128)) (fun x => T x (e / 128)) 4096 t (e % 128) := by
  refine (dats m 0 c).arrAt_eq_of_covers 6 _ (by decide +kernel) fun t hf y => ?_
  blk_simp [idx t]
  rw [after0_6]
  have hl := (left_point m c hI t.val t.isLt).dq (y 0) (y 1)
  have hy : (y 1).val < 128 := (y 1).isLt
  have e0 : (((win0_6.blk t).view.emb y) 0).val = 512 * (t.val % 8) + (y 0).val := by blk_simp [idx t]; omega
  have e1 : (((win0_6.blk t).view.emb y) 1).val = 128 * (t.val / 8) + (y 1).val := by blk_simp [idx t]; omega
  refine (congrArg (outsAt0 m c t.val t.isLt).1 (ix2_eta (n0 := 512) (n1 := 128) y).symm).trans (hl.trans ?_)
  unfold arr
  rw [e0, e1]
  dsimp only
  rw [show (128 * (t.val / 8) + (y 1).val) / 128 = t.val / 8 by omega, show (128 * (t.val / 8) + (y 1).val) % 128 = (y 1).val by omega]
  have hy0 : (y 0).val < 512 := (y 0).isLt
  exact congrArg (fun x : ℝ => (x : EReal)) (dqU_all (by omega) (by omega))

include hI in
theorem array7 : (dats m 0 c).arrAt 7 cfg0.N = arr fun t e => dkU (hd q (e / 128)) (hd k (e / 128)) (hd v (e / 128)) (hd o (e / 128)) (fun x => T x (e / 128)) 4096 t (e % 128) := by
  refine (dats m 0 c).arrAt_eq_of_covers 7 _ (by decide +kernel) fun t hf y => ?_
  blk_simp [idx t]
  rw [after0_7]
  have hl := (left_point m c hI t.val t.isLt).dk (y 0) (y 1)
  have hy : (y 1).val < 128 := (y 1).isLt
  have e0 : (((win0_7.blk t).view.emb y) 0).val = (y 0).val := by blk_simp [idx t]
  have e1 : (((win0_7.blk t).view.emb y) 1).val = 128 * (t.val / 8) + (y 1).val := by blk_simp [idx t]; omega
  refine (congrArg (outsAt0 m c t.val t.isLt).2.1 (ix2_eta (n0 := 4096) (n1 := 128) y).symm).trans (hl.trans ?_)
  unfold arr
  rw [e0, e1]
  dsimp only
  rw [show (128 * (t.val / 8) + (y 1).val) / 128 = t.val / 8 by omega, show (128 * (t.val / 8) + (y 1).val) % 128 = (y 1).val by omega]
  rw [(flush0_7 t).mp hf]

include hI in
theorem array8 : (dats m 0 c).arrAt 8 cfg0.N = arr fun t e => dvU (hd q (e / 128)) (hd k (e / 128)) (hd o (e / 128)) (fun x => T x (e / 128)) 4096 t (e % 128) := by
  refine (dats m 0 c).arrAt_eq_of_covers 8 _ (by decide +kernel) fun t hf y => ?_
  blk_simp [idx t]
  rw [after0_8]
  have hl := (left_point m c hI t.val t.isLt).dv (y 0) (y 1)
  have hy : (y 1).val < 128 := (y 1).isLt
  have e0 : (((win0_8.blk t).view.emb y) 0).val = (y 0).val := by blk_simp [idx t]
  have e1 : (((win0_8.blk t).view.emb y) 1).val = 128 * (t.val / 8) + (y 1).val := by blk_simp [idx t]; omega
  refine (congrArg (outsAt0 m c t.val t.isLt).2.2 (ix2_eta (n0 := 4096) (n1 := 128) y).symm).trans (hl.trans ?_)
  unfold arr
  rw [e0, e1]
  dsimp only
  rw [show (128 * (t.val / 8) + (y 1).val) / 128 = t.val / 8 by omega, show (128 * (t.val / 8) + (y 1).val) % 128 = (y 1).val by omega]
  rw [(flush0_8 t).mp hf]

end Cert.KernelIdeal.Attn

end
-- ==== Proof.Attn.Ref.lean ====
/- The reference's first stages at every entry, over the reals: the scores, the logarithms and the weights. -/
module

public import proofs.«01_k».proof.Proof.Attn.Sums
public import proofs.«01_k».proof.Proof.Attn.Scalars
public import proofs.«01_k».proof.Proof.Attn.Arrays

@[expose] public section

set_option maxRecDepth 65536

noncomputable section

namespace Cert.KernelIdeal.Attn

open Idealize.ShloMosaic
open Finset
open Cert.ReferenceIdeal.Read

/-- An argument's array. -/
abbrev Arg := FVec Ideal (⟨2, ![4096, 2048]⟩ : Shape) .f32

theorem Holds.at {φ : FTy} {m n : ℕ} {v : FVec Ideal (⟨2, ![m, n]⟩ : Shape) φ} {f : ℕ → ℕ → ℝ} (hv : Holds v f)
    (j : (⟨2, ![m, n]⟩ : Shape).Idx) : v j = ((f (j 0).val (j 1).val : ℝ) : EReal) := by
  rw [← ix2_eta (n0 := m) (n1 := n) j]; exact hv _ _

theorem Holds3.at {φ : FTy} {a b n : ℕ} {v : FVec Ideal (⟨3, ![a, b, n]⟩ : Shape) φ} {f : ℕ → ℕ → ℕ → ℝ} (hv : Holds3 v f)
    (j : (⟨3, ![a, b, n]⟩ : Shape).Idx) : v j = ((f (j 0).val (j 1).val (j 2).val : ℝ) : EReal) := by
  rw [← ix3_eta (n0 := a) (n1 := b) (n2 := n) j]; exact hv _ _ _

/-- A condition chooses between two values. -/
theorem select_dec (p : Prop) [Decidable p] (a b : EReal) :
    Scalar.select (BitVec.ofBool (decide p)) a b = if p then a else b := by
  by_cases h : p <;> simp [h, Scalar.select]

theorem select_coe (p : Prop) [Decidable p] (a b : ℝ) :
    Scalar.select (BitVec.ofBool (decide p)) ((a : ℝ) : EReal) ((b : ℝ) : EReal) = ((if p then a else b : ℝ) : EReal) := by
  rw [select_dec]; split <;> rfl

/-- The earlier keys. -/
theorem v9_at (i : (⟨2, ![4096, 4096]⟩ : Shape).Idx) :
    val_main_v9 (F := Ideal) i = BitVec.ofBool (decide ((i 1).val < (i 0).val)) := by
  have h0 : (i 0).val < 4096 := (i 0).isLt
  have h1 : (i 1).val < 4096 := (i 1).isLt
  rw [val_main_v9_apply, val_main_v7_apply, val_main_v8_apply, val_main_v4_apply, val_main_v6_apply, val_main_v3_apply,
    val_main_v5_apply, WordCmp.cmpi_slt_eq]
  show BitVec.ofBool (decide ((BitVec.ofNat 32 (i 1).val).toInt < (BitVec.ofNat 32 (i 0).val).toInt)) = _
  rw [WordCmp.toInt_ofNat_of_lt (by omega), WordCmp.toInt_ofNat_of_lt (by omega)]
  congr 1
  exact decide_eq_decide.mpr Int.ofNat_lt

theorem v12_1_at (h : Fin 16) (t s : Fin 4096) :
    val_main_v12_1 (F := Ideal) (ix3 h t s) = BitVec.ofBool (decide (s.val < t.val)) := by
  rw [val_main_v12_1_apply, v9_at]; rfl

theorem v18_1_at (h : Fin 16) (t s : Fin 4096) :
    val_main_v18_1 (F := Ideal) (ix3 h t s) = BitVec.ofBool (decide (s.val < t.val)) := by
  rw [val_main_v18_1_apply, v9_at]; rfl

variable {q k v o : ℕ → ℕ → ℝ} {x0 x1 x2 x3 : Arg}

theorem split_at {x : Arg} (hx : Holds x q) (j : (⟨2, ![4096, 2048]⟩ : Shape).Idx) (t h d : ℕ) (hh : h < 16) (hd' : d < 128)
    (e0 : (j 0).val = ((t * 16 + h) * 128 + d) / 2048) (e1 : (j 1).val = ((t * 16 + h) * 128 + d) % 2048) :
    x j = ((hd q h t d : ℝ) : EReal) := by
  rw [hx.at, e0, e1]
  have a : ((t * 16 + h) * 128 + d) / 2048 = t := by omega
  have b : ((t * 16 + h) * 128 + d) % 2048 = 128 * h + d := by omega
  rw [a, b]; rfl

theorem v0_at (hx : Holds x0 q) : Holds3 (φ := .f32) (a := 4096) (b := 16) (n := 128) (val_main_v0 (F := Ideal) x0) fun t h d => hd q h t d := by
  intro t h d
  rw [val_main_v0_apply]
  exact split_at hx _ t h d h.isLt d.isLt rfl rfl

theorem v1_at (hx : Holds x1 k) : Holds3 (φ := .f32) (a := 4096) (b := 16) (n := 128) (val_main_v1 (F := Ideal) x1) fun t h d => hd k h t d := by
  intro t h d
  rw [val_main_v1_apply]
  exact split_at hx _ t h d h.isLt d.isLt rfl rfl

theorem v19_at (hx : Holds x2 v) : Holds3 (φ := .f32) (a := 4096) (b := 16) (n := 128) (val_main_v19 (F := Ideal) x2) fun t h d => hd v h t d := by
  intro t h d
  rw [val_main_v19_apply]
  exact split_at hx _ t h d h.isLt d.isLt rfl rfl

theorem v23_at (hx : Holds x3 o) : Holds3 (φ := .f32) (a := 4096) (b := 16) (n := 128) (val_main_v23 (F := Ideal) x3) fun t h d => hd o h t d := by
  intro t h d
  rw [val_main_v23_apply]
  exact split_at hx _ t h d h.isLt d.isLt rfl rfl

theorem v24_at (hx : Holds x3 o) : Holds3 (φ := .f32) (a := 16) (b := 128) (n := 4096) (val_main_v24 (F := Ideal) x3) fun h d t => hd o h t d := by
  intro h d t
  rw [val_main_v24_apply, (v23_at hx).at]; rfl

/-- The scores. -/
abbrev zz (q k : ℕ → ℕ → ℝ) (h : ℕ) : ℕ → ℕ → ℝ := sc (hd q h) (hd k h)

theorem v2_at (hq : Holds x0 q) (hk : Holds x1 k) :
    Holds3 (φ := .f32) (a := 16) (b := 4096) (n := 4096) (val_main_v2 (F := Ideal) x0 x1) fun h t s => zz q k h t s := by
  intro h t s
  rw [val_main_v2_apply]
  refine (Finset.sum_congr rfl fun d _ => ?_).trans (coe_sum_fin (n := 128) (fun d => hd q h t d * hd k h s d))
  rw [(v0_at hq).at, (v1_at hk).at, ← EReal.coe_mul]; rfl

theorem v10_at (hq : Holds x0 q) (hk : Holds x1 k) :
    Holds3 (φ := .f32) (a := 16) (b := 4096) (n := 4096) (val_main_v10 (F := Ideal) x0 x1) fun h t s => -zz q k h t s := by
  intro h t s
  rw [val_main_v10_apply, v2_at hq hk h t s]
  exact (EReal.coe_neg _).symm

theorem v11_0_eq (i : (⟨3, ![16, 4096, 4096]⟩ : Shape).Idx) : val_main_v11_0 (F := Ideal) x0 x1 i
    = FloatOps.hostNegf (sps (FloatOps.hostNegf (val_main_v10 (F := Ideal) x0 x1 i))) := by
  rw [val_main_v11_0_apply, val_main_call0_v1_0_apply, val_main_call0_call0_v4_apply, val_main_call0_call0_v6_apply,
    val_main_call0_call0_v11_apply, val_main_call0_call0_v10_apply, val_main_call0_call0_v9_apply,
    val_main_call0_call0_v8_apply, val_main_call0_call0_v7_apply, val_main_call0_call0_v3_apply,
    val_main_call0_call0_v1_apply, val_main_call0_call0_v5_apply, val_main_call0_call0_v2_apply,
    val_main_call0_call0_v0_apply, val_main_call0_v0_apply]
  rfl

theorem v15_0_eq (i : (⟨3, ![16, 4096, 4096]⟩ : Shape).Idx) : val_main_v15_0 (F := Ideal) x0 x1 i
    = FloatOps.hostNegf (sps (FloatOps.hostNegf (val_main_v2 (F := Ideal) x0 x1 i))) := by
  rw [val_main_v15_0_apply, val_main_call3_v1_0_apply, val_main_call3_call0_v4_apply, val_main_call3_call0_v6_apply,
    val_main_call3_call0_v11_apply, val_main_call3_call0_v10_apply, val_main_call3_call0_v9_apply,
    val_main_call3_call0_v8_apply, val_main_call3_call0_v7_apply, val_main_call3_call0_v3_apply,
    val_main_call3_call0_v1_apply, val_main_call3_call0_v5_apply, val_main_call3_call0_v2_apply,
    val_main_call3_call0_v0_apply, val_main_call3_v0_apply]
  rfl

theorem v11_1_eq (i : (⟨3, ![16, 4096, 4096]⟩ : Shape).Idx) : val_main_v11_1 (F := Ideal) x0 x1 i
    = spf (FloatOps.hostNegf (val_main_v10 (F := Ideal) x0 x1 i)) := by
  rw [val_main_v11_1_apply, val_main_call0_call0_v21_apply, val_main_call0_call0_v16_apply, val_main_call0_call0_v20_apply,
    val_main_call0_call0_v14_apply, val_main_call0_call0_v18_apply, val_main_call0_call0_v13_apply,
    val_main_call0_call0_v15_apply, val_main_call0_call0_v17_apply, val_main_call0_call0_v19_apply,
    val_main_call0_v1_0_apply, val_main_call0_call0_v4_apply, val_main_call0_call0_v6_apply,
    val_main_call0_call0_v11_apply, val_main_call0_call0_v10_apply, val_main_call0_call0_v9_apply,
    val_main_call0_call0_v8_apply, val_main_call0_call0_v7_apply, val_main_call0_call0_v3_apply,
    val_main_call0_call0_v1_apply, val_main_call0_call0_v5_apply, val_main_call0_call0_v2_apply,
    val_main_call0_call0_v0_apply, val_main_call0_v0_apply]
  rfl

theorem v15_1_eq (i : (⟨3, ![16, 4096, 4096]⟩ : Shape).Idx) : val_main_v15_1 (F := Ideal) x0 x1 i
    = spf (FloatOps.hostNegf (val_main_v2 (F := Ideal) x0 x1 i)) := by
  rw [val_main_v15_1_apply, val_main_call3_call0_v21_apply, val_main_call3_call0_v16_apply, val_main_call3_call0_v20_apply,
    val_main_call3_call0_v14_apply, val_main_call3_call0_v18_apply, val_main_call3_call0_v13_apply,
    val_main_call3_call0_v15_apply, val_main_call3_call0_v17_apply, val_main_call3_call0_v19_apply,
    val_main_call3_v1_0_apply, val_main_call3_call0_v4_apply, val_main_call3_call0_v6_apply,
    val_main_call3_call0_v11_apply, val_main_call3_call0_v10_apply, val_main_call3_call0_v9_apply,
    val_main_call3_call0_v8_apply, val_main_call3_call0_v7_apply, val_main_call3_call0_v3_apply,
    val_main_call3_call0_v1_apply, val_main_call3_call0_v5_apply, val_main_call3_call0_v2_apply,
    val_main_call3_call0_v0_apply, val_main_call3_v0_apply]
  rfl

theorem hneg_coe (x : ℝ) : FloatOps.hostNegf (F := Ideal) (φ := .f32) ((x : ℝ) : EReal) = ((-x : ℝ) : EReal) :=
  (EReal.coe_neg x).symm

/-- The logarithm of the share a key leaves, before the mask. -/
theorem v11_0_at (hq : Holds x0 q) (hk : Holds x1 k) :
    Holds3 (φ := .f32) (a := 16) (b := 4096) (n := 4096) (val_main_v11_0 (F := Ideal) x0 x1)
      fun h t s => ls (zz q k h t s) - zz q k h t s := by
  intro h t s
  rw [v11_0_eq, v10_at hq hk h t s, hneg_coe, sps_coe, hneg_coe, neg_neg]
  dsimp only
  rw [← ls_neg, ← neg_spl_neg, neg_neg]

theorem v15_0_at (hq : Holds x0 q) (hk : Holds x1 k) :
    Holds3 (φ := .f32) (a := 16) (b := 4096) (n := 4096) (val_main_v15_0 (F := Ideal) x0 x1) fun h t s => ls (zz q k h t s) := by
  intro h t s
  rw [v15_0_eq, v2_at hq hk h t s, hneg_coe, sps_coe, hneg_coe, neg_spl_neg]

theorem v11_1_at (hq : Holds x0 q) (hk : Holds x1 k) :
    Holds3 (φ := .f32) (a := 16) (b := 4096) (n := 4096) (val_main_v11_1 (F := Ideal) x0 x1)
      fun h t s => Real.exp (ls (zz q k h t s)) := by
  intro h t s
  rw [v11_1_eq, v10_at hq hk h t s, hneg_coe, spf_coe, neg_neg]
  dsimp only
  have e := neg_spl_neg (-zz q k h t s)
  rw [neg_neg, ls_neg] at e
  rw [sub_eq_add_neg, e, add_sub_cancel]

theorem v15_1_at (hq : Holds x0 q) (hk : Holds x1 k) :
    Holds3 (φ := .f32) (a := 16) (b := 4096) (n := 4096) (val_main_v15_1 (F := Ideal) x0 x1)
      fun h t s => Real.exp (ls (-zz q k h t s)) := by
  intro h t s
  rw [v15_1_eq, v2_at hq hk h t s, hneg_coe, spf_coe]
  dsimp only
  rw [sub_eq_add_neg, neg_spl_neg, ls_neg, neg_add_eq_sub]

/-- The logarithms of the shares left. -/
theorem v12_0_at (hq : Holds x0 q) (hk : Holds x1 k) :
    Holds3 (φ := .f32) (a := 16) (b := 4096) (n := 4096) (val_main_v12_0 (F := Ideal) x0 x1) fun h t s => lk (zz q k h) t s := by
  intro h t s
  rw [val_main_v12_0_apply, v12_1_at, v11_0_at hq hk h t s, val_main_call1_v2_apply]
  exact (congrArg (Scalar.select _ _) (show _ = ((0 : ℝ) : EReal) from o0_eq)).trans (select_coe _ _ _)

/-- The running sum up to the end, without the entry itself. -/
theorem v14_at (hq : Holds x0 q) (hk : Holds x1 k) :
    Holds3 (φ := .f32) (a := 16) (b := 4096) (n := 4096) (val_main_v14 (F := Ideal) x0 x1)
      fun h t s => cum (zz q k h) t 4096 - cum (zz q k h) t (s + 1) := by
  intro h t s
  have e : val_main_v13 (F := Ideal) x0 x1 (ix3 h t s) = ((∑ n ∈ range 4096, if 0 ≤ s.val + n ∧ s.val + n - 0 < 4096
      then lk (zz q k h) t (s.val + n - 0) else 0 : ℝ) : EReal) := by
    unfold val_main_v13
    exact window_sum (a := 16) (b := 4096) (n := 4096) (lo := 0) (hi := 4095) (val_main_v12_0 (F := Ideal) x0 x1) _ (v12_0_at hq hk)
      (val_main_call2_v0 (F := Ideal)) (fun i => by rw [val_main_call2_v0_apply]; exact o0_eq) _ _ h t s
  rw [sum_from s.isLt.le (fun x => lk (zz q k h) t x)] at e
  rw [val_main_v14_apply, v12_0_at hq hk h t s]
  refine (congrArg (fun x : EReal => x - _) e).trans ?_
  rw [← EReal.coe_sub]
  unfold cum
  dsimp only
  rw [Finset.sum_range_succ (fun x => lk (zz q k h) t x) s.val, sub_sub]

/-- The weights before the mask. -/
theorem v17_at (hq : Holds x0 q) (hk : Holds x1 k) :
    Holds3 (φ := .f32) (a := 16) (b := 4096) (n := 4096) (val_main_v17 (F := Ideal) x0 x1)
      fun h t s => Real.exp (ls (zz q k h t s) + (cum (zz q k h) t 4096 - cum (zz q k h) t (s + 1))) := by
  intro h t s
  rw [val_main_v17_apply, val_main_v16_apply, v15_0_at hq hk h t s, v14_at hq hk h t s]
  show Ideal.exp (((ls (zz q k h t s) : ℝ) : EReal) + ((cum (zz q k h) t 4096 - cum (zz q k h) t (s + 1) : ℝ) : EReal)) = _
  rw [← EReal.coe_add, Ideal.exp_coe]

/-- What is left after all keys. -/
abbrev tt (q k : ℕ → ℕ → ℝ) (h : ℕ) : ℕ → ℝ := fun t => cum (zz q k h) t 4096

/-- The weights. -/
theorem v18_0_at (hq : Holds x0 q) (hk : Holds x1 k) :
    Holds3 (φ := .f32) (a := 16) (b := 4096) (n := 4096) (val_main_v18_0 (F := Ideal) x0 x1)
      fun h t s => wt (zz q k h) (tt q k h) t s := by
  intro h t s
  rw [val_main_v18_0_apply, v18_1_at, v17_at hq hk h t s, val_main_call4_v2_apply]
  exact (congrArg (Scalar.select _ _) (show _ = ((0 : ℝ) : EReal) from o0_eq)).trans (select_coe _ _ _)

end Cert.KernelIdeal.Attn

end
-- ==== Proof.Attn.Finite.lean ====
/- What the precondition says: every argument is an array of reals. -/
module

public import proofs.«01_k».proof.Pre_finite
public import proofs.«01_k».proof.Proof.Attn.Ref
public import Idealize.ShloMosaic.Lib.ReduceAll

@[expose] public section

set_option maxRecDepth 65536

noncomputable section

namespace Cert.KernelIdeal.Attn

open Idealize.ShloMosaic

/-- The side conditions the precondition's operations take. -/
theorem preFacts : Cert.Pre_finite.Facts where
  bcast_S_S4096x2048 := by decide
  reducesTo_S4096x2048_S_d0_1 := by decide
  h_S_ := by decide

/-- The entries of an array of reals. -/
def realOf (x : Arg) (t d : ℕ) : ℝ := if h : t < 4096 ∧ d < 2048 then EReal.toReal (x (ix2 ⟨t, h.1⟩ ⟨d, h.2⟩)) else 0

theorem holds_realOf (x : Arg) (h : ∀ j, FloatOps.cmpf (F := Ideal) (φ := .f32) .olt (FloatOps.hostAbsf (x j)) oi = 1#1) :
    Holds x (realOf x) := by
  intro t d
  have e := h (ix2 t d)
  unfold realOf
  rw [dif_pos ⟨t.isLt, d.isLt⟩]
  rw [oi_eq] at e
  have hlt : max (x (ix2 t d) : EReal) (-(x (ix2 t d))) < ⊤ := by
    by_contra hc
    change Ideal.cmp .olt (max (x (ix2 t d) : EReal) (-(x (ix2 t d)))) ⊤ = 1#1 at e
    simp [Ideal.cmp, hc] at e
  refine (EReal.coe_toReal ?_ ?_).symm
  · rintro h0
    rw [h0] at hlt
    simp at hlt
  · rintro h0
    rw [h0] at hlt
    simp at hlt

theorem finite_args [Cert.Pre_finite.Facts] (x0 x1 x2 x3 : Arg)
    (h : ∀ j, Cert.Pre_finite.fn (F := Ideal) x0 x1 x2 x3 j = 1#1) :
    Holds x0 (realOf x0) ∧ Holds x1 (realOf x1) ∧ Holds x2 (realOf x2) ∧ Holds x3 (realOf x3) := by
  have e := h (fun a => a.elim0)
  unfold Cert.Pre_finite.fn at e
  have : Subsingleton (Cert.Pre_finite.S_).Idx := ⟨fun a b => funext fun i => i.elim0⟩
  have all := fun i => Host.reduce_andi_all _ _ _ _ _ e i
  clear e
  have b1 : ∀ a b : BitVec 1, IntOp.andi a b = 1#1 → a = 1#1 ∧ b = 1#1 := by decide
  have a3 := fun i => b1 _ _ (all i)
  have a2 := fun i => b1 _ _ (a3 i).1
  have a1 := fun i => b1 _ _ (a2 i).1
  refine ⟨holds_realOf x0 fun j => ?_, holds_realOf x1 fun j => ?_, holds_realOf x2 fun j => ?_, holds_realOf x3 fun j => ?_⟩
  · exact (a1 j).1
  · exact (a1 j).2
  · exact (a2 j).2
  · exact (a3 j).2

end Cert.KernelIdeal.Attn

end
-- ==== Proof.Attn.Grad.lean ====
/- The reference's gradients at every entry, over the reals. -/
module

public import proofs.«01_k».proof.Proof.Attn.Ref

@[expose] public section

set_option maxRecDepth 65536

noncomputable section

namespace Cert.KernelIdeal.Attn

open Idealize.ShloMosaic
open Finset
open Cert.ReferenceIdeal.Read

variable {q k v o : ℕ → ℕ → ℝ} {x0 x1 x2 x3 : Arg}

theorem add_coe (x y : ℝ) : FloatOps.addf (F := Ideal) (φ := .f32) ((x : ℝ) : EReal) ((y : ℝ) : EReal) = ((x + y : ℝ) : EReal) :=
  (EReal.coe_add x y).symm
theorem mul_coe (x y : ℝ) : FloatOps.mulf (F := Ideal) (φ := .f32) ((x : ℝ) : EReal) ((y : ℝ) : EReal) = ((x * y : ℝ) : EReal) :=
  (EReal.coe_mul x y).symm

/-- The weights' gradient. -/
abbrev aa (v o : ℕ → ℕ → ℝ) (h : ℕ) : ℕ → ℕ → ℝ := sc (hd o h) (hd v h)

theorem v25_at (hv : Holds x2 v) (ho : Holds x3 o) :
    Holds3 (φ := .f32) (a := 16) (b := 4096) (n := 4096) (val_main_v25 (F := Ideal) x2 x3) fun h t s => aa v o h t s := by
  intro h t s
  rw [val_main_v25_apply]
  refine (Finset.sum_congr rfl fun d _ => ?_).trans (coe_sum_fin (n := 128) (fun d => hd o h t d * hd v h s d))
  rw [(v24_at ho).at, (v19_at hv).at, ← EReal.coe_mul]; rfl

theorem v26_at (hq : Holds x0 q) (hk : Holds x1 k) (ho : Holds x3 o) :
    Holds3 (φ := .f32) (a := 16) (b := 128) (n := 4096) (val_main_v26 (F := Ideal) x0 x1 x3)
      fun h d s => dvU (hd q h) (hd k h) (hd o h) (tt q k h) 4096 s d := by
  intro h d s
  rw [val_main_v26_apply]
  refine (Finset.sum_congr rfl fun t _ => ?_).trans (coe_sum_fin (n := 4096) (fun t => wt (zz q k h) (tt q k h) t s * hd o h t d))
  rw [(v24_at ho).at, (v18_0_at hq hk).at, ← EReal.coe_mul, mul_comm]; rfl

theorem join_at {y : FVec Ideal (⟨3, ![4096, 16, 128]⟩ : Shape) .f32} {f : ℕ → ℕ → ℕ → ℝ} (hy : Holds3 y f)
    (i : (⟨3, ![4096, 16, 128]⟩ : Shape).Idx) (t e : ℕ) (he : e < 2048)
    (e0 : (i 0).val = (t * 2048 + e) / 2048) (e1 : (i 1).val = (t * 2048 + e) / 128 % 16)
    (e2 : (i 2).val = (t * 2048 + e) % 128) : y i = ((f t (e / 128) (e % 128) : ℝ) : EReal) := by
  rw [hy.at, e0, e1, e2]
  have a : (t * 2048 + e) / 2048 = t := by omega
  have b : (t * 2048 + e) / 128 % 16 = e / 128 := by omega
  have c : (t * 2048 + e) % 128 = e % 128 := by omega
  rw [a, b, c]

theorem v27_at (hq : Holds x0 q) (hk : Holds x1 k) (ho : Holds x3 o) :
    Holds3 (φ := .f32) (a := 4096) (b := 16) (n := 128) (val_main_v27 (F := Ideal) x0 x1 x3)
      fun s h d => dvU (hd q h) (hd k h) (hd o h) (tt q k h) 4096 s d := by
  intro s h d
  rw [val_main_v27_apply, (v26_at hq hk ho).at]; rfl

/-- The gradient of the scores' shares. -/
theorem v30_at (hq : Holds x0 q) (hk : Holds x1 k) (hv : Holds x2 v) (ho : Holds x3 o) :
    Holds3 (φ := .f32) (a := 16) (b := 4096) (n := 4096) (val_main_v30 (F := Ideal) x0 x1 x2 x3)
      fun h t s => gr (zz q k h) (aa v o h) (tt q k h) t s := by
  intro h t s
  rw [val_main_v30_apply, val_main_v29_apply, v18_1_at, v25_at hv ho h t s, v17_at hq hk h t s, val_main_call5_v0_apply]
  rw [show val_main_call5_cst (F := Ideal) (idx_main_call5_v0 (ix3 h t s)) = ((0 : ℝ) : EReal) from o0_eq, select_coe]
  refine (EReal.coe_mul _ _).symm.trans ?_
  unfold gr wt
  congr 1
  dsimp only
  split
  · exact mul_comm _ _
  · rw [zero_mul, zero_mul]

theorem v33_at (hq : Holds x0 q) (hk : Holds x1 k) (hv : Holds x2 v) (ho : Holds x3 o) :
    Holds3 (φ := .f32) (a := 16) (b := 4096) (n := 4096) (val_main_v33 (F := Ideal) x0 x1 x2 x3)
      fun h t s => gsum (zz q k h) (aa v o h) (tt q k h) t (s + 1) := by
  intro h t s
  have e : val_main_v33 (F := Ideal) x0 x1 x2 x3 (ix3 h t s) = ((∑ n ∈ range 4096, if 4096 - 1 ≤ s.val + n ∧ s.val + n - (4096 - 1) < 4096
      then gr (zz q k h) (aa v o h) (tt q k h) t (s.val + n - (4096 - 1)) else 0 : ℝ) : EReal) := by
    unfold val_main_v33
    exact window_sum (a := 16) (b := 4096) (n := 4096) (lo := 4095) (hi := 0) (val_main_v30 (F := Ideal) x0 x1 x2 x3) _
      (v30_at hq hk hv ho) (val_main_call7_v0 (F := Ideal)) (fun i => by rw [val_main_call7_v0_apply]; exact o0_eq) _ _ h t s
  rw [sum_to s.isLt (fun x => gr (zz q k h) (aa v o h) (tt q k h) t x)] at e
  exact e

/-- The gradient of the scores. -/
theorem v38_at (hq : Holds x0 q) (hk : Holds x1 k) (hv : Holds x2 v) (ho : Holds x3 o) :
    Holds3 (φ := .f32) (a := 16) (b := 4096) (n := 4096) (val_main_v38 (F := Ideal) x0 x1 x2 x3)
      fun h t s => dz (zz q k h) (aa v o h) (tt q k h) t s := by
  intro h t s
  rw [val_main_v38_apply, val_main_v37_apply, val_main_v36_apply, val_main_call9_v1_apply, val_main_call9_v0_apply,
    val_main_v35_apply, val_main_v34_apply, val_main_v32_apply, val_main_v31_apply, val_main_call6_v1_apply,
    val_main_call6_v0_apply, v12_1_at, v11_1_at hq hk h t s, v15_1_at hq hk h t s, v33_at hq hk hv ho h t s,
    v30_at hq hk hv ho h t s, val_main_call8_v0_apply,
    show val_main_call8_cst (F := Ideal) (idx_main_call8_v0 (ix3 h t s)) = ((0 : ℝ) : EReal) from o0_eq]
  simp only [hneg_coe, add_coe, mul_coe, select_coe]
  rw [dz_eq]
  congr 1
  ring

theorem v39_at (hq : Holds x0 q) (hk : Holds x1 k) (hv : Holds x2 v) (ho : Holds x3 o) :
    Holds3 (φ := .f32) (a := 16) (b := 4096) (n := 128) (val_main_v39 (F := Ideal) x0 x1 x2 x3)
      fun h s d => dkU (hd q h) (hd k h) (hd v h) (hd o h) (tt q k h) 4096 s d := by
  intro h s d
  rw [val_main_v39_apply]
  refine (Finset.sum_congr rfl fun t _ => ?_).trans
    (coe_sum_fin (n := 4096) (fun t => dz (zz q k h) (aa v o h) (tt q k h) t s * hd q h t d))
  rw [(v38_at hq hk hv ho).at, (v0_at hq).at, ← EReal.coe_mul]; rfl

theorem v41_at (hq : Holds x0 q) (hk : Holds x1 k) (hv : Holds x2 v) (ho : Holds x3 o) :
    Holds3 (φ := .f32) (a := 16) (b := 4096) (n := 128) (val_main_v41 (F := Ideal) x0 x1 x2 x3)
      fun h t d => dqU (hd q h) (hd k h) (hd v h) (hd o h) (tt q k h) 4096 t d := by
  intro h t d
  rw [val_main_v41_apply]
  refine (Finset.sum_congr rfl fun s _ => ?_).trans
    (coe_sum_fin (n := 4096) (fun s => dz (zz q k h) (aa v o h) (tt q k h) t s * hd k h s d))
  rw [(v38_at hq hk hv ho).at, (v1_at hk).at, ← EReal.coe_mul]; rfl

theorem v40_at (hq : Holds x0 q) (hk : Holds x1 k) (hv : Holds x2 v) (ho : Holds x3 o) :
    Holds3 (φ := .f32) (a := 4096) (b := 16) (n := 128) (val_main_v40 (F := Ideal) x0 x1 x2 x3)
      fun s h d => dkU (hd q h) (hd k h) (hd v h) (hd o h) (tt q k h) 4096 s d := by
  intro s h d
  rw [val_main_v40_apply, (v39_at hq hk hv ho).at]; rfl

theorem v42_at (hq : Holds x0 q) (hk : Holds x1 k) (hv : Holds x2 v) (ho : Holds x3 o) :
    Holds3 (φ := .f32) (a := 4096) (b := 16) (n := 128) (val_main_v42 (F := Ideal) x0 x1 x2 x3)
      fun t h d => dqU (hd q h) (hd k h) (hd v h) (hd o h) (tt q k h) 4096 t d := by
  intro t h d
  rw [val_main_v42_apply, (v41_at hq hk hv ho).at]; rfl

/-- The gradient of the queries. -/
theorem ref_dq (hq : Holds x0 q) (hk : Holds x1 k) (hv : Holds x2 v) (ho : Holds x3 o) : val_main_v44 (F := Ideal) x0 x1 x2 x3
    = arr fun t e => dqU (hd q (e / 128)) (hd k (e / 128)) (hd v (e / 128)) (hd o (e / 128)) (tt q k (e / 128)) 4096 t (e % 128) := by
  funext j
  rw [val_main_v44_apply]
  exact join_at (v42_at hq hk hv ho) _ (j 0).val (j 1).val (j 1).isLt rfl rfl rfl

/-- The gradient of the keys. -/
theorem ref_dk (hq : Holds x0 q) (hk : Holds x1 k) (hv : Holds x2 v) (ho : Holds x3 o) : val_main_v43 (F := Ideal) x0 x1 x2 x3
    = arr fun t e => dkU (hd q (e / 128)) (hd k (e / 128)) (hd v (e / 128)) (hd o (e / 128)) (tt q k (e / 128)) 4096 t (e % 128) := by
  funext j
  rw [val_main_v43_apply]
  exact join_at (v40_at hq hk hv ho) _ (j 0).val (j 1).val (j 1).isLt rfl rfl rfl

/-- The gradient of the values. -/
theorem ref_dv (hq : Holds x0 q) (hk : Holds x1 k) (ho : Holds x3 o) : val_main_v28 (F := Ideal) x0 x1 x3
    = arr fun t e => dvU (hd q (e / 128)) (hd k (e / 128)) (hd o (e / 128)) (tt q k (e / 128)) 4096 t (e % 128) := by
  funext j
  rw [val_main_v28_apply]
  exact join_at (v27_at hq hk ho) _ (j 0).val (j 1).val (j 1).isLt rfl rfl rfl

end Cert.KernelIdeal.Attn

end
-- ==== Proof.Attn.Host.lean ====
/- What the host hands to the launch, over the reals: the four arguments cast, the total of each row's logarithms
   repeated along its head's columns, and the matrix of the running sums. -/
module

public import proofs.«01_k».proof.Proof.Attn.Grad
public import Idealize.ShloMosaic.Lib.StableHlo.ReadAt
public import Idealize.ShloMosaic.Lib.Claim

@[expose] public section

set_option maxRecDepth 65536

noncomputable section

namespace Cert.KernelIdeal.Attn

open Cert.KernelIdeal Cert.KernelIdeal.Gen Idealize.ShloMosaic Idealize.ShloMosaic.TcCoe Idealize.SL.Sem
open Finset

variable (m : (ℓ : Loc nD τ sig) → Buf (Elt Ideal) ℓ) (c : Dev nD)

theorem V18 : V m c main_v18 = (truncf .bf16 (m (c.tc.loc main_arg0) : Arg) bitsLt_bf16_f32 : FVec Ideal S4096x2048 .bf16) := by
  unfold V
  simp only [List.flatten_cons, List.flatten_nil, List.append_nil, List.cons_append, List.nil_append]
  after_reads_simp

theorem V19 : V m c main_v19 = (truncf .bf16 (m (c.tc.loc main_arg1) : Arg) bitsLt_bf16_f32 : FVec Ideal S4096x2048 .bf16) := by
  unfold V
  simp only [List.flatten_cons, List.flatten_nil, List.append_nil, List.cons_append, List.nil_append]
  after_reads_simp

theorem V20 : V m c main_v20 = (truncf .bf16 (m (c.tc.loc main_arg2) : Arg) bitsLt_bf16_f32 : FVec Ideal S4096x2048 .bf16) := by
  unfold V
  simp only [List.flatten_cons, List.flatten_nil, List.append_nil, List.cons_append, List.nil_append]
  after_reads_simp

theorem V21 : V m c main_v21 = (truncf .bf16 (m (c.tc.loc main_arg3) : Arg) bitsLt_bf16_f32 : FVec Ideal S4096x2048 .bf16) := by
  unfold V
  simp only [List.flatten_cons, List.flatten_nil, List.append_nil, List.cons_append, List.nil_append]
  after_reads_simp

theorem V12 : V m c main_v12 = Cert.ReferenceIdeal.Read.val_main_v12_0 (F := Ideal) (m (c.tc.loc main_arg0)) (m (c.tc.loc main_arg1)) := by
  unfold V
  simp only [List.flatten_cons, List.flatten_nil, List.append_nil, List.cons_append, List.nil_append]
  after_reads_simp
  rfl

/-- The rows' totals. -/
abbrev totals (x0 x1 : Arg) : FVec Ideal S16x4096 .f32 :=
  Host.reduceAdd (Cert.ReferenceIdeal.Read.val_main_v12_0 (F := Ideal) x0 x1) (constant S_ .f32 0x00000000#32)
    reducesTo_S16x4096x4096_S16x4096_d2 h_S_

theorem V17 : V m c main_v17 = (shapeCast S4096x2048 (broadcastInDim S4096x16x128 ![0, 1, 2] bcast_S4096x16x1_S4096x16x128_0_1_2
    (broadcastInDim S4096x16x1 ![0, 1] bcast_S4096x16_S4096x16x1_0_1 (transpose S4096x16 [1, 0]
      (totals (m (c.tc.loc main_arg0)) (m (c.tc.loc main_arg1))) transposes_S16x4096_S4096x16_1_0)))
      shapeCasts_S4096x16x128_S4096x2048 : FVec Ideal S4096x2048 .f32) := by
  unfold V
  simp only [List.flatten_cons, List.flatten_nil, List.append_nil, List.cons_append, List.nil_append]
  after_reads_simp
  rfl

/-- The matrix of the running sums. -/
abbrev sums : FVec Ideal S256x256 .bf16 :=
  truncf .bf16 (select (ori (cmpi .sle (andi (iotaInDim S256x256 32 0) (broadcastInDim S256x256 ![] bcast_S_S256x256 (constantI S_ 32 127#32)))
      (iotaInDim S256x256 32 1)) (cmpi .sge (iotaInDim S256x256 32 1) (broadcastInDim S256x256 ![] bcast_S_S256x256 (constantI S_ 32 128#32))))
    (broadcastInDim S256x256 ![] bcast_S_S256x256 (constant S_ .f32 0x3F800000#32))
    (broadcastInDim S256x256 ![] bcast_S_S256x256 (constant S_ .f32 0x00000000#32) : FVec Ideal S256x256 .f32)) bitsLt_bf16_f32

theorem V31 : V m c main_v31 = sums := by
  unfold V
  simp only [List.flatten_cons, List.flatten_nil, List.append_nil, List.cons_append, List.nil_append]
  after_reads_simp
  rfl

theorem low_bits (r : ℕ) (hr : r < 256) : IntOp.andi (BitVec.ofNat 32 r) 127#32 = BitVec.ofNat 32 (r % 128) := by
  show BitVec.ofNat 32 r &&& 127#32 = _
  apply BitVec.eq_of_toNat_eq
  rw [BitVec.toNat_and, BitVec.toNat_ofNat, BitVec.toNat_ofNat, BitVec.toNat_ofNat, Nat.mod_eq_of_lt (a := r) (by omega),
    Nat.mod_eq_of_lt (a := r % 128) (by omega)]
  exact Nat.and_two_pow_sub_one_eq_mod r 7

theorem isSums : IsSums (V m c main_v31) := by
  rw [V31]
  intro r c
  have hr := r.isLt
  have hc := c.isLt
  pointwise [sums]
  rw [low_bits r.val hr, WordCmp.cmpi_sle_eq, WordCmp.cmpi_sge_eq, WordCmp.toInt_ofNat_of_lt (by omega),
    WordCmp.toInt_ofNat_of_lt (by omega), show (128#32).toInt = ((128 : ℕ) : ℤ) from by decide]
  simp only [Int.ofNat_le]
  by_cases h1 : r.val % 128 ≤ c.val <;> by_cases h2 : 128 ≤ c.val <;> simp [h1, h2, IntOp.ori, Scalar.select]

theorem holds_cast {x : Arg} {q : ℕ → ℕ → ℝ} (h : Holds x q) :
    Holds (φ := .bf16) (m := 4096) (n := 2048) (truncf .bf16 x bitsLt_bf16_f32 : FVec Ideal S4096x2048 .bf16) q :=
  fun r d => h r d

/-- A row's total is its running sum over all keys. -/
theorem totals_at {x0 x1 : Arg} {q k : ℕ → ℕ → ℝ} (hq : Holds x0 q) (hk : Holds x1 k) (h : Fin 16) (t : Fin 4096) :
    totals x0 x1 (ix2 h t) = ((tt q k h t : ℝ) : EReal) := by
  pointwise [totals]
  refine (Finset.sum_congr rfl fun s _ => ?_).trans (coe_sum_fin (n := 4096) (fun s => lk (zz q k h) t s))
  exact v12_0_at hq hk h t s

theorem tot_at {x0 x1 : Arg} {q k : ℕ → ℕ → ℝ} (hq : Holds x0 q) (hk : Holds x1 k) :
    Holds (φ := .f32) (m := 4096) (n := 2048) (shapeCast S4096x2048 (broadcastInDim S4096x16x128 ![0, 1, 2] bcast_S4096x16x1_S4096x16x128_0_1_2
      (broadcastInDim S4096x16x1 ![0, 1] bcast_S4096x16_S4096x16x1_0_1 (transpose S4096x16 [1, 0]
        (totals x0 x1) transposes_S16x4096_S4096x16_1_0)))
        shapeCasts_S4096x16x128_S4096x2048 : FVec Ideal S4096x2048 .f32) fun t e => tt q k (e / 128) t := by
  intro t e
  have ht := totals_at hq hk
  generalize totals x0 x1 = y at ht ⊢
  pointwise
  exact ht _ t

/-- The launch reads what the reference computes with. -/
theorem inputs {q k v o : ℕ → ℕ → ℝ} (hq : Holds (φ := .f32) (m := 4096) (n := 2048) (m (c.tc.loc main_arg0)) q) (hk : Holds (φ := .f32) (m := 4096) (n := 2048) (m (c.tc.loc main_arg1)) k)
    (hv : Holds (φ := .f32) (m := 4096) (n := 2048) (m (c.tc.loc main_arg2)) v) (ho : Holds (φ := .f32) (m := 4096) (n := 2048) (m (c.tc.loc main_arg3)) o) :
    Inputs m c q k v o fun t h => tt q k h t where
  q := by rw [V18]; exact holds_cast hq
  k := by rw [V19]; exact holds_cast hk
  v := by rw [V20]; exact holds_cast hv
  o := by rw [V21]; exact holds_cast ho
  tot := by rw [V17]; exact tot_at hq hk
  u := isSums m c

end Cert.KernelIdeal.Attn

end
-- ==== Proof.Ffn.Scalars.lean ====
/- What the precondition says of an entry, and the derivative of the gated product at one entry. -/
module
public import proofs.«01_k».proof.Proof.Gen.DownDataIdeal.Value
public import proofs.«01_k».proof.Pre_finite_down
public import Idealize.ShloMosaic.PureOps.Ideal
public import Idealize.ShloMosaic.Lib.Pipeline.ValueKit
public import Idealize.ShloMosaic.Lib.ReduceAll
public import Idealize.ShloMosaic.Lib.Claim
@[expose] public section
set_option maxRecDepth 65536
noncomputable section
namespace Cert.DownDataIdeal.Ffn
open Cert.DownDataIdeal Idealize.ShloMosaic

/-- The side conditions the precondition's operations take. -/
theorem preFacts : Cert.Pre_finite_down.Facts where
  bcast_S_S4096x2048 := by decide
  reducesTo_S4096x2048_S_d0_1 := by decide
  h_S_ := by decide
  bcast_S_S5632x2048 := by decide
  reducesTo_S5632x2048_S_d0_1 := by decide
  bcast_S_S4096x5632 := by decide
  reducesTo_S4096x5632_S_d0_1 := by decide

/-- Every entry is a real. -/
def Reals {S : Shape} (x : FVec Ideal S .f32) : Prop := ∀ j, ∃ r : ℝ, (x j : EReal) = r

theorem real_of_lt (x : EReal) (h : FloatOps.cmpf (F := Ideal) (φ := .f32) .olt (FloatOps.hostAbsf (F := Ideal) (φ := .f32) x) (FloatOps.ofBits .f32 0x7F800000#32) = 1#1) :
    ∃ r : ℝ, x = r := by
  have ht : (FloatOps.ofBits (F := Ideal) .f32 0x7F800000#32) = (⊤ : EReal) := by
    show Ideal.ieee 8 23 (0x7F800000#32) = ⊤
    simp [Ideal.ieee]
  rw [ht] at h
  have hlt : max x (-x) < ⊤ := by
    by_contra hc
    change Ideal.cmp .olt (max x (-x)) ⊤ = 1#1 at h
    simp [Ideal.cmp, hc] at h
  refine ⟨x.toReal, (EReal.coe_toReal ?_ ?_).symm⟩
  · rintro rfl
    simp at hlt
  · rintro rfl
    simp at hlt

theorem finite_args [Cert.Pre_finite_down.Facts] (x0 : FVec Ideal S4096x2048 .f32) (x1 : FVec Ideal S5632x2048 .f32)
    (x2 x3 : FVec Ideal S4096x5632 .f32) (h : ∀ j, Cert.Pre_finite_down.fn (F := Ideal) x0 x1 x2 x3 j = 1#1) :
    Reals x0 ∧ Reals x1 ∧ Reals x3 := by
  have e := h (fun a => a.elim0)
  unfold Cert.Pre_finite_down.fn at e
  have : Subsingleton (Cert.Pre_finite_down.S_).Idx := ⟨fun a b => funext fun i => i.elim0⟩
  have b1 : ∀ a b : BitVec 1, IntOp.andi a b = 1#1 → a = 1#1 ∧ b = 1#1 := by decide
  have e3 := b1 _ _ e
  have e2 := b1 _ _ e3.1
  have a0 := fun i => Host.reduce_andi_all _ _ _ _ _ e2.1 i
  have a1 := fun i => Host.reduce_andi_all _ _ _ _ _ e2.2 i
  have a3 := fun i => Host.reduce_andi_all _ _ _ _ _ e3.2 i
  exact ⟨fun j => real_of_lt _ (a0 j), fun j => real_of_lt _ (a1 j), fun j => real_of_lt _ (a3 j)⟩

/-- A product of rows of reals is a real. -/
theorem real_sum {n : ℕ} (a b : Fin n → EReal) (ha : ∀ k, ∃ r : ℝ, a k = r) (hb : ∀ k, ∃ r : ℝ, b k = r) :
    ∃ r : ℝ, ∑ k, a k * b k = r := by
  choose ra ha using ha
  choose rb hb using hb
  refine ⟨∑ k, ra k * rb k, ?_⟩
  have hs : ∀ s : Finset (Fin n), ∑ k ∈ s, a k * b k = ((∑ k ∈ s, ra k * rb k : ℝ) : EReal) := fun s => by
    induction s using Finset.cons_induction with
    | empty => simp
    | cons i s hi ih => rw [Finset.sum_cons, Finset.sum_cons, ih, ha, hb, EReal.coe_add, EReal.coe_mul]
  exact hs _

/-- An entry of the product times an entry of the third array is a real. -/
theorem real_entry {X0 : FVec Ideal S4096x2048 .f32} {X1 : FVec Ideal S5632x2048 .f32} {X3 : FVec Ideal S4096x5632 .f32}
    (h0 : Reals X0) (h1 : Reals X1) (h3 : Reals X3) (i : Fin 4096) (j : Fin 5632) (e : S4096x5632.Idx) :
    ∃ r : ℝ, (∑ k : Fin 2048, (X0 (ix2 i k) : EReal) * X1 (ix2 j k)) * X3 e = r := by
  obtain ⟨r, hr⟩ := real_sum _ _ (fun k : Fin 2048 => h0 (ix2 i k)) (fun k => h1 (ix2 j k))
  obtain ⟨u, hu⟩ := h3 e
  exact ⟨r * u, by rw [hr, hu, EReal.coe_mul]⟩

/-- The gate's gradient: the product's gradient `x` over `g · logistic g` differentiated, in both orders of operations. -/
theorem gate_grad (x : ℝ) (g : EReal) :
    (x : EReal) * (Ideal.logistic g * (1 + g * (1 - Ideal.logistic g))) =
      x * Ideal.logistic g + (g * x) * (Ideal.logistic g * (1 - Ideal.logistic g)) := by
  induction g with
  | bot => simp
  | top =>
    have : (1 : EReal) - 1 = 0 := by
      rw [← EReal.coe_one, ← EReal.coe_sub, sub_self, EReal.coe_zero]
    simp [this]
  | coe r =>
    rw [Ideal.logistic_coe]
    generalize (1 + Real.exp (-r))⁻¹ = s
    norm_cast
    ring

end Cert.DownDataIdeal.Ffn
end
-- ==== Proof.Ffn.DownData.lean ====
/- The gradients of the gate and of the second product: one product over the layer's width and then the derivative of
   the gated product at each entry. -/
module
public import proofs.«01_k».proof.Proof.Ffn.Scalars
public import proofs.«01_k».proof.Proof.Gen.DownDataIdeal.Value
public import proofs.«01_k».proof.Proof.Gen.DownDataRefIdeal.Run
public import Idealize.ShloMosaic.Lib.Pipeline.ValueKit
public import Idealize.ShloMosaic.Lib.StableHlo.ReadAt
public import Idealize.ShloMosaic.Lib.Claim
@[expose] public section
set_option maxRecDepth 65536
noncomputable section
namespace Cert.DownDataIdeal.Ffn
open Cert.DownDataIdeal Cert.DownDataIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's ones. -/
abbrev ONE : FVec Ideal S4096x5632 .f32 :=
  broadcastInDim S4096x5632 ![] Cert.DownDataRefIdeal.Gen.bcast_S_S4096x5632 (constant Cert.DownDataRefIdeal.S_ .f32 0x3F800000#32)
/-- The reference's logistic function. -/
abbrev SIG (X2 : FVec Ideal S4096x5632 .f32) : FVec Ideal S4096x5632 .f32 :=
  Host.divf ONE (addf ONE (Host.exp (Host.negf X2)))
/-- The reference's product. -/
abbrev DOT (X0 : FVec Ideal S4096x2048 .f32) (X1 : FVec Ideal S5632x2048 .f32) : FVec Ideal S4096x5632 .f32 :=
  Host.dotGeneral Cert.DownDataRefIdeal.dot_S4096x2048_S5632x2048_S4096x5632_1_1_0_0_n_n none X0 X1
/-- The reference's gradient of the gate. -/
abbrev REFG (X0 : FVec Ideal S4096x2048 .f32) (X1 : FVec Ideal S5632x2048 .f32) (X2 X3 : FVec Ideal S4096x5632 .f32) : FVec Ideal S4096x5632 .bf16 :=
  truncf .bf16 (addf (mulf (mulf (DOT X0 X1) X3) (SIG X2)) (mulf (mulf X2 (mulf (DOT X0 X1) X3)) (mulf (SIG X2) (subf ONE (SIG X2)))))
    Cert.DownDataRefIdeal.Gen.bitsLt_bf16_f32
/-- The reference's gradient of the second product. -/
abbrev REFU (X0 : FVec Ideal S4096x2048 .f32) (X1 : FVec Ideal S5632x2048 .f32) (X2 : FVec Ideal S4096x5632 .f32) : FVec Ideal S4096x5632 .bf16 :=
  truncf .bf16 (mulf (mulf X2 (SIG X2)) (DOT X0 X1)) Cert.DownDataRefIdeal.Gen.bitsLt_bf16_f32

theorem sig_eq (x : EReal) : Ideal.div 1 (1 + Ideal.exp (-x)) = Ideal.logistic x := rfl

theorem idx : ∀ t : Fin cfg0.N,
    win0_0.index t = ![t.val % 16, 0] ∧ win0_1.index t = ![t.val / 16, 0, 0, 0] ∧ win0_2.index t = ![t.val % 16, t.val / 16] ∧
    win0_3.index t = ![t.val % 16, t.val / 16] ∧ win0_4.index t = ![t.val % 16, t.val / 16] ∧ win0_5.index t = ![t.val % 16, t.val / 16] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl
theorem V2 (c : Dev nD) : V m c main_v2 = (shapeCast S4x1x1408x2048 (truncf .bf16 (m ((c.tc : Thread nD τ).loc main_arg1)) bitsLt_bf16_f32 : FVec Ideal S5632x2048 .bf16) shapeCasts_S5632x2048_S4x1x1408x2048 : FVec Ideal S4x1x1408x2048 .bf16) := by
  unfold V; after_reads_simp; try rfl
theorem V3 (c : Dev nD) : V m c main_arg2 = m ((c.tc : Thread nD τ).loc main_arg2) := by
  unfold V; after_reads_simp; try rfl
theorem V4 (c : Dev nD) : V m c main_arg3 = m ((c.tc : Thread nD τ).loc main_arg3) := by
  unfold V; after_reads_simp; try rfl

theorem pointU (c : Dev nD) (t : Fin cfg0.N) (y) :
    k0_pay4 (F := Ideal) (iblk m c 0 t) (iblk m c 1 t) (iblk m c 2 t) y =
    REFU (m ((c.tc : Thread nD τ).loc main_arg0)) (m ((c.tc : Thread nD τ).loc main_arg1)) (m ((c.tc : Thread nD τ).loc main_arg2)) (((cfg0.win 5).blk t).view.emb y) := by
  pointwise [k0_pay1, k0_pay2, k0_pay4, REFU, DOT, SIG, ONE]
  rw [sig_eq, mul_comm]
  blk_point [iblk, V0, V2, V3, idx t]

theorem pointG (c : Dev nD) (h0 : Reals (m ((c.tc : Thread nD τ).loc main_arg0) : FVec Ideal S4096x2048 .f32))
    (h1 : Reals (m ((c.tc : Thread nD τ).loc main_arg1) : FVec Ideal S5632x2048 .f32))
    (h3 : Reals (m ((c.tc : Thread nD τ).loc main_arg3) : FVec Ideal S4096x5632 .f32)) (t : Fin cfg0.N) (y) :
    k0_pay3 (F := Ideal) (iblk m c 0 t) (iblk m c 1 t) (iblk m c 2 t) (iblk m c 3 t) y =
    REFG (m ((c.tc : Thread nD τ).loc main_arg0)) (m ((c.tc : Thread nD τ).loc main_arg1)) (m ((c.tc : Thread nD τ).loc main_arg2)) (m ((c.tc : Thread nD τ).loc main_arg3)) (((cfg0.win 4).blk t).view.emb y) := by
  pointwise [k0_pay1, k0_pay2, k0_pay3, REFG, DOT, SIG, ONE]
  rw [sig_eq]
  obtain ⟨r, hr⟩ := real_entry h0 h1 h3 (((View.whole main_v3_0).slice ((win0 4).rect t)).emb y 0) (((View.whole main_v3_0).slice ((win0 4).rect t)).emb y 1)
    (((View.whole main_v3_0).slice ((win0 4).rect t)).emb y)
  rw [hr, ← gate_grad, ← hr]
  blk_point [iblk, V0, V2, V3, V4, idx t]

theorem finalU (c : Dev nD) : (dats m 0 c).arrAt 5 (cfgs 0).N =
    REFU (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]; frame_out
  exact pointU m c t y

theorem finalG (c : Dev nD) (h0 : Reals (m ((c.tc : Thread nD τ).loc main_arg0) : FVec Ideal S4096x2048 .f32))
    (h1 : Reals (m ((c.tc : Thread nD τ).loc main_arg1) : FVec Ideal S5632x2048 .f32))
    (h3 : Reals (m ((c.tc : Thread nD τ).loc main_arg3) : FVec Ideal S4096x5632 .f32)) : (dats m 0 c).arrAt 4 (cfgs 0).N =
    REFG (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after0_4]; frame_out
  exact pointG m c h0 h1 h3 t y
end Cert.DownDataIdeal.Ffn
end
-- ==== Proof.Ffn.DownWeight.lean ====
/- The gradient of the feed-forward block's last weight: the kernel adds up eight products over 512 rows each in its
   scratch, and the reference takes one product over all the rows. -/
module
public import proofs.«01_k».proof.Proof.Gen.DownWeightIdeal.Value
public import proofs.«01_k».proof.Proof.Gen.DownWeightRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.DownWeightIdeal.Ffn
open Cert.DownWeightIdeal Cert.DownWeightIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term. -/
abbrev REF (X0 : FVec Ideal S4096x5632 .f32) (X1 : FVec Ideal S4096x2048 .f32) : FVec Ideal S4x1408x2048 .bf16 :=
  truncf .bf16 (shapeCast S4x1408x2048 (transpose Cert.DownWeightRefIdeal.S5632x2048 [1, 0]
    (Host.dotGeneral Cert.DownWeightRefIdeal.dot_S4096x2048_S4096x5632_S2048x5632_0_0_1_1_n_n none X1 X0)
    Cert.DownWeightRefIdeal.Gen.transposes_S2048x5632_S5632x2048_1_0) Cert.DownWeightRefIdeal.Gen.shapeCasts_S5632x2048_S4x1408x2048)
    Cert.DownWeightRefIdeal.Gen.bitsLt_bf16_f32

theorem idx : ∀ t : Fin cfg0.N,
    win0_0.index t = ![t.val % 8, t.val / 16] ∧ win0_1.index t = ![t.val % 8, t.val / 8 % 2] ∧
    win0_2.index t = ![t.val / 16, 0, t.val / 8 % 2] :=
  (by decide +kernel : ∀ t : Fin grid0.N, _)

theorem V0 (c : Dev nD) : V m c main_v0 = (truncf .bf16 (m ((c.tc : Thread nD τ).loc main_arg0)) bitsLt_bf16_f32 : FVec Ideal S4096x5632 .bf16) := by
  unfold V; after_reads_simp; try rfl
theorem V1 (c : Dev nD) : V m c main_v1 = (truncf .bf16 (m ((c.tc : Thread nD τ).loc main_arg1)) bitsLt_bf16_f32 : FVec Ideal S4096x2048 .bf16) := by
  unfold V; after_reads_simp; try rfl

theorem first (x0 : FVec Ideal S512x1408 .bf16) (x1 : FVec Ideal S512x1024 .bf16) (j : S1408x1024.Idx) :
    k0_pay1 (F := Ideal) x0 x1 j = ∑ k : Fin 512, x0 (ix2 k (j 0)) * x1 (ix2 k (j 1)) := by pointwise [k0_pay1]
theorem later (x0 : FVec Ideal S512x1408 .bf16) (x1 : FVec Ideal S512x1024 .bf16) (acc : FVec Ideal S1408x1024 .f32) (j : S1408x1024.Idx) :
    k0_pay2 (F := Ideal) x0 x1 acc j = acc j + ∑ k : Fin 512, x0 (ix2 k (j 0)) * x1 (ix2 k (j 1)) := by pointwise [k0_pay2]

/-- One product of 512 rows. -/
def term (c : Dev nD) (t : Fin cfg0.N) (j : S1408x1024.Idx) : EReal :=
  ∑ k : Fin 512, (show FVec Ideal S512x1408 .bf16 from iblk m c 0 t) (ix2 k (j 0)) * (show FVec Ideal S512x1024 .bf16 from iblk m c 1 t) (ix2 k (j 1))

/-- The scratch where a run of eight points ends. -/
theorem scratch (c : Dev nD) (t : Fin cfg0.N) (h : t.val % 8 = 8 - 1) (j : S1408x1024.Idx) :
    (outsAt0 m c t.val t.isLt).2 j = ∑ s : Fin 8, term m c ⟨8 * (t.val / 8) + s.val, Pipeline.run_point_lt_of_flush t h s⟩ j := by
  rw [Pipeline.eq_sum_fin_of_reset_step_apply_of_flush (fun n h => (outsAt0 m c n h).2) 8 (fun _ => 0) (term m c) ?_ ?_ t h j, zero_add]
  · intro t h j
    rw [outsAt0_A m c t h (by omega) (by omega)]; frame_out
    rw [first, zero_add]; rfl
  · intro t h j
    by_cases h2 : t.val % 8 = 7
    · rw [outsAt0_C m c t h (by omega) h2]; frame_out
      rw [later, read_unread_whole]; rfl
    · rw [outsAt0_B m c t h (by omega) h2]; frame_out
      rw [later, read_unread_whole]; rfl

theorem final (c : Dev nD) : (dats m 0 c).arrAt 2 (cfgs 0).N =
    REF (m ((c.tc : Thread nD τ).loc main_arg0)) (m ((c.tc : Thread nD τ).loc main_arg1)) := by
  refine (dats m 0 c).arrAt_eq_of_covers 2 _ (by decide +kernel) fun t hf y => ?_
  have hm : t.val % 8 = 7 := (flush0_2 t).mp hf
  blk_simp
  have hs := scratch m c t hm (ix2 (y 1) (y 2))
  rw [outsAt0_C m c t (by omega) (by omega) hm] at hs
  revert hs
  rw [after0_2, outsAt0_C m c t (by omega) (by omega) hm]; frame_out
  intro hs
  pointwise [k0_pay3, REF]
  rw [hs]
  unfold term
  refine Fin.sum_mul_add_congr fun s k hl => ?_
  rw [mul_comm]
  blk_point [iblk, V0, V1, idx t, idx ⟨_, Pipeline.run_point_lt_of_flush t hm s⟩]
end Cert.DownWeightIdeal.Ffn
end
-- ==== Proof.Ffn.UpData.lean ====
/- The gradient that reaches the feed-forward block's input: the kernel's eight products of a shard each add up to the
   reference's two products over all the columns. -/
module
public import proofs.«01_k».proof.Proof.Gen.UpDataIdeal.Value
public import proofs.«01_k».proof.Proof.Gen.UpDataRefIdeal.Run
public import Idealize.ShloMosaic.Lib.Pipeline.ValueKit
public import Idealize.ShloMosaic.Lib.StableHlo.ReadAt
public import Idealize.ShloMosaic.Lib.Claim
@[expose] public section
set_option maxRecDepth 65536
noncomputable section
namespace Cert.UpDataIdeal.Ffn
open Cert.UpDataIdeal Cert.UpDataIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term. -/
abbrev REF (X0 X1 : FVec Ideal S4096x5632 .f32) (X2 X3 : FVec Ideal S2048x5632 .f32) : FVec Ideal S4096x2048 .f32 :=
  addf (Host.dotGeneral Cert.UpDataRefIdeal.dot_S4096x5632_S2048x5632_S4096x2048_1_1_0_0_n_n none X1 X3)
    (Host.dotGeneral Cert.UpDataRefIdeal.dot_S4096x5632_S2048x5632_S4096x2048_1_1_0_0_n_n none X0 X2)

theorem idx : ∀ t : Fin cfg0.N,
    win0_0.index t = ![t.val % 16, 0] ∧ win0_1.index t = ![t.val % 16, 1] ∧ win0_2.index t = ![t.val % 16, 2] ∧ win0_3.index t = ![t.val % 16, 3] ∧
    win0_4.index t = ![t.val % 16, 0] ∧ win0_5.index t = ![t.val % 16, 1] ∧ win0_6.index t = ![t.val % 16, 2] ∧ win0_7.index t = ![t.val % 16, 3] ∧
    win0_8.index t = ![0, 0, t.val / 16, 0] ∧ win0_9.index t = ![1, 0, t.val / 16, 0] ∧ win0_10.index t = ![2, 0, t.val / 16, 0] ∧ win0_11.index t = ![3, 0, t.val / 16, 0] ∧
    win0_12.index t = ![0, 0, t.val / 16, 0] ∧ win0_13.index t = ![1, 0, t.val / 16, 0] ∧ win0_14.index t = ![2, 0, t.val / 16, 0] ∧ win0_15.index t = ![3, 0, t.val / 16, 0] ∧
    win0_16.index t = ![t.val % 16, t.val / 16] :=
  (by decide +kernel : ∀ t : Fin grid0.N, _)

theorem V0 (c : Dev nD) : V m c main_v0 = (truncf .bf16 (m ((c.tc : Thread nD τ).loc main_arg0)) bitsLt_bf16_f32 : FVec Ideal S4096x5632 .bf16) := by
  unfold V; after_reads_simp; try rfl
theorem V1 (c : Dev nD) : V m c main_v1 = (truncf .bf16 (m ((c.tc : Thread nD τ).loc main_arg1)) bitsLt_bf16_f32 : FVec Ideal S4096x5632 .bf16) := by
  unfold V; after_reads_simp; try rfl
theorem V4 (c : Dev nD) : V m c main_v4 = (transpose S4x1x2048x1408 [1, 2, 0, 3] (shapeCast S2048x4x1x1408 (truncf .bf16 (m ((c.tc : Thread nD τ).loc main_arg2)) bitsLt_bf16_f32 : FVec Ideal S2048x5632 .bf16) shapeCasts_S2048x5632_S2048x4x1x1408) transposes_S2048x4x1x1408_S4x1x2048x1408_1_2_0_3 : FVec Ideal S4x1x2048x1408 .bf16) := by
  unfold V; after_reads_simp; try rfl
theorem V7 (c : Dev nD) : V m c main_v7 = (transpose S4x1x2048x1408 [1, 2, 0, 3] (shapeCast S2048x4x1x1408 (truncf .bf16 (m ((c.tc : Thread nD τ).loc main_arg3)) bitsLt_bf16_f32 : FVec Ideal S2048x5632 .bf16) shapeCasts_S2048x5632_S2048x4x1x1408) transposes_S2048x4x1x1408_S4x1x2048x1408_1_2_0_3 : FVec Ideal S4x1x2048x1408 .bf16) := by
  unfold V; after_reads_simp; try rfl

/-- A sum over all the columns, shard by shard. -/
theorem sum4 (f : Fin 5632 → EReal) : ∑ l : Fin 5632, f l =
    ∑ k : Fin 1408, f ⟨k, by omega⟩ + ∑ k : Fin 1408, f ⟨1408 + k, by omega⟩ + ∑ k : Fin 1408, f ⟨2816 + k, by omega⟩ + ∑ k : Fin 1408, f ⟨4224 + k, by omega⟩ := by
  rw [← Fin.sum_mul_add_fin 4 1408 f, Fin.sum_univ_four]
  simp

theorem regroup {a0 a1 a2 a3 a4 a5 a6 a7 b0 b1 b2 b3 b4 b5 b6 b7 : EReal} (h0 : a0 = b0) (h1 : a1 = b1) (h2 : a2 = b2) (h3 : a3 = b3)
    (h4 : a4 = b4) (h5 : a5 = b5) (h6 : a6 = b6) (h7 : a7 = b7) :
    a0 + a1 + a2 + a3 + a4 + a5 + a6 + a7 = (b4 + b5 + b6 + b7) + (b0 + b1 + b2 + b3) := by
  subst_vars
  abel

theorem point (c : Dev nD) (t : Fin cfg0.N) (y) :
    k0_pay1 (F := Ideal) (k0_pay2 (iblk m c 0 t) (iblk m c 8 t) (iblk m c 1 t) (iblk m c 9 t) (iblk m c 2 t) (iblk m c 10 t) (iblk m c 3 t) (iblk m c 11 t)) (k0_pay3 (iblk m c 4 t)) (iblk m c 12 t) (iblk m c 5 t) (iblk m c 13 t) (iblk m c 6 t) (iblk m c 14 t) (iblk m c 7 t) (iblk m c 15 t) y
    = REF (m ((c.tc : Thread nD τ).loc main_arg0)) (m ((c.tc : Thread nD τ).loc main_arg1)) (m ((c.tc : Thread nD τ).loc main_arg2)) (m ((c.tc : Thread nD τ).loc main_arg3)) (((cfg0.win 16).blk t).view.emb y) := by
  pointwise [k0_pay1, k0_pay2, k0_pay3, REF]
  rw [sum4, sum4]
  refine regroup ?_ ?_ ?_ ?_ ?_ ?_ ?_ ?_ <;> refine Finset.sum_congr rfl fun k _ => ?_
  all_goals blk_point [iblk, V0, V1, V4, V7, idx t]

theorem final (c : Dev nD) : (dats m 0 c).arrAt 16 (cfgs 0).N =
    REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 16 _ (by decide +kernel) fun t _ y => ?_
  blk_simp
  rw [after0_16]; frame_out
  exact point m c t y
end Cert.UpDataIdeal.Ffn
end
-- ==== Proof.Ffn.UpWeight.lean ====
/- The gradients of the feed-forward block's first two weights: the kernel adds up two steps of four products over 512
   rows each, and the reference takes one product over all the rows. -/
module
public import proofs.«01_k».proof.Proof.Gen.UpWeightIdeal.Value
public import proofs.«01_k».proof.Proof.Gen.UpWeightRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.UpWeightIdeal.Ffn
open Cert.UpWeightIdeal Cert.UpWeightIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term, of the layer's input and of the gradient of one of the two products. -/
abbrev REF (X0 : FVec Ideal S4096x2048 .f32) (X1 : FVec Ideal S4096x5632 .f32) : FVec Ideal S4x2048x1408 .bf16 :=
  truncf .bf16 (transpose S4x2048x1408 [1, 0, 2] (shapeCast Cert.UpWeightRefIdeal.S2048x4x1408 (transpose Cert.UpWeightRefIdeal.S2048x5632 [1, 0]
    (Host.dotGeneral Cert.UpWeightRefIdeal.dot_S4096x5632_S4096x2048_S5632x2048_0_0_1_1_n_n none X1 X0)
    Cert.UpWeightRefIdeal.Gen.transposes_S5632x2048_S2048x5632_1_0) Cert.UpWeightRefIdeal.Gen.shapeCasts_S2048x5632_S2048x4x1408)
    Cert.UpWeightRefIdeal.Gen.transposes_S2048x4x1408_S4x2048x1408_1_0_2) Cert.UpWeightRefIdeal.Gen.bitsLt_bf16_f32

theorem idx : ∀ t : Fin cfg0.N,
    win0_0.index t = ![t.val % 2 * 4, t.val / 8] ∧ win0_1.index t = ![t.val % 2 * 4 + 1, t.val / 8] ∧
    win0_2.index t = ![t.val % 2 * 4 + 2, t.val / 8] ∧ win0_3.index t = ![t.val % 2 * 4 + 3, t.val / 8] ∧
    win0_4.index t = ![t.val % 2 * 4, t.val / 2 % 4] ∧ win0_5.index t = ![t.val % 2 * 4 + 1, t.val / 2 % 4] ∧
    win0_6.index t = ![t.val % 2 * 4 + 2, t.val / 2 % 4] ∧ win0_7.index t = ![t.val % 2 * 4 + 3, t.val / 2 % 4] ∧
    win0_8.index t = ![t.val % 2 * 4, t.val / 2 % 4] ∧ win0_9.index t = ![t.val % 2 * 4 + 1, t.val / 2 % 4] ∧
    win0_10.index t = ![t.val % 2 * 4 + 2, t.val / 2 % 4] ∧ win0_11.index t = ![t.val % 2 * 4 + 3, t.val / 2 % 4] ∧
    win0_12.index t = ![t.val / 2 % 4, t.val / 8, 0] ∧ win0_13.index t = ![t.val / 2 % 4, t.val / 8, 0] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl
theorem V1 (c : Dev nD) : V m c main_v1 = (truncf .bf16 (m ((c.tc : Thread nD τ).loc main_arg1)) bitsLt_bf16_f32 : FVec Ideal S4096x5632 .bf16) := by
  unfold V; after_reads_simp; try rfl
theorem V2 (c : Dev nD) : V m c main_v2 = (truncf .bf16 (m ((c.tc : Thread nD τ).loc main_arg2)) bitsLt_bf16_f32 : FVec Ideal S4096x5632 .bf16) := by
  unfold V; after_reads_simp; try rfl

/-- One product of 512 rows. -/
def prod (a : FVec Ideal S512x512 .bf16) (b : FVec Ideal S512x1408 .bf16) (j : S512x1408.Idx) : EReal :=
  ∑ k : Fin 512, a (ix2 k (j 0)) * b (ix2 k (j 1))

/-- One step's four products with the gate's gradient. -/
def stepGate (c : Dev nD) (t : Fin cfg0.N) (j : S512x1408.Idx) : EReal :=
  prod (iblk m c 0 t) (iblk m c 4 t) j + prod (iblk m c 1 t) (iblk m c 5 t) j + prod (iblk m c 2 t) (iblk m c 6 t) j + prod (iblk m c 3 t) (iblk m c 7 t) j
/-- One step's four products with the other product's gradient. -/
def stepUp (c : Dev nD) (t : Fin cfg0.N) (j : S512x1408.Idx) : EReal :=
  prod (iblk m c 0 t) (iblk m c 8 t) j + prod (iblk m c 1 t) (iblk m c 9 t) j + prod (iblk m c 2 t) (iblk m c 10 t) j + prod (iblk m c 3 t) (iblk m c 11 t) j

/-- What a first step leaves in the two scratches. -/
theorem first (c : Dev nD) (t : Fin cfg0.N) (h : t.val % 2 = 0) (j : S512x1408.Idx) :
    (outsAt0 m c t.val t.isLt).2.2.1 j = stepGate m c t j ∧ (outsAt0 m c t.val t.isLt).2.2.2 j = stepUp m c t j := by
  rw [outsAt0_A m c t h (by omega) (by omega)]; frame_out
  pointwise [k0_pay1, k0_pay2, k0_pay3, k0_pay4, k0_pay7, k0_pay8, k0_pay9, k0_pay10, k0_pay11, k0_pay12]
  exact ⟨rfl, rfl⟩

/-- The point before. -/
abbrev before (t : Fin cfg0.N) : Fin cfg0.N := ⟨t.val - 1, Nat.lt_of_le_of_lt (Nat.sub_le _ _) t.isLt⟩

/-- What a second step leaves in the two results' blocks. -/
theorem second (c : Dev nD) (t : Fin cfg0.N) (h : t.val % 2 = 1) (y : S1x512x1408.Idx) :
    (outsAt0 m c t.val t.isLt).1 y = stepGate m c (before t) (ix2 (y 1) (y 2)) + stepGate m c t (ix2 (y 1) (y 2)) ∧
    (outsAt0 m c t.val t.isLt).2.1 y = stepUp m c (before t) (ix2 (y 1) (y 2)) + stepUp m c t (ix2 (y 1) (y 2)) := by
  have hp : (before t).val % 2 = 0 := by show (t.val - 1) % 2 = 0; omega
  rw [← (first m c (before t) hp (ix2 (y 1) (y 2))).1, ← (first m c (before t) hp (ix2 (y 1) (y 2))).2]
  rw [outsAt0_B m c t (by omega) h h]; frame_out
  rw [read_unread_whole, read_unread_whole]
  generalize (outsAt0 m c (t.val - 1) _).2.2.1 = A
  generalize (outsAt0 m c (t.val - 1) _).2.2.2 = B
  pointwise [k0_pay1, k0_pay2, k0_pay3, k0_pay4, k0_pay5, k0_pay6, k0_pay7, k0_pay8, k0_pay9, k0_pay10, k0_pay11, k0_pay12]
  exact ⟨rfl, rfl⟩

/-- A sum over all the rows, 512 at a time. -/
theorem sum8 (f : Fin 4096 → EReal) : ∑ l : Fin 4096, f l =
    ∑ k : Fin 512, f ⟨k, by omega⟩ + ∑ k : Fin 512, f ⟨512 + k, by omega⟩ + ∑ k : Fin 512, f ⟨1024 + k, by omega⟩ + ∑ k : Fin 512, f ⟨1536 + k, by omega⟩ +
    ∑ k : Fin 512, f ⟨2048 + k, by omega⟩ + ∑ k : Fin 512, f ⟨2560 + k, by omega⟩ + ∑ k : Fin 512, f ⟨3072 + k, by omega⟩ + ∑ k : Fin 512, f ⟨3584 + k, by omega⟩ := by
  rw [← Fin.sum_mul_add_fin 8 512 f, Fin.sum_univ_eight]
  simp

theorem regroup {a0 a1 a2 a3 a4 a5 a6 a7 b0 b1 b2 b3 b4 b5 b6 b7 : EReal} (h0 : a0 = b0) (h1 : a1 = b1) (h2 : a2 = b2) (h3 : a3 = b3)
    (h4 : a4 = b4) (h5 : a5 = b5) (h6 : a6 = b6) (h7 : a7 = b7) :
    (a0 + a1 + a2 + a3) + (a4 + a5 + a6 + a7) = b0 + b1 + b2 + b3 + b4 + b5 + b6 + b7 := by
  subst_vars
  abel

theorem finalGate (c : Dev nD) : (dats m 0 c).arrAt 12 (cfgs 0).N =
    REF (m ((c.tc : Thread nD τ).loc main_arg0)) (m ((c.tc : Thread nD τ).loc main_arg1)) := by
  refine (dats m 0 c).arrAt_eq_of_covers 12 _ (by decide +kernel) fun t hf y => ?_
  have hm : t.val % 2 = 1 := (flush0_12 t).mp hf
  blk_simp
  rw [after0_12]
  refine (second m c t hm y).1.trans ?_
  unfold stepGate prod
  pointwise [REF]
  rw [sum8]
  refine regroup ?_ ?_ ?_ ?_ ?_ ?_ ?_ ?_ <;> refine Finset.sum_congr rfl fun k _ => ?_ <;> rw [mul_comm]
  all_goals blk_point [iblk, V0, V1, V2, idx t, idx (before t)]

theorem finalUp (c : Dev nD) : (dats m 0 c).arrAt 13 (cfgs 0).N =
    REF (m ((c.tc : Thread nD τ).loc main_arg0)) (m ((c.tc : Thread nD τ).loc main_arg2)) := by
  refine (dats m 0 c).arrAt_eq_of_covers 13 _ (by decide +kernel) fun t hf y => ?_
  have hm : t.val % 2 = 1 := (flush0_13 t).mp hf
  blk_simp
  rw [after0_13]
  refine (second m c t hm y).2.trans ?_
  unfold stepUp prod
  pointwise [REF]
  rw [sum8]
  refine regroup ?_ ?_ ?_ ?_ ?_ ?_ ?_ ?_ <;> refine Finset.sum_congr rfl fun k _ => ?_ <;> rw [mul_comm]
  all_goals blk_point [iblk, V0, V1, V2, idx t, idx (before t)]
end Cert.UpWeightIdeal.Ffn
end
-- ==== Proof.Proj.OutData.lean ====
/- The gradient that reaches the attention's output: one product with the output weight, a shard of its rows at a time. -/
module
public import proofs.«01_k».proof.Proof.Gen.OutDataIdeal.Value
public import proofs.«01_k».proof.Proof.Gen.OutDataRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.OutDataIdeal.Proj
open Cert.OutDataIdeal Cert.OutDataIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term. -/
abbrev REF (X0 : FVec Ideal S4096x2048 .f32) (X1 : FVec Ideal S2048x2048 .f32) : FVec Ideal S4096x2048 .bf16 :=
  truncf .bf16 (Host.dotGeneral Cert.OutDataRefIdeal.dot_S4096x2048_S2048x2048_S4096x2048_1_1_0_0_n_n none X0 X1) Cert.OutDataRefIdeal.Gen.bitsLt_bf16_f32

theorem idx : ∀ t : Fin cfg0.N,
    win0_0.index t = ![t.val % 8, 0] ∧ win0_1.index t = ![t.val / 8, 0, 0, 0] ∧ win0_2.index t = ![t.val % 8, t.val / 8] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl
theorem V2 (c : Dev nD) : V m c main_v2 = (shapeCast S4x1x512x2048 (truncf .bf16 (m ((c.tc : Thread nD τ).loc main_arg1)) bitsLt_bf16_f32 : FVec Ideal S2048x2048 .bf16) shapeCasts_S2048x2048_S4x1x512x2048 : FVec Ideal S4x1x512x2048 .bf16) := by
  unfold V; after_reads_simp; try rfl

theorem point (c : Dev nD) (t : Fin cfg0.N) (y) :
    k0_pay1 (F := Ideal) (iblk m c 0 t) (iblk m c 1 t) y = REF (m ((c.tc : Thread nD τ).loc main_arg0)) (m ((c.tc : Thread nD τ).loc main_arg1)) (((cfg0.win 2).blk t).view.emb y) := by
  pointwise [k0_pay1, REF]
  blk_point [iblk, V0, V2, idx t]

theorem final (c : Dev nD) : (dats m 0 c).arrAt 2 (cfgs 0).N =
    REF (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  exact point m c t y
end Cert.OutDataIdeal.Proj
end
-- ==== Proof.Proj.ConvOutData.lean ====
/- The gradient that reaches the gated convolution's output: one product with the output weight, a shard of its rows at a
   time. -/
module
public import proofs.«01_k».proof.Proof.Gen.ConvOutDataIdeal.Value
public import proofs.«01_k».proof.Proof.Gen.ConvOutDataRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.ConvOutDataIdeal.Proj
open Cert.ConvOutDataIdeal Cert.ConvOutDataIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term. -/
abbrev REF (X0 : FVec Ideal S4096x2048 .f32) (X1 : FVec Ideal S2048x2048 .f32) : FVec Ideal S4096x2048 .f32 :=
  Host.dotGeneral Cert.ConvOutDataRefIdeal.dot_S4096x2048_S2048x2048_S4096x2048_1_1_0_0_n_n none X0 X1

theorem idx : ∀ t : Fin cfg0.N,
    win0_0.index t = ![t.val % 8, 0] ∧ win0_1.index t = ![t.val / 8, 0, 0, 0] ∧ win0_2.index t = ![t.val % 8, t.val / 8] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl
theorem V2 (c : Dev nD) : V m c main_v2 = (shapeCast S4x1x512x2048 (truncf .bf16 (m ((c.tc : Thread nD τ).loc main_arg1)) bitsLt_bf16_f32 : FVec Ideal S2048x2048 .bf16) shapeCasts_S2048x2048_S4x1x512x2048 : FVec Ideal S4x1x512x2048 .bf16) := by
  unfold V; after_reads_simp; try rfl

theorem point (c : Dev nD) (t : Fin cfg0.N) (y) :
    k0_pay1 (F := Ideal) (iblk m c 0 t) (iblk m c 1 t) y = REF (m ((c.tc : Thread nD τ).loc main_arg0)) (m ((c.tc : Thread nD τ).loc main_arg1)) (((cfg0.win 2).blk t).view.emb y) := by
  pointwise [k0_pay1, REF]
  blk_point [iblk, V0, V2, idx t]

theorem final (c : Dev nD) : (dats m 0 c).arrAt 2 (cfgs 0).N =
    REF (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  exact point m c t y
end Cert.ConvOutDataIdeal.Proj
end
-- ==== Proof.Proj.OutWeight.lean ====
/- The gradient of a mixer's output weight: the kernel adds up eight products over 512 rows each in its scratch, and the
   reference takes one product over all the rows. -/
module
public import proofs.«01_k».proof.Proof.Gen.OutWeightIdeal.Value
public import proofs.«01_k».proof.Proof.Gen.OutWeightRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.OutWeightIdeal.Proj
open Cert.OutWeightIdeal Cert.OutWeightIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term. -/
abbrev REF (X0 X1 : FVec Ideal S4096x2048 .f32) : FVec Ideal S4x512x2048 .bf16 :=
  truncf .bf16 (shapeCast S4x512x2048 (transpose Cert.OutWeightRefIdeal.S2048x2048 [1, 0]
    (Host.dotGeneral Cert.OutWeightRefIdeal.dot_S4096x2048_S4096x2048_S2048x2048_0_0_1_1_n_n none X1 X0)
    Cert.OutWeightRefIdeal.Gen.transposes_S2048x2048_S2048x2048_1_0) Cert.OutWeightRefIdeal.Gen.shapeCasts_S2048x2048_S4x512x2048)
    Cert.OutWeightRefIdeal.Gen.bitsLt_bf16_f32

theorem idx : ∀ t : Fin cfg0.N,
    win0_0.index t = ![t.val % 8, t.val / 16] ∧ win0_1.index t = ![t.val % 8, t.val / 8 % 2] ∧ win0_2.index t = ![t.val / 16, 0, t.val / 8 % 2] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl
theorem V1 (c : Dev nD) : V m c main_v1 = (truncf .bf16 (m ((c.tc : Thread nD τ).loc main_arg1)) bitsLt_bf16_f32 : FVec Ideal S4096x2048 .bf16) := by
  unfold V; after_reads_simp; try rfl

theorem first (x0 : FVec Ideal S512x512 .bf16) (x1 : FVec Ideal S512x1024 .bf16) (j : S512x1024.Idx) :
    k0_pay1 (F := Ideal) x0 x1 j = ∑ k : Fin 512, x0 (ix2 k (j 0)) * x1 (ix2 k (j 1)) := by pointwise [k0_pay1]
theorem later (x0 : FVec Ideal S512x512 .bf16) (x1 : FVec Ideal S512x1024 .bf16) (acc : FVec Ideal S512x1024 .f32) (j : S512x1024.Idx) :
    k0_pay2 (F := Ideal) x0 x1 acc j = acc j + ∑ k : Fin 512, x0 (ix2 k (j 0)) * x1 (ix2 k (j 1)) := by pointwise [k0_pay2]

/-- One product of the sum. -/
def term (c : Dev nD) (t : Fin cfg0.N) (j : S512x1024.Idx) : EReal :=
  ∑ k : Fin 512, (show FVec Ideal S512x512 .bf16 from iblk m c 0 t) (ix2 k (j 0)) * (show FVec Ideal S512x1024 .bf16 from iblk m c 1 t) (ix2 k (j 1))

/-- The scratch where a run of points ends. -/
theorem scratch (c : Dev nD) (t : Fin cfg0.N) (h : t.val % 8 = 8 - 1) (j : S512x1024.Idx) :
    (outsAt0 m c t.val t.isLt).2 j = ∑ s : Fin 8, term m c ⟨8 * (t.val / 8) + s.val, Pipeline.run_point_lt_of_flush t h s⟩ j := by
  rw [Pipeline.eq_sum_fin_of_reset_step_apply_of_flush (fun n h => (outsAt0 m c n h).2) 8 (fun _ => 0) (term m c) ?_ ?_ t h j, zero_add]
  · intro t h j
    rw [outsAt0_A m c t h (by omega) (by omega)]; frame_out
    rw [first, zero_add]; rfl
  · intro t h j
    by_cases h2 : t.val % 8 = 7
    · rw [outsAt0_C m c t h (by omega) h2]; frame_out
      rw [later, read_unread_whole]; rfl
    · rw [outsAt0_B m c t h (by omega) h2]; frame_out
      rw [later, read_unread_whole]; rfl

theorem final (c : Dev nD) : (dats m 0 c).arrAt 2 (cfgs 0).N =
    REF (m ((c.tc : Thread nD τ).loc main_arg0)) (m ((c.tc : Thread nD τ).loc main_arg1)) := by
  refine (dats m 0 c).arrAt_eq_of_covers 2 _ (by decide +kernel) fun t hf y => ?_
  have hm : t.val % 8 = 7 := (flush0_2 t).mp hf
  blk_simp
  have hs := scratch m c t hm (ix2 (y 1) (y 2))
  rw [outsAt0_C m c t (by omega) (by omega) hm] at hs
  revert hs
  rw [after0_2, outsAt0_C m c t (by omega) (by omega) hm]; frame_out
  intro hs
  pointwise [k0_pay3, REF]
  rw [hs]
  unfold term
  refine Fin.sum_mul_add_congr fun s k hl => ?_
  rw [mul_comm]
  blk_point [iblk, V0, V1, idx t, idx ⟨_, Pipeline.run_point_lt_of_flush t hm s⟩]
end Cert.OutWeightIdeal.Proj
end
-- ==== Proof.Proj.QkvData.lean ====
/- The gradient that reaches a mixer's input through the combined projection: the kernel adds up twelve products over 512
   columns each in its scratch, and the reference takes one product over the columns of all three parts. -/
module
public import proofs.«01_k».proof.Proof.Gen.QkvDataIdeal.Value
public import proofs.«01_k».proof.Proof.Gen.QkvDataRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.QkvDataIdeal.Proj
open Cert.QkvDataIdeal Cert.QkvDataIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The three parts of a gradient, side by side. -/
def SIDE (X : FVec Ideal S3x4096x2048 .f32) : FVec Ideal Cert.QkvDataRefIdeal.S4096x6144 .f32 :=
  concatenate Cert.QkvDataRefIdeal.S4096x6144 1 [⟨Cert.QkvDataRefIdeal.S4096x2048, shapeCast Cert.QkvDataRefIdeal.S4096x2048 (extractStridedSlice Cert.QkvDataRefIdeal.S1x4096x2048 ![0, 0, 0] X Cert.QkvDataRefIdeal.Gen.slices_S3x4096x2048_S1x4096x2048_0_0_0) Cert.QkvDataRefIdeal.Gen.shapeCasts_S1x4096x2048_S4096x2048⟩, ⟨Cert.QkvDataRefIdeal.S4096x2048, shapeCast Cert.QkvDataRefIdeal.S4096x2048 (extractStridedSlice Cert.QkvDataRefIdeal.S1x4096x2048 ![1, 0, 0] X Cert.QkvDataRefIdeal.Gen.slices_S3x4096x2048_S1x4096x2048_1_0_0) Cert.QkvDataRefIdeal.Gen.shapeCasts_S1x4096x2048_S4096x2048⟩, ⟨Cert.QkvDataRefIdeal.S4096x2048, shapeCast Cert.QkvDataRefIdeal.S4096x2048 (extractStridedSlice Cert.QkvDataRefIdeal.S1x4096x2048 ![2, 0, 0] X Cert.QkvDataRefIdeal.Gen.slices_S3x4096x2048_S1x4096x2048_2_0_0) Cert.QkvDataRefIdeal.Gen.shapeCasts_S1x4096x2048_S4096x2048⟩]
    Cert.QkvDataRefIdeal.Gen.concatenates_S4096x2048_S4096x2048_S4096x2048_S4096x6144_d1

theorem side (X : FVec Ideal S3x4096x2048 .f32) (j : Cert.QkvDataRefIdeal.S4096x6144.Idx) :
    SIDE X j = X (ix3 ⟨(j 1).val / 2048, by have h : (j 1).val < 6144 := (j 1).isLt; omega⟩ (j 0) ⟨(j 1).val % 2048, Nat.mod_lt _ (by decide)⟩) := by
  have hj : (j 1).val < 6144 := (j 1).isLt
  pointwise [SIDE]
  split
  · refine congrArg X (congr (congrArg (ix3 · _) (Fin.ext ?_)) (Fin.ext ?_)) <;> simp <;> omega
  · split
    · refine congrArg X (congr (congrArg (ix3 · _) (Fin.ext ?_)) (Fin.ext ?_)) <;> simp <;> omega
    · refine congrArg X (congr (congrArg (ix3 · _) (Fin.ext ?_)) (Fin.ext ?_)) <;> simp <;> omega

/-- The reference's term. -/
abbrev REF (X0 : FVec Ideal S3x4096x2048 .f32) (X1 : FVec Ideal S2048x6144 .f32) : FVec Ideal S4096x2048 .f32 :=
  Host.dotGeneral Cert.QkvDataRefIdeal.dot_S4096x6144_S2048x6144_S4096x2048_1_1_0_0_n_n none (SIDE X0) X1

theorem idx : ∀ t : Fin cfg0.N,
    win0_0.index t = ![t.val % 12 / 4, t.val / 12, t.val % 12 % 4] ∧ win0_1.index t = ![t.val % 12 / 3, 0, 0, t.val % 12 % 3] ∧ win0_2.index t = ![t.val / 12, 0] :=
  (by decide +kernel : ∀ t : Fin grid0.N, _)

theorem V0 (c : Dev nD) : V m c main_v0 = (truncf .bf16 (m ((c.tc : Thread nD τ).loc main_arg0)) bitsLt_bf16_f32 : FVec Ideal S3x4096x2048 .bf16) := by
  unfold V; after_reads_simp; try rfl
theorem V3 (c : Dev nD) : V m c main_v3 = (transpose S4x1x2048x1536 [1, 2, 0, 3] (shapeCast S2048x4x1x1536 (truncf .bf16 (m ((c.tc : Thread nD τ).loc main_arg1)) bitsLt_bf16_f32 : FVec Ideal S2048x6144 .bf16) shapeCasts_S2048x6144_S2048x4x1x1536) transposes_S2048x4x1x1536_S4x1x2048x1536_1_2_0_3 : FVec Ideal S4x1x2048x1536 .bf16) := by
  unfold V; after_reads_simp; try rfl

theorem first (x0 : FVec Ideal S1x512x512 .bf16) (x1 : FVec Ideal S1x1x2048x512 .bf16) (j : S512x2048.Idx) :
    k0_pay1 (F := Ideal) x0 x1 j = ∑ k : Fin 512, x0 (ix3 0 (j 0) k) * x1 (ix4 0 0 (j 1) k) := by pointwise [k0_pay1]
theorem later (x0 : FVec Ideal S1x512x512 .bf16) (x1 : FVec Ideal S1x1x2048x512 .bf16) (acc : FVec Ideal S512x2048 .f32) (j : S512x2048.Idx) :
    k0_pay2 (F := Ideal) x0 x1 acc j = acc j + ∑ k : Fin 512, x0 (ix3 0 (j 0) k) * x1 (ix4 0 0 (j 1) k) := by pointwise [k0_pay2]

/-- One product of the sum. -/
def term (c : Dev nD) (t : Fin cfg0.N) (j : S512x2048.Idx) : EReal :=
  ∑ k : Fin 512, (show FVec Ideal S1x512x512 .bf16 from iblk m c 0 t) (ix3 0 (j 0) k) * (show FVec Ideal S1x1x2048x512 .bf16 from iblk m c 1 t) (ix4 0 0 (j 1) k)

/-- The scratch where a run of points ends. -/
theorem scratch (c : Dev nD) (t : Fin cfg0.N) (h : t.val % 12 = 12 - 1) (j : S512x2048.Idx) :
    (outsAt0 m c t.val t.isLt).2 j = ∑ s : Fin 12, term m c ⟨12 * (t.val / 12) + s.val, Pipeline.run_point_lt_of_flush t h s⟩ j := by
  rw [Pipeline.eq_sum_fin_of_reset_step_apply_of_flush (fun n h => (outsAt0 m c n h).2) 12 (fun _ => 0) (term m c) ?_ ?_ t h j, zero_add]
  · intro t h j
    rw [outsAt0_A m c t h (by omega) (by omega)]; frame_out
    rw [first, zero_add]; rfl
  · intro t h j
    by_cases h2 : t.val % 12 = 11
    · rw [outsAt0_C m c t h (by omega) h2]; frame_out
      rw [later, read_unread_whole]; rfl
    · rw [outsAt0_B m c t h (by omega) h2]; frame_out
      rw [later, read_unread_whole]; rfl

theorem final (c : Dev nD) : (dats m 0 c).arrAt 2 (cfgs 0).N =
    REF (m ((c.tc : Thread nD τ).loc main_arg0)) (m ((c.tc : Thread nD τ).loc main_arg1)) := by
  refine (dats m 0 c).arrAt_eq_of_covers 2 _ (by decide +kernel) fun t hf y => ?_
  have hm : t.val % 12 = 11 := (flush0_2 t).mp hf
  blk_simp
  have hs := scratch m c t hm (y)
  rw [outsAt0_C m c t (by omega) (by omega) hm] at hs
  revert hs
  rw [after0_2, outsAt0_C m c t (by omega) (by omega) hm]; frame_out
  intro hs
  refine hs.trans ?_
  pointwise [REF, side]
  unfold term
  refine Fin.sum_mul_add_congr fun s k hl => ?_
  blk_point [iblk, V0, V3, idx t, idx ⟨_, Pipeline.run_point_lt_of_flush t hm s⟩]
end Cert.QkvDataIdeal.Proj
end
-- ==== Proof.Proj.QkvWeight.lean ====
/- The gradient of a mixer's combined projection: the kernel adds up eight products over 512 rows each in its scratch, and
   the reference takes one product over all the rows. -/
module
public import proofs.«01_k».proof.Proof.Gen.QkvWeightIdeal.Value
public import proofs.«01_k».proof.Proof.Gen.QkvWeightRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.QkvWeightIdeal.Proj
open Cert.QkvWeightIdeal Cert.QkvWeightIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The three parts of a gradient, side by side. -/
def SIDE (X : FVec Ideal S3x4096x2048 .f32) : FVec Ideal Cert.QkvWeightRefIdeal.S4096x6144 .f32 :=
  concatenate Cert.QkvWeightRefIdeal.S4096x6144 1 [⟨Cert.QkvWeightRefIdeal.S4096x2048, shapeCast Cert.QkvWeightRefIdeal.S4096x2048 (extractStridedSlice Cert.QkvWeightRefIdeal.S1x4096x2048 ![0, 0, 0] X Cert.QkvWeightRefIdeal.Gen.slices_S3x4096x2048_S1x4096x2048_0_0_0) Cert.QkvWeightRefIdeal.Gen.shapeCasts_S1x4096x2048_S4096x2048⟩, ⟨Cert.QkvWeightRefIdeal.S4096x2048, shapeCast Cert.QkvWeightRefIdeal.S4096x2048 (extractStridedSlice Cert.QkvWeightRefIdeal.S1x4096x2048 ![1, 0, 0] X Cert.QkvWeightRefIdeal.Gen.slices_S3x4096x2048_S1x4096x2048_1_0_0) Cert.QkvWeightRefIdeal.Gen.shapeCasts_S1x4096x2048_S4096x2048⟩, ⟨Cert.QkvWeightRefIdeal.S4096x2048, shapeCast Cert.QkvWeightRefIdeal.S4096x2048 (extractStridedSlice Cert.QkvWeightRefIdeal.S1x4096x2048 ![2, 0, 0] X Cert.QkvWeightRefIdeal.Gen.slices_S3x4096x2048_S1x4096x2048_2_0_0) Cert.QkvWeightRefIdeal.Gen.shapeCasts_S1x4096x2048_S4096x2048⟩]
    Cert.QkvWeightRefIdeal.Gen.concatenates_S4096x2048_S4096x2048_S4096x2048_S4096x6144_d1

theorem side (X : FVec Ideal S3x4096x2048 .f32) (j : Cert.QkvWeightRefIdeal.S4096x6144.Idx) :
    SIDE X j = X (ix3 ⟨(j 1).val / 2048, by have h : (j 1).val < 6144 := (j 1).isLt; omega⟩ (j 0) ⟨(j 1).val % 2048, Nat.mod_lt _ (by decide)⟩) := by
  have hj : (j 1).val < 6144 := (j 1).isLt
  pointwise [SIDE]
  split
  · refine congrArg X (congr (congrArg (ix3 · _) (Fin.ext ?_)) (Fin.ext ?_)) <;> simp <;> omega
  · split
    · refine congrArg X (congr (congrArg (ix3 · _) (Fin.ext ?_)) (Fin.ext ?_)) <;> simp <;> omega
    · refine congrArg X (congr (congrArg (ix3 · _) (Fin.ext ?_)) (Fin.ext ?_)) <;> simp <;> omega

/-- The reference's term. -/
abbrev REF (X0 : FVec Ideal S4096x2048 .f32) (X1 : FVec Ideal S3x4096x2048 .f32) : FVec Ideal S4x2048x1536 .bf16 :=
  truncf .bf16 (transpose S4x2048x1536 [1, 0, 2] (shapeCast Cert.QkvWeightRefIdeal.S2048x4x1536 (transpose Cert.QkvWeightRefIdeal.S2048x6144 [1, 0]
    (Host.dotGeneral Cert.QkvWeightRefIdeal.dot_S4096x6144_S4096x2048_S6144x2048_0_0_1_1_n_n none (SIDE X1) X0)
    Cert.QkvWeightRefIdeal.Gen.transposes_S6144x2048_S2048x6144_1_0) Cert.QkvWeightRefIdeal.Gen.shapeCasts_S2048x6144_S2048x4x1536)
    Cert.QkvWeightRefIdeal.Gen.transposes_S2048x4x1536_S4x2048x1536_1_0_2) Cert.QkvWeightRefIdeal.Gen.bitsLt_bf16_f32

theorem idx : ∀ t : Fin cfg0.N,
    win0_0.index t = ![t.val % 8, 0] ∧ win0_1.index t = ![t.val / 8 / 4, t.val % 8, t.val / 8 % 4] ∧ win0_2.index t = ![t.val / 8 / 3, 0, t.val / 8 % 3] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl
theorem V1 (c : Dev nD) : V m c main_v1 = (truncf .bf16 (m ((c.tc : Thread nD τ).loc main_arg1)) bitsLt_bf16_f32 : FVec Ideal S3x4096x2048 .bf16) := by
  unfold V; after_reads_simp; try rfl

theorem first (x0 : FVec Ideal S512x2048 .bf16) (x1 : FVec Ideal S1x512x512 .bf16) (j : S2048x512.Idx) :
    k0_pay1 (F := Ideal) x0 x1 j = ∑ k : Fin 512, x0 (ix2 k (j 0)) * x1 (ix3 0 k (j 1)) := by pointwise [k0_pay1]
theorem later (x0 : FVec Ideal S512x2048 .bf16) (x1 : FVec Ideal S1x512x512 .bf16) (acc : FVec Ideal S2048x512 .f32) (j : S2048x512.Idx) :
    k0_pay2 (F := Ideal) x0 x1 acc j = acc j + ∑ k : Fin 512, x0 (ix2 k (j 0)) * x1 (ix3 0 k (j 1)) := by pointwise [k0_pay2]

/-- One product of the sum. -/
def term (c : Dev nD) (t : Fin cfg0.N) (j : S2048x512.Idx) : EReal :=
  ∑ k : Fin 512, (show FVec Ideal S512x2048 .bf16 from iblk m c 0 t) (ix2 k (j 0)) * (show FVec Ideal S1x512x512 .bf16 from iblk m c 1 t) (ix3 0 k (j 1))

/-- The scratch where a run of points ends. -/
theorem scratch (c : Dev nD) (t : Fin cfg0.N) (h : t.val % 8 = 8 - 1) (j : S2048x512.Idx) :
    (outsAt0 m c t.val t.isLt).2 j = ∑ s : Fin 8, term m c ⟨8 * (t.val / 8) + s.val, Pipeline.run_point_lt_of_flush t h s⟩ j := by
  rw [Pipeline.eq_sum_fin_of_reset_step_apply_of_flush (fun n h => (outsAt0 m c n h).2) 8 (fun _ => 0) (term m c) ?_ ?_ t h j, zero_add]
  · intro t h j
    rw [outsAt0_A m c t h (by omega) (by omega)]; frame_out
    rw [first, zero_add]; rfl
  · intro t h j
    by_cases h2 : t.val % 8 = 7
    · rw [outsAt0_C m c t h (by omega) h2]; frame_out
      rw [later, read_unread_whole]; rfl
    · rw [outsAt0_B m c t h (by omega) h2]; frame_out
      rw [later, read_unread_whole]; rfl

theorem final (c : Dev nD) : (dats m 0 c).arrAt 2 (cfgs 0).N =
    REF (m ((c.tc : Thread nD τ).loc main_arg0)) (m ((c.tc : Thread nD τ).loc main_arg1)) := by
  refine (dats m 0 c).arrAt_eq_of_covers 2 _ (by decide +kernel) fun t hf y => ?_
  have hm : t.val % 8 = 7 := (flush0_2 t).mp hf
  blk_simp
  have hs := scratch m c t hm (ix2 (y 1) (y 2))
  rw [outsAt0_C m c t (by omega) (by omega) hm] at hs
  revert hs
  rw [after0_2, outsAt0_C m c t (by omega) (by omega) hm]; frame_out
  intro hs
  pointwise [k0_pay3, REF, side]
  rw [hs]
  unfold term
  refine Fin.sum_mul_add_congr fun s k hl => ?_
  rw [mul_comm]
  blk_point [iblk, V0, V1, idx t, idx ⟨_, Pipeline.run_point_lt_of_flush t hm s⟩]
end Cert.QkvWeightIdeal.Proj
end
-- ==== Proof.Proj.FfnUp.lean ====
/- The feed-forward block's first two products and the gated product of the two. -/
module
public import proofs.«01_k».proof.Proof.Gen.FfnUpIdeal.Value
public import proofs.«01_k».proof.Proof.Gen.FfnUpRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.FfnUpIdeal.Proj
open Cert.FfnUpIdeal Cert.FfnUpIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's product. -/
abbrev DOT (X0 : FVec Ideal S4096x2048 .f32) (X1 : FVec Ideal S2048x5632 .f32) : FVec Ideal S4096x5632 .f32 :=
  Host.dotGeneral Cert.FfnUpRefIdeal.dot_S4096x2048_S2048x5632_S4096x5632_1_0_0_1_n_n none X0 X1
/-- The reference's gated product. -/
abbrev ACT (X0 : FVec Ideal S4096x2048 .f32) (X1 X2 : FVec Ideal S2048x5632 .f32) : FVec Ideal S4096x5632 .bf16 :=
  truncf .bf16 (mulf (mulf (DOT X0 X1) (Host.divf (broadcastInDim S4096x5632 ![] Cert.FfnUpRefIdeal.Gen.bcast_S_S4096x5632 (constant Cert.FfnUpRefIdeal.S_ .f32 0x3F800000#32)) (addf (broadcastInDim S4096x5632 ![] Cert.FfnUpRefIdeal.Gen.bcast_S_S4096x5632 (constant Cert.FfnUpRefIdeal.S_ .f32 0x3F800000#32)) (Host.exp (Host.negf (DOT X0 X1)))))) (DOT X0 X2)) Cert.FfnUpRefIdeal.Gen.bitsLt_bf16_f32

theorem sig_eq (x : EReal) : Ideal.div 1 (1 + Ideal.exp (-x)) = Ideal.logistic x := rfl

theorem idx : ∀ t : Fin cfg0.N,
    win0_0.index t = ![t.val % 16, 0] ∧ win0_1.index t = ![t.val / 16, 0, 0, 0] ∧ win0_2.index t = ![t.val / 16, 0, 0, 0] ∧ win0_3.index t = ![t.val % 16, t.val / 16] ∧ win0_4.index t = ![t.val % 16, t.val / 16] ∧ win0_5.index t = ![t.val % 16, t.val / 16] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl
theorem V3 (c : Dev nD) : V m c main_v3 = (transpose S4x1x2048x1408 [1, 2, 0, 3] (shapeCast S2048x4x1x1408 (truncf .bf16 (m ((c.tc : Thread nD τ).loc main_arg1)) bitsLt_bf16_f32 : FVec Ideal S2048x5632 .bf16) shapeCasts_S2048x5632_S2048x4x1x1408) transposes_S2048x4x1x1408_S4x1x2048x1408_1_2_0_3 : FVec Ideal S4x1x2048x1408 .bf16) := by
  unfold V; after_reads_simp; try rfl
theorem V6 (c : Dev nD) : V m c main_v6 = (transpose S4x1x2048x1408 [1, 2, 0, 3] (shapeCast S2048x4x1x1408 (truncf .bf16 (m ((c.tc : Thread nD τ).loc main_arg2)) bitsLt_bf16_f32 : FVec Ideal S2048x5632 .bf16) shapeCasts_S2048x5632_S2048x4x1x1408) transposes_S2048x4x1x1408_S4x1x2048x1408_1_2_0_3 : FVec Ideal S4x1x2048x1408 .bf16) := by
  unfold V; after_reads_simp; try rfl

theorem pointGate (c : Dev nD) (t : Fin cfg0.N) (y) :
    k0_pay1 (F := Ideal) (iblk m c 0 t) (iblk m c 1 t) y = DOT (m ((c.tc : Thread nD τ).loc main_arg0)) (m ((c.tc : Thread nD τ).loc main_arg1)) (((cfg0.win 3).blk t).view.emb y) := by
  pointwise [k0_pay1, DOT]
  blk_point [iblk, V0, V3, idx t]

theorem finalGate (c : Dev nD) : (dats m 0 c).arrAt 3 (cfgs 0).N =
    DOT (m ((c.tc : Thread nD τ).loc main_arg0)) (m ((c.tc : Thread nD τ).loc main_arg1)) := by
  refine (dats m 0 c).arrAt_eq_of_covers 3 _ (by decide +kernel) fun t _ y => ?_
  blk_simp
  rw [after0_3]; frame_out
  exact pointGate m c t y

theorem pointUp (c : Dev nD) (t : Fin cfg0.N) (y) :
    k0_pay2 (F := Ideal) (iblk m c 0 t) (iblk m c 2 t) y = DOT (m ((c.tc : Thread nD τ).loc main_arg0)) (m ((c.tc : Thread nD τ).loc main_arg2)) (((cfg0.win 4).blk t).view.emb y) := by
  pointwise [k0_pay2, DOT]
  blk_point [iblk, V0, V6, idx t]

theorem finalUp (c : Dev nD) : (dats m 0 c).arrAt 4 (cfgs 0).N =
    DOT (m ((c.tc : Thread nD τ).loc main_arg0)) (m ((c.tc : Thread nD τ).loc main_arg2)) := by
  refine (dats m 0 c).arrAt_eq_of_covers 4 _ (by decide +kernel) fun t _ y => ?_
  blk_simp
  rw [after0_4]; frame_out
  exact pointUp m c t y

theorem pointAct (c : Dev nD) (t : Fin cfg0.N) (y) :
    k0_pay3 (F := Ideal) (iblk m c 0 t) (iblk m c 1 t) (iblk m c 0 t) (iblk m c 2 t) y = ACT (m ((c.tc : Thread nD τ).loc main_arg0)) (m ((c.tc : Thread nD τ).loc main_arg1)) (m ((c.tc : Thread nD τ).loc main_arg2)) (((cfg0.win 5).blk t).view.emb y) := by
  pointwise [k0_pay1, k0_pay2, k0_pay3, ACT, DOT]
  try rw [sig_eq]
  blk_point [iblk, V0, V3, V6, idx t]

theorem finalAct (c : Dev nD) : (dats m 0 c).arrAt 5 (cfgs 0).N =
    ACT (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  blk_simp
  rw [after0_5]; frame_out
  exact pointAct m c t y
end Cert.FfnUpIdeal.Proj
end
-- ==== Proof.Proj.FfnDown.lean ====
/- The feed-forward block's last product and the layer's input beside it: the kernel's four products of a shard each add
   up to the reference's one product over all the columns. -/
module
public import proofs.«01_k».proof.Proof.Gen.FfnDownIdeal.Value
public import proofs.«01_k».proof.Proof.Gen.FfnDownRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.FfnDownIdeal.Proj
open Cert.FfnDownIdeal Cert.FfnDownIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term. -/
abbrev REF (X0 : FVec Ideal S4096x5632 .f32) (X1 : FVec Ideal S5632x2048 .f32) (X2 : FVec Ideal S4096x2048 .f32) : FVec Ideal S4096x2048 .f32 :=
  addf X2 (Host.dotGeneral Cert.FfnDownRefIdeal.dot_S4096x5632_S5632x2048_S4096x2048_1_0_0_1_n_n none X0 X1)

theorem idx : ∀ t : Fin cfg0.N,
    win0_0.index t = ![t.val % 16, 0] ∧ win0_1.index t = ![t.val % 16, 1] ∧ win0_2.index t = ![t.val % 16, 2] ∧ win0_3.index t = ![t.val % 16, 3] ∧ win0_4.index t = ![0, 0, 0, t.val / 16] ∧ win0_5.index t = ![1, 0, 0, t.val / 16] ∧ win0_6.index t = ![2, 0, 0, t.val / 16] ∧ win0_7.index t = ![3, 0, 0, t.val / 16] ∧ win0_8.index t = ![t.val % 16, t.val / 16] ∧ win0_9.index t = ![t.val % 16, t.val / 16] :=
  (by decide +kernel : ∀ t : Fin grid0.N, _)

theorem V0 (c : Dev nD) : V m c main_v0 = (truncf .bf16 (m ((c.tc : Thread nD τ).loc main_arg0)) bitsLt_bf16_f32 : FVec Ideal S4096x5632 .bf16) := by
  unfold V; after_reads_simp; try rfl
theorem V2 (c : Dev nD) : V m c main_v2 = (shapeCast S4x1x1408x2048 (truncf .bf16 (m ((c.tc : Thread nD τ).loc main_arg1)) bitsLt_bf16_f32 : FVec Ideal S5632x2048 .bf16) shapeCasts_S5632x2048_S4x1x1408x2048 : FVec Ideal S4x1x1408x2048 .bf16) := by
  unfold V; after_reads_simp; try rfl
theorem VA2 (c : Dev nD) : V m c main_arg2 = m ((c.tc : Thread nD τ).loc main_arg2) := by
  unfold V; after_reads_simp; try rfl

/-- A sum over all the columns, shard by shard. -/
theorem sum4 (f : Fin 5632 → EReal) : ∑ l : Fin 5632, f l =
    ∑ k : Fin 1408, f ⟨k, by omega⟩ + ∑ k : Fin 1408, f ⟨1408 + k, by omega⟩ + ∑ k : Fin 1408, f ⟨2816 + k, by omega⟩ + ∑ k : Fin 1408, f ⟨4224 + k, by omega⟩ := by
  rw [← Fin.sum_mul_add_fin 4 1408 f, Fin.sum_univ_four]
  simp

theorem regroup {a0 a1 a2 a3 r b0 b1 b2 b3 s : EReal} (h0 : a0 = b0) (h1 : a1 = b1) (h2 : a2 = b2) (h3 : a3 = b3) (h : r = s) :
    a0 + a1 + a2 + a3 + r = s + (b0 + b1 + b2 + b3) := by
  subst_vars
  abel

theorem point (c : Dev nD) (t : Fin cfg0.N) (y) :
    k0_pay1 (F := Ideal) (iblk m c 0 t) (iblk m c 4 t) (iblk m c 1 t) (iblk m c 5 t) (iblk m c 2 t) (iblk m c 6 t) (iblk m c 3 t) (iblk m c 7 t) (iblk m c 8 t) y = REF (m ((c.tc : Thread nD τ).loc main_arg0)) (m ((c.tc : Thread nD τ).loc main_arg1)) (m ((c.tc : Thread nD τ).loc main_arg2)) (((cfg0.win 9).blk t).view.emb y) := by
  pointwise [k0_pay1, REF]
  rw [sum4]
  refine regroup ?_ ?_ ?_ ?_ ?_ <;> try refine Finset.sum_congr rfl fun k _ => ?_
  all_goals blk_point [iblk, V0, V2, VA2, idx t]

theorem final (c : Dev nD) : (dats m 0 c).arrAt 9 (cfgs 0).N =
    REF (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  blk_simp
  rw [after0_9]; frame_out
  exact point m c t y
end Cert.FfnDownIdeal.Proj
end
-- ==== Proof.Proj.Qkv.lean ====
/- The combined projection of a mixer, cut into its three parts. -/
module
public import proofs.«01_k».proof.Proof.Gen.QkvIdeal.Value
public import proofs.«01_k».proof.Proof.Gen.QkvRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.QkvIdeal.Proj
open Cert.QkvIdeal Cert.QkvIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The three parts of a product's columns, stacked. -/
def STACK (Y : FVec Ideal Cert.QkvRefIdeal.S4096x6144 .f32) : FVec Ideal S3x4096x2048 .f32 :=
  concatenate S3x4096x2048 0 [⟨Cert.QkvRefIdeal.S1x4096x2048, broadcastInDim Cert.QkvRefIdeal.S1x4096x2048 ![1, 2] Cert.QkvRefIdeal.Gen.bcast_S4096x2048_S1x4096x2048_1_2 (extractStridedSlice Cert.QkvRefIdeal.S4096x2048 ![0, 0] Y Cert.QkvRefIdeal.Gen.slices_S4096x6144_S4096x2048_0_0)⟩, ⟨Cert.QkvRefIdeal.S1x4096x2048, broadcastInDim Cert.QkvRefIdeal.S1x4096x2048 ![1, 2] Cert.QkvRefIdeal.Gen.bcast_S4096x2048_S1x4096x2048_1_2 (extractStridedSlice Cert.QkvRefIdeal.S4096x2048 ![0, 2048] Y Cert.QkvRefIdeal.Gen.slices_S4096x6144_S4096x2048_0_2048)⟩, ⟨Cert.QkvRefIdeal.S1x4096x2048, broadcastInDim Cert.QkvRefIdeal.S1x4096x2048 ![1, 2] Cert.QkvRefIdeal.Gen.bcast_S4096x2048_S1x4096x2048_1_2 (extractStridedSlice Cert.QkvRefIdeal.S4096x2048 ![0, 4096] Y Cert.QkvRefIdeal.Gen.slices_S4096x6144_S4096x2048_0_4096)⟩]
    Cert.QkvRefIdeal.Gen.concatenates_S1x4096x2048_S1x4096x2048_S1x4096x2048_S3x4096x2048_d0

theorem stack (Y : FVec Ideal Cert.QkvRefIdeal.S4096x6144 .f32) (j : S3x4096x2048.Idx) :
    STACK Y j = Y (ix2 (j 1) ⟨2048 * (j 0).val + (j 2).val, by have h : (j 0).val < 3 := (j 0).isLt; have h' : (j 2).val < 2048 := (j 2).isLt; omega⟩) := by
  have h0 : (j 0).val < 3 := (j 0).isLt
  pointwise [STACK]
  split
  · refine congrArg Y (congrArg (ix2 _) (Fin.ext ?_)) ; simp ; omega
  · split
    · refine congrArg Y (congrArg (ix2 _) (Fin.ext ?_)) ; simp ; omega
    · refine congrArg Y (congrArg (ix2 _) (Fin.ext ?_)) ; simp ; omega

/-- The reference's term. -/
abbrev REF (X0 : FVec Ideal S4096x2048 .f32) (X1 : FVec Ideal S2048x6144 .f32) : FVec Ideal S3x4096x2048 .f32 :=
  STACK (Host.dotGeneral Cert.QkvRefIdeal.dot_S4096x2048_S2048x6144_S4096x6144_1_0_0_1_n_n none X0 X1)

theorem idx : ∀ t : Fin cfg0.N,
    win0_0.index t = ![t.val % 8, 0] ∧ win0_1.index t = ![t.val / 8 / 3, 0, 0, t.val / 8 % 3] ∧ win0_2.index t = ![t.val / 8 / 4, t.val % 8, t.val / 8 % 4] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl
theorem V3 (c : Dev nD) : V m c main_v3 = (transpose S4x1x2048x1536 [1, 2, 0, 3] (shapeCast S2048x4x1x1536 (truncf .bf16 (m ((c.tc : Thread nD τ).loc main_arg1)) bitsLt_bf16_f32 : FVec Ideal S2048x6144 .bf16) shapeCasts_S2048x6144_S2048x4x1x1536) transposes_S2048x4x1x1536_S4x1x2048x1536_1_2_0_3 : FVec Ideal S4x1x2048x1536 .bf16) := by
  unfold V; after_reads_simp; try rfl

theorem point (c : Dev nD) (t : Fin cfg0.N) (y) :
    k0_pay1 (F := Ideal) (iblk m c 0 t) (iblk m c 1 t) y = REF (m ((c.tc : Thread nD τ).loc main_arg0)) (m ((c.tc : Thread nD τ).loc main_arg1)) (((cfg0.win 2).blk t).view.emb y) := by
  pointwise [k0_pay1, REF, stack]
  blk_point [iblk, V0, V3, idx t]

theorem final (c : Dev nD) : (dats m 0 c).arrAt 2 (cfgs 0).N =
    REF (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  exact point m c t y
end Cert.QkvIdeal.Proj
end
-- ==== Proof.Proj.Out.lean ====
/- The mixer's output product and the layer's input beside it: the kernel's four products of a shard each add up to the
   reference's one product over all the columns. -/
module
public import proofs.«01_k».proof.Proof.Gen.OutIdeal.Value
public import proofs.«01_k».proof.Proof.Gen.OutRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.OutIdeal.Proj
open Cert.OutIdeal Cert.OutIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term. -/
abbrev REF (X0 : FVec Ideal S4096x2048 .f32) (X1 : FVec Ideal S2048x2048 .f32) (X2 : FVec Ideal S4096x2048 .f32) : FVec Ideal S4096x2048 .f32 :=
  addf X2 (Host.dotGeneral Cert.OutRefIdeal.dot_S4096x2048_S2048x2048_S4096x2048_1_0_0_1_n_n none X0 X1)

theorem idx : ∀ t : Fin cfg0.N,
    win0_0.index t = ![t.val % 16, 0] ∧ win0_1.index t = ![t.val % 16, 1] ∧ win0_2.index t = ![t.val % 16, 2] ∧ win0_3.index t = ![t.val % 16, 3] ∧ win0_4.index t = ![0, 0, 0, t.val / 16] ∧ win0_5.index t = ![1, 0, 0, t.val / 16] ∧ win0_6.index t = ![2, 0, 0, t.val / 16] ∧ win0_7.index t = ![3, 0, 0, t.val / 16] ∧ win0_8.index t = ![t.val % 16, t.val / 16] ∧ win0_9.index t = ![t.val % 16, t.val / 16] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl
theorem V2 (c : Dev nD) : V m c main_v2 = (shapeCast S4x1x512x2048 (truncf .bf16 (m ((c.tc : Thread nD τ).loc main_arg1)) bitsLt_bf16_f32 : FVec Ideal S2048x2048 .bf16) shapeCasts_S2048x2048_S4x1x512x2048 : FVec Ideal S4x1x512x2048 .bf16) := by
  unfold V; after_reads_simp; try rfl
theorem VA2 (c : Dev nD) : V m c main_arg2 = m ((c.tc : Thread nD τ).loc main_arg2) := by
  unfold V; after_reads_simp; try rfl

/-- A sum over all the columns, shard by shard. -/
theorem sum4 (f : Fin 2048 → EReal) : ∑ l : Fin 2048, f l =
    ∑ k : Fin 512, f ⟨k, by omega⟩ + ∑ k : Fin 512, f ⟨512 + k, by omega⟩ + ∑ k : Fin 512, f ⟨1024 + k, by omega⟩ + ∑ k : Fin 512, f ⟨1536 + k, by omega⟩ := by
  rw [← Fin.sum_mul_add_fin 4 512 f, Fin.sum_univ_four]
  simp

theorem regroup {a0 a1 a2 a3 r b0 b1 b2 b3 s : EReal} (h0 : a0 = b0) (h1 : a1 = b1) (h2 : a2 = b2) (h3 : a3 = b3) (h : r = s) :
    a0 + a1 + a2 + a3 + r = s + (b0 + b1 + b2 + b3) := by
  subst_vars
  abel

theorem point (c : Dev nD) (t : Fin cfg0.N) (y) :
    k0_pay1 (F := Ideal) (iblk m c 0 t) (iblk m c 4 t) (iblk m c 1 t) (iblk m c 5 t) (iblk m c 2 t) (iblk m c 6 t) (iblk m c 3 t) (iblk m c 7 t) (iblk m c 8 t) y = REF (m ((c.tc : Thread nD τ).loc main_arg0)) (m ((c.tc : Thread nD τ).loc main_arg1)) (m ((c.tc : Thread nD τ).loc main_arg2)) (((cfg0.win 9).blk t).view.emb y) := by
  pointwise [k0_pay1, REF]
  rw [sum4]
  refine regroup ?_ ?_ ?_ ?_ ?_ <;> try refine Finset.sum_congr rfl fun k _ => ?_
  all_goals blk_point [iblk, V0, V2, VA2, idx t]

theorem final (c : Dev nD) : (dats m 0 c).arrAt 9 (cfgs 0).N =
    REF (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  blk_simp
  rw [after0_9]; frame_out
  exact point m c t y
end Cert.OutIdeal.Proj
end
-- ==== Proof.Pool.PoolMix.lean ====
/- The pooling mixer's products and the layer's input beside their multiple: the kernel adds up a group's four products of
   a shard each in its scratch, and the reference takes one product over the group's columns. -/
module
public import proofs.«01_k».proof.Proof.Gen.PoolMixIdeal.Value
public import proofs.«01_k».proof.Proof.Gen.PoolMixRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.PoolMixIdeal.Pool
open Cert.PoolMixIdeal Cert.PoolMixIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's product. -/
abbrev DOT (X0 : FVec Ideal S4096x2048 .f32) (X1 : FVec Ideal S4x512x512 .f32) : FVec Ideal S4096x2048 .f32 :=
  shapeCast S4096x2048 (transpose Cert.PoolMixRefIdeal.S4096x4x512 [2, 0, 1] (Host.dotGeneral Cert.PoolMixRefIdeal.dot_S4x512x512_S4096x4x512_S4x512x4096_1_2_2_0_0_1 none X1
    (shapeCast Cert.PoolMixRefIdeal.S4096x4x512 X0 Cert.PoolMixRefIdeal.Gen.shapeCasts_S4096x2048_S4096x4x512)) Cert.PoolMixRefIdeal.Gen.transposes_S4x512x4096_S4096x4x512_2_0_1) Cert.PoolMixRefIdeal.Gen.shapeCasts_S4096x4x512_S4096x2048
/-- The reference's first result. -/
abbrev REF (X0 : FVec Ideal S4096x2048 .f32) (X1 : FVec Ideal S4x512x512 .f32) (X2 : FVec Ideal S4096x2048 .f32) (X3 : FVec Ideal S1x2048 .f32) : FVec Ideal S4096x2048 .f32 :=
  addf X2 (mulf (DOT X0 X1) (broadcastInDim S4096x2048 ![0, 1] Cert.PoolMixRefIdeal.Gen.bcast_S1x2048_S4096x2048_0_1 X3))
/-- The reference's second result. -/
abbrev PRE (X0 : FVec Ideal S4096x2048 .f32) (X1 : FVec Ideal S4x512x512 .f32) : FVec Ideal S4096x2048 .bf16 :=
  truncf .bf16 (DOT X0 X1) Cert.PoolMixRefIdeal.Gen.bitsLt_bf16_f32

theorem idx : ∀ t : Fin cfg0.N,
    win0_0.index t = ![t.val / 4 % 8, t.val / 32 * 4 + t.val % 4] ∧ win0_1.index t = ![t.val % 4, 0, t.val / 32, 0] ∧ win0_2.index t = ![t.val / 4 % 8, t.val / 32] ∧ win0_3.index t = ![0, t.val / 32] ∧ win0_4.index t = ![t.val / 4 % 8, t.val / 32] ∧ win0_5.index t = ![t.val / 4 % 8, t.val / 32] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl

/-- The groups' weights as the host lays them out: the four shards of rows, each with the rows of all groups. -/
def LAID (X : FVec Ideal S4x512x512 .f32) : FVec Ideal S4x1x512x512 .bf16 :=
  shapeCast S4x1x512x512 (transpose S4x4x128x512 [1, 0, 2, 3] (shapeCast S4x4x128x512 (truncf .bf16 X bitsLt_bf16_f32 : FVec Ideal S4x512x512 .bf16) shapeCasts_S4x512x512_S4x4x128x512) transposes_S4x4x128x512_S4x4x128x512_1_0_2_3) shapeCasts_S4x4x128x512_S4x1x512x512

theorem laid (X : FVec Ideal S4x512x512 .f32) (j : S4x1x512x512.Idx) :
    LAID X j = X (ix3 ⟨(j 2).val / 128, by have h : (j 2).val < 512 := (j 2).isLt; omega⟩
      ⟨(j 0).val * 128 + (j 2).val % 128, by have h : (j 0).val < 4 := (j 0).isLt; omega⟩ (j 3)) := by
  have h0 : (j 0).val < 4 := (j 0).isLt
  have h1 : (j 1).val < 1 := (j 1).isLt
  have h2 : (j 2).val < 512 := (j 2).isLt
  have h3 : (j 3).val < 512 := (j 3).isLt
  pointwise [LAID]

theorem V4 (c : Dev nD) : V m c main_v4 = LAID (m ((c.tc : Thread nD τ).loc main_arg1)) := by
  unfold V; after_reads_simp; try rfl
theorem VA2 (c : Dev nD) : V m c main_arg2 = m ((c.tc : Thread nD τ).loc main_arg2) := by
  unfold V; after_reads_simp; try rfl
theorem VA3 (c : Dev nD) : V m c main_arg3 = m ((c.tc : Thread nD τ).loc main_arg3) := by
  unfold V; after_reads_simp; try rfl

theorem first (x0 : FVec Ideal S512x128 .bf16) (x1 : FVec Ideal S1x1x128x512 .bf16) (j : S512x512.Idx) :
    k0_pay1 (F := Ideal) x0 x1 j = ∑ k : Fin 128, x0 (ix2 (j 0) k) * x1 (ix4 0 0 k (j 1)) := by pointwise [k0_pay1]
theorem later (x0 : FVec Ideal S512x128 .bf16) (x1 : FVec Ideal S1x1x128x512 .bf16) (acc : FVec Ideal S512x512 .f32) (j : S512x512.Idx) :
    k0_pay2 (F := Ideal) x0 x1 acc j = acc j + ∑ k : Fin 128, x0 (ix2 (j 0) k) * x1 (ix4 0 0 k (j 1)) := by pointwise [k0_pay2]

/-- One product of the sum. -/
def term (c : Dev nD) (t : Fin cfg0.N) (j : S512x512.Idx) : EReal :=
  ∑ k : Fin 128, (show FVec Ideal S512x128 .bf16 from iblk m c 0 t) (ix2 (j 0) k) * (show FVec Ideal S1x1x128x512 .bf16 from iblk m c 1 t) (ix4 0 0 k (j 1))

/-- The scratch where a run of points ends. -/
theorem scratch (c : Dev nD) (t : Fin cfg0.N) (h : t.val % 4 = 4 - 1) (j : S512x512.Idx) :
    (outsAt0 m c t.val t.isLt).2.2 j = ∑ s : Fin 4, term m c ⟨4 * (t.val / 4) + s.val, Pipeline.run_point_lt_of_flush t h s⟩ j := by
  rw [Pipeline.eq_sum_fin_of_reset_step_apply_of_flush (fun n h => (outsAt0 m c n h).2.2) 4 (fun _ => 0) (term m c) ?_ ?_ t h j, zero_add]
  · intro t h j
    rw [outsAt0_A m c t h (by omega) (by omega)]; frame_out
    rw [first, zero_add]; rfl
  · intro t h j
    by_cases h2 : t.val % 4 = 3
    · rw [outsAt0_C m c t h (by omega) h2]; frame_out
      rw [later, read_unread_whole]; rfl
    · rw [outsAt0_B m c t h (by omega) h2]; frame_out
      rw [later, read_unread_whole]; rfl

theorem finalPre (c : Dev nD) : (dats m 0 c).arrAt 5 (cfgs 0).N =
    PRE (m ((c.tc : Thread nD τ).loc main_arg0)) (m ((c.tc : Thread nD τ).loc main_arg1)) := by
  refine (dats m 0 c).arrAt_eq_of_covers 5 _ (by decide +kernel) fun t hf y => ?_
  have hm : t.val % 4 = 3 := (flush0_5 t).mp hf
  blk_simp
  have hs := scratch m c t hm y
  rw [outsAt0_C m c t (by omega) (by omega) hm] at hs
  revert hs
  rw [after0_5, outsAt0_C m c t (by omega) (by omega) hm]; frame_out
  intro hs
  pointwise [k0_pay4, PRE, DOT]
  rw [hs]
  unfold term
  refine Fin.sum_mul_add_congr fun s k hl => ?_
  rw [mul_comm]
  refine congr (congrArg _ ?_) ?_
  · blk_simp [iblk, V4, idx t, idx ⟨_, Pipeline.run_point_lt_of_flush t hm s⟩]
    rw [V4, laid]
    blk_simp [idx t, idx ⟨_, Pipeline.run_point_lt_of_flush t hm s⟩]
    have h0 : (y 0).val < 512 := (y 0).isLt
    have h1 : (y 1).val < 512 := (y 1).isLt
    refine congrArg _ (congr (congr (congrArg ix3 (Fin.ext ?_)) (Fin.ext ?_)) (Fin.ext ?_))
    · simp only []; omega
    · simp only [Fin.val_zero]; omega
    · blk_simp [idx t, idx ⟨_, Pipeline.run_point_lt_of_flush t hm s⟩]; try (dsimp only; omega)
  · blk_point [iblk, V0, idx t, idx ⟨_, Pipeline.run_point_lt_of_flush t hm s⟩]

theorem final (c : Dev nD) : (dats m 0 c).arrAt 4 (cfgs 0).N =
    REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  have hm : t.val % 4 = 3 := (flush0_4 t).mp hf
  blk_simp
  have hs := scratch m c t hm y
  rw [outsAt0_C m c t (by omega) (by omega) hm] at hs
  revert hs
  rw [after0_4, outsAt0_C m c t (by omega) (by omega) hm]; frame_out
  intro hs
  pointwise [k0_pay3, REF, DOT]
  rw [hs]
  unfold term
  refine congr (congrArg _ ?_) (congr (congrArg _ ?_) ?_)
  · blk_point [iblk, VA2, idx t]
  · refine Fin.sum_mul_add_congr fun s k hl => ?_
    rw [mul_comm]
    refine congr (congrArg _ ?_) ?_
    · blk_simp [iblk, V4, idx t, idx ⟨_, Pipeline.run_point_lt_of_flush t hm s⟩]
      rw [V4, laid]
      blk_simp [idx t, idx ⟨_, Pipeline.run_point_lt_of_flush t hm s⟩]
      have h0 : (y 0).val < 512 := (y 0).isLt
      have h1 : (y 1).val < 512 := (y 1).isLt
      refine congrArg _ (congr (congr (congrArg ix3 (Fin.ext ?_)) (Fin.ext ?_)) (Fin.ext ?_))
      · simp only []; omega
      · simp only [Fin.val_zero]; omega
      · blk_simp [idx t, idx ⟨_, Pipeline.run_point_lt_of_flush t hm s⟩]; try (dsimp only; omega)
    · blk_point [iblk, V0, idx t, idx ⟨_, Pipeline.run_point_lt_of_flush t hm s⟩]
  · blk_point [iblk, VA3, idx t]
end Cert.PoolMixIdeal.Pool
end
-- ==== Proof.Pool.PoolData.lean ====
/- The gradient that reaches the pooled rows: each group's columns times the group's weight, a shard of its rows at a time. -/
module
public import proofs.«01_k».proof.Proof.Gen.PoolDataIdeal.Value
public import proofs.«01_k».proof.Proof.Gen.PoolDataRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.PoolDataIdeal.Pool
open Cert.PoolDataIdeal Cert.PoolDataIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term. -/
abbrev REF (X0 : FVec Ideal S4096x2048 .f32) (X1 : FVec Ideal S4x512x512 .f32) : FVec Ideal S4096x2048 .f32 :=
  shapeCast S4096x2048 (transpose Cert.PoolDataRefIdeal.S4096x4x512 [1, 0, 2] (Host.dotGeneral Cert.PoolDataRefIdeal.dot_S4x512x4096_S4x512x512_S4x4096x512_1_2_2_1_0_0 none
    (transpose Cert.PoolDataRefIdeal.S4x512x4096 [1, 2, 0] (shapeCast Cert.PoolDataRefIdeal.S4096x4x512 X0 Cert.PoolDataRefIdeal.Gen.shapeCasts_S4096x2048_S4096x4x512) Cert.PoolDataRefIdeal.Gen.transposes_S4096x4x512_S4x512x4096_1_2_0) X1)
    Cert.PoolDataRefIdeal.Gen.transposes_S4x4096x512_S4096x4x512_1_0_2) Cert.PoolDataRefIdeal.Gen.shapeCasts_S4096x4x512_S4096x2048

theorem idx : ∀ t : Fin cfg0.N,
    win0_0.index t = ![t.val % 8, t.val / 32] ∧ win0_1.index t = ![t.val / 8 % 4, 0, t.val / 32, 0] ∧ win0_2.index t = ![t.val % 8, t.val / 8] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl

/-- The groups' weights as the host lays them out: the four shards of rows, each with the rows of all groups. -/
def LAID (X : FVec Ideal S4x512x512 .f32) : FVec Ideal S4x1x512x512 .bf16 :=
  shapeCast S4x1x512x512 (transpose S4x4x128x512 [1, 0, 2, 3] (shapeCast S4x4x128x512 (truncf .bf16 X bitsLt_bf16_f32 : FVec Ideal S4x512x512 .bf16) shapeCasts_S4x512x512_S4x4x128x512) transposes_S4x4x128x512_S4x4x128x512_1_0_2_3) shapeCasts_S4x4x128x512_S4x1x512x512

theorem laid (X : FVec Ideal S4x512x512 .f32) (j : S4x1x512x512.Idx) :
    LAID X j = X (ix3 ⟨(j 2).val / 128, by have h : (j 2).val < 512 := (j 2).isLt; omega⟩
      ⟨(j 0).val * 128 + (j 2).val % 128, by have h : (j 0).val < 4 := (j 0).isLt; omega⟩ (j 3)) := by
  have h0 : (j 0).val < 4 := (j 0).isLt
  have h1 : (j 1).val < 1 := (j 1).isLt
  have h2 : (j 2).val < 512 := (j 2).isLt
  have h3 : (j 3).val < 512 := (j 3).isLt
  pointwise [LAID]

theorem V4 (c : Dev nD) : V m c main_v4 = LAID (m ((c.tc : Thread nD τ).loc main_arg1)) := by
  unfold V; after_reads_simp; try rfl

theorem point (c : Dev nD) (t : Fin cfg0.N) (y) :
    k0_pay1 (F := Ideal) (iblk m c 0 t) (iblk m c 1 t) y = REF (m ((c.tc : Thread nD τ).loc main_arg0)) (m ((c.tc : Thread nD τ).loc main_arg1)) (((cfg0.win 2).blk t).view.emb y) := by
  pointwise [k0_pay1, REF]
  refine Finset.sum_congr rfl fun k _ => ?_
  refine congr (congrArg _ ?_) ?_
  · blk_point [iblk, V0, idx t]
  · blk_simp [iblk, V4, idx t]
    rw [V4, laid]
    blk_simp [idx t]
    have hy : (y 1).val < 128 := (y 1).isLt
    refine congrArg _ (congr (congr (congrArg ix3 (Fin.ext ?_)) (Fin.ext ?_)) (Fin.ext ?_))
    · simp only []; omega
    · simp only [Fin.val_zero]; omega
    · blk_simp [idx t]

theorem final (c : Dev nD) : (dats m 0 c).arrAt 2 (cfgs 0).N =
    REF (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  exact point m c t y
end Cert.PoolDataIdeal.Pool
end
-- ==== Proof.Pool.PoolWeight.lean ====
/- The gradient of the pooling mixer's weights: the kernel adds up eight products over 512 rows each in its scratch, and the
   reference takes one product of each group over all the rows. -/
module
public import proofs.«01_k».proof.Proof.Gen.PoolWeightIdeal.Value
public import proofs.«01_k».proof.Proof.Gen.PoolWeightRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.PoolWeightIdeal.Pool
open Cert.PoolWeightIdeal Cert.PoolWeightIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term. -/
abbrev REF (X0 X1 : FVec Ideal S4096x2048 .f32) : FVec Ideal S4x512x512 .bf16 :=
  truncf .bf16 (shapeCast S4x512x512 (transpose Cert.PoolWeightRefIdeal.S4x4x128x512 [1, 0, 2, 3] (shapeCast Cert.PoolWeightRefIdeal.S4x4x128x512 (transpose Cert.PoolWeightRefIdeal.S4x512x512 [0, 2, 1]
    (Host.dotGeneral Cert.PoolWeightRefIdeal.dot_S4x512x4096_S4096x4x512_S4x512x512_2_0_1_2_0_1 none
      (transpose Cert.PoolWeightRefIdeal.S4x512x4096 [1, 2, 0] (shapeCast Cert.PoolWeightRefIdeal.S4096x4x512 X1 Cert.PoolWeightRefIdeal.Gen.shapeCasts_S4096x2048_S4096x4x512) Cert.PoolWeightRefIdeal.Gen.transposes_S4096x4x512_S4x512x4096_1_2_0)
      (shapeCast Cert.PoolWeightRefIdeal.S4096x4x512 X0 Cert.PoolWeightRefIdeal.Gen.shapeCasts_S4096x2048_S4096x4x512))
    Cert.PoolWeightRefIdeal.Gen.transposes_S4x512x512_S4x512x512_0_2_1) Cert.PoolWeightRefIdeal.Gen.shapeCasts_S4x512x512_S4x4x128x512) Cert.PoolWeightRefIdeal.Gen.transposes_S4x4x128x512_S4x4x128x512_1_0_2_3)
    Cert.PoolWeightRefIdeal.Gen.shapeCasts_S4x4x128x512_S4x512x512) Cert.PoolWeightRefIdeal.Gen.bitsLt_bf16_f32

theorem idx : ∀ t : Fin cfg0.N,
    win0_0.index t = ![t.val % 8, t.val / 8] ∧ win0_1.index t = ![t.val % 8, t.val / 32] ∧ win0_2.index t = ![t.val / 8 % 4, t.val / 32, 0] :=
  (by decide +kernel : ∀ t : Fin grid0.N, _)

theorem V0 (c : Dev nD) : V m c main_v0 = (truncf .bf16 (m ((c.tc : Thread nD τ).loc main_arg0)) bitsLt_bf16_f32 : FVec Ideal S4096x2048 .bf16) := by
  unfold V; after_reads_simp; try rfl
theorem V1 (c : Dev nD) : V m c main_v1 = (truncf .bf16 (m ((c.tc : Thread nD τ).loc main_arg1)) bitsLt_bf16_f32 : FVec Ideal S4096x2048 .bf16) := by
  unfold V; after_reads_simp; try rfl

theorem first (x0 : FVec Ideal S512x128 .bf16) (x1 : FVec Ideal S512x512 .bf16) (j : S128x512.Idx) :
    k0_pay1 (F := Ideal) x0 x1 j = ∑ k : Fin 512, x0 (ix2 k (j 0)) * x1 (ix2 k (j 1)) := by pointwise [k0_pay1]
theorem later (x0 : FVec Ideal S512x128 .bf16) (x1 : FVec Ideal S512x512 .bf16) (acc : FVec Ideal S128x512 .f32) (j : S128x512.Idx) :
    k0_pay2 (F := Ideal) x0 x1 acc j = acc j + ∑ k : Fin 512, x0 (ix2 k (j 0)) * x1 (ix2 k (j 1)) := by pointwise [k0_pay2]

/-- One product of the sum. -/
def term (c : Dev nD) (t : Fin cfg0.N) (j : S128x512.Idx) : EReal :=
  ∑ k : Fin 512, (show FVec Ideal S512x128 .bf16 from iblk m c 0 t) (ix2 k (j 0)) * (show FVec Ideal S512x512 .bf16 from iblk m c 1 t) (ix2 k (j 1))

/-- The scratch where a run of points ends. -/
theorem scratch (c : Dev nD) (t : Fin cfg0.N) (h : t.val % 8 = 8 - 1) (j : S128x512.Idx) :
    (outsAt0 m c t.val t.isLt).2 j = ∑ s : Fin 8, term m c ⟨8 * (t.val / 8) + s.val, Pipeline.run_point_lt_of_flush t h s⟩ j := by
  rw [Pipeline.eq_sum_fin_of_reset_step_apply_of_flush (fun n h => (outsAt0 m c n h).2) 8 (fun _ => 0) (term m c) ?_ ?_ t h j, zero_add]
  · intro t h j
    rw [outsAt0_A m c t h (by omega) (by omega)]; frame_out
    rw [first, zero_add]; rfl
  · intro t h j
    by_cases h2 : t.val % 8 = 7
    · rw [outsAt0_C m c t h (by omega) h2]; frame_out
      rw [later, read_unread_whole]; rfl
    · rw [outsAt0_B m c t h (by omega) h2]; frame_out
      rw [later, read_unread_whole]; rfl

theorem final (c : Dev nD) : (dats m 0 c).arrAt 2 (cfgs 0).N =
    REF (m ((c.tc : Thread nD τ).loc main_arg0)) (m ((c.tc : Thread nD τ).loc main_arg1)) := by
  refine (dats m 0 c).arrAt_eq_of_covers 2 _ (by decide +kernel) fun t hf y => ?_
  have hm : t.val % 8 = 7 := (flush0_2 t).mp hf
  blk_simp
  have hs := scratch m c t hm (ix2 (y 1) (y 2))
  rw [outsAt0_C m c t (by omega) (by omega) hm] at hs
  revert hs
  rw [after0_2, outsAt0_C m c t (by omega) (by omega) hm]; frame_out
  intro hs
  pointwise [k0_pay3, REF]
  rw [hs]
  unfold term
  refine Fin.sum_mul_add_congr fun s k hl => ?_
  rw [mul_comm]
  blk_point [iblk, V0, V1, idx t, idx ⟨_, Pipeline.run_point_lt_of_flush t hm s⟩]
end Cert.PoolWeightIdeal.Pool
end
-- ==== Proof.Pool.PoolScale.lean ====
/- The gradients of the pooling mixer's products and of their multiple: the kernel adds up the sums over 256 rows each in its
   result's block, and the reference takes one sum over all the rows. -/
module
public import proofs.«01_k».proof.Proof.Gen.PoolScaleIdeal.Value
public import proofs.«01_k».proof.Proof.Gen.PoolScaleRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.PoolScaleIdeal.Pool
open Cert.PoolScaleIdeal Cert.PoolScaleIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's first result. -/
abbrev DYS (X0 : FVec Ideal S4096x2048 .f32) (X2 : FVec Ideal S1x2048 .f32) : FVec Ideal S4096x2048 .bf16 :=
  truncf .bf16 (mulf X0 (broadcastInDim S4096x2048 ![0, 1] Cert.PoolScaleRefIdeal.Gen.bcast_S1x2048_S4096x2048_0_1 X2)) Cert.PoolScaleRefIdeal.Gen.bitsLt_bf16_f32
/-- The reference's second result. -/
abbrev REF (X0 X1 : FVec Ideal S4096x2048 .f32) : FVec Ideal S1x2048 .f32 :=
  shapeCast S1x2048 (Host.reduceAdd (mulf X1 X0) (constant Cert.PoolScaleRefIdeal.S_ .f32 0x00000000#32) Cert.PoolScaleRefIdeal.Gen.reducesTo_S4096x2048_S2048_d0 Cert.PoolScaleRefIdeal.Gen.h_S_) Cert.PoolScaleRefIdeal.Gen.shapeCasts_S2048_S1x2048

theorem idx : ∀ t : Fin cfg0.N,
    win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

theorem VA0 (c : Dev nD) : V m c main_arg0 = m ((c.tc : Thread nD τ).loc main_arg0) := by
  unfold V; after_reads_simp; try rfl
theorem V0 (c : Dev nD) : V m c main_v0 = (truncf .bf16 (m ((c.tc : Thread nD τ).loc main_arg1)) bitsLt_bf16_f32 : FVec Ideal S4096x2048 .bf16) := by
  unfold V; after_reads_simp; try rfl
theorem VA2 (c : Dev nD) : V m c main_arg2 = m ((c.tc : Thread nD τ).loc main_arg2) := by
  unfold V; after_reads_simp; try rfl

theorem first (x0 : FVec Ideal S256x2048 .f32) (x1 : FVec Ideal S256x2048 .bf16) (j : S1x2048.Idx) :
    k0_pay2 (F := Ideal) x0 x1 j = ∑ k : Fin 256, x0 (ix2 k (j 1)) * x1 (ix2 k (j 1)) := by pointwise [k0_pay2]
theorem later (x0 : FVec Ideal S256x2048 .f32) (x1 : FVec Ideal S256x2048 .bf16) (acc : FVec Ideal S1x2048 .f32) (j : S1x2048.Idx) :
    k0_pay3 (F := Ideal) x0 x1 acc j = acc j + ∑ k : Fin 256, x0 (ix2 k (j 1)) * x1 (ix2 k (j 1)) := by
  rw [← first]; pointwise [k0_pay3]

/-- One sum over 256 rows. -/
def term (c : Dev nD) (t : Fin cfg0.N) (j : S1x2048.Idx) : EReal :=
  ∑ k : Fin 256, (show FVec Ideal S256x2048 .f32 from iblk m c 0 t) (ix2 k (j 1)) * (show FVec Ideal S256x2048 .bf16 from iblk m c 1 t) (ix2 k (j 1))

/-- The result's block at the last point. -/
theorem block (c : Dev nD) (t : Fin cfg0.N) (h : t.val % 16 = 16 - 1) (j : S1x2048.Idx) :
    (outsAt0 m c t.val t.isLt).2 j = ∑ s : Fin 16, term m c ⟨16 * (t.val / 16) + s.val, Pipeline.run_point_lt_of_flush t h s⟩ j := by
  rw [Pipeline.eq_sum_fin_of_reset_step_apply_of_flush (fun n h => (outsAt0 m c n h).2) 16 (fun _ => 0) (term m c) ?_ ?_ t h j, zero_add]
  · intro t h j
    have hN := lt_of_lt_of_eq t.isLt (show cfg0.N = 16 from N_0)
    rw [outsAt0_A m c t h (by omega)]; frame_out
    rw [first, zero_add]; rfl
  · intro t h j
    rw [outsAt0_B m c t h (by omega)]; frame_out
    rw [later]; rfl

theorem final (c : Dev nD) : (dats m 0 c).arrAt 4 (cfgs 0).N =
    REF (m ((c.tc : Thread nD τ).loc main_arg0)) (m ((c.tc : Thread nD τ).loc main_arg1)) := by
  refine (dats m 0 c).arrAt_eq_of_covers 4 _ (by decide +kernel) fun t hf y => ?_
  have hm : t.val % 16 = 15 := (flush0_4 t).mp hf
  have hN := lt_of_lt_of_eq t.isLt (show cfg0.N = 16 from N_0)
  blk_simp
  rw [after0_4, block m c t hm y]
  pointwise [REF]
  unfold term
  refine Fin.sum_mul_add_congr fun s k hl => ?_
  rw [mul_comm]
  blk_point [iblk, VA0, V0, idx t, idx ⟨_, Pipeline.run_point_lt_of_flush t hm s⟩]

theorem pointDys (c : Dev nD) (t : Fin cfg0.N) (y) :
    k0_pay1 (F := Ideal) (iblk m c 0 t) (iblk m c 2 t) y = DYS (m ((c.tc : Thread nD τ).loc main_arg0)) (m ((c.tc : Thread nD τ).loc main_arg2)) (((cfg0.win 3).blk t).view.emb y) := by
  pointwise [k0_pay1, DYS]
  blk_point [iblk, VA0, VA2, idx t]

theorem finalDys (c : Dev nD) : (dats m 0 c).arrAt 3 (cfgs 0).N =
    DYS (m ((c.tc : Thread nD τ).loc main_arg0)) (m ((c.tc : Thread nD τ).loc main_arg2)) := by
  refine (dats m 0 c).arrAt_eq_of_covers 3 _ (by decide +kernel) fun t _ y => ?_
  have hN := lt_of_lt_of_eq t.isLt (show cfg0.N = 16 from N_0)
  blk_simp
  rw [after0_3]
  by_cases h : t.val % 16 = 0
  · rw [outsAt0_A m c t h (by omega)]; frame_out
    exact pointDys m c t y
  · rw [outsAt0_B m c t h (by omega)]; frame_out
    exact pointDys m c t y
end Cert.PoolScaleIdeal.Pool
end
-- ==== Proof.Conv.Conv.lean ====
/- The short convolution: the kernel shifts the product of two of the parts down by one and two rows, and the reference
   puts two rows of zeros before it and takes three slices. -/
module
public import proofs.«01_k».proof.Proof.Gen.ConvIdeal.Value
public import proofs.«01_k».proof.Proof.Gen.ConvRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.ConvIdeal.Pool
open Cert.ConvIdeal Cert.ConvIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's term. -/
abbrev REF (X0 : FVec Ideal S3x4096x2048 .f32) (X1 : FVec Ideal S3x2048 .f32) : FVec Ideal S4096x2048 .bf16 :=
  truncf .bf16 (mulf (shapeCast _ (extractStridedSlice Cert.ConvRefIdeal.S1x4096x2048 ![0, 0, 0] X0 Cert.ConvRefIdeal.Gen.slices_S3x4096x2048_S1x4096x2048_0_0_0) Cert.ConvRefIdeal.Gen.shapeCasts_S1x4096x2048_S4096x2048) (addf (addf (mulf (extractStridedSlice Cert.ConvRefIdeal.S4096x2048 ![0, 0] (concatenate Cert.ConvRefIdeal.S4098x2048 0 [⟨Cert.ConvRefIdeal.S2x2048, (broadcastInDim Cert.ConvRefIdeal.S2x2048 ![] Cert.ConvRefIdeal.Gen.bcast_S_S2x2048 (constant Cert.ConvRefIdeal.S_ .f32 0x00000000#32))⟩, ⟨Cert.ConvRefIdeal.S4096x2048, (mulf (shapeCast _ (extractStridedSlice Cert.ConvRefIdeal.S1x4096x2048 ![1, 0, 0] X0 Cert.ConvRefIdeal.Gen.slices_S3x4096x2048_S1x4096x2048_1_0_0) Cert.ConvRefIdeal.Gen.shapeCasts_S1x4096x2048_S4096x2048) (shapeCast _ (extractStridedSlice Cert.ConvRefIdeal.S1x4096x2048 ![2, 0, 0] X0 Cert.ConvRefIdeal.Gen.slices_S3x4096x2048_S1x4096x2048_2_0_0) Cert.ConvRefIdeal.Gen.shapeCasts_S1x4096x2048_S4096x2048))⟩] Cert.ConvRefIdeal.Gen.concatenates_S2x2048_S4096x2048_S4098x2048_d0) Cert.ConvRefIdeal.Gen.slices_S4098x2048_S4096x2048_0_0) (broadcastInDim Cert.ConvRefIdeal.S4096x2048 ![0, 1] Cert.ConvRefIdeal.Gen.bcast_S1x2048_S4096x2048_0_1 (broadcastInDim Cert.ConvRefIdeal.S1x2048 ![1] Cert.ConvRefIdeal.Gen.bcast_S2048_S1x2048_1 (shapeCast _ (extractStridedSlice Cert.ConvRefIdeal.S1x2048 ![0, 0] X1 Cert.ConvRefIdeal.Gen.slices_S3x2048_S1x2048_0_0) Cert.ConvRefIdeal.Gen.shapeCasts_S1x2048_S2048)))) (mulf (extractStridedSlice Cert.ConvRefIdeal.S4096x2048 ![1, 0] (concatenate Cert.ConvRefIdeal.S4098x2048 0 [⟨Cert.ConvRefIdeal.S2x2048, (broadcastInDim Cert.ConvRefIdeal.S2x2048 ![] Cert.ConvRefIdeal.Gen.bcast_S_S2x2048 (constant Cert.ConvRefIdeal.S_ .f32 0x00000000#32))⟩, ⟨Cert.ConvRefIdeal.S4096x2048, (mulf (shapeCast _ (extractStridedSlice Cert.ConvRefIdeal.S1x4096x2048 ![1, 0, 0] X0 Cert.ConvRefIdeal.Gen.slices_S3x4096x2048_S1x4096x2048_1_0_0) Cert.ConvRefIdeal.Gen.shapeCasts_S1x4096x2048_S4096x2048) (shapeCast _ (extractStridedSlice Cert.ConvRefIdeal.S1x4096x2048 ![2, 0, 0] X0 Cert.ConvRefIdeal.Gen.slices_S3x4096x2048_S1x4096x2048_2_0_0) Cert.ConvRefIdeal.Gen.shapeCasts_S1x4096x2048_S4096x2048))⟩] Cert.ConvRefIdeal.Gen.concatenates_S2x2048_S4096x2048_S4098x2048_d0) Cert.ConvRefIdeal.Gen.slices_S4098x2048_S4096x2048_1_0) (broadcastInDim Cert.ConvRefIdeal.S4096x2048 ![0, 1] Cert.ConvRefIdeal.Gen.bcast_S1x2048_S4096x2048_0_1 (broadcastInDim Cert.ConvRefIdeal.S1x2048 ![1] Cert.ConvRefIdeal.Gen.bcast_S2048_S1x2048_1 (shapeCast _ (extractStridedSlice Cert.ConvRefIdeal.S1x2048 ![1, 0] X1 Cert.ConvRefIdeal.Gen.slices_S3x2048_S1x2048_1_0) Cert.ConvRefIdeal.Gen.shapeCasts_S1x2048_S2048))))) (mulf (extractStridedSlice Cert.ConvRefIdeal.S4096x2048 ![2, 0] (concatenate Cert.ConvRefIdeal.S4098x2048 0 [⟨Cert.ConvRefIdeal.S2x2048, (broadcastInDim Cert.ConvRefIdeal.S2x2048 ![] Cert.ConvRefIdeal.Gen.bcast_S_S2x2048 (constant Cert.ConvRefIdeal.S_ .f32 0x00000000#32))⟩, ⟨Cert.ConvRefIdeal.S4096x2048, (mulf (shapeCast _ (extractStridedSlice Cert.ConvRefIdeal.S1x4096x2048 ![1, 0, 0] X0 Cert.ConvRefIdeal.Gen.slices_S3x4096x2048_S1x4096x2048_1_0_0) Cert.ConvRefIdeal.Gen.shapeCasts_S1x4096x2048_S4096x2048) (shapeCast _ (extractStridedSlice Cert.ConvRefIdeal.S1x4096x2048 ![2, 0, 0] X0 Cert.ConvRefIdeal.Gen.slices_S3x4096x2048_S1x4096x2048_2_0_0) Cert.ConvRefIdeal.Gen.shapeCasts_S1x4096x2048_S4096x2048))⟩] Cert.ConvRefIdeal.Gen.concatenates_S2x2048_S4096x2048_S4098x2048_d0) Cert.ConvRefIdeal.Gen.slices_S4098x2048_S4096x2048_2_0) (broadcastInDim Cert.ConvRefIdeal.S4096x2048 ![0, 1] Cert.ConvRefIdeal.Gen.bcast_S1x2048_S4096x2048_0_1 (broadcastInDim Cert.ConvRefIdeal.S1x2048 ![1] Cert.ConvRefIdeal.Gen.bcast_S2048_S1x2048_1 (shapeCast _ (extractStridedSlice Cert.ConvRefIdeal.S1x2048 ![2, 0] X1 Cert.ConvRefIdeal.Gen.slices_S3x2048_S1x2048_2_0) Cert.ConvRefIdeal.Gen.shapeCasts_S1x2048_S2048)))))) Cert.ConvRefIdeal.Gen.bitsLt_bf16_f32

/-- The taps as the host lays them out. -/
def TAPS (X : FVec Ideal S3x2048 .f32) : FVec Ideal S4x16x512 .f32 :=
  transpose S4x16x512 [1, 0, 2] (shapeCast S16x4x512 (pad S16x2048 ![0, 0] ![13, 0] ![0, 0] X (sitofp .f32 (constantI S_ 32 0#32)) pads_S3x2048_S16x2048_0130_000 h_S_) shapeCasts_S16x2048_S16x4x512) transposes_S16x4x512_S4x16x512_1_0_2

theorem taps (X : FVec Ideal S3x2048 .f32) (j : S4x16x512.Idx) (h : (j 1).val < 3) :
    TAPS X j = X (ix2 ⟨(j 1).val, h⟩ ⟨(j 0).val * 512 + (j 2).val, by have h : (j 0).val < 4 := (j 0).isLt; have h : (j 2).val < 512 := (j 2).isLt; omega⟩) := by
  have h0 : (j 0).val < 4 := (j 0).isLt
  have h2 : (j 2).val < 512 := (j 2).isLt
  pointwise [TAPS]
  rw [dif_pos ⟨h, by omega⟩]

theorem V2 (c : Dev nD) : V m c main_v2 = TAPS (m ((c.tc : Thread nD τ).loc main_arg1)) := by
  unfold V; after_reads_simp; try rfl

theorem idx : ∀ t : Fin cfg0.N, win0_0.index t = ![0, 0, t.val] ∧ win0_1.index t = ![1, 0, t.val] ∧ win0_2.index t = ![2, 0, t.val]
    ∧ win0_3.index t = ![t.val / 4, 0, t.val % 4] ∧ win0_4.index t = ![0, t.val] ∧ t.val < 16 :=
  (by decide +kernel : ∀ t : Fin grid0.N, _)

/-- A comparison of row numbers, as the numbers compare. -/
theorem sel (t n : ℕ) (ht : t < 4096) (hn : n < 4096) (a b : EReal) :
    Scalar.select (IntOp.cmpi CmpIPredicate.sge (BitVec.ofNat 32 t) (BitVec.ofNat 32 n)) a b = if n ≤ t then a else b := by
  have e (n : ℕ) (h : n < 4096) : (BitVec.ofNat 32 n).toInt = n := by
    rw [BitVec.toInt_eq_toNat_cond, BitVec.toNat_ofNat]; omega
  by_cases h : n ≤ t <;> simp [IntOp.cmpi, Scalar.select, BitVec.sle, e t ht, e n hn, h]

/-- The sum of the three products, in either order. -/
theorem three (r : ℕ) (g g1 g2 w0 w1 w2 : EReal) (p : ¬ 1 + r < 2 → EReal) (q : ¬ r < 2 → EReal) (e1 : ∀ h, g1 = p h) (e2 : ∀ h, g2 = q h) :
    w2 * g + (if 1 ≤ r then w1 * g1 else 0) + (if 2 ≤ r then w0 * g2 else 0) =
      (if h : r < 2 then 0 else q h) * w0 + (if h : 1 + r < 2 then 0 else p h) * w1 + g * w2 := by
  by_cases h1 : 1 ≤ r
  · by_cases h2 : 2 ≤ r
    · rw [if_pos h1, if_pos h2, dif_neg (by omega), dif_neg (by omega), ← e1, ← e2, add_comm, add_comm (w2 * g), ← add_assoc,
        mul_comm w0, mul_comm w1, mul_comm w2]
    · rw [if_pos h1, if_neg h2, dif_pos (by omega), dif_neg (by omega), ← e1, zero_mul, zero_add, add_zero, add_comm,
        mul_comm w1, mul_comm w2]
  · rw [if_neg h1, if_neg (by omega), dif_pos (by omega), dif_pos (by omega), zero_mul, zero_mul, zero_add, zero_add, add_zero, add_zero,
      mul_comm w2]

set_option maxHeartbeats 1000000 in
/-- One point's columns are the reference's, when each block is the part's columns. -/
theorem same (X0 : FVec Ideal S3x4096x2048 .f32) (X1 : FVec Ideal S3x2048 .f32)
    (b u v : FVec Ideal S1x4096x128 .f32) (w : FVec Ideal S1x8x128 .f32) (n : Fin 16)
    (hb : ∀ r k, b (ix3 0 r k) = X0 (ix3 0 r ⟨128 * n.val + k.val, by omega⟩))
    (hu : ∀ r k, u (ix3 0 r k) = X0 (ix3 1 r ⟨128 * n.val + k.val, by omega⟩))
    (hv : ∀ r k, v (ix3 0 r k) = X0 (ix3 2 r ⟨128 * n.val + k.val, by omega⟩))
    (hw : ∀ (r : Fin 3) k, w (ix3 0 ⟨r.val, by omega⟩ k) = X1 (ix2 r ⟨128 * n.val + k.val, by omega⟩))
    (r : Fin 4096) (k : Fin 128) :
    k0_pay1 (F := Ideal) u v w b (ix2 r k) = REF X0 X1 (ix2 r ⟨128 * n.val + k.val, by omega⟩) := by
  pointwise [k0_pay1, REF]
  rw [sel _ 1 (by omega) (by omega), sel _ 2 (by omega) (by omega), hb, hu, hv, hu, hv, hu, hv,
    show w (ix3 0 0 k) = _ from hw 0 k, show w (ix3 0 1 k) = _ from hw 1 k, show w (ix3 0 2 k) = _ from hw 2 k]
  refine congrArg _ (three r.val _ _ _ _ _ _ _ _ (fun h => ?_) fun h => ?_)
  · have e : (⟨(r.val + 4096 - 1) % 4096, by omega⟩ : Fin 4096) = ⟨1 + r.val - 2, by omega⟩ := Fin.ext (by simp only []; omega)
    exact congrArg (fun a => X0 (ix3 1 a _) * X0 (ix3 2 a _)) e
  · have e : (⟨(r.val + 4096 - 2) % 4096, by omega⟩ : Fin 4096) = ⟨r.val - 2, by omega⟩ := Fin.ext (by simp only []; omega)
    exact congrArg (fun a => X0 (ix3 1 a _) * X0 (ix3 2 a _)) e

/-- The array the launch leaves is the reference's. -/
theorem final (c : Dev nD) : (dats m 0 c).arrAt 4 (cfgs 0).N =
    REF (m ((c.tc : Thread nD τ).loc main_arg0)) (m ((c.tc : Thread nD τ).loc main_arg1)) := by
  refine (dats m 0 c).arrAt_eq_of_covers 4 _ (by decide +kernel) fun t _ y => ?_
  have ht := (idx t).2.2.2.2.2
  blk_simp
  rw [after0_4]; frame_out
  refine Eq.trans (congrArg _ (eq_ix2 y)) ((same (m ((c.tc : Thread nD τ).loc main_arg0)) (m ((c.tc : Thread nD τ).loc main_arg1)) (iblk m c 0 t) (iblk m c 1 t) (iblk m c 2 t) (iblk m c 3 t) ⟨t.val, ht⟩ ?_ ?_ ?_ ?_ (y 0) (y 1)).trans ?_)
  · intro r k; blk_ext! [iblk, V, idx t]
  · intro r k; blk_ext! [iblk, V, idx t]
  · intro r k; blk_ext! [iblk, V, idx t]
  · intro r k
    blk_simp [iblk]
    have hr := r.isLt
    rw [V2, taps _ _ (by blk_simp [idx t]; try omega)]
    refine congrArg _ (congr (congrArg ix2 (Fin.ext ?_)) (Fin.ext ?_))
    · blk_simp [idx t]; try omega
    · blk_simp [idx t]; simp only [Fin.val_zero]; omega
  · refine congrArg _ ((congr (congrArg ix2 (Fin.ext ?_)) (Fin.ext ?_)).trans (eq_ix2 _).symm)
    · blk_simp [idx t]; try omega
    · blk_simp [idx t]; dsimp only; omega
end Cert.ConvIdeal.Pool
end
-- ==== Proof.Conv.ConvBwd.lean ====
/- The gradients of the short convolution: the kernel shifts rows up and down by one and two and masks what came round,
   and the reference pads and slices. -/
module
public import proofs.«01_k».proof.Proof.Gen.ConvBwdIdeal.Value
public import proofs.«01_k».proof.Proof.Gen.ConvBwdRefIdeal.Run
public import Idealize.ShloMosaic.Lib.Pipeline.ValueKit
public import Idealize.ShloMosaic.Lib.StableHlo.ReadAt
public import Idealize.ShloMosaic.Lib.Pipeline.ReadBack
public import Idealize.ShloMosaic.Lib.Claim
@[expose] public section
set_option maxRecDepth 65536
noncomputable section
namespace Cert.ConvBwdIdeal.Pool
open Cert.ConvBwdIdeal Cert.ConvBwdIdeal.Gen Idealize.ShloMosaic Idealize.ShloMosaic.TcCoe Idealize.SL.Sem Idealize.ShloMosaic.Tactic
open Idealize.ShloMosaic.Pipeline (Dat)

variable (m : (ℓ : Loc nD τ sig) → Buf (Elt Ideal) ℓ)

/-- The reference's gradients of the three parts. -/
abbrev REF (X0 : FVec Ideal S4096x2048 .f32) (X1 : FVec Ideal S3x4096x2048 .f32) (X2 : FVec Ideal S3x2048 .f32) : FVec Ideal S3x4096x2048 .bf16 :=
  truncf .bf16 ((concatenate Cert.ConvBwdRefIdeal.S3x4096x2048 0 [⟨Cert.ConvBwdRefIdeal.S1x4096x2048, ((broadcastInDim Cert.ConvBwdRefIdeal.S1x4096x2048 ![1, 2] Cert.ConvBwdRefIdeal.Gen.bcast_S4096x2048_S1x4096x2048_1_2 (mulf X0 (addf (addf (mulf (extractStridedSlice Cert.ConvBwdRefIdeal.S4096x2048 ![0, 0] (concatenate Cert.ConvBwdRefIdeal.S4098x2048 0 [⟨Cert.ConvBwdRefIdeal.S2x2048, (broadcastInDim Cert.ConvBwdRefIdeal.S2x2048 ![] Cert.ConvBwdRefIdeal.Gen.bcast_S_S2x2048 (constant Cert.ConvBwdRefIdeal.S_ .f32 0x00000000#32))⟩, ⟨Cert.ConvBwdRefIdeal.S4096x2048, (mulf (shapeCast _ (extractStridedSlice Cert.ConvBwdRefIdeal.S1x4096x2048 ![1, 0, 0] X1 Cert.ConvBwdRefIdeal.Gen.slices_S3x4096x2048_S1x4096x2048_1_0_0) Cert.ConvBwdRefIdeal.Gen.shapeCasts_S1x4096x2048_S4096x2048) (shapeCast _ (extractStridedSlice Cert.ConvBwdRefIdeal.S1x4096x2048 ![2, 0, 0] X1 Cert.ConvBwdRefIdeal.Gen.slices_S3x4096x2048_S1x4096x2048_2_0_0) Cert.ConvBwdRefIdeal.Gen.shapeCasts_S1x4096x2048_S4096x2048))⟩] Cert.ConvBwdRefIdeal.Gen.concatenates_S2x2048_S4096x2048_S4098x2048_d0) Cert.ConvBwdRefIdeal.Gen.slices_S4098x2048_S4096x2048_0_0) (broadcastInDim Cert.ConvBwdRefIdeal.S4096x2048 ![0, 1] Cert.ConvBwdRefIdeal.Gen.bcast_S1x2048_S4096x2048_0_1 (broadcastInDim Cert.ConvBwdRefIdeal.S1x2048 ![1] Cert.ConvBwdRefIdeal.Gen.bcast_S2048_S1x2048_1 (shapeCast _ (extractStridedSlice Cert.ConvBwdRefIdeal.S1x2048 ![0, 0] X2 Cert.ConvBwdRefIdeal.Gen.slices_S3x2048_S1x2048_0_0) Cert.ConvBwdRefIdeal.Gen.shapeCasts_S1x2048_S2048)))) (mulf (extractStridedSlice Cert.ConvBwdRefIdeal.S4096x2048 ![1, 0] (concatenate Cert.ConvBwdRefIdeal.S4098x2048 0 [⟨Cert.ConvBwdRefIdeal.S2x2048, (broadcastInDim Cert.ConvBwdRefIdeal.S2x2048 ![] Cert.ConvBwdRefIdeal.Gen.bcast_S_S2x2048 (constant Cert.ConvBwdRefIdeal.S_ .f32 0x00000000#32))⟩, ⟨Cert.ConvBwdRefIdeal.S4096x2048, (mulf (shapeCast _ (extractStridedSlice Cert.ConvBwdRefIdeal.S1x4096x2048 ![1, 0, 0] X1 Cert.ConvBwdRefIdeal.Gen.slices_S3x4096x2048_S1x4096x2048_1_0_0) Cert.ConvBwdRefIdeal.Gen.shapeCasts_S1x4096x2048_S4096x2048) (shapeCast _ (extractStridedSlice Cert.ConvBwdRefIdeal.S1x4096x2048 ![2, 0, 0] X1 Cert.ConvBwdRefIdeal.Gen.slices_S3x4096x2048_S1x4096x2048_2_0_0) Cert.ConvBwdRefIdeal.Gen.shapeCasts_S1x4096x2048_S4096x2048))⟩] Cert.ConvBwdRefIdeal.Gen.concatenates_S2x2048_S4096x2048_S4098x2048_d0) Cert.ConvBwdRefIdeal.Gen.slices_S4098x2048_S4096x2048_1_0) (broadcastInDim Cert.ConvBwdRefIdeal.S4096x2048 ![0, 1] Cert.ConvBwdRefIdeal.Gen.bcast_S1x2048_S4096x2048_0_1 (broadcastInDim Cert.ConvBwdRefIdeal.S1x2048 ![1] Cert.ConvBwdRefIdeal.Gen.bcast_S2048_S1x2048_1 (shapeCast _ (extractStridedSlice Cert.ConvBwdRefIdeal.S1x2048 ![1, 0] X2 Cert.ConvBwdRefIdeal.Gen.slices_S3x2048_S1x2048_1_0) Cert.ConvBwdRefIdeal.Gen.shapeCasts_S1x2048_S2048))))) (mulf (extractStridedSlice Cert.ConvBwdRefIdeal.S4096x2048 ![2, 0] (concatenate Cert.ConvBwdRefIdeal.S4098x2048 0 [⟨Cert.ConvBwdRefIdeal.S2x2048, (broadcastInDim Cert.ConvBwdRefIdeal.S2x2048 ![] Cert.ConvBwdRefIdeal.Gen.bcast_S_S2x2048 (constant Cert.ConvBwdRefIdeal.S_ .f32 0x00000000#32))⟩, ⟨Cert.ConvBwdRefIdeal.S4096x2048, (mulf (shapeCast _ (extractStridedSlice Cert.ConvBwdRefIdeal.S1x4096x2048 ![1, 0, 0] X1 Cert.ConvBwdRefIdeal.Gen.slices_S3x4096x2048_S1x4096x2048_1_0_0) Cert.ConvBwdRefIdeal.Gen.shapeCasts_S1x4096x2048_S4096x2048) (shapeCast _ (extractStridedSlice Cert.ConvBwdRefIdeal.S1x4096x2048 ![2, 0, 0] X1 Cert.ConvBwdRefIdeal.Gen.slices_S3x4096x2048_S1x4096x2048_2_0_0) Cert.ConvBwdRefIdeal.Gen.shapeCasts_S1x4096x2048_S4096x2048))⟩] Cert.ConvBwdRefIdeal.Gen.concatenates_S2x2048_S4096x2048_S4098x2048_d0) Cert.ConvBwdRefIdeal.Gen.slices_S4098x2048_S4096x2048_2_0) (broadcastInDim Cert.ConvBwdRefIdeal.S4096x2048 ![0, 1] Cert.ConvBwdRefIdeal.Gen.bcast_S1x2048_S4096x2048_0_1 (broadcastInDim Cert.ConvBwdRefIdeal.S1x2048 ![1] Cert.ConvBwdRefIdeal.Gen.bcast_S2048_S1x2048_1 (shapeCast _ (extractStridedSlice Cert.ConvBwdRefIdeal.S1x2048 ![2, 0] X2 Cert.ConvBwdRefIdeal.Gen.slices_S3x2048_S1x2048_2_0) Cert.ConvBwdRefIdeal.Gen.shapeCasts_S1x2048_S2048))))))) : (⟨Cert.ConvBwdRefIdeal.S1x4096x2048, .f32⟩ : BufTy).Contents (Elt Ideal))⟩, ⟨Cert.ConvBwdRefIdeal.S1x4096x2048, ((broadcastInDim Cert.ConvBwdRefIdeal.S1x4096x2048 ![1, 2] Cert.ConvBwdRefIdeal.Gen.bcast_S4096x2048_S1x4096x2048_1_2 (mulf (extractStridedSlice Cert.ConvBwdRefIdeal.S4096x2048 ![2, 0] (addf (addf (pad Cert.ConvBwdRefIdeal.S4098x2048 ![2, 0] ![0, 0] ![0, 0] (mulf (mulf (shapeCast _ (extractStridedSlice Cert.ConvBwdRefIdeal.S1x4096x2048 ![0, 0, 0] X1 Cert.ConvBwdRefIdeal.Gen.slices_S3x4096x2048_S1x4096x2048_0_0_0) Cert.ConvBwdRefIdeal.Gen.shapeCasts_S1x4096x2048_S4096x2048) X0) (broadcastInDim Cert.ConvBwdRefIdeal.S4096x2048 ![0, 1] Cert.ConvBwdRefIdeal.Gen.bcast_S1x2048_S4096x2048_0_1 (broadcastInDim Cert.ConvBwdRefIdeal.S1x2048 ![1] Cert.ConvBwdRefIdeal.Gen.bcast_S2048_S1x2048_1 (shapeCast _ (extractStridedSlice Cert.ConvBwdRefIdeal.S1x2048 ![2, 0] X2 Cert.ConvBwdRefIdeal.Gen.slices_S3x2048_S1x2048_2_0) Cert.ConvBwdRefIdeal.Gen.shapeCasts_S1x2048_S2048)))) (constant Cert.ConvBwdRefIdeal.S_ .f32 0x00000000#32) Cert.ConvBwdRefIdeal.Gen.pads_S4096x2048_S4098x2048_200_000 Cert.ConvBwdRefIdeal.Gen.h_S_) (pad Cert.ConvBwdRefIdeal.S4098x2048 ![1, 0] ![1, 0] ![0, 0] (mulf (mulf (shapeCast _ (extractStridedSlice Cert.ConvBwdRefIdeal.S1x4096x2048 ![0, 0, 0] X1 Cert.ConvBwdRefIdeal.Gen.slices_S3x4096x2048_S1x4096x2048_0_0_0) Cert.ConvBwdRefIdeal.Gen.shapeCasts_S1x4096x2048_S4096x2048) X0) (broadcastInDim Cert.ConvBwdRefIdeal.S4096x2048 ![0, 1] Cert.ConvBwdRefIdeal.Gen.bcast_S1x2048_S4096x2048_0_1 (broadcastInDim Cert.ConvBwdRefIdeal.S1x2048 ![1] Cert.ConvBwdRefIdeal.Gen.bcast_S2048_S1x2048_1 (shapeCast _ (extractStridedSlice Cert.ConvBwdRefIdeal.S1x2048 ![1, 0] X2 Cert.ConvBwdRefIdeal.Gen.slices_S3x2048_S1x2048_1_0) Cert.ConvBwdRefIdeal.Gen.shapeCasts_S1x2048_S2048)))) (constant Cert.ConvBwdRefIdeal.S_ .f32 0x00000000#32) Cert.ConvBwdRefIdeal.Gen.pads_S4096x2048_S4098x2048_110_000 Cert.ConvBwdRefIdeal.Gen.h_S_)) (pad Cert.ConvBwdRefIdeal.S4098x2048 ![0, 0] ![2, 0] ![0, 0] (mulf (mulf (shapeCast _ (extractStridedSlice Cert.ConvBwdRefIdeal.S1x4096x2048 ![0, 0, 0] X1 Cert.ConvBwdRefIdeal.Gen.slices_S3x4096x2048_S1x4096x2048_0_0_0) Cert.ConvBwdRefIdeal.Gen.shapeCasts_S1x4096x2048_S4096x2048) X0) (broadcastInDim Cert.ConvBwdRefIdeal.S4096x2048 ![0, 1] Cert.ConvBwdRefIdeal.Gen.bcast_S1x2048_S4096x2048_0_1 (broadcastInDim Cert.ConvBwdRefIdeal.S1x2048 ![1] Cert.ConvBwdRefIdeal.Gen.bcast_S2048_S1x2048_1 (shapeCast _ (extractStridedSlice Cert.ConvBwdRefIdeal.S1x2048 ![0, 0] X2 Cert.ConvBwdRefIdeal.Gen.slices_S3x2048_S1x2048_0_0) Cert.ConvBwdRefIdeal.Gen.shapeCasts_S1x2048_S2048)))) (constant Cert.ConvBwdRefIdeal.S_ .f32 0x00000000#32) Cert.ConvBwdRefIdeal.Gen.pads_S4096x2048_S4098x2048_020_000 Cert.ConvBwdRefIdeal.Gen.h_S_)) Cert.ConvBwdRefIdeal.Gen.slices_S4098x2048_S4096x2048_2_0) (shapeCast _ (extractStridedSlice Cert.ConvBwdRefIdeal.S1x4096x2048 ![2, 0, 0] X1 Cert.ConvBwdRefIdeal.Gen.slices_S3x4096x2048_S1x4096x2048_2_0_0) Cert.ConvBwdRefIdeal.Gen.shapeCasts_S1x4096x2048_S4096x2048))) : (⟨Cert.ConvBwdRefIdeal.S1x4096x2048, .f32⟩ : BufTy).Contents (Elt Ideal))⟩, ⟨Cert.ConvBwdRefIdeal.S1x4096x2048, ((broadcastInDim Cert.ConvBwdRefIdeal.S1x4096x2048 ![1, 2] Cert.ConvBwdRefIdeal.Gen.bcast_S4096x2048_S1x4096x2048_1_2 (mulf (shapeCast _ (extractStridedSlice Cert.ConvBwdRefIdeal.S1x4096x2048 ![1, 0, 0] X1 Cert.ConvBwdRefIdeal.Gen.slices_S3x4096x2048_S1x4096x2048_1_0_0) Cert.ConvBwdRefIdeal.Gen.shapeCasts_S1x4096x2048_S4096x2048) (extractStridedSlice Cert.ConvBwdRefIdeal.S4096x2048 ![2, 0] (addf (addf (pad Cert.ConvBwdRefIdeal.S4098x2048 ![2, 0] ![0, 0] ![0, 0] (mulf (mulf (shapeCast _ (extractStridedSlice Cert.ConvBwdRefIdeal.S1x4096x2048 ![0, 0, 0] X1 Cert.ConvBwdRefIdeal.Gen.slices_S3x4096x2048_S1x4096x2048_0_0_0) Cert.ConvBwdRefIdeal.Gen.shapeCasts_S1x4096x2048_S4096x2048) X0) (broadcastInDim Cert.ConvBwdRefIdeal.S4096x2048 ![0, 1] Cert.ConvBwdRefIdeal.Gen.bcast_S1x2048_S4096x2048_0_1 (broadcastInDim Cert.ConvBwdRefIdeal.S1x2048 ![1] Cert.ConvBwdRefIdeal.Gen.bcast_S2048_S1x2048_1 (shapeCast _ (extractStridedSlice Cert.ConvBwdRefIdeal.S1x2048 ![2, 0] X2 Cert.ConvBwdRefIdeal.Gen.slices_S3x2048_S1x2048_2_0) Cert.ConvBwdRefIdeal.Gen.shapeCasts_S1x2048_S2048)))) (constant Cert.ConvBwdRefIdeal.S_ .f32 0x00000000#32) Cert.ConvBwdRefIdeal.Gen.pads_S4096x2048_S4098x2048_200_000 Cert.ConvBwdRefIdeal.Gen.h_S_) (pad Cert.ConvBwdRefIdeal.S4098x2048 ![1, 0] ![1, 0] ![0, 0] (mulf (mulf (shapeCast _ (extractStridedSlice Cert.ConvBwdRefIdeal.S1x4096x2048 ![0, 0, 0] X1 Cert.ConvBwdRefIdeal.Gen.slices_S3x4096x2048_S1x4096x2048_0_0_0) Cert.ConvBwdRefIdeal.Gen.shapeCasts_S1x4096x2048_S4096x2048) X0) (broadcastInDim Cert.ConvBwdRefIdeal.S4096x2048 ![0, 1] Cert.ConvBwdRefIdeal.Gen.bcast_S1x2048_S4096x2048_0_1 (broadcastInDim Cert.ConvBwdRefIdeal.S1x2048 ![1] Cert.ConvBwdRefIdeal.Gen.bcast_S2048_S1x2048_1 (shapeCast _ (extractStridedSlice Cert.ConvBwdRefIdeal.S1x2048 ![1, 0] X2 Cert.ConvBwdRefIdeal.Gen.slices_S3x2048_S1x2048_1_0) Cert.ConvBwdRefIdeal.Gen.shapeCasts_S1x2048_S2048)))) (constant Cert.ConvBwdRefIdeal.S_ .f32 0x00000000#32) Cert.ConvBwdRefIdeal.Gen.pads_S4096x2048_S4098x2048_110_000 Cert.ConvBwdRefIdeal.Gen.h_S_)) (pad Cert.ConvBwdRefIdeal.S4098x2048 ![0, 0] ![2, 0] ![0, 0] (mulf (mulf (shapeCast _ (extractStridedSlice Cert.ConvBwdRefIdeal.S1x4096x2048 ![0, 0, 0] X1 Cert.ConvBwdRefIdeal.Gen.slices_S3x4096x2048_S1x4096x2048_0_0_0) Cert.ConvBwdRefIdeal.Gen.shapeCasts_S1x4096x2048_S4096x2048) X0) (broadcastInDim Cert.ConvBwdRefIdeal.S4096x2048 ![0, 1] Cert.ConvBwdRefIdeal.Gen.bcast_S1x2048_S4096x2048_0_1 (broadcastInDim Cert.ConvBwdRefIdeal.S1x2048 ![1] Cert.ConvBwdRefIdeal.Gen.bcast_S2048_S1x2048_1 (shapeCast _ (extractStridedSlice Cert.ConvBwdRefIdeal.S1x2048 ![0, 0] X2 Cert.ConvBwdRefIdeal.Gen.slices_S3x2048_S1x2048_0_0) Cert.ConvBwdRefIdeal.Gen.shapeCasts_S1x2048_S2048)))) (constant Cert.ConvBwdRefIdeal.S_ .f32 0x00000000#32) Cert.ConvBwdRefIdeal.Gen.pads_S4096x2048_S4098x2048_020_000 Cert.ConvBwdRefIdeal.Gen.h_S_)) Cert.ConvBwdRefIdeal.Gen.slices_S4098x2048_S4096x2048_2_0))) : (⟨Cert.ConvBwdRefIdeal.S1x4096x2048, .f32⟩ : BufTy).Contents (Elt Ideal))⟩] Cert.ConvBwdRefIdeal.Gen.concatenates_S1x4096x2048_S1x4096x2048_S1x4096x2048_S3x4096x2048_d0 : (⟨Cert.ConvBwdRefIdeal.S3x4096x2048, .f32⟩ : BufTy).Contents (Elt Ideal))) Cert.ConvBwdRefIdeal.Gen.bitsLt_bf16_f32

/-- The reference's gradient of the taps. -/
abbrev TAP (X0 : FVec Ideal S4096x2048 .f32) (X1 : FVec Ideal S3x4096x2048 .f32) : FVec Ideal S4x8x512 .f32 :=
  transpose Cert.ConvBwdRefIdeal.S4x8x512 [1, 0, 2] (shapeCast _ (pad Cert.ConvBwdRefIdeal.S8x2048 ![0, 0] ![5, 0] ![0, 0] (addf (addf (pad Cert.ConvBwdRefIdeal.S3x2048 ![2, 0] ![0, 0] ![0, 0] (broadcastInDim Cert.ConvBwdRefIdeal.S1x2048 ![1] Cert.ConvBwdRefIdeal.Gen.bcast_S2048_S1x2048_1 (Host.reduceAdd (shapeCast _ (Host.reduceAdd (mulf (extractStridedSlice Cert.ConvBwdRefIdeal.S4096x2048 ![2, 0] (concatenate Cert.ConvBwdRefIdeal.S4098x2048 0 [⟨Cert.ConvBwdRefIdeal.S2x2048, (broadcastInDim Cert.ConvBwdRefIdeal.S2x2048 ![] Cert.ConvBwdRefIdeal.Gen.bcast_S_S2x2048 (constant Cert.ConvBwdRefIdeal.S_ .f32 0x00000000#32))⟩, ⟨Cert.ConvBwdRefIdeal.S4096x2048, (mulf (shapeCast _ (extractStridedSlice Cert.ConvBwdRefIdeal.S1x4096x2048 ![1, 0, 0] X1 Cert.ConvBwdRefIdeal.Gen.slices_S3x4096x2048_S1x4096x2048_1_0_0) Cert.ConvBwdRefIdeal.Gen.shapeCasts_S1x4096x2048_S4096x2048) (shapeCast _ (extractStridedSlice Cert.ConvBwdRefIdeal.S1x4096x2048 ![2, 0, 0] X1 Cert.ConvBwdRefIdeal.Gen.slices_S3x4096x2048_S1x4096x2048_2_0_0) Cert.ConvBwdRefIdeal.Gen.shapeCasts_S1x4096x2048_S4096x2048))⟩] Cert.ConvBwdRefIdeal.Gen.concatenates_S2x2048_S4096x2048_S4098x2048_d0) Cert.ConvBwdRefIdeal.Gen.slices_S4098x2048_S4096x2048_2_0) (mulf (shapeCast _ (extractStridedSlice Cert.ConvBwdRefIdeal.S1x4096x2048 ![0, 0, 0] X1 Cert.ConvBwdRefIdeal.Gen.slices_S3x4096x2048_S1x4096x2048_0_0_0) Cert.ConvBwdRefIdeal.Gen.shapeCasts_S1x4096x2048_S4096x2048) X0)) (constant Cert.ConvBwdRefIdeal.S_ .f32 0x00000000#32) Cert.ConvBwdRefIdeal.Gen.reducesTo_S4096x2048_S2048_d0 Cert.ConvBwdRefIdeal.Gen.h_S_) Cert.ConvBwdRefIdeal.Gen.shapeCasts_S2048_S1x2048) (constant Cert.ConvBwdRefIdeal.S_ .f32 0x00000000#32) Cert.ConvBwdRefIdeal.Gen.reducesTo_S1x2048_S2048_d0 Cert.ConvBwdRefIdeal.Gen.h_S_)) (constant Cert.ConvBwdRefIdeal.S_ .f32 0x00000000#32) Cert.ConvBwdRefIdeal.Gen.pads_S1x2048_S3x2048_200_000 Cert.ConvBwdRefIdeal.Gen.h_S_) (pad Cert.ConvBwdRefIdeal.S3x2048 ![1, 0] ![1, 0] ![0, 0] (broadcastInDim Cert.ConvBwdRefIdeal.S1x2048 ![1] Cert.ConvBwdRefIdeal.Gen.bcast_S2048_S1x2048_1 (Host.reduceAdd (shapeCast _ (Host.reduceAdd (mulf (extractStridedSlice Cert.ConvBwdRefIdeal.S4096x2048 ![1, 0] (concatenate Cert.ConvBwdRefIdeal.S4098x2048 0 [⟨Cert.ConvBwdRefIdeal.S2x2048, (broadcastInDim Cert.ConvBwdRefIdeal.S2x2048 ![] Cert.ConvBwdRefIdeal.Gen.bcast_S_S2x2048 (constant Cert.ConvBwdRefIdeal.S_ .f32 0x00000000#32))⟩, ⟨Cert.ConvBwdRefIdeal.S4096x2048, (mulf (shapeCast _ (extractStridedSlice Cert.ConvBwdRefIdeal.S1x4096x2048 ![1, 0, 0] X1 Cert.ConvBwdRefIdeal.Gen.slices_S3x4096x2048_S1x4096x2048_1_0_0) Cert.ConvBwdRefIdeal.Gen.shapeCasts_S1x4096x2048_S4096x2048) (shapeCast _ (extractStridedSlice Cert.ConvBwdRefIdeal.S1x4096x2048 ![2, 0, 0] X1 Cert.ConvBwdRefIdeal.Gen.slices_S3x4096x2048_S1x4096x2048_2_0_0) Cert.ConvBwdRefIdeal.Gen.shapeCasts_S1x4096x2048_S4096x2048))⟩] Cert.ConvBwdRefIdeal.Gen.concatenates_S2x2048_S4096x2048_S4098x2048_d0) Cert.ConvBwdRefIdeal.Gen.slices_S4098x2048_S4096x2048_1_0) (mulf (shapeCast _ (extractStridedSlice Cert.ConvBwdRefIdeal.S1x4096x2048 ![0, 0, 0] X1 Cert.ConvBwdRefIdeal.Gen.slices_S3x4096x2048_S1x4096x2048_0_0_0) Cert.ConvBwdRefIdeal.Gen.shapeCasts_S1x4096x2048_S4096x2048) X0)) (constant Cert.ConvBwdRefIdeal.S_ .f32 0x00000000#32) Cert.ConvBwdRefIdeal.Gen.reducesTo_S4096x2048_S2048_d0 Cert.ConvBwdRefIdeal.Gen.h_S_) Cert.ConvBwdRefIdeal.Gen.shapeCasts_S2048_S1x2048) (constant Cert.ConvBwdRefIdeal.S_ .f32 0x00000000#32) Cert.ConvBwdRefIdeal.Gen.reducesTo_S1x2048_S2048_d0 Cert.ConvBwdRefIdeal.Gen.h_S_)) (constant Cert.ConvBwdRefIdeal.S_ .f32 0x00000000#32) Cert.ConvBwdRefIdeal.Gen.pads_S1x2048_S3x2048_110_000 Cert.ConvBwdRefIdeal.Gen.h_S_)) (pad Cert.ConvBwdRefIdeal.S3x2048 ![0, 0] ![2, 0] ![0, 0] (broadcastInDim Cert.ConvBwdRefIdeal.S1x2048 ![1] Cert.ConvBwdRefIdeal.Gen.bcast_S2048_S1x2048_1 (Host.reduceAdd (shapeCast _ (Host.reduceAdd (mulf (extractStridedSlice Cert.ConvBwdRefIdeal.S4096x2048 ![0, 0] (concatenate Cert.ConvBwdRefIdeal.S4098x2048 0 [⟨Cert.ConvBwdRefIdeal.S2x2048, (broadcastInDim Cert.ConvBwdRefIdeal.S2x2048 ![] Cert.ConvBwdRefIdeal.Gen.bcast_S_S2x2048 (constant Cert.ConvBwdRefIdeal.S_ .f32 0x00000000#32))⟩, ⟨Cert.ConvBwdRefIdeal.S4096x2048, (mulf (shapeCast _ (extractStridedSlice Cert.ConvBwdRefIdeal.S1x4096x2048 ![1, 0, 0] X1 Cert.ConvBwdRefIdeal.Gen.slices_S3x4096x2048_S1x4096x2048_1_0_0) Cert.ConvBwdRefIdeal.Gen.shapeCasts_S1x4096x2048_S4096x2048) (shapeCast _ (extractStridedSlice Cert.ConvBwdRefIdeal.S1x4096x2048 ![2, 0, 0] X1 Cert.ConvBwdRefIdeal.Gen.slices_S3x4096x2048_S1x4096x2048_2_0_0) Cert.ConvBwdRefIdeal.Gen.shapeCasts_S1x4096x2048_S4096x2048))⟩] Cert.ConvBwdRefIdeal.Gen.concatenates_S2x2048_S4096x2048_S4098x2048_d0) Cert.ConvBwdRefIdeal.Gen.slices_S4098x2048_S4096x2048_0_0) (mulf (shapeCast _ (extractStridedSlice Cert.ConvBwdRefIdeal.S1x4096x2048 ![0, 0, 0] X1 Cert.ConvBwdRefIdeal.Gen.slices_S3x4096x2048_S1x4096x2048_0_0_0) Cert.ConvBwdRefIdeal.Gen.shapeCasts_S1x4096x2048_S4096x2048) X0)) (constant Cert.ConvBwdRefIdeal.S_ .f32 0x00000000#32) Cert.ConvBwdRefIdeal.Gen.reducesTo_S4096x2048_S2048_d0 Cert.ConvBwdRefIdeal.Gen.h_S_) Cert.ConvBwdRefIdeal.Gen.shapeCasts_S2048_S1x2048) (constant Cert.ConvBwdRefIdeal.S_ .f32 0x00000000#32) Cert.ConvBwdRefIdeal.Gen.reducesTo_S1x2048_S2048_d0 Cert.ConvBwdRefIdeal.Gen.h_S_)) (constant Cert.ConvBwdRefIdeal.S_ .f32 0x00000000#32) Cert.ConvBwdRefIdeal.Gen.pads_S1x2048_S3x2048_020_000 Cert.ConvBwdRefIdeal.Gen.h_S_)) (sitofp .f32 (constantI Cert.ConvBwdRefIdeal.S_ 32 0#32)) Cert.ConvBwdRefIdeal.Gen.pads_S3x2048_S8x2048_050_000 Cert.ConvBwdRefIdeal.Gen.h_S_) Cert.ConvBwdRefIdeal.Gen.shapeCasts_S8x2048_S8x4x512) Cert.ConvBwdRefIdeal.Gen.transposes_S8x4x512_S4x8x512_1_0_2

/-- The taps as the host lays them out. -/
def TAPS (X : FVec Ideal S3x2048 .f32) : FVec Ideal S4x16x512 .f32 :=
  transpose S4x16x512 [1, 0, 2] (shapeCast S16x4x512 (pad S16x2048 ![0, 0] ![13, 0] ![0, 0] X (sitofp .f32 (constantI S_ 32 0#32)) pads_S3x2048_S16x2048_0130_000 h_S_) shapeCasts_S16x2048_S16x4x512) transposes_S16x4x512_S4x16x512_1_0_2

theorem taps (X : FVec Ideal S3x2048 .f32) (j : S4x16x512.Idx) (h : (j 1).val < 3) :
    TAPS X j = X (ix2 ⟨(j 1).val, h⟩ ⟨(j 0).val * 512 + (j 2).val, by have h : (j 0).val < 4 := (j 0).isLt; have h : (j 2).val < 512 := (j 2).isLt; omega⟩) := by
  have h0 : (j 0).val < 4 := (j 0).isLt
  have h2 : (j 2).val < 512 := (j 2).isLt
  pointwise [TAPS]
  rw [dif_pos ⟨h, by omega⟩]

theorem V2 (c : Dev nD) : V m c main_v2 = TAPS (m ((c.tc : Thread nD τ).loc main_arg2)) := by
  unfold V; after_reads_simp; try rfl

theorem idx : ∀ t : Fin cfg0.N, win0_0.index t = ![0, t.val] ∧ win0_1.index t = ![0, 0, t.val] ∧ win0_2.index t = ![1, 0, t.val] ∧ win0_3.index t = ![2, 0, t.val]
    ∧ win0_4.index t = ![t.val / 4, 0, t.val % 4] ∧ win0_5.index t = ![0, 0, t.val] ∧ win0_6.index t = ![t.val / 4, 0, t.val % 4] ∧ t.val < 16 :=
  (by decide +kernel : ∀ t : Fin grid0.N, _)

/-- A comparison of row numbers, as the numbers compare. -/
theorem sel (t n : ℕ) (ht : t < 4096) (hn : n < 4096) (a b : EReal) :
    Scalar.select (IntOp.cmpi CmpIPredicate.sge (BitVec.ofNat 32 t) (BitVec.ofNat 32 n)) a b = if n ≤ t then a else b := by
  have e (n : ℕ) (h : n < 4096) : (BitVec.ofNat 32 n).toInt = n := by
    rw [BitVec.toInt_eq_toNat_cond, BitVec.toNat_ofNat]; omega
  by_cases h : n ≤ t <;> simp [IntOp.cmpi, Scalar.select, BitVec.sle, e t ht, e n hn, h]

theorem sel_lt (t n : ℕ) (ht : t < 4096) (hn : n < 4096) (a b : EReal) :
    Scalar.select (IntOp.cmpi CmpIPredicate.slt (BitVec.ofNat 32 t) (BitVec.ofNat 32 n)) a b = if t < n then a else b := by
  have e (n : ℕ) (h : n < 4096) : (BitVec.ofNat 32 n).toInt = n := by
    rw [BitVec.toInt_eq_toNat_cond, BitVec.toNat_ofNat]; omega
  by_cases h : t < n <;> simp [IntOp.cmpi, Scalar.select, BitVec.slt, e t ht, e n hn, h]

/-- The sum of the three products, in either order. -/
theorem three (r : ℕ) (g g1 g2 w0 w1 w2 : EReal) (p : ¬ 1 + r < 2 → EReal) (q : ¬ r < 2 → EReal) (e1 : ∀ h, g1 = p h) (e2 : ∀ h, g2 = q h) :
    w2 * g + (if 1 ≤ r then w1 * g1 else 0) + (if 2 ≤ r then w0 * g2 else 0) =
      (if h : r < 2 then 0 else q h) * w0 + (if h : 1 + r < 2 then 0 else p h) * w1 + g * w2 := by
  by_cases h1 : 1 ≤ r
  · by_cases h2 : 2 ≤ r
    · rw [if_pos h1, if_pos h2, dif_neg (by omega), dif_neg (by omega), ← e1, ← e2, add_comm, add_comm (w2 * g), ← add_assoc,
        mul_comm w0, mul_comm w1, mul_comm w2]
    · rw [if_pos h1, if_neg h2, dif_pos (by omega), dif_neg (by omega), ← e1, zero_mul, zero_add, add_zero, add_comm,
        mul_comm w1, mul_comm w2]
  · rw [if_neg h1, if_neg (by omega), dif_pos (by omega), dif_pos (by omega), zero_mul, zero_mul, zero_add, zero_add, add_zero, add_zero,
      mul_comm w2]

/-- The sum of the three products of rows from here on, in either order. -/
theorem three_up (r : ℕ) (g g1 g2 w0 w1 w2 : EReal) (p : 1 ≤ 2 + r ∧ 2 + r - 1 < 4096 → EReal) (q : 2 + r < 4096 → EReal)
    (e1 : ∀ h, w1 * g1 = p h) (e2 : ∀ h, w0 * g2 = q h) :
    w2 * g + (if r < 4095 then w1 * g1 else 0) + (if r < 4094 then w0 * g2 else 0) =
      (g * w2 + if h : 1 ≤ 2 + r ∧ 2 + r - 1 < 4096 then p h else 0) + if h : 2 + r < 4096 then q h else 0 := by
  by_cases h1 : r < 4095
  · by_cases h2 : r < 4094
    · rw [if_pos h1, if_pos h2, dif_pos (by omega), dif_pos (by omega), ← e1, ← e2, mul_comm w2]
    · rw [if_pos h1, if_neg h2, dif_pos (by omega), dif_neg (by omega), ← e1, mul_comm w2]
  · rw [if_neg h1, if_neg (by omega), dif_neg (by omega), dif_neg (by omega), mul_comm w2]

/-- The blocks of one point are the arrays' columns. -/
structure Blocks (X0 : FVec Ideal S4096x2048 .f32) (X1 : FVec Ideal S3x4096x2048 .f32) (X2 : FVec Ideal S3x2048 .f32)
    (d : FVec Ideal S4096x128 .f32) (b u v : FVec Ideal S1x4096x128 .f32) (w : FVec Ideal S1x8x128 .f32) (n : Fin 16) : Prop where
  d : ∀ r k, d (ix2 r k) = X0 (ix2 r ⟨128 * n.val + k.val, by omega⟩)
  b : ∀ r k, b (ix3 0 r k) = X1 (ix3 0 r ⟨128 * n.val + k.val, by omega⟩)
  u : ∀ r k, u (ix3 0 r k) = X1 (ix3 1 r ⟨128 * n.val + k.val, by omega⟩)
  v : ∀ r k, v (ix3 0 r k) = X1 (ix3 2 r ⟨128 * n.val + k.val, by omega⟩)
  w : ∀ (r : Fin 3) k, w (ix3 0 ⟨r.val, by omega⟩ k) = X2 (ix2 r ⟨128 * n.val + k.val, by omega⟩)

/-- The entries of the kernel's gradients, the mask read as a condition on the row. -/
theorem kern0 (d : FVec Ideal S4096x128 .f32) (u v : FVec Ideal S1x4096x128 .f32) (w : FVec Ideal S1x8x128 .f32) (r : Fin 4096) (k : Fin 128) :
    k0_pay13 (F := Ideal) (k0_pay12 (F := Ideal) u v d w) (ix3 0 r k) = d (ix2 r k) * (w (ix3 0 2 k) * (u (ix3 0 r k) * v (ix3 0 r k)) +
      (if 1 ≤ r.val then w (ix3 0 1 k) * (u (ix3 0 ⟨(r.val + 4096 - 1) % 4096, by omega⟩ k) * v (ix3 0 ⟨(r.val + 4096 - 1) % 4096, by omega⟩ k)) else 0) +
      (if 2 ≤ r.val then w (ix3 0 0 k) * (u (ix3 0 ⟨(r.val + 4096 - 2) % 4096, by omega⟩ k) * v (ix3 0 ⟨(r.val + 4096 - 2) % 4096, by omega⟩ k)) else 0)) := by
  rw [← sel _ 1 (by omega) (by omega), ← sel _ 2 (by omega) (by omega)]
  pointwise [k0_pay13, k0_pay12, k0_pay11, k0_pay10, k0_pay9, k0_pay8, k0_pay7, k0_pay6]

theorem kernUp (d : FVec Ideal S4096x128 .f32) (b : FVec Ideal S1x4096x128 .f32) (w : FVec Ideal S1x8x128 .f32) (r : Fin 4096) (k : Fin 128) :
    k0_pay15 (F := Ideal) (k0_pay5 (F := Ideal) b) d (k0_pay8 (F := Ideal) w) (ix2 r k) = w (ix3 0 2 k) * (d (ix2 r k) * b (ix3 0 r k)) +
      (if r.val < 4095 then w (ix3 0 1 k) * (d (ix2 ⟨(r.val + 4096 - 4095) % 4096, by omega⟩ k) * b (ix3 0 ⟨(r.val + 4096 - 4095) % 4096, by omega⟩ k)) else 0) +
      (if r.val < 4094 then w (ix3 0 0 k) * (d (ix2 ⟨(r.val + 4096 - 4094) % 4096, by omega⟩ k) * b (ix3 0 ⟨(r.val + 4096 - 4094) % 4096, by omega⟩ k)) else 0) := by
  rw [← sel_lt _ 4095 (by omega) (by omega), ← sel_lt _ 4094 (by omega) (by omega)]
  pointwise [k0_pay15, k0_pay14, k0_pay5, k0_pay8]

theorem kern1 (v1 v5 v6 : FVec Ideal S4096x128 .f32) (v8 : FVec Ideal S8x128 .f32) (r : Fin 4096) (k : Fin 128) :
    k0_pay16 (F := Ideal) v1 v5 v6 v8 (ix3 0 r k) = k0_pay15 (F := Ideal) v1 v6 v8 (ix2 r k) * v5 (ix2 r k) := by
  pointwise [k0_pay16]

theorem kern2 (v1 v5 v6 : FVec Ideal S4096x128 .f32) (v8 : FVec Ideal S8x128 .f32) (r : Fin 4096) (k : Fin 128) :
    k0_pay17 (F := Ideal) v1 v5 v6 v8 (ix3 0 r k) = k0_pay15 (F := Ideal) v1 v6 v8 (ix2 r k) * v5 (ix2 r k) := by
  pointwise [k0_pay17]

theorem kern6 (v : FVec Ideal S1x4096x128 .f32) (r : Fin 4096) (k : Fin 128) : k0_pay6 (F := Ideal) v (ix2 r k) = v (ix3 0 r k) := by
  pointwise [k0_pay6]

theorem kern7 (v : FVec Ideal S1x4096x128 .f32) (r : Fin 4096) (k : Fin 128) : k0_pay7 (F := Ideal) v (ix2 r k) = v (ix3 0 r k) := by
  pointwise [k0_pay7]

/-- The entries of the reference's gradients. -/
theorem ref0 (X0 : FVec Ideal S4096x2048 .f32) (X1 : FVec Ideal S3x4096x2048 .f32) (X2 : FVec Ideal S3x2048 .f32) (r : Fin 4096) (q : Fin 2048) : REF X0 X1 X2 (ix3 0 r q) = X0 (ix2 r q) *
      ((if h : r.val < 2 then 0 else X1 (ix3 1 ⟨r.val - 2, by omega⟩ q) * X1 (ix3 2 ⟨r.val - 2, by omega⟩ q)) * X2 (ix2 0 q) +
          (if h : 1 + r.val < 2 then 0 else X1 (ix3 1 ⟨1 + r.val - 2, by omega⟩ q) * X1 (ix3 2 ⟨1 + r.val - 2, by omega⟩ q)) * X2 (ix2 1 q) +
        X1 (ix3 1 r q) * X1 (ix3 2 r q) * X2 (ix2 2 q)) := by
  pointwise [REF]

theorem ref1 (X0 : FVec Ideal S4096x2048 .f32) (X1 : FVec Ideal S3x4096x2048 .f32) (X2 : FVec Ideal S3x2048 .f32) (r : Fin 4096) (q : Fin 2048) : REF X0 X1 X2 (ix3 1 r q) =
      ((X1 (ix3 0 r q) * X0 (ix2 r q) * X2 (ix2 2 q) +
          if h : 1 ≤ 2 + r.val ∧ 2 + r.val - 1 < 4096 then
            X1 (ix3 0 ⟨2 + r.val - 1, h.2⟩ q) * X0 (ix2 ⟨2 + r.val - 1, h.2⟩ q) * X2 (ix2 1 q)
          else 0) +
        if h : 2 + r.val < 4096 then X1 (ix3 0 ⟨2 + r.val, h⟩ q) * X0 (ix2 ⟨2 + r.val, h⟩ q) * X2 (ix2 0 q) else 0) * X1 (ix3 2 r q) := by
  pointwise [REF]

theorem ref2 (X0 : FVec Ideal S4096x2048 .f32) (X1 : FVec Ideal S3x4096x2048 .f32) (X2 : FVec Ideal S3x2048 .f32) (r : Fin 4096) (q : Fin 2048) : REF X0 X1 X2 (ix3 2 r q) = X1 (ix3 1 r q) *
      ((X1 (ix3 0 r q) * X0 (ix2 r q) * X2 (ix2 2 q) +
          if h : 1 ≤ 2 + r.val ∧ 2 + r.val - 1 < 4096 then
            X1 (ix3 0 ⟨2 + r.val - 1, h.2⟩ q) * X0 (ix2 ⟨2 + r.val - 1, h.2⟩ q) * X2 (ix2 1 q)
          else 0) +
        if h : 2 + r.val < 4096 then X1 (ix3 0 ⟨2 + r.val, h⟩ q) * X0 (ix2 ⟨2 + r.val, h⟩ q) * X2 (ix2 0 q) else 0) := by
  pointwise [REF]

section
variable {X0 : FVec Ideal S4096x2048 .f32} {X1 : FVec Ideal S3x4096x2048 .f32} {X2 : FVec Ideal S3x2048 .f32}
  {d : FVec Ideal S4096x128 .f32} {b u v : FVec Ideal S1x4096x128 .f32} {w : FVec Ideal S1x8x128 .f32} {n : Fin 16}
  (H : Blocks X0 X1 X2 d b u v w n)

include H

theorem part0 (r : Fin 4096) (k : Fin 128) :
    k0_pay13 (F := Ideal) (k0_pay12 (F := Ideal) u v d w) (ix3 0 r k) = REF X0 X1 X2 (ix3 0 r ⟨128 * n.val + k.val, by omega⟩) := by
  rw [kern0, ref0, H.d, H.u, H.v, H.u, H.v, H.u, H.v,
    show w (ix3 0 0 k) = _ from H.w 0 k, show w (ix3 0 1 k) = _ from H.w 1 k, show w (ix3 0 2 k) = _ from H.w 2 k]
  refine congrArg _ (three r.val _ _ _ _ _ _ _ _ (fun h => ?_) fun h => ?_)
  · have e : (⟨(r.val + 4096 - 1) % 4096, by omega⟩ : Fin 4096) = ⟨1 + r.val - 2, by omega⟩ := Fin.ext (by simp only []; omega)
    exact congrArg (fun a => X1 (ix3 1 a _) * X1 (ix3 2 a _)) e
  · have e : (⟨(r.val + 4096 - 2) % 4096, by omega⟩ : Fin 4096) = ⟨r.val - 2, by omega⟩ := Fin.ext (by simp only []; omega)
    exact congrArg (fun a => X1 (ix3 1 a _) * X1 (ix3 2 a _)) e

/-- The gradient of the gated rows. -/
theorem up (r : Fin 4096) (k : Fin 128) (q : Fin 2048) (hq : q = ⟨128 * n.val + k.val, by omega⟩) :
    k0_pay15 (F := Ideal) (k0_pay5 (F := Ideal) b) d (k0_pay8 (F := Ideal) w) (ix2 r k) =
      (X1 (ix3 0 r q) * X0 (ix2 r q) * X2 (ix2 2 q) +
          if h : 1 ≤ 2 + r.val ∧ 2 + r.val - 1 < 4096 then
            X1 (ix3 0 ⟨2 + r.val - 1, h.2⟩ q) * X0 (ix2 ⟨2 + r.val - 1, h.2⟩ q) * X2 (ix2 1 q)
          else 0) +
        if h : 2 + r.val < 4096 then X1 (ix3 0 ⟨2 + r.val, h⟩ q) * X0 (ix2 ⟨2 + r.val, h⟩ q) * X2 (ix2 0 q) else 0 := by
  rw [kernUp, H.d, H.b, H.d, H.b, H.d, H.b,
    show w (ix3 0 0 k) = _ from H.w 0 k, show w (ix3 0 1 k) = _ from H.w 1 k, show w (ix3 0 2 k) = _ from H.w 2 k, ← hq]
  rw [mul_comm (X1 (ix3 0 r q)) (X0 _)]
  refine three_up r.val _ _ _ _ _ _ _ _ (fun h => ?_) fun h => ?_
  · have e : (⟨(r.val + 4096 - 4095) % 4096, by omega⟩ : Fin 4096) = ⟨2 + r.val - 1, h.2⟩ := Fin.ext (by simp only []; omega)
    refine (mul_comm _ _).trans (congrArg (· * _) ((mul_comm _ _).trans ?_))
    exact congrArg (fun a => X1 (ix3 0 a q) * X0 (ix2 a q)) e
  · have e : (⟨(r.val + 4096 - 4094) % 4096, by omega⟩ : Fin 4096) = ⟨2 + r.val, h⟩ := Fin.ext (by simp only []; omega)
    refine (mul_comm _ _).trans (congrArg (· * _) ((mul_comm _ _).trans ?_))
    exact congrArg (fun a => X1 (ix3 0 a q) * X0 (ix2 a q)) e

theorem part1 (r : Fin 4096) (k : Fin 128) :
    k0_pay16 (F := Ideal) (k0_pay5 (F := Ideal) b) (k0_pay7 (F := Ideal) v) d (k0_pay8 (F := Ideal) w) (ix3 0 r k) = REF X0 X1 X2 (ix3 1 r ⟨128 * n.val + k.val, by omega⟩) := by
  rw [kern1, up H r k _ rfl, kern7, H.v, ref1]

theorem part2 (r : Fin 4096) (k : Fin 128) :
    k0_pay17 (F := Ideal) (k0_pay5 (F := Ideal) b) (k0_pay6 (F := Ideal) u) d (k0_pay8 (F := Ideal) w) (ix3 0 r k) = REF X0 X1 X2 (ix3 2 r ⟨128 * n.val + k.val, by omega⟩) := by
  rw [kern2, up H r k _ rfl, kern6, H.u, ref2, mul_comm]

end

/-- The reference's gradient of the taps at one entry: each tap's sum, padded to the three and then to eight rows. -/
theorem tapE (X0 : FVec Ideal S4096x2048 .f32) (X1 : FVec Ideal S3x4096x2048 .f32) (j : S4x8x512.Idx) :
    TAP X0 X1 j = if _h : (j 1).val < 3 ∧ (j 0).val * 512 + (j 2).val < 2048 then
      ((if h1 : (2 ≤ (j 1).val ∧ (j 1).val - 2 < 1) ∧ (j 0).val * 512 + (j 2).val < 2048 then
          ∑ _x : Fin 1, ∑ x : Fin 4096, X1 (ix3 1 x ⟨(j 0).val * 512 + (j 2).val, h1.2⟩) * X1 (ix3 2 x ⟨(j 0).val * 512 + (j 2).val, h1.2⟩) * (X1 (ix3 0 x ⟨(j 0).val * 512 + (j 2).val, h1.2⟩) * X0 (ix2 x ⟨(j 0).val * 512 + (j 2).val, h1.2⟩))
        else 0) +
        if h1 : (1 ≤ (j 1).val ∧ (j 1).val - 1 < 1) ∧ (j 0).val * 512 + (j 2).val < 2048 then
          ∑ _x : Fin 1, ∑ x : Fin 4096, (if h : 1 + x.val < 2 then 0 else X1 (ix3 1 ⟨1 + x.val - 2, by omega⟩ ⟨(j 0).val * 512 + (j 2).val, h1.2⟩) * X1 (ix3 2 ⟨1 + x.val - 2, by omega⟩ ⟨(j 0).val * 512 + (j 2).val, h1.2⟩)) *
            (X1 (ix3 0 x ⟨(j 0).val * 512 + (j 2).val, h1.2⟩) * X0 (ix2 x ⟨(j 0).val * 512 + (j 2).val, h1.2⟩))
        else 0) +
      (if h1 : (j 1).val < 1 ∧ (j 0).val * 512 + (j 2).val < 2048 then
        ∑ _x : Fin 1, (∑ x : Fin 2, 0 * (X1 (ix3 0 ⟨x.val, by omega⟩ ⟨(j 0).val * 512 + (j 2).val, h1.2⟩) * X0 (ix2 ⟨x.val, by omega⟩ ⟨(j 0).val * 512 + (j 2).val, h1.2⟩)) +
          ∑ x : Fin 4094, X1 (ix3 1 ⟨x.val, by omega⟩ ⟨(j 0).val * 512 + (j 2).val, h1.2⟩) * X1 (ix3 2 ⟨x.val, by omega⟩ ⟨(j 0).val * 512 + (j 2).val, h1.2⟩) *
            (X1 (ix3 0 ⟨2 + x.val, by omega⟩ ⟨(j 0).val * 512 + (j 2).val, h1.2⟩) * X0 (ix2 ⟨2 + x.val, by omega⟩ ⟨(j 0).val * 512 + (j 2).val, h1.2⟩)))
      else 0)
    else FloatOps.sitofp (F := Ideal) .f32 0#32 := by
  pointwise [TAP]

theorem split_two (f : Fin 4096 → EReal) :
    ∑ x, f x = ∑ x : Fin 2, f ⟨x.val, by omega⟩ + ∑ x : Fin 4094, f ⟨2 + x.val, by omega⟩ :=
  Fin.sum_univ_add (a := 2) (b := 4094) f

/-- The gradient of each tap, as one sum over the rows. -/
theorem tap0 (X0 : FVec Ideal S4096x2048 .f32) (X1 : FVec Ideal S3x4096x2048 .f32) (j : S4x8x512.Idx) (q : Fin 2048) (h : (j 1).val = 0) (hq : (j 0).val * 512 + (j 2).val = q.val) :
    TAP X0 X1 j = ∑ x : Fin 4096, if h : 2 ≤ x.val then X1 (ix3 1 ⟨x.val - 2, by omega⟩ q) * X1 (ix3 2 ⟨x.val - 2, by omega⟩ q) * (X1 (ix3 0 x q) * X0 (ix2 x q)) else 0 := by
  obtain ⟨q, lt⟩ := q
  simp only at hq
  subst hq
  rw [tapE, dif_pos ⟨by omega, by omega⟩, dif_neg (by omega), dif_neg (by omega), dif_pos ⟨by omega, by omega⟩, zero_add, zero_add, Fintype.sum_unique, split_two]
  refine congrArg₂ _ (Finset.sum_congr rfl fun x _ => ?_) (Finset.sum_congr rfl fun x _ => ?_)
  · exact (zero_mul _).trans (Eq.symm (dif_neg (c := 2 ≤ (⟨x.val, by omega⟩ : Fin 4096).val) (show ¬ 2 ≤ x.val by omega)))
  · have e : (⟨x.val, by omega⟩ : Fin 4096) = ⟨2 + x.val - 2, by omega⟩ := Fin.ext (by simp only []; omega)
    refine Eq.trans ?_ (Eq.symm (dif_pos (c := 2 ≤ (⟨2 + x.val, by omega⟩ : Fin 4096).val) (show 2 ≤ 2 + x.val by omega)))
    exact congrArg (fun a => X1 (ix3 1 a _) * X1 (ix3 2 a _) * (X1 (ix3 0 ⟨2 + x.val, by omega⟩ _) * X0 (ix2 ⟨2 + x.val, by omega⟩ _))) e

theorem tap1 (X0 : FVec Ideal S4096x2048 .f32) (X1 : FVec Ideal S3x4096x2048 .f32) (j : S4x8x512.Idx) (q : Fin 2048) (h : (j 1).val = 1) (hq : (j 0).val * 512 + (j 2).val = q.val) :
    TAP X0 X1 j = ∑ x : Fin 4096, (if h : 1 + x.val < 2 then 0 else X1 (ix3 1 ⟨1 + x.val - 2, by omega⟩ q) * X1 (ix3 2 ⟨1 + x.val - 2, by omega⟩ q)) * (X1 (ix3 0 x q) * X0 (ix2 x q)) := by
  obtain ⟨q, lt⟩ := q
  simp only at hq
  subst hq
  rw [tapE, dif_pos ⟨by omega, by omega⟩, dif_neg (by omega), dif_pos ⟨by omega, by omega⟩, dif_neg (by omega), zero_add, add_zero, Fintype.sum_unique]

theorem tap2 (X0 : FVec Ideal S4096x2048 .f32) (X1 : FVec Ideal S3x4096x2048 .f32) (j : S4x8x512.Idx) (q : Fin 2048) (h : (j 1).val = 2) (hq : (j 0).val * 512 + (j 2).val = q.val) :
    TAP X0 X1 j = ∑ x : Fin 4096, X1 (ix3 1 x q) * X1 (ix3 2 x q) * (X1 (ix3 0 x q) * X0 (ix2 x q)) := by
  obtain ⟨q, lt⟩ := q
  simp only at hq
  subst hq
  rw [tapE, dif_pos ⟨by omega, by omega⟩, dif_pos ⟨by omega, by omega⟩, dif_neg (by omega), dif_neg (by omega), add_zero, add_zero, Fintype.sum_unique]

theorem tap3 (X0 : FVec Ideal S4096x2048 .f32) (X1 : FVec Ideal S3x4096x2048 .f32) (j : S4x8x512.Idx) (h : 3 ≤ (j 1).val) :
    TAP X0 X1 j = 0 := by
  rw [tapE, dif_neg (by omega)]
  simp [FloatOps.sitofp]

/-- The kernel's sums for the taps. -/
theorem kern_tap0 (d : FVec Ideal S4096x128 .f32) (b u v : FVec Ideal S1x4096x128 .f32) (k : Fin 128) :
    k0_pay1 (F := Ideal) (k0_pay18 (F := Ideal) (k0_pay5 (F := Ideal) b) d (k0_pay11 (F := Ideal) u v)) (ix3 0 0 k) =
      ∑ x : Fin 4096, if 2 ≤ x.val then d (ix2 x k) * b (ix3 0 x k) * (u (ix3 0 ⟨(x.val + 4096 - 2) % 4096, by omega⟩ k) * v (ix3 0 ⟨(x.val + 4096 - 2) % 4096, by omega⟩ k)) else 0 := by
  refine Eq.trans ?_ (Finset.sum_congr rfl fun x _ => sel x.val 2 x.isLt (by omega) _ _)
  pointwise [k0_pay1, k0_pay18, k0_pay14, k0_pay5, k0_pay11, k0_pay9, k0_pay6, k0_pay7]

theorem kern_tap1 (d : FVec Ideal S4096x128 .f32) (b u v : FVec Ideal S1x4096x128 .f32) (k : Fin 128) :
    k0_pay2 (F := Ideal) (k0_pay10 (F := Ideal) u v) (k0_pay14 (F := Ideal) (k0_pay5 (F := Ideal) b) d) (ix3 0 0 k) =
      ∑ x : Fin 4096, if 1 ≤ x.val then d (ix2 x k) * b (ix3 0 x k) * (u (ix3 0 ⟨(x.val + 4096 - 1) % 4096, by omega⟩ k) * v (ix3 0 ⟨(x.val + 4096 - 1) % 4096, by omega⟩ k)) else 0 := by
  refine Eq.trans ?_ (Finset.sum_congr rfl fun x _ => sel x.val 1 x.isLt (by omega) _ _)
  pointwise [k0_pay2, k0_pay14, k0_pay5, k0_pay10, k0_pay9, k0_pay6, k0_pay7]

theorem kern_tap2 (d : FVec Ideal S4096x128 .f32) (b u v : FVec Ideal S1x4096x128 .f32) (k : Fin 128) :
    k0_pay3 (F := Ideal) (k0_pay9 (F := Ideal) u v) (k0_pay14 (F := Ideal) (k0_pay5 (F := Ideal) b) d) (ix3 0 0 k) =
      ∑ x : Fin 4096, d (ix2 x k) * b (ix3 0 x k) * (u (ix3 0 x k) * v (ix3 0 x k)) := by
  pointwise [k0_pay3, k0_pay14, k0_pay5, k0_pay9, k0_pay6, k0_pay7]

theorem kern_tap3 (x : S1x5x128.Idx) : k0_pay4 (F := Ideal) x = 0 := by
  pointwise [k0_pay4]

section
variable {X0 : FVec Ideal S4096x2048 .f32} {X1 : FVec Ideal S3x4096x2048 .f32} {X2 : FVec Ideal S3x2048 .f32}
  {d : FVec Ideal S4096x128 .f32} {b u v : FVec Ideal S1x4096x128 .f32} {w : FVec Ideal S1x8x128 .f32} {n : Fin 16}
  (H : Blocks X0 X1 X2 d b u v w n) (k : Fin 128) (j : S4x8x512.Idx) (hq : (j 0).val * 512 + (j 2).val = 128 * n.val + k.val)

include H hq

theorem row0 (h : (j 1).val = 0) :
    k0_pay1 (F := Ideal) (k0_pay18 (F := Ideal) (k0_pay5 (F := Ideal) b) d (k0_pay11 (F := Ideal) u v)) (ix3 0 0 k) = TAP X0 X1 j := by
  rw [kern_tap0, tap0 X0 X1 j ⟨128 * n.val + k.val, by omega⟩ h hq]
  refine Finset.sum_congr rfl fun x _ => ?_
  by_cases h2 : 2 ≤ x.val
  · rw [if_pos h2, dif_pos h2, H.d, H.b, H.u, H.v, mul_comm, mul_comm (X0 _)]
    have e : (⟨(x.val + 4096 - 2) % 4096, by omega⟩ : Fin 4096) = ⟨x.val - 2, by omega⟩ := Fin.ext (by simp only []; omega)
    exact congrArg (fun a => X1 (ix3 1 a _) * X1 (ix3 2 a _) * _) e
  · rw [if_neg h2, dif_neg h2]

theorem row1 (h : (j 1).val = 1) :
    k0_pay2 (F := Ideal) (k0_pay10 (F := Ideal) u v) (k0_pay14 (F := Ideal) (k0_pay5 (F := Ideal) b) d) (ix3 0 0 k) = TAP X0 X1 j := by
  rw [kern_tap1, tap1 X0 X1 j ⟨128 * n.val + k.val, by omega⟩ h hq]
  refine Finset.sum_congr rfl fun x _ => ?_
  by_cases h2 : 1 ≤ x.val
  · rw [if_pos h2, dif_neg (by omega), H.d, H.b, H.u, H.v, mul_comm, mul_comm (X0 _)]
    have e : (⟨(x.val + 4096 - 1) % 4096, by omega⟩ : Fin 4096) = ⟨1 + x.val - 2, by omega⟩ := Fin.ext (by simp only []; omega)
    exact congrArg (fun a => X1 (ix3 1 a _) * X1 (ix3 2 a _) * _) e
  · rw [if_neg h2, dif_pos (by omega), zero_mul]

theorem row2 (h : (j 1).val = 2) :
    k0_pay3 (F := Ideal) (k0_pay9 (F := Ideal) u v) (k0_pay14 (F := Ideal) (k0_pay5 (F := Ideal) b) d) (ix3 0 0 k) = TAP X0 X1 j := by
  rw [kern_tap2, tap2 X0 X1 j ⟨128 * n.val + k.val, by omega⟩ h hq]
  refine Finset.sum_congr rfl fun x _ => ?_
  rw [H.d, H.b, H.u, H.v, mul_comm, mul_comm (X0 _)]

end

theorem block (c : Dev nD) (t : Fin cfg0.N) (ht : t.val < 16) :
    Blocks (m ((c.tc : Thread nD τ).loc main_arg0)) (m ((c.tc : Thread nD τ).loc main_arg1)) (m ((c.tc : Thread nD τ).loc main_arg2))
      (iblk m c 0 t) (iblk m c 1 t) (iblk m c 2 t) (iblk m c 3 t) (iblk m c 4 t) ⟨t.val, ht⟩ := by
  refine ⟨?_, ?_, ?_, ?_, ?_⟩
  · intro r k; blk_ext! [iblk, V, idx t]
  · intro r k; blk_ext! [iblk, V, idx t]
  · intro r k; blk_ext! [iblk, V, idx t]
  · intro r k; blk_ext! [iblk, V, idx t]
  · intro r k
    blk_simp [iblk]
    have hr := r.isLt
    rw [V2, taps _ _ (by blk_simp [idx t]; try omega)]
    refine congrArg _ (congr (congrArg ix2 (Fin.ext ?_)) (Fin.ext ?_))
    · blk_simp [idx t]; try omega
    · blk_simp [idx t]; simp only [Fin.val_zero]; omega

/-- The array of the parts' gradients that the launch leaves is the reference's. -/
theorem final (c : Dev nD) : (dats m 0 c).arrAt 5 (cfgs 0).N =
    REF (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  have ht := (idx t).2.2.2.2.2.2.2
  have H := block m c t ht
  blk_simp
  rw [after0_5]
  unfold outsAt0
  frame_out
  canon_tiles x h
  · obtain ⟨z, r, k, rfl⟩ : ∃ z r k, x = ix3 z r k := ⟨_, _, _, eq_ix3 x⟩
    obtain rfl : z = 0 := Subsingleton.elim _ _
    have k2 : (y 2).val = k.val := h2
    refine (part2 H r k).trans (congrArg _ ((congr (congr (congrArg ix3 (Fin.ext ?_)) (Fin.ext ?_)) (Fin.ext ?_)).trans (eq_ix3 _).symm))
    · blk_simp [idx t]; exact h0.symm
    · blk_simp [idx t]; exact h1.symm
    · blk_simp [idx t]; rw [k2]; dsimp only; omega
  · obtain ⟨z, r, k, rfl⟩ : ∃ z r k, x = ix3 z r k := ⟨_, _, _, eq_ix3 x⟩
    obtain rfl : z = 0 := Subsingleton.elim _ _
    have k2 : (y 2).val = k.val := h2
    refine (part1 H r k).trans (congrArg _ ((congr (congr (congrArg ix3 (Fin.ext ?_)) (Fin.ext ?_)) (Fin.ext ?_)).trans (eq_ix3 _).symm))
    · blk_simp [idx t]; exact h0.symm
    · blk_simp [idx t]; exact h1.symm
    · blk_simp [idx t]; rw [k2]; dsimp only; omega
  · obtain ⟨z, r, k, rfl⟩ : ∃ z r k, x = ix3 z r k := ⟨_, _, _, eq_ix3 x⟩
    obtain rfl : z = 0 := Subsingleton.elim _ _
    have k2 : (y 2).val = k.val := h2
    refine (part0 H r k).trans (congrArg _ ((congr (congr (congrArg ix3 (Fin.ext ?_)) (Fin.ext ?_)) (Fin.ext ?_)).trans (eq_ix3 _).symm))
    · blk_simp [idx t]; exact h0.symm
    · blk_simp [idx t]; exact h1.symm
    · blk_simp [idx t]; rw [k2]; dsimp only; omega

theorem finalTap (c : Dev nD) : (dats m 0 c).arrAt 6 (cfgs 0).N =
    TAP (m ((c.tc : Thread nD τ).loc main_arg0)) (m ((c.tc : Thread nD τ).loc main_arg1)) := by
  refine (dats m 0 c).arrAt_eq_of_covers 6 _ (by decide +kernel) fun t _ y => ?_
  have ht := (idx t).2.2.2.2.2.2.2
  have H := block m c t ht
  blk_simp
  rw [after0_6]
  unfold outsAt0
  frame_out
  have a0 : (y 0).val < 1 := (y 0).isLt
  have a1 : (y 1).val < 8 := (y 1).isLt
  have a2 : (y 2).val < 128 := (y 2).isLt
  have hc : (3 ≤ (y 1).val ∨ (y 1).val = 2) ∨ (y 1).val = 1 ∨ (y 1).val = 0 := by omega
  canon_tiles x h using (by
    rcases hc with (e | e) | e | e
    · refine ⟨_, List.mem_cons_self .., ?_⟩
      refine (Rect.mem_set_unit (inb := inb_S1x8x128_S1x5x128_0_3_0)).mpr ?_
      intro a; fin_cases a <;> dsimp <;> omega
    · refine ⟨_, List.mem_cons_of_mem _ (List.mem_cons_self ..), ?_⟩
      refine (Rect.mem_set_unit (inb := inb_S1x8x128_S1x1x128_0_2_0)).mpr ?_
      intro a; fin_cases a <;> dsimp <;> omega
    · refine ⟨_, List.mem_cons_of_mem _ (List.mem_cons_of_mem _ (List.mem_cons_self ..)), ?_⟩
      refine (Rect.mem_set_unit (inb := inb_S1x8x128_S1x1x128_0_1_0)).mpr ?_
      intro a; fin_cases a <;> dsimp <;> omega
    · refine ⟨_, List.mem_cons_of_mem _ (List.mem_cons_of_mem _ (List.mem_cons_of_mem _ (List.mem_cons_self ..))), ?_⟩
      refine (Rect.mem_set_unit (inb := inb_S1x8x128_S1x1x128_0_0_0)).mpr ?_
      intro a; fin_cases a <;> dsimp <;> omega)
  · rw [kern_tap3, tap3]
    blk_simp [idx t]; omega
  · obtain ⟨z, r, k, rfl⟩ : ∃ z r k, x = ix3 z r k := ⟨_, _, _, eq_ix3 x⟩
    obtain rfl : z = 0 := Subsingleton.elim _ _
    obtain rfl : r = 0 := Subsingleton.elim _ _
    have k1 : (y 1).val = 2 := h1
    have k2 : (y 2).val = k.val := h2
    refine (row2 H k _ ?_ ?_)
    · blk_simp [idx t]; rw [k2]; dsimp only; omega
    · blk_simp [idx t]; exact k1
  · obtain ⟨z, r, k, rfl⟩ : ∃ z r k, x = ix3 z r k := ⟨_, _, _, eq_ix3 x⟩
    obtain rfl : z = 0 := Subsingleton.elim _ _
    obtain rfl : r = 0 := Subsingleton.elim _ _
    have k1 : (y 1).val = 1 := h1
    have k2 : (y 2).val = k.val := h2
    refine (row1 H k _ ?_ ?_)
    · blk_simp [idx t]; rw [k2]; dsimp only; omega
    · blk_simp [idx t]; exact k1
  · obtain ⟨z, r, k, rfl⟩ : ∃ z r k, x = ix3 z r k := ⟨_, _, _, eq_ix3 x⟩
    obtain rfl : z = 0 := Subsingleton.elim _ _
    obtain rfl : r = 0 := Subsingleton.elim _ _
    have k1 : (y 1).val = 0 := h1
    have k2 : (y 2).val = k.val := h2
    refine (row0 H k _ ?_ ?_)
    · blk_simp [idx t]; rw [k2]; dsimp only; omega
    · blk_simp [idx t]; exact k1
end Cert.ConvBwdIdeal.Pool
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DownData
public import proofs.«01_k».proof.Proof.Gen.DownData.Skeleton
public import proofs.«01_k».proof.Proof.Gen.DownData.Launch
public import proofs.«01_k».proof.Proof.Gen.DownData.Points
public import proofs.«01_k».proof.Proof.Gen.DownData.Frame
public import proofs.«01_k».proof.Proof.Gen.DownDataIdeal
public import proofs.«01_k».proof.Proof.Gen.DownDataIdeal.Skeleton
public import proofs.«01_k».proof.Proof.Gen.DownDataIdeal.Launch
public import proofs.«01_k».proof.Proof.Gen.DownDataIdeal.Points
public import proofs.«01_k».proof.Proof.Gen.DownDataIdeal.Frame
public import proofs.«01_k».proof.Proof.Gen.DownDataRefIdeal
public import proofs.«01_k».proof.Proof.Gen.DownWeight
public import proofs.«01_k».proof.Proof.Gen.DownWeight.Skeleton
public import proofs.«01_k».proof.Proof.Gen.DownWeight.Launch
public import proofs.«01_k».proof.Proof.Gen.DownWeight.Points
public import proofs.«01_k».proof.Proof.Gen.DownWeight.Frame
public import proofs.«01_k».proof.Proof.Gen.DownWeightIdeal
public import proofs.«01_k».proof.Proof.Gen.DownWeightIdeal.Skeleton
public import proofs.«01_k».proof.Proof.Gen.DownWeightIdeal.Launch
public import proofs.«01_k».proof.Proof.Gen.DownWeightIdeal.Points
public import proofs.«01_k».proof.Proof.Gen.DownWeightIdeal.Frame
public import proofs.«01_k».proof.Proof.Gen.DownWeightRefIdeal
public import proofs.«01_k».proof.Proof.Gen.UpData
public import proofs.«01_k».proof.Proof.Gen.UpData.Skeleton
public import proofs.«01_k».proof.Proof.Gen.UpData.Launch
public import proofs.«01_k».proof.Proof.Gen.UpData.Points
public import proofs.«01_k».proof.Proof.Gen.UpData.Frame
public import proofs.«01_k».proof.Proof.Gen.UpDataIdeal
public import proofs.«01_k».proof.Proof.Gen.UpDataIdeal.Skeleton
public import proofs.«01_k».proof.Proof.Gen.UpDataIdeal.Launch
public import proofs.«01_k».proof.Proof.Gen.UpDataIdeal.Points
public import proofs.«01_k».proof.Proof.Gen.UpDataIdeal.Frame
public import proofs.«01_k».proof.Proof.Gen.UpDataRefIdeal
public import proofs.«01_k».proof.Proof.Gen.UpWeight
public import proofs.«01_k».proof.Proof.Gen.UpWeight.Skeleton
public import proofs.«01_k».proof.Proof.Gen.UpWeight.Launch
public import proofs.«01_k».proof.Proof.Gen.UpWeight.Points
public import proofs.«01_k».proof.Proof.Gen.UpWeight.Frame
public import proofs.«01_k».proof.Proof.Gen.UpWeightIdeal
public import proofs.«01_k».proof.Proof.Gen.UpWeightIdeal.Skeleton
public import proofs.«01_k».proof.Proof.Gen.UpWeightIdeal.Launch
public import proofs.«01_k».proof.Proof.Gen.UpWeightIdeal.Points
public import proofs.«01_k».proof.Proof.Gen.UpWeightIdeal.Frame
public import proofs.«01_k».proof.Proof.Gen.UpWeightRefIdeal
public import proofs.«01_k».proof.Proof.Gen.DownDataIdeal.Value
public import proofs.«01_k».proof.Proof.Gen.DownDataRefIdeal.Run
public import proofs.«01_k».proof.Proof.Gen.DownWeightIdeal.Value
public import proofs.«01_k».proof.Proof.Gen.DownWeightRefIdeal.Run
public import proofs.«01_k».proof.Proof.Gen.UpDataIdeal.Value
public import proofs.«01_k».proof.Proof.Gen.UpDataRefIdeal.Run
public import proofs.«01_k».proof.Proof.Gen.UpWeightIdeal.Value
public import proofs.«01_k».proof.Proof.Gen.UpWeightRefIdeal.Run
public import proofs.«01_k».proof.Proof.Gen.KernelIdeal.Value
public import proofs.«01_k».proof.Proof.Gen.ReferenceIdeal.Run
public import proofs.«01_k».proof.Proof.Attn.Finite
public import proofs.«01_k».proof.Proof.Attn.Host
public import proofs.«01_k».proof.Proof.Ffn.DownData
public import proofs.«01_k».proof.Proof.Ffn.DownWeight
public import proofs.«01_k».proof.Proof.Ffn.UpData
public import proofs.«01_k».proof.Proof.Ffn.UpWeight
public import proofs.«01_k».proof.Proof.Proj.OutData
public import proofs.«01_k».proof.Proof.Proj.ConvOutData
public import proofs.«01_k».proof.Proof.Proj.OutWeight
public import proofs.«01_k».proof.Proof.Proj.QkvData
public import proofs.«01_k».proof.Proof.Proj.QkvWeight
public import proofs.«01_k».proof.Proof.Proj.FfnUp
public import proofs.«01_k».proof.Proof.Proj.FfnDown
public import proofs.«01_k».proof.Proof.Proj.Qkv
public import proofs.«01_k».proof.Proof.Proj.Out
public import proofs.«01_k».proof.Proof.Pool.PoolMix
public import proofs.«01_k».proof.Proof.Pool.PoolData
public import proofs.«01_k».proof.Proof.Pool.PoolWeight
public import proofs.«01_k».proof.Proof.Pool.PoolScale
public import proofs.«01_k».proof.Proof.Conv.Conv
public import proofs.«01_k».proof.Proof.Conv.ConvBwd
public import Idealize.ShloMosaic.Adequacy
public import Idealize.ShloMosaic.Init
public import Idealize.ShloMosaic.Lib.Claim
public import proofs.«01_k».proof.Proof.Gen.OutData
public import proofs.«01_k».proof.Proof.Gen.OutData.Skeleton
public import proofs.«01_k».proof.Proof.Gen.OutData.Launch
public import proofs.«01_k».proof.Proof.Gen.OutData.Points
public import proofs.«01_k».proof.Proof.Gen.OutData.Frame
public import proofs.«01_k».proof.Proof.Gen.OutDataIdeal
public import proofs.«01_k».proof.Proof.Gen.OutDataIdeal.Skeleton
public import proofs.«01_k».proof.Proof.Gen.OutDataIdeal.Launch
public import proofs.«01_k».proof.Proof.Gen.OutDataIdeal.Points
public import proofs.«01_k».proof.Proof.Gen.OutDataIdeal.Frame
public import proofs.«01_k».proof.Proof.Gen.OutDataRefIdeal
public import proofs.«01_k».proof.Proof.Gen.OutDataIdeal.Value
public import proofs.«01_k».proof.Proof.Gen.OutDataRefIdeal.Run
public import proofs.«01_k».proof.Proof.Gen.ConvOutData
public import proofs.«01_k».proof.Proof.Gen.ConvOutData.Skeleton
public import proofs.«01_k».proof.Proof.Gen.ConvOutData.Launch
public import proofs.«01_k».proof.Proof.Gen.ConvOutData.Points
public import proofs.«01_k».proof.Proof.Gen.ConvOutData.Frame
public import proofs.«01_k».proof.Proof.Gen.ConvOutDataIdeal
public import proofs.«01_k».proof.Proof.Gen.ConvOutDataIdeal.Skeleton
public import proofs.«01_k».proof.Proof.Gen.ConvOutDataIdeal.Launch
public import proofs.«01_k».proof.Proof.Gen.ConvOutDataIdeal.Points
public import proofs.«01_k».proof.Proof.Gen.ConvOutDataIdeal.Frame
public import proofs.«01_k».proof.Proof.Gen.ConvOutDataRefIdeal
public import proofs.«01_k».proof.Proof.Gen.ConvOutDataIdeal.Value
public import proofs.«01_k».proof.Proof.Gen.ConvOutDataRefIdeal.Run
public import proofs.«01_k».proof.Proof.Gen.OutWeight
public import proofs.«01_k».proof.Proof.Gen.OutWeight.Skeleton
public import proofs.«01_k».proof.Proof.Gen.OutWeight.Launch
public import proofs.«01_k».proof.Proof.Gen.OutWeight.Points
public import proofs.«01_k».proof.Proof.Gen.OutWeight.Frame
public import proofs.«01_k».proof.Proof.Gen.OutWeightIdeal
public import proofs.«01_k».proof.Proof.Gen.OutWeightIdeal.Skeleton
public import proofs.«01_k».proof.Proof.Gen.OutWeightIdeal.Launch
public import proofs.«01_k».proof.Proof.Gen.OutWeightIdeal.Points
public import proofs.«01_k».proof.Proof.Gen.OutWeightIdeal.Frame
public import proofs.«01_k».proof.Proof.Gen.OutWeightRefIdeal
public import proofs.«01_k».proof.Proof.Gen.OutWeightIdeal.Value
public import proofs.«01_k».proof.Proof.Gen.OutWeightRefIdeal.Run
public import proofs.«01_k».proof.Proof.Gen.QkvData
public import proofs.«01_k».proof.Proof.Gen.QkvData.Skeleton
public import proofs.«01_k».proof.Proof.Gen.QkvData.Launch
public import proofs.«01_k».proof.Proof.Gen.QkvData.Points
public import proofs.«01_k».proof.Proof.Gen.QkvData.Frame
public import proofs.«01_k».proof.Proof.Gen.QkvDataIdeal
public import proofs.«01_k».proof.Proof.Gen.QkvDataIdeal.Skeleton
public import proofs.«01_k».proof.Proof.Gen.QkvDataIdeal.Launch
public import proofs.«01_k».proof.Proof.Gen.QkvDataIdeal.Points
public import proofs.«01_k».proof.Proof.Gen.QkvDataIdeal.Frame
public import proofs.«01_k».proof.Proof.Gen.QkvDataRefIdeal
public import proofs.«01_k».proof.Proof.Gen.QkvDataIdeal.Value
public import proofs.«01_k».proof.Proof.Gen.QkvDataRefIdeal.Run
public import proofs.«01_k».proof.Proof.Gen.QkvWeight
public import proofs.«01_k».proof.Proof.Gen.QkvWeight.Skeleton
public import proofs.«01_k».proof.Proof.Gen.QkvWeight.Launch
public import proofs.«01_k».proof.Proof.Gen.QkvWeight.Points
public import proofs.«01_k».proof.Proof.Gen.QkvWeight.Frame
public import proofs.«01_k».proof.Proof.Gen.QkvWeightIdeal
public import proofs.«01_k».proof.Proof.Gen.QkvWeightIdeal.Skeleton
public import proofs.«01_k».proof.Proof.Gen.QkvWeightIdeal.Launch
public import proofs.«01_k».proof.Proof.Gen.QkvWeightIdeal.Points
public import proofs.«01_k».proof.Proof.Gen.QkvWeightIdeal.Frame
public import proofs.«01_k».proof.Proof.Gen.QkvWeightRefIdeal
public import proofs.«01_k».proof.Proof.Gen.QkvWeightIdeal.Value
public import proofs.«01_k».proof.Proof.Gen.QkvWeightRefIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpIdeal.Value
public import proofs.«01_k».proof.Proof.Gen.FfnUpRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownIdeal.Value
public import proofs.«01_k».proof.Proof.Gen.FfnDownRefIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvIdeal.Value
public import proofs.«01_k».proof.Proof.Gen.QkvRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.PoolMix
public import proofs.«01_k».proof.Proof.Gen.PoolMix.Skeleton
public import proofs.«01_k».proof.Proof.Gen.PoolMix.Launch
public import proofs.«01_k».proof.Proof.Gen.PoolMix.Points
public import proofs.«01_k».proof.Proof.Gen.PoolMix.Frame
public import proofs.«01_k».proof.Proof.Gen.PoolMixIdeal
public import proofs.«01_k».proof.Proof.Gen.PoolMixIdeal.Skeleton
public import proofs.«01_k».proof.Proof.Gen.PoolMixIdeal.Launch
public import proofs.«01_k».proof.Proof.Gen.PoolMixIdeal.Points
public import proofs.«01_k».proof.Proof.Gen.PoolMixIdeal.Frame
public import proofs.«01_k».proof.Proof.Gen.PoolMixRefIdeal
public import proofs.«01_k».proof.Proof.Gen.PoolMixIdeal.Value
public import proofs.«01_k».proof.Proof.Gen.PoolMixRefIdeal.Run
public import proofs.«01_k».proof.Proof.Gen.PoolData
public import proofs.«01_k».proof.Proof.Gen.PoolData.Skeleton
public import proofs.«01_k».proof.Proof.Gen.PoolData.Launch
public import proofs.«01_k».proof.Proof.Gen.PoolData.Points
public import proofs.«01_k».proof.Proof.Gen.PoolData.Frame
public import proofs.«01_k».proof.Proof.Gen.PoolDataIdeal
public import proofs.«01_k».proof.Proof.Gen.PoolDataIdeal.Skeleton
public import proofs.«01_k».proof.Proof.Gen.PoolDataIdeal.Launch
public import proofs.«01_k».proof.Proof.Gen.PoolDataIdeal.Points
public import proofs.«01_k».proof.Proof.Gen.PoolDataIdeal.Frame
public import proofs.«01_k».proof.Proof.Gen.PoolDataRefIdeal
public import proofs.«01_k».proof.Proof.Gen.PoolDataIdeal.Value
public import proofs.«01_k».proof.Proof.Gen.PoolDataRefIdeal.Run
public import proofs.«01_k».proof.Proof.Gen.PoolWeight
public import proofs.«01_k».proof.Proof.Gen.PoolWeight.Skeleton
public import proofs.«01_k».proof.Proof.Gen.PoolWeight.Launch
public import proofs.«01_k».proof.Proof.Gen.PoolWeight.Points
public import proofs.«01_k».proof.Proof.Gen.PoolWeight.Frame
public import proofs.«01_k».proof.Proof.Gen.PoolWeightIdeal
public import proofs.«01_k».proof.Proof.Gen.PoolWeightIdeal.Skeleton
public import proofs.«01_k».proof.Proof.Gen.PoolWeightIdeal.Launch
public import proofs.«01_k».proof.Proof.Gen.PoolWeightIdeal.Points
public import proofs.«01_k».proof.Proof.Gen.PoolWeightIdeal.Frame
public import proofs.«01_k».proof.Proof.Gen.PoolWeightRefIdeal
public import proofs.«01_k».proof.Proof.Gen.PoolWeightIdeal.Value
public import proofs.«01_k».proof.Proof.Gen.PoolWeightRefIdeal.Run
public import proofs.«01_k».proof.Proof.Gen.PoolScale
public import proofs.«01_k».proof.Proof.Gen.PoolScale.Skeleton
public import proofs.«01_k».proof.Proof.Gen.PoolScale.Launch
public import proofs.«01_k».proof.Proof.Gen.PoolScale.Points
public import proofs.«01_k».proof.Proof.Gen.PoolScale.Frame
public import proofs.«01_k».proof.Proof.Gen.PoolScaleIdeal
public import proofs.«01_k».proof.Proof.Gen.PoolScaleIdeal.Skeleton
public import proofs.«01_k».proof.Proof.Gen.PoolScaleIdeal.Launch
public import proofs.«01_k».proof.Proof.Gen.PoolScaleIdeal.Points
public import proofs.«01_k».proof.Proof.Gen.PoolScaleIdeal.Frame
public import proofs.«01_k».proof.Proof.Gen.PoolScaleRefIdeal
public import proofs.«01_k».proof.Proof.Gen.PoolScaleIdeal.Value
public import proofs.«01_k».proof.Proof.Gen.PoolScaleRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdRefIdeal
public import proofs.«01_k».proof.Proof.Gen.ConvBwdIdeal.Value
public import proofs.«01_k».proof.Proof.Gen.ConvBwdRefIdeal.Run

@[expose] public section

noncomputable section

namespace Cert.Proof

open Idealize.ShloMosaic Idealize.SL.Sem Cert.Kernel

/-- The reference's run, its arguments unchanged and its semaphores at zero. -/
theorem frame_reference : Cert.quiescent_ReferenceIdeal (hReferenceIdeal := Cert.ReferenceIdeal.Gen.facts) := by
  intro m g _
  exact (θ_run _ _ _).mono (fun r h => ⟨fun c => (h c).2.2.2,
    Idealize.ShloMosaic.sem_eq_zero_of_no_sems (by decide) r.2⟩) (Cert.ReferenceIdeal.Value.run m g)

/-- The gradients of the launch are the reference's. -/
theorem value : Cert.algebraic_KernelIdeal_ReferenceIdeal_pre_finite (hKernelIdeal := Cert.KernelIdeal.Gen.facts)
    (hReferenceIdeal := Cert.ReferenceIdeal.Gen.facts) (hPre_finite := Cert.KernelIdeal.Attn.preFacts) := by
  intro m g m' g' hp ha
  have := Cert.KernelIdeal.Attn.preFacts
  have hf := fun c => Cert.KernelIdeal.Attn.finite_args _ _ _ _ (fun j => congrFun (hp c) j)
  have hI := fun c => Cert.KernelIdeal.Attn.inputs m c (hf c).1 (hf c).2.1 (hf c).2.2.1 (hf c).2.2.2
  refine ⟨_, _, _, (θ_run _ _ _).mono (fun r h c => ⟨(h c).1.trans (Cert.KernelIdeal.Attn.array6 m c (hI c)),
    (h c).2.1.trans (Cert.KernelIdeal.Attn.array7 m c (hI c)), (h c).2.2.1.trans (Cert.KernelIdeal.Attn.array8 m c (hI c)),
    (h c).2.2.2⟩) (Cert.KernelIdeal.Value.run_blocks m g),
    (θ_run _ _ _).mono (fun r h c => ⟨(h c).1.trans ?_, (h c).2.1.trans ?_, (h c).2.2.1.trans ?_, (h c).2.2.2⟩)
      (Cert.ReferenceIdeal.Value.run m' g')⟩
  · rw [Cert.ReferenceIdeal.Read.val_main_v44_eq, (ha c).1, (ha c).2.1, (ha c).2.2.1, (ha c).2.2.2]
    exact Cert.KernelIdeal.Attn.ref_dq (hf c).1 (hf c).2.1 (hf c).2.2.1 (hf c).2.2.2
  · rw [Cert.ReferenceIdeal.Read.val_main_v43_eq, (ha c).1, (ha c).2.1, (ha c).2.2.1, (ha c).2.2.2]
    exact Cert.KernelIdeal.Attn.ref_dk (hf c).1 (hf c).2.1 (hf c).2.2.1 (hf c).2.2.2
  · rw [Cert.ReferenceIdeal.Read.val_main_v28_eq, (ha c).1, (ha c).2.1, (ha c).2.2.2]
    exact Cert.KernelIdeal.Attn.ref_dv (hf c).1 (hf c).2.1 (hf c).2.2.2

/-- The same of the reference of the first backward launch of the feed-forward block. -/
theorem frame_downData : Cert.quiescent_DownDataRefIdeal (hDownDataRefIdeal := Cert.DownDataRefIdeal.Gen.facts) := by
  intro m g _
  exact (θ_run _ _ _).mono (fun r h => ⟨fun c => (h c).2.2,
    Idealize.ShloMosaic.sem_eq_zero_of_no_sems (by decide) r.2⟩) (Cert.DownDataRefIdeal.Value.run m g)

/-- The same of the reference of the second. -/
theorem frame_downWeight : Cert.quiescent_DownWeightRefIdeal (hDownWeightRefIdeal := Cert.DownWeightRefIdeal.Gen.facts) := by
  intro m g _
  exact (θ_run _ _ _).mono (fun r h => ⟨fun c => (h c).2,
    Idealize.ShloMosaic.sem_eq_zero_of_no_sems (by decide) r.2⟩) (Cert.DownWeightRefIdeal.Value.run m g)

/-- The same of the reference of the third. -/
theorem frame_upData : Cert.quiescent_UpDataRefIdeal (hUpDataRefIdeal := Cert.UpDataRefIdeal.Gen.facts) := by
  intro m g _
  exact (θ_run _ _ _).mono (fun r h => ⟨fun c => (h c).2,
    Idealize.ShloMosaic.sem_eq_zero_of_no_sems (by decide) r.2⟩) (Cert.UpDataRefIdeal.Value.run m g)

/-- The same of the reference of the fourth. -/
theorem frame_upWeight : Cert.quiescent_UpWeightRefIdeal (hUpWeightRefIdeal := Cert.UpWeightRefIdeal.Gen.facts) := by
  intro m g _
  exact (θ_run _ _ _).mono (fun r h => ⟨fun c => (h c).2.2,
    Idealize.ShloMosaic.sem_eq_zero_of_no_sems (by decide) r.2⟩) (Cert.UpWeightRefIdeal.Value.run m g)

/-- The gradients of the gate and of the second product are the reference's. -/
theorem value_downData : Cert.algebraic_DownDataIdeal_DownDataRefIdeal_pre_finite_down (hDownDataIdeal := Cert.DownDataIdeal.Gen.facts)
    (hDownDataRefIdeal := Cert.DownDataRefIdeal.Gen.facts) (hPre_finite_down := Cert.DownDataIdeal.Ffn.preFacts) := by
  intro m g m' g' hp ha
  have := Cert.DownDataIdeal.Ffn.preFacts
  have hf := fun c => Cert.DownDataIdeal.Ffn.finite_args _ _ _ _ (fun j => congrFun (hp c) j)
  refine ⟨_, _, (θ_run _ _ _).mono (fun r h c => ⟨(h c).1.trans (Cert.DownDataIdeal.Ffn.finalG m c (hf c).1 (hf c).2.1 (hf c).2.2),
    (h c).2.1.trans (Cert.DownDataIdeal.Ffn.finalU m c), (h c).2.2⟩) (Cert.DownDataIdeal.Value.run_blocks m g),
    (θ_run _ _ _).mono (fun r h c => ⟨(h c).1.trans ?_, (h c).2.1.trans ?_, (h c).2.2⟩) (Cert.DownDataRefIdeal.Value.run m' g')⟩
  · rw [(ha c).1, (ha c).2.1, (ha c).2.2.1, (ha c).2.2.2]
  · rw [(ha c).1, (ha c).2.1, (ha c).2.2.1]

/-- The gradient of the last weight is the reference's. -/
theorem value_downWeight : Cert.algebraic_DownWeightIdeal_DownWeightRefIdeal (hDownWeightIdeal := Cert.DownWeightIdeal.Gen.facts)
    (hDownWeightRefIdeal := Cert.DownWeightRefIdeal.Gen.facts) := by
  intro m g m' g' _ ha
  refine ⟨_, (θ_run _ _ _).mono (fun r h c => ⟨(h c).1.trans (Cert.DownWeightIdeal.Ffn.final m c), (h c).2⟩) (Cert.DownWeightIdeal.Value.run_blocks m g),
    (θ_run _ _ _).mono (fun r h c => ⟨(h c).1.trans ?_, (h c).2⟩) (Cert.DownWeightRefIdeal.Value.run m' g')⟩
  · rw [(ha c).1, (ha c).2]

/-- The gradient that reaches the feed-forward block's input is the reference's. -/
theorem value_upData : Cert.algebraic_UpDataIdeal_UpDataRefIdeal (hUpDataIdeal := Cert.UpDataIdeal.Gen.facts)
    (hUpDataRefIdeal := Cert.UpDataRefIdeal.Gen.facts) := by
  intro m g m' g' _ ha
  refine ⟨_, (θ_run _ _ _).mono (fun r h c => ⟨(h c).1.trans (Cert.UpDataIdeal.Ffn.final m c), (h c).2⟩) (Cert.UpDataIdeal.Value.run_blocks m g),
    (θ_run _ _ _).mono (fun r h c => ⟨(h c).1.trans ?_, (h c).2⟩) (Cert.UpDataRefIdeal.Value.run m' g')⟩
  · rw [(ha c).1, (ha c).2.1, (ha c).2.2.1, (ha c).2.2.2]

/-- The gradients of the first two weights are the reference's. -/
theorem value_upWeight : Cert.algebraic_UpWeightIdeal_UpWeightRefIdeal (hUpWeightIdeal := Cert.UpWeightIdeal.Gen.facts)
    (hUpWeightRefIdeal := Cert.UpWeightRefIdeal.Gen.facts) := by
  intro m g m' g' _ ha
  refine ⟨_, _, (θ_run _ _ _).mono (fun r h c => ⟨(h c).1.trans (Cert.UpWeightIdeal.Ffn.finalGate m c), (h c).2.1.trans (Cert.UpWeightIdeal.Ffn.finalUp m c), (h c).2.2⟩) (Cert.UpWeightIdeal.Value.run_blocks m g),
    (θ_run _ _ _).mono (fun r h c => ⟨(h c).1.trans ?_, (h c).2.1.trans ?_, (h c).2.2⟩) (Cert.UpWeightRefIdeal.Value.run m' g')⟩
  · rw [(ha c).1, (ha c).2.1]
  · rw [(ha c).1, (ha c).2.2]

theorem frame_outData : Cert.quiescent_OutDataRefIdeal (hOutDataRefIdeal := Cert.OutDataRefIdeal.Gen.facts) := by
  intro m g _
  exact (θ_run _ _ _).mono (fun r h => ⟨fun c => (h c).2,
    Idealize.ShloMosaic.sem_eq_zero_of_no_sems (by decide) r.2⟩) (Cert.OutDataRefIdeal.Value.run m g)

theorem frame_convOutData : Cert.quiescent_ConvOutDataRefIdeal (hConvOutDataRefIdeal := Cert.ConvOutDataRefIdeal.Gen.facts) := by
  intro m g _
  exact (θ_run _ _ _).mono (fun r h => ⟨fun c => (h c).2,
    Idealize.ShloMosaic.sem_eq_zero_of_no_sems (by decide) r.2⟩) (Cert.ConvOutDataRefIdeal.Value.run m g)

theorem frame_outWeight : Cert.quiescent_OutWeightRefIdeal (hOutWeightRefIdeal := Cert.OutWeightRefIdeal.Gen.facts) := by
  intro m g _
  exact (θ_run _ _ _).mono (fun r h => ⟨fun c => (h c).2,
    Idealize.ShloMosaic.sem_eq_zero_of_no_sems (by decide) r.2⟩) (Cert.OutWeightRefIdeal.Value.run m g)

theorem frame_qkvData : Cert.quiescent_QkvDataRefIdeal (hQkvDataRefIdeal := Cert.QkvDataRefIdeal.Gen.facts) := by
  intro m g _
  exact (θ_run _ _ _).mono (fun r h => ⟨fun c => (h c).2,
    Idealize.ShloMosaic.sem_eq_zero_of_no_sems (by decide) r.2⟩) (Cert.QkvDataRefIdeal.Value.run m g)

theorem frame_qkvWeight : Cert.quiescent_QkvWeightRefIdeal (hQkvWeightRefIdeal := Cert.QkvWeightRefIdeal.Gen.facts) := by
  intro m g _
  exact (θ_run _ _ _).mono (fun r h => ⟨fun c => (h c).2,
    Idealize.ShloMosaic.sem_eq_zero_of_no_sems (by decide) r.2⟩) (Cert.QkvWeightRefIdeal.Value.run m g)

theorem frame_ffnUp : Cert.quiescent_FfnUpRefIdeal (hFfnUpRefIdeal := Cert.FfnUpRefIdeal.Gen.facts) := by
  intro m g _
  exact (θ_run _ _ _).mono (fun r h => ⟨fun c => (h c).2.2.2,
    Idealize.ShloMosaic.sem_eq_zero_of_no_sems (by decide) r.2⟩) (Cert.FfnUpRefIdeal.Value.run m g)

theorem frame_ffnDown : Cert.quiescent_FfnDownRefIdeal (hFfnDownRefIdeal := Cert.FfnDownRefIdeal.Gen.facts) := by
  intro m g _
  exact (θ_run _ _ _).mono (fun r h => ⟨fun c => (h c).2,
    Idealize.ShloMosaic.sem_eq_zero_of_no_sems (by decide) r.2⟩) (Cert.FfnDownRefIdeal.Value.run m g)

theorem frame_qkv : Cert.quiescent_QkvRefIdeal (hQkvRefIdeal := Cert.QkvRefIdeal.Gen.facts) := by
  intro m g _
  exact (θ_run _ _ _).mono (fun r h => ⟨fun c => (h c).2,
    Idealize.ShloMosaic.sem_eq_zero_of_no_sems (by decide) r.2⟩) (Cert.QkvRefIdeal.Value.run m g)

theorem frame_out : Cert.quiescent_OutRefIdeal (hOutRefIdeal := Cert.OutRefIdeal.Gen.facts) := by
  intro m g _
  exact (θ_run _ _ _).mono (fun r h => ⟨fun c => (h c).2,
    Idealize.ShloMosaic.sem_eq_zero_of_no_sems (by decide) r.2⟩) (Cert.OutRefIdeal.Value.run m g)

/-- The gradient that reaches the attention's output is the reference's. -/
theorem value_outData : Cert.algebraic_OutDataIdeal_OutDataRefIdeal (hOutDataIdeal := Cert.OutDataIdeal.Gen.facts)
    (hOutDataRefIdeal := Cert.OutDataRefIdeal.Gen.facts) := by
  intro m g m' g' _ ha
  refine ⟨_, (θ_run _ _ _).mono (fun r h c => ⟨(h c).1.trans (Cert.OutDataIdeal.Proj.final m c), (h c).2⟩) (Cert.OutDataIdeal.Value.run_blocks m g),
    (θ_run _ _ _).mono (fun r h c => ⟨(h c).1.trans ?_, (h c).2⟩) (Cert.OutDataRefIdeal.Value.run m' g')⟩
  · rw [(ha c).1, (ha c).2]

/-- The gradient that reaches the gated convolution's output is the reference's. -/
theorem value_convOutData : Cert.algebraic_ConvOutDataIdeal_ConvOutDataRefIdeal (hConvOutDataIdeal := Cert.ConvOutDataIdeal.Gen.facts)
    (hConvOutDataRefIdeal := Cert.ConvOutDataRefIdeal.Gen.facts) := by
  intro m g m' g' _ ha
  refine ⟨_, (θ_run _ _ _).mono (fun r h c => ⟨(h c).1.trans (Cert.ConvOutDataIdeal.Proj.final m c), (h c).2⟩) (Cert.ConvOutDataIdeal.Value.run_blocks m g),
    (θ_run _ _ _).mono (fun r h c => ⟨(h c).1.trans ?_, (h c).2⟩) (Cert.ConvOutDataRefIdeal.Value.run m' g')⟩
  · rw [(ha c).1, (ha c).2]

/-- The gradient of a mixer's output weight is the reference's. -/
theorem value_outWeight : Cert.algebraic_OutWeightIdeal_OutWeightRefIdeal (hOutWeightIdeal := Cert.OutWeightIdeal.Gen.facts)
    (hOutWeightRefIdeal := Cert.OutWeightRefIdeal.Gen.facts) := by
  intro m g m' g' _ ha
  refine ⟨_, (θ_run _ _ _).mono (fun r h c => ⟨(h c).1.trans (Cert.OutWeightIdeal.Proj.final m c), (h c).2⟩) (Cert.OutWeightIdeal.Value.run_blocks m g),
    (θ_run _ _ _).mono (fun r h c => ⟨(h c).1.trans ?_, (h c).2⟩) (Cert.OutWeightRefIdeal.Value.run m' g')⟩
  · rw [(ha c).1, (ha c).2]

/-- The gradient that reaches a mixer's input is the reference's. -/
theorem value_qkvData : Cert.algebraic_QkvDataIdeal_QkvDataRefIdeal (hQkvDataIdeal := Cert.QkvDataIdeal.Gen.facts)
    (hQkvDataRefIdeal := Cert.QkvDataRefIdeal.Gen.facts) := by
  intro m g m' g' _ ha
  refine ⟨_, (θ_run _ _ _).mono (fun r h c => ⟨(h c).1.trans (Cert.QkvDataIdeal.Proj.final m c), (h c).2⟩) (Cert.QkvDataIdeal.Value.run_blocks m g),
    (θ_run _ _ _).mono (fun r h c => ⟨(h c).1.trans ?_, (h c).2⟩) (Cert.QkvDataRefIdeal.Value.run m' g')⟩
  · rw [(ha c).1, (ha c).2]; rfl

/-- The gradient of a mixer's combined projection is the reference's. -/
theorem value_qkvWeight : Cert.algebraic_QkvWeightIdeal_QkvWeightRefIdeal (hQkvWeightIdeal := Cert.QkvWeightIdeal.Gen.facts)
    (hQkvWeightRefIdeal := Cert.QkvWeightRefIdeal.Gen.facts) := by
  intro m g m' g' _ ha
  refine ⟨_, (θ_run _ _ _).mono (fun r h c => ⟨(h c).1.trans (Cert.QkvWeightIdeal.Proj.final m c), (h c).2⟩) (Cert.QkvWeightIdeal.Value.run_blocks m g),
    (θ_run _ _ _).mono (fun r h c => ⟨(h c).1.trans ?_, (h c).2⟩) (Cert.QkvWeightRefIdeal.Value.run m' g')⟩
  · rw [(ha c).1, (ha c).2]; rfl

/-- The feed-forward block's first two products and their gated product are the reference's. -/
theorem value_ffnUp : Cert.algebraic_FfnUpIdeal_FfnUpRefIdeal (hFfnUpIdeal := Cert.FfnUpIdeal.Gen.facts)
    (hFfnUpRefIdeal := Cert.FfnUpRefIdeal.Gen.facts) := by
  intro m g m' g' _ ha
  refine ⟨_, _, _, (θ_run _ _ _).mono (fun r h c => ⟨(h c).1.trans (Cert.FfnUpIdeal.Proj.finalGate m c), (h c).2.1.trans (Cert.FfnUpIdeal.Proj.finalUp m c), (h c).2.2.1.trans (Cert.FfnUpIdeal.Proj.finalAct m c), (h c).2.2.2⟩) (Cert.FfnUpIdeal.Value.run_blocks m g),
    (θ_run _ _ _).mono (fun r h c => ⟨(h c).1.trans ?_, (h c).2.1.trans ?_, (h c).2.2.1.trans ?_, (h c).2.2.2⟩) (Cert.FfnUpRefIdeal.Value.run m' g')⟩
  · rw [(ha c).1, (ha c).2.1]
  · rw [(ha c).1, (ha c).2.2]
  · rw [(ha c).1, (ha c).2.1, (ha c).2.2]

/-- The feed-forward block's output is the reference's. -/
theorem value_ffnDown : Cert.algebraic_FfnDownIdeal_FfnDownRefIdeal (hFfnDownIdeal := Cert.FfnDownIdeal.Gen.facts)
    (hFfnDownRefIdeal := Cert.FfnDownRefIdeal.Gen.facts) := by
  intro m g m' g' _ ha
  refine ⟨_, (θ_run _ _ _).mono (fun r h c => ⟨(h c).1.trans (Cert.FfnDownIdeal.Proj.final m c), (h c).2⟩) (Cert.FfnDownIdeal.Value.run_blocks m g),
    (θ_run _ _ _).mono (fun r h c => ⟨(h c).1.trans ?_, (h c).2⟩) (Cert.FfnDownRefIdeal.Value.run m' g')⟩
  · rw [(ha c).1, (ha c).2.1, (ha c).2.2]

/-- A mixer's combined projection is the reference's. -/
theorem value_qkv : Cert.algebraic_QkvIdeal_QkvRefIdeal (hQkvIdeal := Cert.QkvIdeal.Gen.facts)
    (hQkvRefIdeal := Cert.QkvRefIdeal.Gen.facts) := by
  intro m g m' g' _ ha
  refine ⟨_, (θ_run _ _ _).mono (fun r h c => ⟨(h c).1.trans (Cert.QkvIdeal.Proj.final m c), (h c).2⟩) (Cert.QkvIdeal.Value.run_blocks m g),
    (θ_run _ _ _).mono (fun r h c => ⟨(h c).1.trans ?_, (h c).2⟩) (Cert.QkvRefIdeal.Value.run m' g')⟩
  · rw [(ha c).1, (ha c).2]; rfl

/-- A mixer's output is the reference's. -/
theorem value_out : Cert.algebraic_OutIdeal_OutRefIdeal (hOutIdeal := Cert.OutIdeal.Gen.facts)
    (hOutRefIdeal := Cert.OutRefIdeal.Gen.facts) := by
  intro m g m' g' _ ha
  refine ⟨_, (θ_run _ _ _).mono (fun r h c => ⟨(h c).1.trans (Cert.OutIdeal.Proj.final m c), (h c).2⟩) (Cert.OutIdeal.Value.run_blocks m g),
    (θ_run _ _ _).mono (fun r h c => ⟨(h c).1.trans ?_, (h c).2⟩) (Cert.OutRefIdeal.Value.run m' g')⟩
  · rw [(ha c).1, (ha c).2.1, (ha c).2.2]

theorem frame_poolMix : Cert.quiescent_PoolMixRefIdeal (hPoolMixRefIdeal := Cert.PoolMixRefIdeal.Gen.facts) := by
  intro m g _
  exact (θ_run _ _ _).mono (fun r h => ⟨fun c => (h c).2.2,
    Idealize.ShloMosaic.sem_eq_zero_of_no_sems (by decide) r.2⟩) (Cert.PoolMixRefIdeal.Value.run m g)

theorem frame_poolData : Cert.quiescent_PoolDataRefIdeal (hPoolDataRefIdeal := Cert.PoolDataRefIdeal.Gen.facts) := by
  intro m g _
  exact (θ_run _ _ _).mono (fun r h => ⟨fun c => (h c).2,
    Idealize.ShloMosaic.sem_eq_zero_of_no_sems (by decide) r.2⟩) (Cert.PoolDataRefIdeal.Value.run m g)

theorem frame_poolWeight : Cert.quiescent_PoolWeightRefIdeal (hPoolWeightRefIdeal := Cert.PoolWeightRefIdeal.Gen.facts) := by
  intro m g _
  exact (θ_run _ _ _).mono (fun r h => ⟨fun c => (h c).2,
    Idealize.ShloMosaic.sem_eq_zero_of_no_sems (by decide) r.2⟩) (Cert.PoolWeightRefIdeal.Value.run m g)

theorem frame_poolScale : Cert.quiescent_PoolScaleRefIdeal (hPoolScaleRefIdeal := Cert.PoolScaleRefIdeal.Gen.facts) := by
  intro m g _
  exact (θ_run _ _ _).mono (fun r h => ⟨fun c => (h c).2.2,
    Idealize.ShloMosaic.sem_eq_zero_of_no_sems (by decide) r.2⟩) (Cert.PoolScaleRefIdeal.Value.run m g)

theorem frame_conv : Cert.quiescent_ConvRefIdeal (hConvRefIdeal := Cert.ConvRefIdeal.Gen.facts) := by
  intro m g _
  exact (θ_run _ _ _).mono (fun r h => ⟨fun c => (h c).2,
    Idealize.ShloMosaic.sem_eq_zero_of_no_sems (by decide) r.2⟩) (Cert.ConvRefIdeal.Value.run m g)

/-- The pooling mixer's product, added to the layer's input and plain, is the reference's. -/
theorem value_poolMix : Cert.algebraic_PoolMixIdeal_PoolMixRefIdeal (hPoolMixIdeal := Cert.PoolMixIdeal.Gen.facts)
    (hPoolMixRefIdeal := Cert.PoolMixRefIdeal.Gen.facts) := by
  intro m g m' g' _ ha
  refine ⟨_, _, (θ_run _ _ _).mono (fun r h c => ⟨(h c).1.trans (Cert.PoolMixIdeal.Pool.final m c), (h c).2.1.trans (Cert.PoolMixIdeal.Pool.finalPre m c), (h c).2.2⟩) (Cert.PoolMixIdeal.Value.run_blocks m g),
    (θ_run _ _ _).mono (fun r h c => ⟨(h c).1.trans ?_, (h c).2.1.trans ?_, (h c).2.2⟩) (Cert.PoolMixRefIdeal.Value.run m' g')⟩
  · rw [(ha c).1, (ha c).2.1, (ha c).2.2.1, (ha c).2.2.2]; rfl
  · rw [(ha c).1, (ha c).2.1]

/-- The gradient that reaches the pooled rows is the reference's. -/
theorem value_poolData : Cert.algebraic_PoolDataIdeal_PoolDataRefIdeal (hPoolDataIdeal := Cert.PoolDataIdeal.Gen.facts)
    (hPoolDataRefIdeal := Cert.PoolDataRefIdeal.Gen.facts) := by
  intro m g m' g' _ ha
  refine ⟨_, (θ_run _ _ _).mono (fun r h c => ⟨(h c).1.trans (Cert.PoolDataIdeal.Pool.final m c), (h c).2⟩) (Cert.PoolDataIdeal.Value.run_blocks m g),
    (θ_run _ _ _).mono (fun r h c => ⟨(h c).1.trans ?_, (h c).2⟩) (Cert.PoolDataRefIdeal.Value.run m' g')⟩
  · rw [(ha c).1, (ha c).2]

/-- The gradient of the pooling mixer's weights is the reference's. -/
theorem value_poolWeight : Cert.algebraic_PoolWeightIdeal_PoolWeightRefIdeal (hPoolWeightIdeal := Cert.PoolWeightIdeal.Gen.facts)
    (hPoolWeightRefIdeal := Cert.PoolWeightRefIdeal.Gen.facts) := by
  intro m g m' g' _ ha
  refine ⟨_, (θ_run _ _ _).mono (fun r h c => ⟨(h c).1.trans (Cert.PoolWeightIdeal.Pool.final m c), (h c).2⟩) (Cert.PoolWeightIdeal.Value.run_blocks m g),
    (θ_run _ _ _).mono (fun r h c => ⟨(h c).1.trans ?_, (h c).2⟩) (Cert.PoolWeightRefIdeal.Value.run m' g')⟩
  · rw [(ha c).1, (ha c).2]

/-- The gradients of the pooling mixer's scale and of the product it scales are the reference's. -/
theorem value_poolScale : Cert.algebraic_PoolScaleIdeal_PoolScaleRefIdeal (hPoolScaleIdeal := Cert.PoolScaleIdeal.Gen.facts)
    (hPoolScaleRefIdeal := Cert.PoolScaleRefIdeal.Gen.facts) := by
  intro m g m' g' _ ha
  refine ⟨_, _, (θ_run _ _ _).mono (fun r h c => ⟨(h c).1.trans (Cert.PoolScaleIdeal.Pool.finalDys m c), (h c).2.1.trans (Cert.PoolScaleIdeal.Pool.final m c), (h c).2.2⟩) (Cert.PoolScaleIdeal.Value.run_blocks m g),
    (θ_run _ _ _).mono (fun r h c => ⟨(h c).1.trans ?_, (h c).2.1.trans ?_, (h c).2.2⟩) (Cert.PoolScaleRefIdeal.Value.run m' g')⟩
  · rw [(ha c).1, (ha c).2.2]
  · rw [(ha c).1, (ha c).2.1]

/-- The gated convolution is the reference's. -/
theorem value_conv : Cert.algebraic_ConvIdeal_ConvRefIdeal (hConvIdeal := Cert.ConvIdeal.Gen.facts)
    (hConvRefIdeal := Cert.ConvRefIdeal.Gen.facts) := by
  intro m g m' g' _ ha
  refine ⟨_, (θ_run _ _ _).mono (fun r h c => ⟨(h c).1.trans (Cert.ConvIdeal.Pool.final m c), (h c).2⟩) (Cert.ConvIdeal.Value.run_blocks m g),
    (θ_run _ _ _).mono (fun r h c => ⟨(h c).1.trans ?_, (h c).2⟩) (Cert.ConvRefIdeal.Value.run m' g')⟩
  · rw [(ha c).1, (ha c).2]

theorem frame_convBwd : Cert.quiescent_ConvBwdRefIdeal (hConvBwdRefIdeal := Cert.ConvBwdRefIdeal.Gen.facts) := by
  intro m g _
  exact (θ_run _ _ _).mono (fun r h => ⟨fun c => (h c).2.2,
    Idealize.ShloMosaic.sem_eq_zero_of_no_sems (by decide) r.2⟩) (Cert.ConvBwdRefIdeal.Value.run m g)

/-- The gradients of the convolution's parts and of its taps are the reference's. -/
theorem value_convBwd : Cert.algebraic_ConvBwdIdeal_ConvBwdRefIdeal (hConvBwdIdeal := Cert.ConvBwdIdeal.Gen.facts)
    (hConvBwdRefIdeal := Cert.ConvBwdRefIdeal.Gen.facts) := by
  intro m g m' g' _ ha
  refine ⟨_, _, (θ_run _ _ _).mono (fun r h c => ⟨(h c).1.trans (Cert.ConvBwdIdeal.Pool.final m c), (h c).2.1.trans (Cert.ConvBwdIdeal.Pool.finalTap m c), (h c).2.2⟩) (Cert.ConvBwdIdeal.Value.run_blocks m g),
    (θ_run _ _ _).mono (fun r h c => ⟨(h c).1.trans ?_, (h c).2.1.trans ?_, (h c).2.2⟩) (Cert.ConvBwdRefIdeal.Value.run m' g')⟩
  · exact congr (congr (congrArg Cert.ConvBwdIdeal.Pool.REF (ha c).1) (ha c).2.1) (ha c).2.2
  · rw [(ha c).1, (ha c).2.1]

set_option maxRecDepth 65536 in
theorem claim : Cert.Claim := ⟨Cert.Kernel.Gen.facts, Cert.KernelIdeal.Gen.facts, Cert.ReferenceIdeal.Gen.facts,
  Cert.DownData.Gen.facts, Cert.DownDataIdeal.Gen.facts, Cert.DownDataRefIdeal.Gen.facts,
  Cert.DownWeight.Gen.facts, Cert.DownWeightIdeal.Gen.facts, Cert.DownWeightRefIdeal.Gen.facts,
  Cert.UpData.Gen.facts, Cert.UpDataIdeal.Gen.facts, Cert.UpDataRefIdeal.Gen.facts,
  Cert.UpWeight.Gen.facts, Cert.UpWeightIdeal.Gen.facts, Cert.UpWeightRefIdeal.Gen.facts,
  Cert.OutData.Gen.facts, Cert.OutDataIdeal.Gen.facts, Cert.OutDataRefIdeal.Gen.facts,
  Cert.ConvOutData.Gen.facts, Cert.ConvOutDataIdeal.Gen.facts, Cert.ConvOutDataRefIdeal.Gen.facts,
  Cert.OutWeight.Gen.facts, Cert.OutWeightIdeal.Gen.facts, Cert.OutWeightRefIdeal.Gen.facts,
  Cert.QkvData.Gen.facts, Cert.QkvDataIdeal.Gen.facts, Cert.QkvDataRefIdeal.Gen.facts,
  Cert.QkvWeight.Gen.facts, Cert.QkvWeightIdeal.Gen.facts, Cert.QkvWeightRefIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.Qkv.Gen.facts, Cert.QkvIdeal.Gen.facts, Cert.QkvRefIdeal.Gen.facts,
  Cert.Out.Gen.facts, Cert.OutIdeal.Gen.facts, Cert.OutRefIdeal.Gen.facts,
  Cert.PoolMix.Gen.facts, Cert.PoolMixIdeal.Gen.facts, Cert.PoolMixRefIdeal.Gen.facts,
  Cert.PoolData.Gen.facts, Cert.PoolDataIdeal.Gen.facts, Cert.PoolDataRefIdeal.Gen.facts,
  Cert.PoolWeight.Gen.facts, Cert.PoolWeightIdeal.Gen.facts, Cert.PoolWeightRefIdeal.Gen.facts,
  Cert.PoolScale.Gen.facts, Cert.PoolScaleIdeal.Gen.facts, Cert.PoolScaleRefIdeal.Gen.facts,
  Cert.Conv.Gen.facts, Cert.ConvIdeal.Gen.facts, Cert.ConvRefIdeal.Gen.facts,
  Cert.ConvBwd.Gen.facts, Cert.ConvBwdIdeal.Gen.facts, Cert.ConvBwdRefIdeal.Gen.facts,
  Cert.KernelIdeal.Attn.preFacts, Cert.DownDataIdeal.Ffn.preFacts,
  fun m g _ => Cert.Kernel.Gen.frame m g,
  fun m g _ => Cert.KernelIdeal.Gen.frame m g,
  fun m g _ => Cert.KernelIdeal.Gen.frame m g,
  frame_reference,
  fun m g _ => frame_reference m g trivial,
  fun m g _ => Cert.DownData.Gen.frame m g,
  fun m g _ => Cert.DownDataIdeal.Gen.frame m g,
  fun m g _ => Cert.DownDataIdeal.Gen.frame m g,
  frame_downData,
  fun m g _ => frame_downData m g trivial,
  fun m g _ => Cert.DownWeight.Gen.frame m g,
  fun m g _ => Cert.DownWeightIdeal.Gen.frame m g,
  frame_downWeight,
  fun m g _ => Cert.UpData.Gen.frame m g,
  fun m g _ => Cert.UpDataIdeal.Gen.frame m g,
  frame_upData,
  fun m g _ => Cert.UpWeight.Gen.frame m g,
  fun m g _ => Cert.UpWeightIdeal.Gen.frame m g,
  frame_upWeight,
  fun m g _ => Cert.OutData.Gen.frame m g,
  fun m g _ => Cert.OutDataIdeal.Gen.frame m g,
  frame_outData,
  fun m g _ => Cert.ConvOutData.Gen.frame m g,
  fun m g _ => Cert.ConvOutDataIdeal.Gen.frame m g,
  frame_convOutData,
  fun m g _ => Cert.OutWeight.Gen.frame m g,
  fun m g _ => Cert.OutWeightIdeal.Gen.frame m g,
  frame_outWeight,
  fun m g _ => Cert.QkvData.Gen.frame m g,
  fun m g _ => Cert.QkvDataIdeal.Gen.frame m g,
  frame_qkvData,
  fun m g _ => Cert.QkvWeight.Gen.frame m g,
  fun m g _ => Cert.QkvWeightIdeal.Gen.frame m g,
  frame_qkvWeight,
  fun m g _ => Cert.FfnUp.Gen.frame m g,
  fun m g _ => Cert.FfnUpIdeal.Gen.frame m g,
  frame_ffnUp,
  fun m g _ => Cert.FfnDown.Gen.frame m g,
  fun m g _ => Cert.FfnDownIdeal.Gen.frame m g,
  frame_ffnDown,
  fun m g _ => Cert.Qkv.Gen.frame m g,
  fun m g _ => Cert.QkvIdeal.Gen.frame m g,
  frame_qkv,
  fun m g _ => Cert.Out.Gen.frame m g,
  fun m g _ => Cert.OutIdeal.Gen.frame m g,
  frame_out,
  fun m g _ => Cert.PoolMix.Gen.frame m g,
  fun m g _ => Cert.PoolMixIdeal.Gen.frame m g,
  frame_poolMix,
  fun m g _ => Cert.PoolData.Gen.frame m g,
  fun m g _ => Cert.PoolDataIdeal.Gen.frame m g,
  frame_poolData,
  fun m g _ => Cert.PoolWeight.Gen.frame m g,
  fun m g _ => Cert.PoolWeightIdeal.Gen.frame m g,
  frame_poolWeight,
  fun m g _ => Cert.PoolScale.Gen.frame m g,
  fun m g _ => Cert.PoolScaleIdeal.Gen.frame m g,
  frame_poolScale,
  fun m g _ => Cert.Conv.Gen.frame m g,
  fun m g _ => Cert.ConvIdeal.Gen.frame m g,
  frame_conv,
  fun m g _ => Cert.ConvBwd.Gen.frame m g,
  fun m g _ => Cert.ConvBwdIdeal.Gen.frame m g,
  frame_convBwd,
  trivial,
  value,
  trivial,
  value_downData,
  trivial,
  value_downWeight,
  trivial,
  value_upData,
  trivial,
  value_upWeight,
  trivial,
  value_outData,
  trivial,
  value_convOutData,
  trivial,
  value_outWeight,
  trivial,
  value_qkvData,
  trivial,
  value_qkvWeight,
  trivial,
  value_ffnUp,
  trivial,
  value_ffnDown,
  trivial,
  value_qkv,
  trivial,
  value_out,
  trivial,
  value_poolMix,
  trivial,
  value_poolData,
  trivial,
  value_poolWeight,
  trivial,
  value_poolScale,
  trivial,
  value_conv,
  trivial,
  value_convBwd⟩

end Cert.Proof

end
